-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_logits [hPre_finite_logits : Cert.Pre_finite_logits.Facts] (m : (ℓ : Loc Cert.AttnIdeal.nD Cert.AttnIdeal.τ Cert.AttnIdeal.sig) → Buf (Elt Ideal) ℓ) : Prop :=
  ∀ c : Dev Cert.AttnIdeal.nD,
    (Cert.Pre_finite_logits.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_logits [hPre_finite_logits : Cert.Pre_finite_logits.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_logits.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_finite_logits [hAttnIdeal : Cert.AttnIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_logits m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_finite_logits [hAttnRefIdeal : Cert.AttnRefIdeal.Facts] [hPre_finite_logits : Cert.Pre_finite_logits.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_logits m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7)
      ∧ r.2.mem ((c.tc : Thread Cert.Bwd.nD Cert.Bwd.τ).loc Cert.Bwd.main_arg8) = m ((c.tc : Thread Cert.Bwd.nD Cert.Bwd.τ).loc Cert.Bwd.main_arg8)
      ∧ r.2.mem ((c.tc : Thread Cert.Bwd.nD Cert.Bwd.τ).loc Cert.Bwd.main_arg9) = m ((c.tc : Thread Cert.Bwd.nD Cert.Bwd.τ).loc Cert.Bwd.main_arg9))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
      ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
      ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7)
      ∧ r.2.mem ((c.tc : Thread Cert.BwdRefIdeal.nD Cert.BwdRefIdeal.τ).loc Cert.BwdRefIdeal.main_arg8) = m ((c.tc : Thread Cert.BwdRefIdeal.nD Cert.BwdRefIdeal.τ).loc Cert.BwdRefIdeal.main_arg8)
      ∧ r.2.mem ((c.tc : Thread Cert.BwdRefIdeal.nD Cert.BwdRefIdeal.τ).loc Cert.BwdRefIdeal.main_arg9) = m ((c.tc : Thread Cert.BwdRefIdeal.nD Cert.BwdRefIdeal.τ).loc Cert.BwdRefIdeal.main_arg9))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_logits [hAttnIdeal : Cert.AttnIdeal.Facts] [hAttnRefIdeal : Cert.AttnRefIdeal.Facts] [hPre_finite_logits : Cert.Pre_finite_logits.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_logits m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v4) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v118) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v1_0)) (v1 : (c : Dev Cert.QkvIdeal.nD) → Buf (Elt Ideal) ((c.tc : Thread Cert.QkvIdeal.nD Cert.QkvIdeal.τ).loc Cert.QkvIdeal.main_v1_1)) (v2 : (c : Dev Cert.QkvIdeal.nD) → Buf (Elt Ideal) ((c.tc : Thread Cert.QkvIdeal.nD Cert.QkvIdeal.τ).loc Cert.QkvIdeal.main_v1_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1_0) = v0 c
          ∧ r.2.mem ((c.tc : Thread Cert.QkvIdeal.nD Cert.QkvIdeal.τ).loc Cert.QkvIdeal.main_v1_1) = v1 c
          ∧ r.2.mem ((c.tc : Thread Cert.QkvIdeal.nD Cert.QkvIdeal.τ).loc Cert.QkvIdeal.main_v1_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v6) = v0 c
          ∧ r.2.mem ((c.tc : Thread Cert.QkvRefIdeal.nD Cert.QkvRefIdeal.τ).loc Cert.QkvRefIdeal.main_v7) = v1 c
          ∧ r.2.mem ((c.tc : Thread Cert.QkvRefIdeal.nD Cert.QkvRefIdeal.τ).loc Cert.QkvRefIdeal.main_v8) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)
      ∧ m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8)
      ∧ m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)) →
    ∃ (v0 : (c : Dev Cert.BwdIdeal.nD) → Buf (Elt Ideal) ((c.tc : Thread Cert.BwdIdeal.nD Cert.BwdIdeal.τ).loc Cert.BwdIdeal.main_v11)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v11) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7)
          ∧ r.2.mem ((c.tc : Thread Cert.BwdIdeal.nD Cert.BwdIdeal.τ).loc Cert.BwdIdeal.main_arg8) = m ((c.tc : Thread Cert.BwdIdeal.nD Cert.BwdIdeal.τ).loc Cert.BwdIdeal.main_arg8)
          ∧ r.2.mem ((c.tc : Thread Cert.BwdIdeal.nD Cert.BwdIdeal.τ).loc Cert.BwdIdeal.main_arg9) = m ((c.tc : Thread Cert.BwdIdeal.nD Cert.BwdIdeal.τ).loc Cert.BwdIdeal.main_arg9))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v79) = v0 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7)
          ∧ r.2.mem ((c.tc : Thread Cert.BwdRefIdeal.nD Cert.BwdRefIdeal.τ).loc Cert.BwdRefIdeal.main_arg8) = m' ((c.tc : Thread Cert.BwdRefIdeal.nD Cert.BwdRefIdeal.τ).loc Cert.BwdRefIdeal.main_arg8)
          ∧ r.2.mem ((c.tc : Thread Cert.BwdRefIdeal.nD Cert.BwdRefIdeal.τ).loc Cert.BwdRefIdeal.main_arg9) = m' ((c.tc : Thread Cert.BwdRefIdeal.nD Cert.BwdRefIdeal.τ).loc Cert.BwdRefIdeal.main_arg9))

def preserves_Bias_BiasIdeal : Prop :=
  True

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v0)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0) = v0 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v5) = v0 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hBwd : Cert.Bwd.Facts) (hBwdIdeal : Cert.BwdIdeal.Facts) (hBwdRefIdeal : Cert.BwdRefIdeal.Facts) (hBias : Cert.Bias.Facts) (hBiasIdeal : Cert.BiasIdeal.Facts) (hBiasRefIdeal : Cert.BiasRefIdeal.Facts) (hPre_finite_logits : Cert.Pre_finite_logits.Facts),
    quiescent_Attn (hAttn := hAttn)
    ∧ quiescent_AttnIdeal (hAttnIdeal := hAttnIdeal)
    ∧ quiescent_AttnIdeal_pre_finite_logits (hAttnIdeal := hAttnIdeal) (hPre_finite_logits := hPre_finite_logits)
    ∧ quiescent_AttnRefIdeal (hAttnRefIdeal := hAttnRefIdeal)
    ∧ quiescent_AttnRefIdeal_pre_finite_logits (hAttnRefIdeal := hAttnRefIdeal) (hPre_finite_logits := hPre_finite_logits)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Bwd (hBwd := hBwd)
    ∧ quiescent_BwdIdeal (hBwdIdeal := hBwdIdeal)
    ∧ quiescent_BwdRefIdeal (hBwdRefIdeal := hBwdRefIdeal)
    ∧ quiescent_Bias (hBias := hBias)
    ∧ quiescent_BiasIdeal (hBiasIdeal := hBiasIdeal)
    ∧ quiescent_BiasRefIdeal (hBiasRefIdeal := hBiasRefIdeal)
    ∧ preserves_Attn_AttnIdeal
    ∧ algebraic_AttnIdeal_AttnRefIdeal_pre_finite_logits (hAttnIdeal := hAttnIdeal) (hAttnRefIdeal := hAttnRefIdeal) (hPre_finite_logits := hPre_finite_logits)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Bwd_BwdIdeal
    ∧ algebraic_BwdIdeal_BwdRefIdeal (hBwdIdeal := hBwdIdeal) (hBwdRefIdeal := hBwdRefIdeal)
    ∧ preserves_Bias_BiasIdeal
    ∧ algebraic_BiasIdeal_BiasRefIdeal (hBiasIdeal := hBiasIdeal) (hBiasRefIdeal := hBiasRefIdeal)
-- ==== Pre_finite_logits.lean ====
abbrev S16384x2048 : Shape := ⟨2, ![16384, 2048]⟩
abbrev S16384x512 : Shape := ⟨2, ![16384, 512]⟩
abbrev S16x128x384 : Shape := ⟨3, ![16, 128, 384]⟩
abbrev S16 : Shape := ⟨1, ![16]⟩
abbrev S2048x2048 : Shape := ⟨2, ![2048, 2048]⟩
abbrev S2048 : Shape := ⟨1, ![2048]⟩
abbrev S_ : Shape := ⟨0, ![]⟩

class Facts : Prop where
  bitsLt_bf16_f32 : FTy.bits .bf16 < FTy.bits .f32
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S16x128x384 : S_.BroadcastsInDim S16x128x384 (![] : Fin 0 → Fin S16x128x384.rank)
  reducesTo_S16x128x384_S_d0_1_2 : S16x128x384.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_v15 : IVec S_ 1) (main_v16 : FVec F S16 .f32) (main_cst_4 : FVec F S_ .f32) : IVec S_ 1 :=
  let main_v17 : FVec F S16 .f32 := broadcastInDim S16 ![] bcast_S_S16 main_cst_4
  let main_v18 : IVec S16 1 := cmpf .olt main_v16 main_v17
  let main_c_5 : IVec S_ 1 := constantI S_ 1 1#1
  let main_v19 : IVec S_ 1 := (fun x v => Host.reduce IntOp.andi x v reducesTo_S16_S_d0 h_S_) main_v18 main_c_5
  let main_v20 : IVec S_ 1 := andi main_v15 main_v19
  main_v20

def fn {F : FTy → Type} [FloatOps F] (main_arg0 : FVec F S16384x2048 .bf16) (main_arg1 : FVec F S16384x512 .bf16) (main_arg2 : FVec F S16384x512 .bf16) (main_arg3 : FVec F S16x128x384 .f32) (main_arg4 : FVec F S16 .f32) (main_arg5 : FVec F S16384x2048 .f32) (main_arg6 : FVec F S2048x2048 .f32) (main_arg7 : FVec F S2048 .f32) (main_arg8 : FVec F S2048 .f32) : IVec S_ 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16x128x384 .f32 := Host.absf main_arg3
  let main_cst_2 : FVec F S_ .f32 := constant S_ .f32 0x7F800000#32
  let main_v12 : FVec F S16x128x384 .f32 := broadcastInDim S16x128x384 ![] bcast_S_S16x128x384 main_cst_2
  let main_v13 : IVec S16x128x384 1 := cmpf .olt main_v11 main_v12
  let main_c_3 : IVec S_ 1 := constantI S_ 1 1#1
  let main_v14 : IVec S_ 1 := (fun x v => Host.reduce IntOp.andi x v reducesTo_S16x128x384_S_d0_1_2 h_S_) main_v13 main_c_3
  let main_v15 : IVec S_ 1 := andi main_v10 main_v14
  let main_v16 : FVec F S16 .f32 := Host.absf main_arg4
  let main_cst_4 : FVec F S_ .f32 := constant S_ .f32 0x7F800000#32
  fn_part1 (F := F) main_v15 main_v16 main_cst_4
-- ==== Attn.lean ====
abbrev S16384x2048 : Shape := ⟨2, ![16384, 2048]⟩
abbrev S16384x512 : Shape := ⟨2, ![16384, 512]⟩
abbrev S16x128x384 : Shape := ⟨3, ![16, 128, 384]⟩
abbrev S16 : Shape := ⟨1, ![16]⟩
abbrev S2048x2048 : Shape := ⟨2, ![2048, 2048]⟩
abbrev S2048 : Shape := ⟨1, ![2048]⟩
abbrev S1x16 : Shape := ⟨2, ![1, 16]⟩
abbrev S1x2048 : Shape := ⟨2, ![1, 2048]⟩
abbrev S512x2048 : Shape := ⟨2, ![512, 2048]⟩
abbrev S512x512 : Shape := ⟨2, ![512, 512]⟩
abbrev S128x512 : Shape := ⟨2, ![128, 512]⟩
abbrev S768x512 : Shape := ⟨2, ![768, 512]⟩
abbrev S512x384 : Shape := ⟨2, ![512, 384]⟩
abbrev S512x1 : Shape := ⟨2, ![512, 1]⟩
abbrev S128x128 : Shape := ⟨2, ![128, 128]⟩
abbrev S512x128 : Shape := ⟨2, ![512, 128]⟩
abbrev S384x128 : Shape := ⟨2, ![384, 128]⟩
abbrev S4x128x384 : Shape := ⟨3, ![4, 128, 384]⟩
abbrev S1x1 : Shape := ⟨2, ![1, 1]⟩
abbrev S512 : Shape := ⟨1, ![512]⟩

abbrev nBuf : Space → Nat
  | .hbm => 14
  | .vmem => 25
  | .smem => 1
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x512, .bf16⟩
  | .hbm, ⟨3, _⟩ => ⟨S16x128x384, .f32⟩
  | .hbm, ⟨4, _⟩ => ⟨S16, .f32⟩
  | .hbm, ⟨5, _⟩ => ⟨S16384x2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S1x16, .f32⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S512x512, .bf16⟩
  | .local _ .vmem, ⟨9, _⟩ => ⟨S512x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S16x128x384, .f32⟩
  | .local _ .vmem, ⟨15, _⟩ => ⟨S512x2048, .f32⟩
  | .local _ .vmem, ⟨16, _⟩ => ⟨S512x2048, .f32⟩
  | .local _ .vmem, ⟨17, _⟩ => ⟨S2048x2048, .bf16⟩
  | .local _ .vmem, ⟨18, _⟩ => ⟨S1x2048, .f32⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S768x512, .bf16⟩
  | .local _ .vmem, ⟨23, _⟩ => ⟨S768x512, .bf16⟩
  | .local _ .vmem, ⟨24, _⟩ => ⟨S512x2048, .bf16⟩
  | .local _ .smem, ⟨0, _⟩ => ⟨S1x16, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S16384x2048 : Shape := ⟨2, ![16384, 2048]⟩
abbrev S16384x512 : Shape := ⟨2, ![16384, 512]⟩
abbrev S16x128x384 : Shape := ⟨3, ![16, 128, 384]⟩
abbrev S16 : Shape := ⟨1, ![16]⟩
abbrev S2048x2048 : Shape := ⟨2, ![2048, 2048]⟩
abbrev S2048 : Shape := ⟨1, ![2048]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S128x128x4x4x128 : Shape := ⟨5, ![128, 128, 4, 4, 128]⟩
abbrev S16384x4x128 : Shape := ⟨3, ![16384, 4, 128]⟩
abbrev S16640x4x128 : Shape := ⟨3, ![16640, 4, 128]⟩
abbrev S130x128x4x128 : Shape := ⟨4, ![130, 128, 4, 128]⟩
abbrev S128x128x4x128 : Shape := ⟨4, ![128, 128, 4, 128]⟩
abbrev S128x384x4x128 : Shape := ⟨4, ![128, 384, 4, 128]⟩
abbrev S4x4x128x384 : Shape := ⟨4, ![4, 4, 128, 384]⟩
abbrev S128x4x384x128x4 : Shape := ⟨5, ![128, 4, 384, 128, 4]⟩
abbrev S128x4x4x128x384 : Shape := ⟨5, ![128, 4, 4, 128, 384]⟩
abbrev S1x4x4x128x384 : Shape := ⟨5, ![1, 4, 4, 128, 384]⟩
abbrev S128x1x1x128x384 : Shape := ⟨5, ![128, 1, 1, 128, 384]⟩
abbrev S4x4 : Shape := ⟨2, ![4, 4]⟩
abbrev S1x4x4x1x1 : Shape := ⟨5, ![1, 4, 4, 1, 1]⟩
abbrev S128x4x4x128 : Shape := ⟨4, ![128, 4, 4, 128]⟩
abbrev S128x4x4x128x1 : Shape := ⟨5, ![128, 4, 4, 128, 1]⟩
abbrev S128x4x128x4x128 : Shape := ⟨5, ![128, 4, 128, 4, 128]⟩
abbrev S16384 : Shape := ⟨1, ![16384]⟩
abbrev S16384x1 : Shape := ⟨2, ![16384, 1]⟩
abbrev S1x2048 : Shape := ⟨2, ![1, 2048]⟩

abbrev nBuf : Space → Nat
  | .hbm => 160
  | .vmem => 0
  | .smem => 0
  | _ => 0

abbrev hbmTy0_0 (i : Nat) : BufTy := match i % 128 with
  | 0 => ⟨S16384x2048, .bf16⟩
  | 1 => ⟨S16384x512, .bf16⟩
  | 2 => ⟨S16384x512, .bf16⟩
  | 3 => ⟨S16x128x384, .f32⟩
  | 4 => ⟨S16, .f32⟩
  | 5 => ⟨S16384x2048, .f32⟩
  | 6 => ⟨S2048x2048, .f32⟩
  | 7 => ⟨S2048, .f32⟩
  | 8 => ⟨S2048, .f32⟩
  | 9 => ⟨S128, .i32⟩
  | 10 => ⟨S128x1, .i32⟩
  | 11 => ⟨S384, .i32⟩
  | 12 => ⟨S1x384, .i32⟩
  | 13 => ⟨S_, .i32⟩
  | 14 => ⟨S1x384, .i32⟩
  | 15 => ⟨S1x384, .i32⟩
  | 16 => ⟨S128x384, .i32⟩
  | 17 => ⟨S128x384, .i32⟩
  | 18 => ⟨S128x384, .i32⟩
  | 19 => ⟨S128x384, .i32⟩
  | 20 => ⟨S_, .i32⟩
  | 21 => ⟨S128x384, .i32⟩
  | 22 => ⟨S128x384, .i1⟩
  | 23 => ⟨S128, .i32⟩
  | 24 => ⟨S128x1, .i32⟩
  | 25 => ⟨S_, .i32⟩
  | 26 => ⟨S128x1, .i32⟩
  | 27 => ⟨S128x1, .i1⟩
  | 28 => ⟨S_, .i32⟩
  | 29 => ⟨S128x1, .i32⟩
  | 30 => ⟨S128x1, .i32⟩
  | 31 => ⟨S_, .i32⟩
  | 32 => ⟨S_, .i32⟩
  | 33 => ⟨S128x1, .i32⟩
  | 34 => ⟨S128x1, .i32⟩
  | 35 => ⟨S_, .i32⟩
  | 36 => ⟨S128x1, .i32⟩
  | 37 => ⟨S128x1, .i1⟩
  | 38 => ⟨S_, .i32⟩
  | 39 => ⟨S128x1, .i32⟩
  | 40 => ⟨S128x1, .i32⟩
  | 41 => ⟨S_, .i32⟩
  | 42 => ⟨S_, .i32⟩
  | 43 => ⟨S128x1, .i32⟩
  | 44 => ⟨S128x1, .i32⟩
  | 45 => ⟨S_, .i32⟩
  | 46 => ⟨S128x1, .i32⟩
  | 47 => ⟨S128x1, .i32⟩
  | 48 => ⟨S_, .i32⟩
  | 49 => ⟨S128x1, .i32⟩
  | 50 => ⟨S128x1, .i32⟩
  | 51 => ⟨S128x384, .i32⟩
  | 52 => ⟨S128x384, .i32⟩
  | 53 => ⟨S128x384, .i32⟩
  | 54 => ⟨S_, .i32⟩
  | 55 => ⟨S128x1, .i32⟩
  | 56 => ⟨S128x1, .i32⟩
  | 57 => ⟨S128x384, .i32⟩
  | 58 => ⟨S128x384, .i1⟩
  | 59 => ⟨S_, .i32⟩
  | 60 => ⟨S128x1, .i32⟩
  | 61 => ⟨S128x1, .i32⟩
  | 62 => ⟨S128x384, .i32⟩
  | 63 => ⟨S128x384, .i1⟩
  | 64 => ⟨S128x384, .i1⟩
  | 65 => ⟨S1x128x384, .i1⟩
  | 66 => ⟨S128x1x384, .i1⟩
  | 67 => ⟨S128x128x384, .i1⟩
  | 68 => ⟨S128x128x384, .i1⟩
  | 69 => ⟨S128x128x384, .i1⟩
  | 70 => ⟨S16384x2048, .f32⟩
  | 71 => ⟨S128x128x4x4x128, .f32⟩
  | 72 => ⟨S16384x512, .f32⟩
  | 73 => ⟨S16384x4x128, .f32⟩
  | 74 => ⟨S_, .i32⟩
  | 75 => ⟨S_, .f32⟩
  | 76 => ⟨S16640x4x128, .f32⟩
  | 77 => ⟨S130x128x4x128, .f32⟩
  | 78 => ⟨S128x128x4x128, .f32⟩
  | 79 => ⟨S128x128x4x128, .f32⟩
  | 80 => ⟨S128x128x4x128, .f32⟩
  | 81 => ⟨S128x384x4x128, .f32⟩
  | 82 => ⟨S16384x512, .f32⟩
  | 83 => ⟨S16384x4x128, .f32⟩
  | 84 => ⟨S_, .i32⟩
  | 85 => ⟨S_, .f32⟩
  | 86 => ⟨S16640x4x128, .f32⟩
  | 87 => ⟨S130x128x4x128, .f32⟩
  | 88 => ⟨S128x128x4x128, .f32⟩
  | 89 => ⟨S128x128x4x128, .f32⟩
  | 90 => ⟨S128x128x4x128, .f32⟩
  | 91 => ⟨S128x384x4x128, .f32⟩
  | 92 => ⟨S4x4x128x384, .f32⟩
  | 93 => ⟨S128x4x384x128x4, .f32⟩
  | 94 => ⟨S128x4x4x128x384, .f32⟩
  | 95 => ⟨S1x4x4x128x384, .f32⟩
  | 96 => ⟨S128x4x4x128x384, .f32⟩
  | 97 => ⟨S128x4x4x128x384, .f32⟩
  | 98 => ⟨S128x1x1x128x384, .i1⟩
  | 99 => ⟨S_, .f32⟩
  | 100 => ⟨S_, .f32⟩
  | 101 => ⟨S128x4x4x128x384, .i1⟩
  | 102 => ⟨S128x4x4x128x384, .f32⟩
  | 103 => ⟨S128x4x4x128x384, .f32⟩
  | 104 => ⟨S4x4, .f32⟩
  | 105 => ⟨S1x4x4x1x1, .f32⟩
  | 106 => ⟨S_, .f32⟩
  | 107 => ⟨S128x4x4x128, .f32⟩
  | 108 => ⟨S128x4x4x128x1, .f32⟩
  | 109 => ⟨S128x4x4x128x1, .f32⟩
  | 110 => ⟨S128x4x4x128x1, .f32⟩
  | 111 => ⟨S128x4x4x128x384, .f32⟩
  | 112 => ⟨S128x4x4x128x384, .f32⟩
  | 113 => ⟨S128x4x4x128x384, .f32⟩
  | 114 => ⟨S_, .f32⟩
  | 115 => ⟨S128x4x4x128, .f32⟩
  | 116 => ⟨S128x4x4x128x1, .f32⟩
  | 117 => ⟨S128x4x4x128x1, .f32⟩
  | 118 => ⟨S128x4x4x128x1, .f32⟩
  | 119 => ⟨S128x4x4x128x1, .f32⟩
  | 120 => ⟨S128x4x4x128x1, .f32⟩
  | 121 => ⟨S128x4x4x128x384, .f32⟩
  | 122 => ⟨S128x4x4x128x384, .f32⟩
  | 123 => ⟨S128x4x128x4x128, .f32⟩
  | 124 => ⟨S128x128x4x4x128, .f32⟩
  | 125 => ⟨S16384x2048, .f32⟩
  | 126 => ⟨S_, .f32⟩
  | 127 => ⟨S16384x2048, .f32⟩
  | _ => ⟨S16384x2048, .bf16⟩

abbrev hbmTy0_1 (i : Nat) : BufTy := match i % 128 with
  | 0 => ⟨S16384x2048, .f32⟩
  | 1 => ⟨S16384x2048, .f32⟩
  | 2 => ⟨S16384x2048, .f32⟩
  | 3 => ⟨S_, .f32⟩
  | 4 => ⟨S16384, .f32⟩
  | 5 => ⟨S16384x1, .f32⟩
  | 6 => ⟨S_, .f32⟩
  | 7 => ⟨S16384x1, .f32⟩
  | 8 => ⟨S16384x1, .f32⟩
  | 9 => ⟨S16384x2048, .f32⟩
  | 10 => ⟨S16384x2048, .f32⟩
  | 11 => ⟨S16384x2048, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S16384x2048, .f32⟩
  | 19 => ⟨S16384x2048, .f32⟩
  | 20 => ⟨S_, .f32⟩
  | 21 => ⟨S16384x1, .f32⟩
  | 22 => ⟨S16384x1, .f32⟩
  | 23 => ⟨S16384x1, .f32⟩
  | 24 => ⟨S16384x2048, .f32⟩
  | 25 => ⟨S16384x2048, .f32⟩
  | 26 => ⟨S1x2048, .f32⟩
  | 27 => ⟨S16384x2048, .f32⟩
  | 28 => ⟨S16384x2048, .f32⟩
  | 29 => ⟨S1x2048, .f32⟩
  | 30 => ⟨S16384x2048, .f32⟩
  | 31 => ⟨S16384x2048, .f32⟩
  | _ => ⟨S16384x2048, .bf16⟩

abbrev hbmTy (i : Nat) : BufTy := match i / 128 with
  | 0 => hbmTy0_0 i
  | 1 => hbmTy0_1 i
  | _ => ⟨S16384x2048, .bf16⟩

abbrev bufTy : (tb : Table) → Fin (tcTables nBuf tb) → BufTy
  | .hbm, ⟨i, _⟩ => hbmTy i
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_call1_v0 : Ref sig .tc := ⟨.hbm, 42, rfl⟩
abbrev main_call1_v1 : Ref sig .tc := ⟨.hbm, 43, rfl⟩
abbrev main_v23 : Ref sig .tc := ⟨.hbm, 44, rfl⟩
abbrev main_c_7 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_9 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_11 : Ref sig .tc := ⟨.hbm, 74, rfl⟩
abbrev main_call2_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_call3_v0 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_14 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_15 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_16 : Ref sig .tc := ⟨.hbm, 131, rfl⟩
abbrev main_v95 : Ref sig .tc := ⟨.hbm, 132, rfl⟩
abbrev main_v96 : Ref sig .tc := ⟨.hbm, 133, rfl⟩
abbrev main_cst_17 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_18 : Ref sig .tc := ⟨.hbm, 140, rfl⟩
abbrev main_v102 : Ref sig .tc := ⟨.hbm, 141, rfl⟩
abbrev main_v103 : Ref sig .tc := ⟨.hbm, 142, rfl⟩
abbrev main_cst_19 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_20 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩

abbrev nD : Nat := 1
abbrev τ : Topo := Topo.v7x

variable {F : FTy → Type} [FloatOps F]
-- ==== Ffn.lean ====
abbrev S16384x2048 : Shape := ⟨2, ![16384, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x2048 : Shape := ⟨2, ![16384, 2048]⟩
abbrev S2048x11264 : Shape := ⟨2, ![2048, 11264]⟩
abbrev S5632x2048 : Shape := ⟨2, ![5632, 2048]⟩
abbrev S2048 : Shape := ⟨1, ![2048]⟩
abbrev S_ : Shape := ⟨0, ![]⟩
abbrev S16384x11264 : Shape := ⟨2, ![16384, 11264]⟩
abbrev S16384x5632 : Shape := ⟨2, ![16384, 5632]⟩
abbrev S16384 : Shape := ⟨1, ![16384]⟩
abbrev S16384x1 : Shape := ⟨2, ![16384, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x11264, .f32⟩
  | .hbm, ⟨2, _⟩ => ⟨S5632x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S16384x2048, .f32⟩
  | .hbm, ⟨7, _⟩ => ⟨S16384x2048, .f32⟩
  | .hbm, ⟨8, _⟩ => ⟨S16384x11264, .f32⟩
  | .hbm, ⟨9, _⟩ => ⟨S16384x5632, .f32⟩
  | .hbm, ⟨10, _⟩ => ⟨S16384x5632, .f32⟩
  | .hbm, ⟨11, _⟩ => ⟨S16384x5632, .f32⟩
  | .hbm, ⟨12, _⟩ => ⟨S16384x5632, .f32⟩
  | .hbm, ⟨13, _⟩ => ⟨S_, .f32⟩
  | .hbm, ⟨14, _⟩ => ⟨S16384x5632, .f32⟩
  | .hbm, ⟨15, _⟩ => ⟨S16384x5632, .f32⟩
  | .hbm, ⟨16, _⟩ => ⟨S_, .f32⟩
  | .hbm, ⟨17, _⟩ => ⟨S16384x5632, .f32⟩
  | .hbm, ⟨18, _⟩ => ⟨S16384x5632, .f32⟩
  | .hbm, ⟨19, _⟩ => ⟨S16384x5632, .f32⟩
  | .hbm, ⟨20, _⟩ => ⟨S16384x5632, .f32⟩
  | .hbm, ⟨21, _⟩ => ⟨S16384x2048, .f32⟩
  | .hbm, ⟨22, _⟩ => ⟨S16384x2048, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S1x2048, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Qkv.lean ====
abbrev S16384x2048 : Shape := ⟨2, ![16384, 2048]⟩
abbrev S2048x3072 : Shape := ⟨2, ![2048, 3072]⟩
abbrev S16384x512 : Shape := ⟨2, ![16384, 512]⟩
abbrev S512x2048 : Shape := ⟨2, ![512, 2048]⟩
abbrev S512x512 : Shape := ⟨2, ![512, 512]⟩
abbrev S512x3072 : Shape := ⟨2, ![512, 3072]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048x3072, .f32⟩
  | .hbm, ⟨2, _⟩ => ⟨S2048x3072, .bf16⟩
  | .hbm, ⟨3, _⟩ => ⟨S16384x2048, .bf16⟩
  | .hbm, ⟨4, _⟩ => ⟨S16384x512, .bf16⟩
  | .hbm, ⟨5, _⟩ => ⟨S16384x512, .bf16⟩
  | .local _ .vmem, ⟨0, _⟩ => ⟨S512x2048, .f32⟩
  | .local _ .vmem, ⟨1, _⟩ => ⟨S512x2048, .f32⟩
  | .local _ .vmem, ⟨2, _⟩ => ⟨S2048x3072, .bf16⟩
  | .local _ .vmem, ⟨3, _⟩ => ⟨S512x2048, .bf16⟩
  | .local _ .vmem, ⟨4, _⟩ => ⟨S512x2048, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S16384x2048 : Shape := ⟨2, ![16384, 2048]⟩
abbrev S2048x3072 : Shape := ⟨2, ![2048, 3072]⟩
abbrev S16384x3072 : Shape := ⟨2, ![16384, 3072]⟩
abbrev S_ : Shape := ⟨0, ![]⟩
abbrev S16384x512 : Shape := ⟨2, ![16384, 512]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x3072, .f32⟩
  | .hbm, ⟨2, _⟩ => ⟨S16384x3072, .f32⟩
  | .hbm, ⟨3, _⟩ => ⟨S16384x2048, .f32⟩
  | .hbm, ⟨4, _⟩ => ⟨S_, .f32⟩
  | .hbm, ⟨5, _⟩ => ⟨S16384x2048, .f32⟩
  | .hbm, ⟨6, _⟩ => ⟨S16384x2048, .f32⟩
  | .hbm, ⟨7, _⟩ => ⟨S16384x512, .f32⟩
  | .hbm, ⟨8, _⟩ => ⟨S16384x512, .f32⟩
  | .hbm, ⟨9, _⟩ => ⟨S16384x2048, .bf16⟩
  | .hbm, ⟨10, _⟩ => ⟨S16384x512, .bf16⟩
  | .hbm, ⟨11, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Bwd.lean ====
abbrev S16384x2048 : Shape := ⟨2, ![16384, 2048]⟩
abbrev S2x16x128x128 : Shape := ⟨4, ![2, 16, 128, 128]⟩
abbrev S2x16x128 : Shape := ⟨3, ![2, 16, 128]⟩
abbrev S2048 : Shape := ⟨1, ![2048]⟩
abbrev S2048x2048 : Shape := ⟨2, ![2048, 2048]⟩
abbrev S1x16x128x128 : Shape := ⟨4, ![1, 16, 128, 128]⟩
abbrev S16x128x128 : Shape := ⟨3, ![16, 128, 128]⟩
abbrev S16x128x256 : Shape := ⟨3, ![16, 128, 256]⟩
abbrev S2x2048 : Shape := ⟨2, ![2, 2048]⟩
abbrev S1x2048 : Shape := ⟨2, ![1, 2048]⟩
abbrev S256x2048 : Shape := ⟨2, ![256, 2048]⟩
abbrev S8x2048 : Shape := ⟨2, ![8, 2048]⟩
abbrev S256x128 : Shape := ⟨2, ![256, 128]⟩
abbrev S1x128x256 : Shape := ⟨3, ![1, 128, 256]⟩
abbrev S128x256 : Shape := ⟨2, ![128, 256]⟩
abbrev S1x128 : Shape := ⟨2, ![1, 128]⟩
abbrev S256x256 : Shape := ⟨2, ![256, 256]⟩
abbrev S256 : Shape := ⟨1, ![256]⟩
abbrev S256x1 : Shape := ⟨2, ![256, 1]⟩

abbrev nBuf : Space → Nat
  | .hbm => 22
  | .vmem => 20
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .f32⟩
  | .hbm, ⟨3, _⟩ => ⟨S16384x2048, .f32⟩
  | .hbm, ⟨4, _⟩ => ⟨S2x16x128x128, .f32⟩
  | .hbm, ⟨5, _⟩ => ⟨S2x16x128, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S1x16x128x128, .f32⟩
  | .hbm, ⟨11, _⟩ => ⟨S16x128x128, .f32⟩
  | .hbm, ⟨12, _⟩ => ⟨S1x16x128x128, .f32⟩
  | .hbm, ⟨13, _⟩ => ⟨S16x128x128, .f32⟩
  | .hbm, ⟨14, _⟩ => ⟨S16x128x256, .f32⟩
  | .hbm, ⟨15, _⟩ => ⟨S16x128x256, .bf16⟩
  | .hbm, ⟨16, _⟩ => ⟨S2x2048, .f32⟩
  | .hbm, ⟨17, _⟩ => ⟨S1x2048, .f32⟩
  | .hbm, ⟨18, _⟩ => ⟨S2048x2048, .bf16⟩
  | .hbm, ⟨19, _⟩ => ⟨S1x2048, .f32⟩
  | .hbm, ⟨20, _⟩ => ⟨S1x2048, .f32⟩
  | .hbm, ⟨21, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S16x128x256, .bf16⟩
  | .local _ .vmem, ⟨9, _⟩ => ⟨S2x2048, .f32⟩
  | .local _ .vmem, ⟨10, _⟩ => ⟨S1x2048, .f32⟩
  | .local _ .vmem, ⟨11, _⟩ => ⟨S2048x2048, .bf16⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S8x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_246 : BitVec 32 := 0#32
  let c256_i32_247 : BitVec 32 := 256#32
  let v621 : BitVec 32 := Scalar.addi c0_i32_246 c256_i32_247
  let c1_i32_248 : BitVec 32 := 1#32
  ⟨c0_i32_246, v621, c1_i32_248⟩
def k0_off1 (k0_t1 : Fin k0_t1_loop.trips) : Fin 2 → Nat :=
  let c255_i32 : BitVec 32 := 255#32
  let c0_i32_246 : BitVec 32 := 0#32
  let c1_i32_248 : BitVec 32 := 1#32
  let arg16 : BitVec 32 := Scf.iv c0_i32_246 c1_i32_248 k0_t1
  let v664 : BitVec 32 := Scalar.subi c255_i32 arg16
  let v665 : Index := Scalar.indexCast v664
  let c0_275 : Index := 0#32
  ![v665.toNat, 0]
def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== BwdRefIdeal.lean ====
abbrev S16384x2048 : Shape := ⟨2, ![16384, 2048]⟩
abbrev S2x16x128x128 : Shape := ⟨4, ![2, 16, 128, 128]⟩
abbrev S2x16x128 : Shape := ⟨3, ![2, 16, 128]⟩
abbrev S2048 : Shape := ⟨1, ![2048]⟩
abbrev S2048x2048 : Shape := ⟨2, ![2048, 2048]⟩
abbrev S16384x16x128 : Shape := ⟨3, ![16384, 16, 128]⟩
abbrev S16x2x128x16384 : Shape := ⟨4, ![16, 2, 128, 16384]⟩
abbrev S2x16384x16x128 : Shape := ⟨4, ![2, 16384, 16, 128]⟩
abbrev S2x1x16x128 : Shape := ⟨4, ![2, 1, 16, 128]⟩
abbrev S_ : Shape := ⟨0, ![]⟩
abbrev S2x16384x2048 : Shape := ⟨3, ![2, 16384, 2048]⟩
abbrev S1x16384x2048 : Shape := ⟨3, ![1, 16384, 2048]⟩
abbrev S1x2048 : Shape := ⟨2, ![1, 2048]⟩
abbrev S16384 : Shape := ⟨1, ![16384]⟩
abbrev S1 : Shape := ⟨1, ![1]⟩
abbrev S16384x1 : Shape := ⟨2, ![16384, 1]⟩

abbrev nBuf : Space → Nat
  | .hbm => 155
  | .vmem => 0
  | .smem => 0
  | _ => 0

abbrev hbmTy0_0 (i : Nat) : BufTy := match i % 128 with
  | 0 => ⟨S16384x2048, .f32⟩
  | 1 => ⟨S16384x2048, .f32⟩
  | 2 => ⟨S16384x2048, .f32⟩
  | 3 => ⟨S16384x2048, .f32⟩
  | 4 => ⟨S2x16x128x128, .f32⟩
  | 5 => ⟨S2x16x128, .f32⟩
  | 6 => ⟨S2048, .f32⟩
  | 7 => ⟨S2048x2048, .f32⟩
  | 8 => ⟨S2048, .f32⟩
  | 9 => ⟨S2048, .f32⟩
  | 10 => ⟨S16384x16x128, .f32⟩
  | 11 => ⟨S16x2x128x16384, .f32⟩
  | 12 => ⟨S2x16384x16x128, .f32⟩
  | 13 => ⟨S2x1x16x128, .f32⟩
  | 14 => ⟨S2x16384x16x128, .f32⟩
  | 15 => ⟨S2x16384x16x128, .f32⟩
  | 16 => ⟨S2x16384x16x128, .f32⟩
  | 17 => ⟨S2x16384x16x128, .f32⟩
  | 18 => ⟨S_, .f32⟩
  | 19 => ⟨S2x16384x16x128, .f32⟩
  | 20 => ⟨S2x16384x16x128, .f32⟩
  | 21 => ⟨S_, .f32⟩
  | 22 => ⟨S2x16384x16x128, .f32⟩
  | 23 => ⟨S2x16384x16x128, .f32⟩
  | 24 => ⟨S2x16384x2048, .f32⟩
  | 25 => ⟨S1x16384x2048, .f32⟩
  | 26 => ⟨S16384x2048, .f32⟩
  | 27 => ⟨S1x16384x2048, .f32⟩
  | 28 => ⟨S16384x2048, .f32⟩
  | 29 => ⟨S_, .f32⟩
  | 30 => ⟨S16384x2048, .f32⟩
  | 31 => ⟨S16384x2048, .f32⟩
  | 32 => ⟨S2048, .f32⟩
  | 33 => ⟨S_, .f32⟩
  | 34 => ⟨S2048, .f32⟩
  | 35 => ⟨S2048, .f32⟩
  | 36 => ⟨S2048, .f32⟩
  | 37 => ⟨S2048, .f32⟩
  | 38 => ⟨S2048, .i1⟩
  | 39 => ⟨S2048, .f32⟩
  | 40 => ⟨S2048, .f32⟩
  | 41 => ⟨S2048, .f32⟩
  | 42 => ⟨S2048, .f32⟩
  | 43 => ⟨S2048, .f32⟩
  | 44 => ⟨S2048, .f32⟩
  | 45 => ⟨S2048, .f32⟩
  | 46 => ⟨S2048, .f32⟩
  | 47 => ⟨S1x2048, .f32⟩
  | 48 => ⟨S16384x2048, .f32⟩
  | 49 => ⟨S16384x2048, .f32⟩
  | 50 => ⟨S16384x2048, .f32⟩
  | 51 => ⟨S_, .f32⟩
  | 52 => ⟨S16384x2048, .f32⟩
  | 53 => ⟨S16384x2048, .f32⟩
  | 54 => ⟨S16384x2048, .f32⟩
  | 55 => ⟨S16384x2048, .f32⟩
  | 56 => ⟨S16384x2048, .f32⟩
  | 57 => ⟨S16384x2048, .f32⟩
  | 58 => ⟨S16384x2048, .f32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S_, .i32⟩
  | 67 => ⟨S16384, .i32⟩
  | 68 => ⟨S16384, .i32⟩
  | 69 => ⟨S16384, .i32⟩
  | 70 => ⟨S_, .i32⟩
  | 71 => ⟨S16384, .i32⟩
  | 72 => ⟨S16384, .i1⟩
  | 73 => ⟨S_, .i32⟩
  | 74 => ⟨S_, .i32⟩
  | 75 => ⟨S16384, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .i1⟩
  | 83 => ⟨S_, .f32⟩
  | 84 => ⟨S2048, .f32⟩
  | 85 => ⟨S_, .f32⟩
  | 86 => ⟨S16384x2048, .f32⟩
  | 87 => ⟨S_, .i32⟩
  | 88 => ⟨S16384x2048, .f32⟩
  | 89 => ⟨S16384x2048, .f32⟩
  | 90 => ⟨S16384, .i1⟩
  | 91 => ⟨S_, .i32⟩
  | 92 => ⟨S2048, .f32⟩
  | 93 => ⟨S16384x2048, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x2048, .f32⟩
  | 102 => ⟨S2048, .f32⟩
  | 103 => ⟨S_, .i32⟩
  | 104 => ⟨S1x2048, .f32⟩
  | 105 => ⟨S2048, .f32⟩
  | 106 => ⟨S1, .i1⟩
  | 107 => ⟨S_, .i1⟩
  | 108 => ⟨S2048, .i1⟩
  | 109 => ⟨S_, .f32⟩
  | 110 => ⟨S2048, .f32⟩
  | 111 => ⟨S2048, .f32⟩
  | 112 => ⟨S2048, .f32⟩
  | 113 => ⟨S2048, .f32⟩
  | 114 => ⟨S1x2048, .f32⟩
  | 115 => ⟨S_, .i32⟩
  | 116 => ⟨S16384x2048, .f32⟩
  | 117 => ⟨S_, .i32⟩
  | 118 => ⟨S_, .i32⟩
  | 119 => ⟨S16384x2048, .f32⟩
  | 120 => ⟨S_, .f32⟩
  | 121 => ⟨S16384x2048, .f32⟩
  | 122 => ⟨S16384x2048, .f32⟩
  | 123 => ⟨S16384x2048, .f32⟩
  | 124 => ⟨S16384x2048, .f32⟩
  | 125 => ⟨S16384x2048, .f32⟩
  | 126 => ⟨S_, .f32⟩
  | 127 => ⟨S16384, .f32⟩
  | _ => ⟨S16384x2048, .f32⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x2048, .f32⟩
  | 5 => ⟨S16384x2048, .f32⟩
  | 6 => ⟨S16384x2048, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S16384x2048, .f32⟩
  | 14 => ⟨S16384x2048, .f32⟩
  | 15 => ⟨S_, .f32⟩
  | 16 => ⟨S16384x1, .f32⟩
  | 17 => ⟨S16384x1, .f32⟩
  | 18 => ⟨S16384x1, .f32⟩
  | 19 => ⟨S16384x2048, .f32⟩
  | 20 => ⟨S16384x2048, .f32⟩
  | 21 => ⟨S1x2048, .f32⟩
  | 22 => ⟨S16384x2048, .f32⟩
  | 23 => ⟨S16384x2048, .f32⟩
  | 24 => ⟨S1x2048, .f32⟩
  | 25 => ⟨S16384x2048, .f32⟩
  | 26 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c : Ref sig .tc := ⟨.hbm, 60, rfl⟩
abbrev main_v33 : Ref sig .tc := ⟨.hbm, 61, rfl⟩
abbrev main_v34 : Ref sig .tc := ⟨.hbm, 62, rfl⟩
abbrev main_c_3 : Ref sig .tc := ⟨.hbm, 63, rfl⟩
abbrev main_v35 : Ref sig .tc := ⟨.hbm, 64, rfl⟩
abbrev main_v36 : Ref sig .tc := ⟨.hbm, 65, rfl⟩
abbrev main_c_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_5 : Ref sig .tc := ⟨.hbm, 70, rfl⟩
abbrev main_v40 : Ref sig .tc := ⟨.hbm, 71, rfl⟩
abbrev main_v41 : Ref sig .tc := ⟨.hbm, 72, rfl⟩
abbrev main_c_6 : Ref sig .tc := ⟨.hbm, 73, rfl⟩
abbrev main_c_7 : Ref sig .tc := ⟨.hbm, 74, rfl⟩
abbrev main_call2_v0 : Ref sig .tc := ⟨.hbm, 75, rfl⟩
abbrev main_call2_v1 : Ref sig .tc := ⟨.hbm, 76, rfl⟩
abbrev main_v42 : Ref sig .tc := ⟨.hbm, 77, rfl⟩
abbrev main_c_8 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_c_11 : Ref sig .tc := ⟨.hbm, 87, rfl⟩
abbrev main_v49_0 : Ref sig .tc := ⟨.hbm, 88, rfl⟩
abbrev main_v49_1 : Ref sig .tc := ⟨.hbm, 89, rfl⟩
abbrev main_v49_2 : Ref sig .tc := ⟨.hbm, 90, rfl⟩
abbrev main_v49_3 : Ref sig .tc := ⟨.hbm, 91, rfl⟩
abbrev main_v49_4 : Ref sig .tc := ⟨.hbm, 92, rfl⟩
abbrev main_v49_5 : Ref sig .tc := ⟨.hbm, 93, rfl⟩
abbrev main_while0c_c_23 : Ref sig .tc := ⟨.hbm, 94, rfl⟩
abbrev main_while0c_v80 : Ref sig .tc := ⟨.hbm, 95, rfl⟩
abbrev main_while0b_c_23 : Ref sig .tc := ⟨.hbm, 96, rfl⟩
abbrev main_while0b_v80 : Ref sig .tc := ⟨.hbm, 97, rfl⟩
abbrev main_while0b_c_24 : Ref sig .tc := ⟨.hbm, 98, rfl⟩
abbrev main_while0b_v81 : Ref sig .tc := ⟨.hbm, 99, rfl⟩
abbrev main_while0b_call3_c : Ref sig .tc := ⟨.hbm, 100, rfl⟩
abbrev main_while0b_call3_v0 : Ref sig .tc := ⟨.hbm, 101, rfl⟩
abbrev main_while0b_v82 : Ref sig .tc := ⟨.hbm, 102, rfl⟩
abbrev main_while0b_call4_c : Ref sig .tc := ⟨.hbm, 103, rfl⟩
abbrev main_while0b_call4_v0 : Ref sig .tc := ⟨.hbm, 104, rfl⟩
abbrev main_while0b_v83 : Ref sig .tc := ⟨.hbm, 105, rfl⟩
abbrev main_while0b_call5_v0 : Ref sig .tc := ⟨.hbm, 106, rfl⟩
abbrev main_while0b_v84 : Ref sig .tc := ⟨.hbm, 107, rfl⟩
abbrev main_while0b_v85 : Ref sig .tc := ⟨.hbm, 108, rfl⟩
abbrev main_while0b_cst_25 : Ref sig .tc := ⟨.hbm, 109, rfl⟩
abbrev main_while0b_v86 : Ref sig .tc := ⟨.hbm, 110, rfl⟩
abbrev main_while0b_v87 : Ref sig .tc := ⟨.hbm, 111, rfl⟩
abbrev main_while0b_v88 : Ref sig .tc := ⟨.hbm, 112, rfl⟩
abbrev main_while0b_v89 : Ref sig .tc := ⟨.hbm, 113, rfl⟩
abbrev main_while0b_call6_v0 : Ref sig .tc := ⟨.hbm, 114, rfl⟩
abbrev main_while0b_call6_c : Ref sig .tc := ⟨.hbm, 115, rfl⟩
abbrev main_while0b_v90 : Ref sig .tc := ⟨.hbm, 116, rfl⟩
abbrev main_while0b_c_26 : Ref sig .tc := ⟨.hbm, 117, rfl⟩
abbrev main_while0b_v91 : Ref sig .tc := ⟨.hbm, 118, rfl⟩
abbrev main_v50 : Ref sig .tc := ⟨.hbm, 119, rfl⟩
abbrev main_cst_12 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_cst_13 : Ref sig .tc := ⟨.hbm, 126, rfl⟩
abbrev main_v56 : Ref sig .tc := ⟨.hbm, 127, rfl⟩
abbrev main_v57 : Ref sig .tc := ⟨.hbm, 128, rfl⟩
abbrev main_cst_14 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_cst_15 : Ref sig .tc := ⟨.hbm, 135, rfl⟩
abbrev main_v63 : Ref sig .tc := ⟨.hbm, 136, rfl⟩
abbrev main_v64 : Ref sig .tc := ⟨.hbm, 137, rfl⟩
abbrev main_cst_16 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_17 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩

abbrev nD : Nat := 1
abbrev τ : Topo := Topo.v7x

variable {F : FTy → Type} [FloatOps F]

abbrev main_while0_count : Scf.Loop 32 := ⟨0#32, 16384#32, 1#32⟩
-- ==== Bias.lean ====
abbrev S32x16 : Shape := ⟨2, ![32, 16]⟩
abbrev S128x384 : Shape := ⟨2, ![128, 384]⟩
abbrev S16x128x384 : Shape := ⟨3, ![16, 128, 384]⟩
abbrev S1x1 : Shape := ⟨2, ![1, 1]⟩
abbrev S1x128x384 : Shape := ⟨3, ![1, 128, 384]⟩

abbrev nBuf : Space → Nat
  | .hbm => 3
  | .vmem => 2
  | .smem => 1
  | _ => 0

abbrev bufTy : (tb : Table) → Fin (tcTables nBuf tb) → BufTy
  | .hbm, ⟨0, _⟩ => ⟨S32x16, .f32⟩
  | .hbm, ⟨1, _⟩ => ⟨S128x384, .i32⟩
  | .hbm, ⟨2, _⟩ => ⟨S16x128x384, .f32⟩
  | .local _ .vmem, ⟨0, _⟩ => ⟨S128x384, .i32⟩
  | .local _ .vmem, ⟨1, _⟩ => ⟨S16x128x384, .f32⟩
  | .local _ .smem, ⟨0, _⟩ => ⟨S32x16, .f32⟩
  | _, _ => ⟨S32x16, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S128x384 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== BiasRefIdeal.lean ====
abbrev S32x16 : Shape := ⟨2, ![32, 16]⟩
abbrev S128x384 : Shape := ⟨2, ![128, 384]⟩
abbrev S_ : Shape := ⟨0, ![]⟩
abbrev S128x384x1 : Shape := ⟨3, ![128, 384, 1]⟩
abbrev S128x384x16 : Shape := ⟨3, ![128, 384, 16]⟩
abbrev S16x128x384 : Shape := ⟨3, ![16, 128, 384]⟩

abbrev nBuf : Space → Nat
  | .hbm => 10
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S128x384, .i32⟩
  | .hbm, ⟨2, _⟩ => ⟨S128x384, .i1⟩
  | .hbm, ⟨3, _⟩ => ⟨S_, .i32⟩
  | .hbm, ⟨4, _⟩ => ⟨S128x384, .i32⟩
  | .hbm, ⟨5, _⟩ => ⟨S128x384, .i32⟩
  | .hbm, ⟨6, _⟩ => ⟨S128x384, .i32⟩
  | .hbm, ⟨7, _⟩ => ⟨S128x384x1, .i32⟩
  | .hbm, ⟨8, _⟩ => ⟨S128x384x16, .f32⟩
  | .hbm, ⟨9, _⟩ => ⟨S16x128x384, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.LayerMath.lean ====
/- Scalar forms shared by the value proofs: a layer norm of one row, over the extended reals. -/
module

public import Idealize.ShloMosaic.Lib.Pointwise

@[expose] public section

noncomputable section

open Idealize.ShloMosaic

namespace Cert.LayerMath

/-- The mean of a row of 2048 entries. -/
def mean (h : Fin 2048 → EReal) : EReal :=
  Ideal.div (∑ l, h l) (Ideal.ofBits .f32 0x45000000#32)

/-- Entry `k` of the layer norm of the row `h`, with scale `g` and shift `b` at that entry. -/
def lnAt (h : Fin 2048 → EReal) (k : Fin 2048) (g b : EReal) : EReal :=
  (h k - mean h)
    * Ideal.rsqrt (Ideal.div (∑ l, (h l - mean h) * (h l - mean h)) (Ideal.ofBits .f32 0x45000000#32)
        + Ideal.ofBits .f32 0x3727C5AC#32)
    * g + b

/-- The residual sum that is normalised: the row scaled by the residual factor, plus the block's output. -/
def resid (x z : EReal) : EReal := Ideal.ofBits .f32 0x3FB504F3#32 * x + z

end Cert.LayerMath
-- ==== Proof.AttnSoft.lean ====
/- One row of a softmax with a sink, over the extended reals. -/
module

public import Idealize.ShloMosaic.Lib.Pointwise

@[expose] public section

noncomputable section

open Idealize.ShloMosaic

namespace Cert.AttnSoft

/-- The largest of a row of 384 logits and its sink. -/
def top (lg : Fin 384 → EReal) (s : EReal) : EReal := max (Finset.univ.fold max ⊥ lg) s

/-- The normaliser of the row. -/
def den (lg : Fin 384 → EReal) (s : EReal) : EReal :=
  (∑ c, Ideal.exp (lg c - top lg s)) + Ideal.exp (s - top lg s)

/-- The row's weights times the values, each weight multiplied by the normaliser's reciprocal. -/
def softMul (lg : Fin 384 → EReal) (s : EReal) (v : Fin 384 → EReal) : EReal :=
  ∑ c, Ideal.exp (lg c - top lg s) * Ideal.div 1 (den lg s) * v c

/-- The row's weights times the values, each weight divided by the normaliser. -/
def softDiv (lg : Fin 384 → EReal) (s : EReal) (v : Fin 384 → EReal) : EReal :=
  ∑ c, v c * Ideal.div (Ideal.exp (lg c - top lg s)) (den lg s)

/-- A masked logit has weight zero. -/
theorem exp_bot_sub (x : EReal) : Ideal.exp (⊥ - x) = 0 := by
  rw [EReal.bot_sub]; rfl

/-- The exponential is not negative. -/
theorem exp_nonneg (x : EReal) : 0 ≤ Ideal.exp x := by
  induction x with
  | bot => exact le_refl _
  | top => exact le_top
  | coe r => exact EReal.coe_nonneg.mpr (Real.exp_pos r).le

/-- The exponential of anything above −∞ is positive. -/
theorem exp_pos {x : EReal} (h : x ≠ ⊥) : 0 < Ideal.exp x := by
  induction x with
  | bot => exact absurd rfl h
  | top => exact EReal.zero_lt_top
  | coe r => exact EReal.coe_pos.mpr (Real.exp_pos r)

/-- A fold of maxima stays below +∞ when every entry does. -/
theorem fold_lt (lg : Fin 384 → EReal) (h : ∀ c, lg c < ⊤) : Finset.univ.fold max ⊥ lg < ⊤ :=
  (Finset.fold_max_lt (c := (⊤ : EReal))).mpr ⟨bot_lt_top, fun c _ => h c⟩

/-- With logits below +∞ and a finite sink the normaliser is not zero. -/
theorem den_ne_zero (lg : Fin 384 → EReal) (s : EReal) (h : ∀ c, lg c < ⊤) (hb : s ≠ ⊥) (ht : s ≠ ⊤) : den lg s ≠ 0 := by
  have hm : top lg s ≠ ⊤ := ne_of_lt (max_lt (fold_lt lg h) (lt_top_iff_ne_top.mpr ht))
  have hs : s - top lg s ≠ ⊥ := by
    have hm' : top lg s ≠ ⊥ := fun e => hb (le_bot_iff.mp (e ▸ le_max_right _ s))
    lift s to ℝ using ⟨ht, hb⟩
    generalize top lg _ = m at hm hm'
    lift m to ℝ using ⟨hm, hm'⟩
    rw [← EReal.coe_sub]
    exact EReal.coe_ne_bot _
  have h1 : 0 < Ideal.exp (s - top lg s) := exp_pos hs
  have h2 : 0 ≤ ∑ c, Ideal.exp (lg c - top lg s) := Finset.sum_nonneg fun c _ => exp_nonneg _
  exact ne_of_gt (lt_of_lt_of_le h1 (le_add_of_nonneg_left h2))

/-- Equal logits, and equal values wherever the logit is not masked, give equal rows: multiplying by the reciprocal of a
    nonzero normaliser is dividing by it. -/
theorem soft_eq (lg lg' : Fin 384 → EReal) (s : EReal) (v v' : Fin 384 → EReal) (hl : ∀ c, lg c = lg' c)
    (hv : ∀ c, lg c ≠ ⊥ → v c = v' c) (hd : den lg' s ≠ 0) : softMul lg s v = softDiv lg' s v' := by
  obtain rfl : lg = lg' := funext hl
  unfold softMul softDiv
  refine Finset.sum_congr rfl fun c _ => ?_
  simp only [Ideal.div, if_neg hd, one_mul]
  by_cases h : lg c = ⊥
  · rw [h, exp_bot_sub, zero_mul, zero_mul, mul_zero]
  · rw [hv c h, mul_comm]

end Cert.AttnSoft

end
-- ==== Proof.AttnKernel.lean ====
/- The attention kernel's arithmetic read at one entry: the 512 rows of one block and one key head, four query heads
   stacked; and the output projection with the norm. -/
module

public import proofs.«01_k».proof.Proof.Gen.AttnIdeal.Skeleton
public import proofs.«01_k».proof.Proof.LayerMath
public import proofs.«01_k».proof.Proof.AttnSoft

@[expose] public section

set_option maxRecDepth 16384

noncomputable section

open Idealize.ShloMosaic Idealize.ShloMosaic.TcCoe Idealize.SL.Sem Cert.LayerMath Cert.AttnSoft

namespace Cert.AttnKernel

open Cert.AttnIdeal Cert.AttnIdeal.Gen

/-- The masked logits of one block and key head, rows of the four query heads stacked. -/
def lgU (mask : IVec S512x384 1) (q0 q1 q2 q3 : Vec Ideal S128x128 .bf16) (kw : Vec Ideal S384x128 .bf16)
    (b : Vec Ideal S4x128x384 .f32) : FVec Ideal S512x384 .f32 :=
  select mask (k0_pay13 (F := Ideal) q0 q1 q2 q3 kw b) (k0_pay14 (F := Ideal))

/-- The sink of every stacked row. -/
def skU (hd : IVec S512x1 32) (s0 s1 s2 s3 : Elt Ideal .f32) : FVec Ideal S512x1 .f32 :=
  select (cmpi .eq hd (broadcast S512x1 3#32)) (broadcast S512x1 s3)
    (select (cmpi .eq hd (broadcast S512x1 2#32)) (broadcast S512x1 s2)
      (select (cmpi .eq hd (broadcast S512x1 1#32)) (broadcast S512x1 s1)
        (select (cmpi .eq hd (broadcast S512x1 0#32)) (broadcast S512x1 s0)
          (broadcast S512x1 (Scalar.ofBits (F := Ideal) .f32 0x00000000#32)))))

/-- The weighted values of every stacked row. -/
def avU (lg : FVec Ideal S512x384 .f32) (s : FVec Ideal S512x1 .f32) (vw : Vec Ideal S384x128 .bf16) :
    FVec Ideal S512x128 .f32 :=
  have v165 : FVec Ideal S512x1 .f32 :=
    maximumf (shapeCast S512x1 (multiReduction .maximumf [1] S512 lg 0xFF800000#32 reduces_S512x384_S512 (.inl rfl) rfl)
      shapeCasts_S512_S512x1) s
  have v168 : FVec Ideal S512x384 .f32 := exp (subf lg (broadcastTo S512x384 v165 broadcasts_S512x1_S512x384))
  have v173 : FVec Ideal S512x1 .f32 :=
    addf (shapeCast S512x1 (multiReduction .add [1] S512 v168 0x00000000#32 reduces_S512x384_S512 (.inl rfl) rfl)
      shapeCasts_S512_S512x1) (exp (subf s v165))
  have v175 : FVec Ideal S512x1 .f32 := divf (broadcast S512x1 (Scalar.ofBits (F := Ideal) .f32 0x3F800000#32)) v173
  matmul (φ₂ := .bf16) dot_S512x384_S384x128_S512x128_1_0_0_1_n_n none
    (truncf .bf16 (mulf v168 (broadcastTo S512x384 v175 broadcasts_S512x1_S512x384)) bitsLt_bf16_f32) vw
    (constant S512x128 .f32 0x00000000#32)

/-- One block and key head: the stacked rows of the four query heads. -/
def unitU (hd : IVec S512x1 32) (mask : IVec S512x384 1) (q0 q1 q2 q3 : Vec Ideal S128x128 .bf16)
    (kw vw : Vec Ideal S384x128 .bf16) (b : Vec Ideal S4x128x384 .f32) (s0 s1 s2 s3 : Elt Ideal .f32) :
    FVec Ideal S512x128 .f32 :=
  avU (lgU mask q0 q1 q2 q3 kw b) (skU hd s0 s1 s2 s3) vw

/-- A weighted row of values is the softmax row of its logits. -/
theorem avU_at (lg : FVec Ideal S512x384 .f32) (s : FVec Ideal S512x1 .f32) (vw : Vec Ideal S384x128 .bf16)
    (r : Fin 512) (d : Fin 128) :
    avU lg s vw (ix2 r d) = softMul (fun c => lg (ix2 r c)) (s (ix2 r 0)) (fun c => vw (ix2 c d)) := by
  have hb : Ideal.ofBits .f32 0xFF800000#32 = ⊥ := by simp [Ideal.ofBits, Ideal.ieee]
  pointwise [avU, softMul, den, top, hb]

/-- The masked constant. -/
theorem pay14_at (r : Fin 512) (c : Fin 384) : k0_pay14 (F := Ideal) (ix2 r c) = ⊥ := by
  rfl

/-- A logit of the stacked query head 0. -/
theorem pay13_at0 (q0 q1 q2 q3 : Vec Ideal S128x128 .bf16) (kw : Vec Ideal S384x128 .bf16)
    (b : Vec Ideal S4x128x384 .f32) (n : Fin 128) (c : Fin 384) :
    k0_pay13 (F := Ideal) q0 q1 q2 q3 kw b (ix2 ⟨n.val, by omega⟩ c)
      = (∑ e : Fin 128, q0 (ix2 n e) * kw (ix2 c e)) + b (ix3 0 n c) := by
  pointwise [k0_pay13]
  refine congrArg (_ + ·) (congrArg₂ (fun x y => b (ix3 x y c)) (Fin.ext ?_) (Fin.ext ?_))
  · show (n.val) / 128 = 0
    omega
  · first | rfl | (show (n.val) % 128 = n.val; omega)

/-- The sink of the stacked query head 0. -/
theorem skU_at0 (hd : IVec S512x1 32) (s0 s1 s2 s3 : Elt Ideal .f32) (r : Fin 512) (h : hd (ix2 r 0) = 0#32) :
    skU hd s0 s1 s2 s3 (ix2 r 0) = s0 := by
  simp only [skU, select, cmpi, broadcast, h]
  rfl

/-- An entry of the stacked query head 0: the softmax row of the head's logits. -/
theorem unitU_at0 (hd : IVec S512x1 32) (mask : IVec S512x384 1) (q0 q1 q2 q3 : Vec Ideal S128x128 .bf16)
    (kw vw : Vec Ideal S384x128 .bf16) (b : Vec Ideal S4x128x384 .f32) (s0 s1 s2 s3 : Elt Ideal .f32)
    (n d : Fin 128) (h : hd (ix2 ⟨n.val, by omega⟩ 0) = 0#32) :
    unitU hd mask q0 q1 q2 q3 kw vw b s0 s1 s2 s3 (ix2 ⟨n.val, by omega⟩ d)
      = softMul (fun c => if mask (ix2 ⟨n.val, by omega⟩ c) = 1#1
            then (∑ e : Fin 128, q0 (ix2 n e) * kw (ix2 c e)) + b (ix3 0 n c) else ⊥)
          s0 (fun c => vw (ix2 c d)) := by
  unfold unitU
  rw [avU_at, skU_at0 _ _ _ _ _ _ h]
  refine congrArg (fun f => softMul f s0 _) (funext fun c => ?_)
  rw [← pay13_at0 q0 q1 q2 q3 kw b n c]
  rfl

/-- The stored piece of the stacked query head 0. -/
theorem piece_at0 (u : FVec Ideal S512x128 .f32) (n d : Fin 128) :
    shapeCast S128x128 (truncf .bf16 (extractStridedSlice S128x128 ![0, 0] u slices_S512x128_o0_0_S128x128)
      bitsLt_bf16_f32) shapeCasts_S128x128_S128x128 (ix2 n d) = u (ix2 ⟨n.val, by omega⟩ d) := by
  pointwise

/-- A logit of the stacked query head 1. -/
theorem pay13_at1 (q0 q1 q2 q3 : Vec Ideal S128x128 .bf16) (kw : Vec Ideal S384x128 .bf16)
    (b : Vec Ideal S4x128x384 .f32) (n : Fin 128) (c : Fin 384) :
    k0_pay13 (F := Ideal) q0 q1 q2 q3 kw b (ix2 ⟨128 + n.val, by omega⟩ c)
      = (∑ e : Fin 128, q1 (ix2 n e) * kw (ix2 c e)) + b (ix3 1 n c) := by
  pointwise [k0_pay13]
  refine congrArg (_ + ·) (congrArg₂ (fun x y => b (ix3 x y c)) (Fin.ext ?_) (Fin.ext ?_))
  · show (128 + n.val) / 128 = 1
    omega
  · first | rfl | (show (128 + n.val) % 128 = n.val; omega)

/-- The sink of the stacked query head 1. -/
theorem skU_at1 (hd : IVec S512x1 32) (s0 s1 s2 s3 : Elt Ideal .f32) (r : Fin 512) (h : hd (ix2 r 0) = 1#32) :
    skU hd s0 s1 s2 s3 (ix2 r 0) = s1 := by
  simp only [skU, select, cmpi, broadcast, h]
  rfl

/-- An entry of the stacked query head 1: the softmax row of the head's logits. -/
theorem unitU_at1 (hd : IVec S512x1 32) (mask : IVec S512x384 1) (q0 q1 q2 q3 : Vec Ideal S128x128 .bf16)
    (kw vw : Vec Ideal S384x128 .bf16) (b : Vec Ideal S4x128x384 .f32) (s0 s1 s2 s3 : Elt Ideal .f32)
    (n d : Fin 128) (h : hd (ix2 ⟨128 + n.val, by omega⟩ 0) = 1#32) :
    unitU hd mask q0 q1 q2 q3 kw vw b s0 s1 s2 s3 (ix2 ⟨128 + n.val, by omega⟩ d)
      = softMul (fun c => if mask (ix2 ⟨128 + n.val, by omega⟩ c) = 1#1
            then (∑ e : Fin 128, q1 (ix2 n e) * kw (ix2 c e)) + b (ix3 1 n c) else ⊥)
          s1 (fun c => vw (ix2 c d)) := by
  unfold unitU
  rw [avU_at, skU_at1 _ _ _ _ _ _ h]
  refine congrArg (fun f => softMul f s1 _) (funext fun c => ?_)
  rw [← pay13_at1 q0 q1 q2 q3 kw b n c]
  rfl

/-- The stored piece of the stacked query head 1. -/
theorem piece_at1 (u : FVec Ideal S512x128 .f32) (n d : Fin 128) :
    shapeCast S128x128 (truncf .bf16 (extractStridedSlice S128x128 ![128, 0] u slices_S512x128_o128_0_S128x128)
      bitsLt_bf16_f32) shapeCasts_S128x128_S128x128 (ix2 n d) = u (ix2 ⟨128 + n.val, by omega⟩ d) := by
  pointwise

/-- A logit of the stacked query head 2. -/
theorem pay13_at2 (q0 q1 q2 q3 : Vec Ideal S128x128 .bf16) (kw : Vec Ideal S384x128 .bf16)
    (b : Vec Ideal S4x128x384 .f32) (n : Fin 128) (c : Fin 384) :
    k0_pay13 (F := Ideal) q0 q1 q2 q3 kw b (ix2 ⟨256 + n.val, by omega⟩ c)
      = (∑ e : Fin 128, q2 (ix2 n e) * kw (ix2 c e)) + b (ix3 2 n c) := by
  pointwise [k0_pay13]
  refine congrArg₂ (· + ·) (Finset.sum_congr rfl fun e _ => congrArg (· * _) ?_)
    (congrArg (fun x => b (ix3 x n c)) (Fin.ext ?_))
  · rw [dif_neg (by omega), dif_neg (by omega), dif_pos (by omega)]
    exact congrArg (fun x => q2 (ix2 x e)) (Fin.ext (by show 256 + n.val - 128 - 128 = n.val; omega))
  · show (256 + n.val) / 128 = 2
    omega

/-- The sink of the stacked query head 2. -/
theorem skU_at2 (hd : IVec S512x1 32) (s0 s1 s2 s3 : Elt Ideal .f32) (r : Fin 512) (h : hd (ix2 r 0) = 2#32) :
    skU hd s0 s1 s2 s3 (ix2 r 0) = s2 := by
  simp only [skU, select, cmpi, broadcast, h]
  rfl

/-- An entry of the stacked query head 2: the softmax row of the head's logits. -/
theorem unitU_at2 (hd : IVec S512x1 32) (mask : IVec S512x384 1) (q0 q1 q2 q3 : Vec Ideal S128x128 .bf16)
    (kw vw : Vec Ideal S384x128 .bf16) (b : Vec Ideal S4x128x384 .f32) (s0 s1 s2 s3 : Elt Ideal .f32)
    (n d : Fin 128) (h : hd (ix2 ⟨256 + n.val, by omega⟩ 0) = 2#32) :
    unitU hd mask q0 q1 q2 q3 kw vw b s0 s1 s2 s3 (ix2 ⟨256 + n.val, by omega⟩ d)
      = softMul (fun c => if mask (ix2 ⟨256 + n.val, by omega⟩ c) = 1#1
            then (∑ e : Fin 128, q2 (ix2 n e) * kw (ix2 c e)) + b (ix3 2 n c) else ⊥)
          s2 (fun c => vw (ix2 c d)) := by
  unfold unitU
  rw [avU_at, skU_at2 _ _ _ _ _ _ h]
  refine congrArg (fun f => softMul f s2 _) (funext fun c => ?_)
  rw [← pay13_at2 q0 q1 q2 q3 kw b n c]
  rfl

/-- The stored piece of the stacked query head 2. -/
theorem piece_at2 (u : FVec Ideal S512x128 .f32) (n d : Fin 128) :
    shapeCast S128x128 (truncf .bf16 (extractStridedSlice S128x128 ![256, 0] u slices_S512x128_o256_0_S128x128)
      bitsLt_bf16_f32) shapeCasts_S128x128_S128x128 (ix2 n d) = u (ix2 ⟨256 + n.val, by omega⟩ d) := by
  pointwise

/-- A logit of the stacked query head 3. -/
theorem pay13_at3 (q0 q1 q2 q3 : Vec Ideal S128x128 .bf16) (kw : Vec Ideal S384x128 .bf16)
    (b : Vec Ideal S4x128x384 .f32) (n : Fin 128) (c : Fin 384) :
    k0_pay13 (F := Ideal) q0 q1 q2 q3 kw b (ix2 ⟨384 + n.val, by omega⟩ c)
      = (∑ e : Fin 128, q3 (ix2 n e) * kw (ix2 c e)) + b (ix3 3 n c) := by
  pointwise [k0_pay13]
  refine congrArg₂ (· + ·) (Finset.sum_congr rfl fun e _ => congrArg (· * _) ?_)
    (congrArg (fun x => b (ix3 x n c)) (Fin.ext ?_))
  · rw [dif_neg (by omega), dif_neg (by omega), dif_neg (by omega)]
    exact congrArg (fun x => q3 (ix2 x e)) (Fin.ext (by show 384 + n.val - 128 - 128 - 128 = n.val; omega))
  · show (384 + n.val) / 128 = 3
    omega

/-- The sink of the stacked query head 3. -/
theorem skU_at3 (hd : IVec S512x1 32) (s0 s1 s2 s3 : Elt Ideal .f32) (r : Fin 512) (h : hd (ix2 r 0) = 3#32) :
    skU hd s0 s1 s2 s3 (ix2 r 0) = s3 := by
  simp only [skU, select, cmpi, broadcast, h]
  rfl

/-- An entry of the stacked query head 3: the softmax row of the head's logits. -/
theorem unitU_at3 (hd : IVec S512x1 32) (mask : IVec S512x384 1) (q0 q1 q2 q3 : Vec Ideal S128x128 .bf16)
    (kw vw : Vec Ideal S384x128 .bf16) (b : Vec Ideal S4x128x384 .f32) (s0 s1 s2 s3 : Elt Ideal .f32)
    (n d : Fin 128) (h : hd (ix2 ⟨384 + n.val, by omega⟩ 0) = 3#32) :
    unitU hd mask q0 q1 q2 q3 kw vw b s0 s1 s2 s3 (ix2 ⟨384 + n.val, by omega⟩ d)
      = softMul (fun c => if mask (ix2 ⟨384 + n.val, by omega⟩ c) = 1#1
            then (∑ e : Fin 128, q3 (ix2 n e) * kw (ix2 c e)) + b (ix3 3 n c) else ⊥)
          s3 (fun c => vw (ix2 c d)) := by
  unfold unitU
  rw [avU_at, skU_at3 _ _ _ _ _ _ h]
  refine congrArg (fun f => softMul f s3 _) (funext fun c => ?_)
  rw [← pay13_at3 q0 q1 q2 q3 kw b n c]
  rfl

/-- The stored piece of the stacked query head 3. -/
theorem piece_at3 (u : FVec Ideal S512x128 .f32) (n d : Fin 128) :
    shapeCast S128x128 (truncf .bf16 (extractStridedSlice S128x128 ![384, 0] u slices_S512x128_o384_0_S128x128)
      bitsLt_bf16_f32) shapeCasts_S128x128_S128x128 (ix2 n d) = u (ix2 ⟨384 + n.val, by omega⟩ d) := by
  pointwise

/-- The output projection, the residual sum and the norm of a row. -/
theorem out_at (ao : Vec Ideal S512x2048 .bf16) (w : Vec Ideal S2048x2048 .bf16) (x : Vec Ideal S512x2048 .f32)
    (g b : Vec Ideal S1x2048 .f32) (r : Fin 512) (l : Fin 2048) :
    k0_pay1 (F := Ideal) (k0_pay147 g) (k0_pay148 b) (k0_pay149 (k0_pay146 ao w) x) (k0_pay150 (k0_pay146 ao w) x) (ix2 r l)
      = lnAt (fun k => resid (x (ix2 r k)) (∑ j : Fin 2048, ao (ix2 r j) * w (ix2 j k))) l (g (ix2 0 l)) (b (ix2 0 l)) := by
  have h : ∀ k, k0_pay146 (F := Ideal) ao w (ix2 r k) = ∑ j : Fin 2048, ao (ix2 r j) * w (ix2 j k) := fun k => by
    pointwise [k0_pay146]
  generalize k0_pay146 (F := Ideal) ao w = z at h ⊢
  pointwise [k0_pay1, k0_pay147, k0_pay148, k0_pay149, k0_pay150, lnAt, mean, resid, h]

end Cert.AttnKernel

end
-- ==== Proof.AttnBlock.lean ====
/- One block of the attention kernel: its loads read at an entry, and the 64 tiles of its scratch as one function. -/
module

public import proofs.«01_k».proof.Proof.AttnKernel
public import proofs.«01_k».proof.Proof.Gen.AttnIdeal.Frame
public import Idealize.ShloMosaic.Lib.Pipeline.ValueKit.Tiles

@[expose] public section

set_option maxRecDepth 16384

noncomputable section

open Idealize.ShloMosaic Idealize.ShloMosaic.TcCoe Idealize.SL.Sem Cert.LayerMath Cert.AttnSoft

namespace Cert.AttnBlock

open Cert.AttnIdeal Cert.AttnIdeal.Gen Cert.AttnKernel

/-! ## The loads -/

/-- The load of a tile of the queries. -/
abbrev QL (arg1 : Memref sig .tc .vmem S512x2048 .bf16) (harg1 : arg1.IsWhole) (x0 : Vec Ideal S512x2048 .bf16)
    (o1 o2 : ℕ) (inb : ∀ a, (![o1, o2] : Fin 2 → ℕ) a + S128x128.size a ≤ S512x2048.size a) : Vec Ideal S128x128 .bf16 :=
  View.readAt (Elt Ideal) arg1.view (Rect.unit (s := S512x2048) ![o1, o2] S128x128.size inb).toLoadRect (harg1.unread x0)

/-- The load of the four biases of a key head. -/
abbrev BL (arg8 : Memref sig .tc .vmem S16x128x384 .f32) (harg8 : arg8.IsWhole) (x7 : Vec Ideal S16x128x384 .f32)
    (o : ℕ) (inb : ∀ a, (![o, 0, 0] : Fin 3 → ℕ) a + S4x128x384.size a ≤ S16x128x384.size a) : Vec Ideal S4x128x384 .f32 :=
  View.readAt (Elt Ideal) arg8.view (Rect.unit (s := S16x128x384) ![o, 0, 0] S4x128x384.size inb).toLoadRect (harg8.unread x7)

/-- The load of a head's sink. -/
abbrev SL (arg9 : Memref sig .tc .smem S1x16 .f32) (harg9 : arg9.IsWhole) (x8 : Vec Ideal S1x16 .f32)
    (o : ℕ) (inb : ∀ a, (![0, o] : Fin 2 → ℕ) a + S1x1.size a ≤ S1x16.size a) : Elt Ideal .f32 :=
  View.readAt (Elt Ideal) arg9.view (Rect.unit (s := S1x16) ![0, o] S1x1.size inb).toLoadRect (harg9.unread x8)
    (Shape.Idx.first (show 0 < S1x1.numel by decide))

/-- A query read at an entry. -/
theorem QL_at (arg1 : Memref sig .tc .vmem S512x2048 .bf16) (harg1 : arg1.IsWhole) (x0 : Vec Ideal S512x2048 .bf16)
    (o1 o2 : ℕ) (inb : ∀ a, (![o1, o2] : Fin 2 → ℕ) a + S128x128.size a ≤ S512x2048.size a) (n e : Fin 128)
    (r : Fin 512) (l : Fin 2048) (hr : r.val = o1 + n.val) (hl : l.val = o2 + e.val) :
    QL arg1 harg1 x0 o1 o2 inb (ix2 n e) = x0 (ix2 r l) := by
  unfold QL
  rw [View.readAt_eq_ld, Memref.IsWhole.read_unread, View.ld_apply]
  refine congrArg x0 (funext fun a => Fin.ext ?_)
  rw [Rect.idx_unit_val]
  revert a
  exact Fin.forall_fin_two.2 ⟨hr.symm, hl.symm⟩

/-- A bias read at an entry. -/
theorem BL_at (arg8 : Memref sig .tc .vmem S16x128x384 .f32) (harg8 : arg8.IsWhole) (x7 : Vec Ideal S16x128x384 .f32)
    (o : ℕ) (inb : ∀ a, (![o, 0, 0] : Fin 3 → ℕ) a + S4x128x384.size a ≤ S16x128x384.size a) (g : Fin 4) (n : Fin 128)
    (k : Fin 384) (h : Fin 16) (hh : h.val = o + g.val) :
    BL arg8 harg8 x7 o inb (ix3 g n k) = x7 (ix3 h n k) := by
  unfold BL
  rw [View.readAt_eq_ld, Memref.IsWhole.read_unread, View.ld_apply]
  refine congrArg x7 (funext fun a => Fin.ext ?_)
  rw [Rect.idx_unit_val]
  revert a
  exact Fin.forall_fin_succ.2 ⟨hh.symm, Fin.forall_fin_two.2 ⟨Nat.zero_add _, Nat.zero_add _⟩⟩

/-- A sink read. -/
theorem SL_eq (arg9 : Memref sig .tc .smem S1x16 .f32) (harg9 : arg9.IsWhole) (x8 : Vec Ideal S1x16 .f32)
    (o : ℕ) (inb : ∀ a, (![0, o] : Fin 2 → ℕ) a + S1x1.size a ≤ S1x16.size a) (h : Fin 16) (hh : h.val = o) :
    SL arg9 harg9 x8 o inb = x8 (ix2 0 h) := by
  unfold SL
  rw [View.readAt_eq_ld, Memref.IsWhole.read_unread, View.ld_apply]
  refine congrArg x8 (funext fun a => Fin.ext ?_)
  rw [Rect.idx_unit_val]
  revert a
  exact Fin.forall_fin_two.2 ⟨rfl, hh.symm⟩

/-- The 768 rows of keys (or values) around a block: the previous 128, its own 512, the next 128. -/
def win (k : Vec Ideal S512x512 .bf16) (kp kn : Vec Ideal S128x512 .bf16) (r : ℕ) (j : Fin 512) : EReal :=
  if h : r < 128 then kp (ix2 ⟨r, h⟩ j)
  else if h2 : r < 640 then k (ix2 ⟨r - 128, by omega⟩ j)
  else if h3 : r < 768 then kn (ix2 ⟨r - 640, by omega⟩ j) else 0

/-- The load of a window of the keys. -/
abbrev KL (c : Dev nD) (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg15 : Memref sig .tc .vmem S768x512 .bf16) (x1 : Vec Ideal S512x512 .bf16)
    (x2 x3 : Vec Ideal S128x512 .bf16) (o1 o2 : ℕ)
    (inb : ∀ a, (![o1, o2] : Fin 2 → ℕ) a + S384x128.size a ≤ S768x512.size a) : Vec Ideal S384x128 .bf16 :=
  arg15.view.readCov (kernelRun0_A.sl.HS0_3 (F := Ideal) c arg2 harg2 arg3 harg3 arg4 harg4 x1 x2 x3)
    (Rect.unit (s := S768x512) ![o1, o2] S384x128.size inb).toLoadRect

/-- The load of a window of the values. -/
abbrev VL (c : Dev nD) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg16 : Memref sig .tc .vmem S768x512 .bf16) (x4 : Vec Ideal S512x512 .bf16)
    (x5 x6 : Vec Ideal S128x512 .bf16) (o1 o2 : ℕ)
    (inb : ∀ a, (![o1, o2] : Fin 2 → ℕ) a + S384x128.size a ≤ S768x512.size a) : Vec Ideal S384x128 .bf16 :=
  arg16.view.readCov (kernelRun0_A.sl.HS1_3 (F := Ideal) c arg5 harg5 arg6 harg6 arg7 harg7 x4 x5 x6)
    (Rect.unit (s := S768x512) ![o1, o2] S384x128.size inb).toLoadRect

/-- The store of a whole block holds the block. -/
theorem v55_eq (c : Dev nD) (arg3 : Memref sig .tc .vmem S128x512 .bf16) (harg3 : arg3.IsWhole) (x2 : Vec Ideal S128x512 .bf16) :
    kernelRun0_A.sl.v55 (F := Ideal) c arg3 harg3 x2 = x2 := by
  unfold kernelRun0_A.sl.v55
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- The store of a whole block holds the block. -/
theorem v59_eq (c : Dev nD) (arg2 : Memref sig .tc .vmem S512x512 .bf16) (harg2 : arg2.IsWhole) (x1 : Vec Ideal S512x512 .bf16) :
    kernelRun0_A.sl.v59 (F := Ideal) c arg2 harg2 x1 = x1 := by
  unfold kernelRun0_A.sl.v59
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- The store of a whole block holds the block. -/
theorem v63_eq (c : Dev nD) (arg4 : Memref sig .tc .vmem S128x512 .bf16) (harg4 : arg4.IsWhole) (x3 : Vec Ideal S128x512 .bf16) :
    kernelRun0_A.sl.v63 (F := Ideal) c arg4 harg4 x3 = x3 := by
  unfold kernelRun0_A.sl.v63
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- The store of a whole block holds the block. -/
theorem v67_eq (c : Dev nD) (arg6 : Memref sig .tc .vmem S128x512 .bf16) (harg6 : arg6.IsWhole) (x5 : Vec Ideal S128x512 .bf16) :
    kernelRun0_A.sl.v67 (F := Ideal) c arg6 harg6 x5 = x5 := by
  unfold kernelRun0_A.sl.v67 kernelRun0_A.sl.r
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- The store of a whole block holds the block. -/
theorem v71_eq (c : Dev nD) (arg5 : Memref sig .tc .vmem S512x512 .bf16) (harg5 : arg5.IsWhole) (x4 : Vec Ideal S512x512 .bf16) :
    kernelRun0_A.sl.v71 (F := Ideal) c arg5 harg5 x4 = x4 := by
  unfold kernelRun0_A.sl.v71
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- The store of a whole block holds the block. -/
theorem v75_eq (c : Dev nD) (arg7 : Memref sig .tc .vmem S128x512 .bf16) (harg7 : arg7.IsWhole) (x6 : Vec Ideal S128x512 .bf16) :
    kernelRun0_A.sl.v75 (F := Ideal) c arg7 harg7 x6 = x6 := by
  unfold kernelRun0_A.sl.v75
  simp only [View.readAt_eq_ld, Memref.IsWhole.read_unread, View.ld_unit_lit']
  pointwise
  exact funext fun y => View.ld_unit_apply_of _ _ _ _ y y (Fin.forall_fin_two.2 ⟨(Nat.zero_add _).symm, (Nat.zero_add _).symm⟩)

/-- A window of the keys read at an entry. -/
theorem KL_at (c : Dev nD) (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg15 : Memref sig .tc .vmem S768x512 .bf16) (x1 : Vec Ideal S512x512 .bf16)
    (x2 x3 : Vec Ideal S128x512 .bf16) (o1 o2 : ℕ)
    (inb : ∀ a, (![o1, o2] : Fin 2 → ℕ) a + S384x128.size a ≤ S768x512.size a) (k : Fin 384) (e : Fin 128)
    (r : ℕ) (j : Fin 512) (hr : r = o1 + k.val) (hj : j.val = o2 + e.val) :
    KL c arg2 harg2 arg3 harg3 arg4 harg4 arg15 x1 x2 x3 o1 o2 inb (ix2 k e) = win x1 x2 x3 r j := by
  have hb : r < 768 := by
    have := inb 0
    have : o1 + 384 ≤ 768 := this
    omega
  unfold KL
  rw [View.readCov_eq_canon']
  have e0 : ((Rect.unit (s := S768x512) ![o1, o2] S384x128.size inb).toLoadRect.idx (ix2 k e))
      = (ix2 (⟨r, hb⟩ : Fin 768) j : S768x512.Idx) := by
    refine funext fun a => Fin.ext ?_
    refine (Rect.idx_unit_val _ _ inb _ a).trans ?_
    revert a
    exact Fin.forall_fin_two.2 ⟨hr.symm, hj.symm⟩
  show View.canon _ _ = _
  rw [e0]
  simp only [kernelRun0_A.sl.HS0_3, v55_eq, v59_eq, v63_eq]
  refine View.canon_eq_of_allAt _ _ _ ?_ ?_
  · by_cases a1 : r < 128
    · exact ⟨_, List.mem_cons_of_mem _ (List.mem_cons_of_mem _ List.mem_cons_self), (LoadRect.mem_set _).mpr
        (Fin.forall_fin_two.2 ⟨⟨r, a1, by show r = 0 + 1 * r; omega⟩, ⟨j.val, j.isLt, by show j.val = 0 + 1 * j.val; omega⟩⟩)⟩
    · by_cases a2 : r < 640
      · exact ⟨_, List.mem_cons_of_mem _ List.mem_cons_self, (LoadRect.mem_set _).mpr
          (Fin.forall_fin_two.2 ⟨⟨r - 128, by show r - 128 < 512; omega, by show r = 128 + 1 * (r - 128); omega⟩,
            ⟨j.val, j.isLt, by show j.val = 0 + 1 * j.val; omega⟩⟩)⟩
      · exact ⟨_, List.mem_cons_self, (LoadRect.mem_set _).mpr
          (Fin.forall_fin_two.2 ⟨⟨r - 640, by show r - 640 < 128; omega, by show r = 640 + 1 * (r - 640); omega⟩,
            ⟨j.val, j.isLt, by show j.val = 0 + 1 * j.val; omega⟩⟩)⟩
  · refine View.allAt_cons_unit _ _ _ _ _ (fun x h => ?_) (View.allAt_cons_unit _ _ _ _ _ (fun x h => ?_)
      (View.allAt_cons_unit _ _ _ _ _ (fun x h => ?_) (View.allAt_nil _ _)))
    · have h0 : r = 640 + (x 0).val := h 0
      have h1 : j.val = 0 + (x 1).val := h 1
      have hx : (x 0).val < 128 := (x 0).isLt
      rw [win, dif_neg (by omega), dif_neg (by omega), dif_pos hb]
      refine congrArg x3 (funext (Fin.forall_fin_two.2 ⟨Fin.ext ?_, Fin.ext ?_⟩))
      · show (x 0).val = r - 640
        omega
      · show (x 1).val = j.val
        omega
    · have h0 : r = 128 + (x 0).val := h 0
      have h1 : j.val = 0 + (x 1).val := h 1
      have hx : (x 0).val < 512 := (x 0).isLt
      rw [win, dif_neg (by omega), dif_pos (by omega)]
      refine congrArg x1 (funext (Fin.forall_fin_two.2 ⟨Fin.ext ?_, Fin.ext ?_⟩))
      · show (x 0).val = r - 128
        omega
      · show (x 1).val = j.val
        omega
    · have h0 : r = 0 + (x 0).val := h 0
      have h1 : j.val = 0 + (x 1).val := h 1
      have hx : (x 0).val < 128 := (x 0).isLt
      rw [win, dif_pos (by omega)]
      refine congrArg x2 (funext (Fin.forall_fin_two.2 ⟨Fin.ext ?_, Fin.ext ?_⟩))
      · show (x 0).val = r
        omega
      · show (x 1).val = j.val
        omega

/-- A window of the values read at an entry. -/
theorem VL_at (c : Dev nD) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg16 : Memref sig .tc .vmem S768x512 .bf16) (x4 : Vec Ideal S512x512 .bf16)
    (x5 x6 : Vec Ideal S128x512 .bf16) (o1 o2 : ℕ)
    (inb : ∀ a, (![o1, o2] : Fin 2 → ℕ) a + S384x128.size a ≤ S768x512.size a) (k : Fin 384) (e : Fin 128)
    (r : ℕ) (j : Fin 512) (hr : r = o1 + k.val) (hj : j.val = o2 + e.val) :
    VL c arg5 harg5 arg6 harg6 arg7 harg7 arg16 x4 x5 x6 o1 o2 inb (ix2 k e) = win x4 x5 x6 r j := by
  have hb : r < 768 := by
    have := inb 0
    have : o1 + 384 ≤ 768 := this
    omega
  unfold VL
  rw [View.readCov_eq_canon']
  have e0 : ((Rect.unit (s := S768x512) ![o1, o2] S384x128.size inb).toLoadRect.idx (ix2 k e))
      = (ix2 (⟨r, hb⟩ : Fin 768) j : S768x512.Idx) := by
    refine funext fun a => Fin.ext ?_
    refine (Rect.idx_unit_val _ _ inb _ a).trans ?_
    revert a
    exact Fin.forall_fin_two.2 ⟨hr.symm, hj.symm⟩
  show View.canon _ _ = _
  rw [e0]
  simp only [kernelRun0_A.sl.HS1_3, v67_eq, v71_eq, v75_eq]
  refine View.canon_eq_of_allAt _ _ _ ?_ ?_
  · by_cases a1 : r < 128
    · exact ⟨_, List.mem_cons_of_mem _ (List.mem_cons_of_mem _ List.mem_cons_self), (LoadRect.mem_set _).mpr
        (Fin.forall_fin_two.2 ⟨⟨r, a1, by show r = 0 + 1 * r; omega⟩, ⟨j.val, j.isLt, by show j.val = 0 + 1 * j.val; omega⟩⟩)⟩
    · by_cases a2 : r < 640
      · exact ⟨_, List.mem_cons_of_mem _ List.mem_cons_self, (LoadRect.mem_set _).mpr
          (Fin.forall_fin_two.2 ⟨⟨r - 128, by show r - 128 < 512; omega, by show r = 128 + 1 * (r - 128); omega⟩,
            ⟨j.val, j.isLt, by show j.val = 0 + 1 * j.val; omega⟩⟩)⟩
      · exact ⟨_, List.mem_cons_self, (LoadRect.mem_set _).mpr
          (Fin.forall_fin_two.2 ⟨⟨r - 640, by show r - 640 < 128; omega, by show r = 640 + 1 * (r - 640); omega⟩,
            ⟨j.val, j.isLt, by show j.val = 0 + 1 * j.val; omega⟩⟩)⟩
  · refine View.allAt_cons_unit _ _ _ _ _ (fun x h => ?_) (View.allAt_cons_unit _ _ _ _ _ (fun x h => ?_)
      (View.allAt_cons_unit _ _ _ _ _ (fun x h => ?_) (View.allAt_nil _ _)))
    · have h0 : r = 640 + (x 0).val := h 0
      have h1 : j.val = 0 + (x 1).val := h 1
      have hx : (x 0).val < 128 := (x 0).isLt
      rw [win, dif_neg (by omega), dif_neg (by omega), dif_pos hb]
      refine congrArg x6 (funext (Fin.forall_fin_two.2 ⟨Fin.ext ?_, Fin.ext ?_⟩))
      · show (x 0).val = r - 640
        omega
      · show (x 1).val = j.val
        omega
    · have h0 : r = 128 + (x 0).val := h 0
      have h1 : j.val = 0 + (x 1).val := h 1
      have hx : (x 0).val < 512 := (x 0).isLt
      rw [win, dif_neg (by omega), dif_pos (by omega)]
      refine congrArg x4 (funext (Fin.forall_fin_two.2 ⟨Fin.ext ?_, Fin.ext ?_⟩))
      · show (x 0).val = r - 128
        omega
      · show (x 1).val = j.val
        omega
    · have h0 : r = 0 + (x 0).val := h 0
      have h1 : j.val = 0 + (x 1).val := h 1
      have hx : (x 0).val < 128 := (x 0).isLt
      rw [win, dif_pos (by omega)]
      refine congrArg x5 (funext (Fin.forall_fin_two.2 ⟨Fin.ext ?_, Fin.ext ?_⟩))
      · show (x 0).val = r
        omega
      · show (x 1).val = j.val
        omega

/-! ## The block's attention -/

/-- The attention of one step of 512 rows, from its loads: head `h` at row `n` of its block `b`, lane `d`. -/
def attAt (mk : Fin 4 → Fin 128 → Fin 384 → Bool) (x0 : Vec Ideal S512x2048 .bf16) (x1 : Vec Ideal S512x512 .bf16)
    (x2 x3 : Vec Ideal S128x512 .bf16) (x4 : Vec Ideal S512x512 .bf16) (x5 x6 : Vec Ideal S128x512 .bf16)
    (x7 : Vec Ideal S16x128x384 .f32) (x8 : Vec Ideal S1x16 .f32) (b : Fin 4) (n : Fin 128) (h : Fin 16)
    (d : Fin 128) : EReal :=
  softMul (fun k : Fin 384 => if mk b n k = true
      then (∑ e : Fin 128, x0 (ix2 ⟨128 * b.val + n.val, by omega⟩ ⟨128 * h.val + e.val, by omega⟩)
          * win x1 x2 x3 (128 * b.val + k.val) ⟨128 * (h.val / 4) + e.val, by omega⟩) + x7 (ix3 h n k)
      else ⊥)
    (x8 (ix2 0 h))
    (fun k => win x4 x5 x6 (128 * b.val + k.val) ⟨128 * (h.val / 4) + d.val, by omega⟩)

/-- A tile of the scratch read in place: whatever the entries of a tile are, they are so at the scratch's own index. -/
theorem tile_of (A : Fin 4 → Fin 128 → Fin 16 → Fin 128 → EReal) (b : Fin 4) (h : Fin 16) (o1 o2 : ℕ)
    (w : S128x128.Idx → Elt Ideal .bf16) (ho1 : o1 = 128 * b.val) (ho2 : o2 = 128 * h.val)
    (hw : ∀ n d : Fin 128, w (ix2 n d) = A b n h d) (r : Fin 512) (l : Fin 2048) :
    View.TileAt (S := S512x2048) (ix2 r l) ![o1, o2] S128x128.size w
      (A ⟨r.val / 128, by omega⟩ ⟨r.val % 128, by omega⟩ ⟨l.val / 128, by omega⟩ ⟨l.val % 128, by omega⟩) := by
  intro x hx
  have h0 : r.val = o1 + (x 0).val := hx 0
  have h1 : l.val = o2 + (x 1).val := hx 1
  have a0 : (x 0).val < 128 := (x 0).isLt
  have a1 : (x 1).val < 128 := (x 1).isLt
  have e0 : (⟨r.val / 128, by omega⟩ : Fin 4) = b := Fin.ext (by show r.val / 128 = b.val; omega)
  have e1 : (⟨r.val % 128, by omega⟩ : Fin 128) = x 0 := Fin.ext (by show r.val % 128 = (x 0).val; omega)
  have e2 : (⟨l.val / 128, by omega⟩ : Fin 16) = h := Fin.ext (by show l.val / 128 = h.val; omega)
  have e3 : (⟨l.val % 128, by omega⟩ : Fin 128) = x 1 := Fin.ext (by show l.val % 128 = (x 1).val; omega)
  rw [e0, e1, e2, e3]
  have e4 : x = (ix2 (x 0) (x 1) : S128x128.Idx) := funext (Fin.forall_fin_two.2 ⟨rfl, rfl⟩)
  exact (congrArg w e4).trans (hw (x 0) (x 1))

/-- The tile of the stacked head 0 of one block and key head. -/
theorem core0 (mk : Fin 4 → Fin 128 → Fin 384 → Bool) (hd : IVec S512x1 32)
    (hhd : ∀ r : Fin 512, hd (ix2 r 0) = BitVec.ofNat 32 (r.val / 128)) (mask : IVec S512x384 1) (b kh : Fin 4)
    (hm : ∀ (r : Fin 512) (k : Fin 384), mask (ix2 r k) = 1#1 ↔ mk b ⟨r.val % 128, by omega⟩ k = true)
    (c : Dev nD) (arg1 : Memref sig .tc .vmem S512x2048 .bf16) (harg1 : arg1.IsWhole)
    (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg8 : Memref sig .tc .vmem S16x128x384 .f32) (harg8 : arg8.IsWhole)
    (arg9 : Memref sig .tc .smem S1x16 .f32) (harg9 : arg9.IsWhole)
    (arg15 arg16 : Memref sig .tc .vmem S768x512 .bf16) (x0 : Vec Ideal S512x2048 .bf16)
    (x1 : Vec Ideal S512x512 .bf16) (x2 x3 : Vec Ideal S128x512 .bf16) (x4 : Vec Ideal S512x512 .bf16)
    (x5 x6 : Vec Ideal S128x512 .bf16) (x7 : Vec Ideal S16x128x384 .f32) (x8 : Vec Ideal S1x16 .f32)
    (o p0 p1 p2 p3 pk pb s0 s1 s2 s3 : ℕ) (i0 i1 i2 i3 ik iv ib j0 j1 j2 j3) (ho : o = 128 * b.val)
    (hp : p0 = 512 * kh.val + 0) (hk : pk = 128 * kh.val) (hb : pb = 4 * kh.val) (hs : s0 = 4 * kh.val + 0)
    (h : Fin 16) (hh : h.val = 4 * kh.val + 0) (n d : Fin 128) :
    shapeCast S128x128 (truncf .bf16 (extractStridedSlice S128x128 ![0, 0]
      (unitU hd mask (QL arg1 harg1 x0 o p0 i0) (QL arg1 harg1 x0 o p1 i1) (QL arg1 harg1 x0 o p2 i2)
        (QL arg1 harg1 x0 o p3 i3) (KL c arg2 harg2 arg3 harg3 arg4 harg4 arg15 x1 x2 x3 o pk ik)
        (VL c arg5 harg5 arg6 harg6 arg7 harg7 arg16 x4 x5 x6 o pk iv) (BL arg8 harg8 x7 pb ib)
        (SL arg9 harg9 x8 s0 j0) (SL arg9 harg9 x8 s1 j1) (SL arg9 harg9 x8 s2 j2) (SL arg9 harg9 x8 s3 j3))
      slices_S512x128_o0_0_S128x128) bitsLt_bf16_f32) shapeCasts_S128x128_S128x128 (ix2 n d)
      = attAt mk x0 x1 x2 x3 x4 x5 x6 x7 x8 b n h d := by
  have hkh : h.val / 4 = kh.val := by omega
  have hn : (⟨(n.val) % 128, by omega⟩ : Fin 128) = n := Fin.ext (by show (n.val) % 128 = n.val; omega)
  rw [piece_at0, unitU_at0 _ _ _ _ _ _ _ _ _ _ _ _ _ n d
    ((hhd ⟨n.val, by omega⟩).trans (congrArg (BitVec.ofNat 32) (by show (n.val) / 128 = 0; omega)))]
  unfold attAt
  rw [SL_eq arg9 harg9 x8 s0 j0 h (by omega)]
  refine congrArg₂ (fun f u => softMul f (x8 (ix2 0 h)) u) (funext fun k => ?_) (funext fun k => ?_)
  · have e1 := hm ⟨n.val, by omega⟩ k
    rw [hn] at e1
    by_cases hc : mk b n k = true
    · rw [if_pos hc, if_pos (e1.2 hc), BL_at arg8 harg8 x7 pb ib 0 n k h (by show h.val = pb + 0; omega)]
      refine congrArg (· + _) (Finset.sum_congr rfl fun e _ => ?_)
      rw [QL_at arg1 harg1 x0 o p0 i0 n e ⟨128 * b.val + n.val, by omega⟩ ⟨128 * h.val + e.val, by omega⟩
          (by show 128 * b.val + n.val = _; omega) (by show 128 * h.val + e.val = _; omega),
        KL_at c arg2 harg2 arg3 harg3 arg4 harg4 arg15 x1 x2 x3 o pk ik k e (128 * b.val + k.val)
          ⟨128 * (h.val / 4) + e.val, by omega⟩ (by omega) (by show 128 * (h.val / 4) + e.val = _; omega)]
    · rw [if_neg hc, if_neg fun x => hc (e1.1 x)]
  · exact VL_at c arg5 harg5 arg6 harg6 arg7 harg7 arg16 x4 x5 x6 o pk iv k d (128 * b.val + k.val)
      ⟨128 * (h.val / 4) + d.val, by omega⟩ (by omega) (by show 128 * (h.val / 4) + d.val = _; omega)

/-- The tile of the stacked head 1 of one block and key head. -/
theorem core1 (mk : Fin 4 → Fin 128 → Fin 384 → Bool) (hd : IVec S512x1 32)
    (hhd : ∀ r : Fin 512, hd (ix2 r 0) = BitVec.ofNat 32 (r.val / 128)) (mask : IVec S512x384 1) (b kh : Fin 4)
    (hm : ∀ (r : Fin 512) (k : Fin 384), mask (ix2 r k) = 1#1 ↔ mk b ⟨r.val % 128, by omega⟩ k = true)
    (c : Dev nD) (arg1 : Memref sig .tc .vmem S512x2048 .bf16) (harg1 : arg1.IsWhole)
    (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg8 : Memref sig .tc .vmem S16x128x384 .f32) (harg8 : arg8.IsWhole)
    (arg9 : Memref sig .tc .smem S1x16 .f32) (harg9 : arg9.IsWhole)
    (arg15 arg16 : Memref sig .tc .vmem S768x512 .bf16) (x0 : Vec Ideal S512x2048 .bf16)
    (x1 : Vec Ideal S512x512 .bf16) (x2 x3 : Vec Ideal S128x512 .bf16) (x4 : Vec Ideal S512x512 .bf16)
    (x5 x6 : Vec Ideal S128x512 .bf16) (x7 : Vec Ideal S16x128x384 .f32) (x8 : Vec Ideal S1x16 .f32)
    (o p0 p1 p2 p3 pk pb s0 s1 s2 s3 : ℕ) (i0 i1 i2 i3 ik iv ib j0 j1 j2 j3) (ho : o = 128 * b.val)
    (hp : p1 = 512 * kh.val + 128) (hk : pk = 128 * kh.val) (hb : pb = 4 * kh.val) (hs : s1 = 4 * kh.val + 1)
    (h : Fin 16) (hh : h.val = 4 * kh.val + 1) (n d : Fin 128) :
    shapeCast S128x128 (truncf .bf16 (extractStridedSlice S128x128 ![128, 0]
      (unitU hd mask (QL arg1 harg1 x0 o p0 i0) (QL arg1 harg1 x0 o p1 i1) (QL arg1 harg1 x0 o p2 i2)
        (QL arg1 harg1 x0 o p3 i3) (KL c arg2 harg2 arg3 harg3 arg4 harg4 arg15 x1 x2 x3 o pk ik)
        (VL c arg5 harg5 arg6 harg6 arg7 harg7 arg16 x4 x5 x6 o pk iv) (BL arg8 harg8 x7 pb ib)
        (SL arg9 harg9 x8 s0 j0) (SL arg9 harg9 x8 s1 j1) (SL arg9 harg9 x8 s2 j2) (SL arg9 harg9 x8 s3 j3))
      slices_S512x128_o128_0_S128x128) bitsLt_bf16_f32) shapeCasts_S128x128_S128x128 (ix2 n d)
      = attAt mk x0 x1 x2 x3 x4 x5 x6 x7 x8 b n h d := by
  have hkh : h.val / 4 = kh.val := by omega
  have hn : (⟨(128 + n.val) % 128, by omega⟩ : Fin 128) = n := Fin.ext (by show (128 + n.val) % 128 = n.val; omega)
  rw [piece_at1, unitU_at1 _ _ _ _ _ _ _ _ _ _ _ _ _ n d
    ((hhd ⟨128 + n.val, by omega⟩).trans (congrArg (BitVec.ofNat 32) (by show (128 + n.val) / 128 = 1; omega)))]
  unfold attAt
  rw [SL_eq arg9 harg9 x8 s1 j1 h (by omega)]
  refine congrArg₂ (fun f u => softMul f (x8 (ix2 0 h)) u) (funext fun k => ?_) (funext fun k => ?_)
  · have e1 := hm ⟨128 + n.val, by omega⟩ k
    rw [hn] at e1
    by_cases hc : mk b n k = true
    · rw [if_pos hc, if_pos (e1.2 hc), BL_at arg8 harg8 x7 pb ib 1 n k h (by show h.val = pb + 1; omega)]
      refine congrArg (· + _) (Finset.sum_congr rfl fun e _ => ?_)
      rw [QL_at arg1 harg1 x0 o p1 i1 n e ⟨128 * b.val + n.val, by omega⟩ ⟨128 * h.val + e.val, by omega⟩
          (by show 128 * b.val + n.val = _; omega) (by show 128 * h.val + e.val = _; omega),
        KL_at c arg2 harg2 arg3 harg3 arg4 harg4 arg15 x1 x2 x3 o pk ik k e (128 * b.val + k.val)
          ⟨128 * (h.val / 4) + e.val, by omega⟩ (by omega) (by show 128 * (h.val / 4) + e.val = _; omega)]
    · rw [if_neg hc, if_neg fun x => hc (e1.1 x)]
  · exact VL_at c arg5 harg5 arg6 harg6 arg7 harg7 arg16 x4 x5 x6 o pk iv k d (128 * b.val + k.val)
      ⟨128 * (h.val / 4) + d.val, by omega⟩ (by omega) (by show 128 * (h.val / 4) + d.val = _; omega)

/-- The tile of the stacked head 2 of one block and key head. -/
theorem core2 (mk : Fin 4 → Fin 128 → Fin 384 → Bool) (hd : IVec S512x1 32)
    (hhd : ∀ r : Fin 512, hd (ix2 r 0) = BitVec.ofNat 32 (r.val / 128)) (mask : IVec S512x384 1) (b kh : Fin 4)
    (hm : ∀ (r : Fin 512) (k : Fin 384), mask (ix2 r k) = 1#1 ↔ mk b ⟨r.val % 128, by omega⟩ k = true)
    (c : Dev nD) (arg1 : Memref sig .tc .vmem S512x2048 .bf16) (harg1 : arg1.IsWhole)
    (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg8 : Memref sig .tc .vmem S16x128x384 .f32) (harg8 : arg8.IsWhole)
    (arg9 : Memref sig .tc .smem S1x16 .f32) (harg9 : arg9.IsWhole)
    (arg15 arg16 : Memref sig .tc .vmem S768x512 .bf16) (x0 : Vec Ideal S512x2048 .bf16)
    (x1 : Vec Ideal S512x512 .bf16) (x2 x3 : Vec Ideal S128x512 .bf16) (x4 : Vec Ideal S512x512 .bf16)
    (x5 x6 : Vec Ideal S128x512 .bf16) (x7 : Vec Ideal S16x128x384 .f32) (x8 : Vec Ideal S1x16 .f32)
    (o p0 p1 p2 p3 pk pb s0 s1 s2 s3 : ℕ) (i0 i1 i2 i3 ik iv ib j0 j1 j2 j3) (ho : o = 128 * b.val)
    (hp : p2 = 512 * kh.val + 256) (hk : pk = 128 * kh.val) (hb : pb = 4 * kh.val) (hs : s2 = 4 * kh.val + 2)
    (h : Fin 16) (hh : h.val = 4 * kh.val + 2) (n d : Fin 128) :
    shapeCast S128x128 (truncf .bf16 (extractStridedSlice S128x128 ![256, 0]
      (unitU hd mask (QL arg1 harg1 x0 o p0 i0) (QL arg1 harg1 x0 o p1 i1) (QL arg1 harg1 x0 o p2 i2)
        (QL arg1 harg1 x0 o p3 i3) (KL c arg2 harg2 arg3 harg3 arg4 harg4 arg15 x1 x2 x3 o pk ik)
        (VL c arg5 harg5 arg6 harg6 arg7 harg7 arg16 x4 x5 x6 o pk iv) (BL arg8 harg8 x7 pb ib)
        (SL arg9 harg9 x8 s0 j0) (SL arg9 harg9 x8 s1 j1) (SL arg9 harg9 x8 s2 j2) (SL arg9 harg9 x8 s3 j3))
      slices_S512x128_o256_0_S128x128) bitsLt_bf16_f32) shapeCasts_S128x128_S128x128 (ix2 n d)
      = attAt mk x0 x1 x2 x3 x4 x5 x6 x7 x8 b n h d := by
  have hkh : h.val / 4 = kh.val := by omega
  have hn : (⟨(256 + n.val) % 128, by omega⟩ : Fin 128) = n := Fin.ext (by show (256 + n.val) % 128 = n.val; omega)
  rw [piece_at2, unitU_at2 _ _ _ _ _ _ _ _ _ _ _ _ _ n d
    ((hhd ⟨256 + n.val, by omega⟩).trans (congrArg (BitVec.ofNat 32) (by show (256 + n.val) / 128 = 2; omega)))]
  unfold attAt
  rw [SL_eq arg9 harg9 x8 s2 j2 h (by omega)]
  refine congrArg₂ (fun f u => softMul f (x8 (ix2 0 h)) u) (funext fun k => ?_) (funext fun k => ?_)
  · have e1 := hm ⟨256 + n.val, by omega⟩ k
    rw [hn] at e1
    by_cases hc : mk b n k = true
    · rw [if_pos hc, if_pos (e1.2 hc), BL_at arg8 harg8 x7 pb ib 2 n k h (by show h.val = pb + 2; omega)]
      refine congrArg (· + _) (Finset.sum_congr rfl fun e _ => ?_)
      rw [QL_at arg1 harg1 x0 o p2 i2 n e ⟨128 * b.val + n.val, by omega⟩ ⟨128 * h.val + e.val, by omega⟩
          (by show 128 * b.val + n.val = _; omega) (by show 128 * h.val + e.val = _; omega),
        KL_at c arg2 harg2 arg3 harg3 arg4 harg4 arg15 x1 x2 x3 o pk ik k e (128 * b.val + k.val)
          ⟨128 * (h.val / 4) + e.val, by omega⟩ (by omega) (by show 128 * (h.val / 4) + e.val = _; omega)]
    · rw [if_neg hc, if_neg fun x => hc (e1.1 x)]
  · exact VL_at c arg5 harg5 arg6 harg6 arg7 harg7 arg16 x4 x5 x6 o pk iv k d (128 * b.val + k.val)
      ⟨128 * (h.val / 4) + d.val, by omega⟩ (by omega) (by show 128 * (h.val / 4) + d.val = _; omega)

/-- The tile of the stacked head 3 of one block and key head. -/
theorem core3 (mk : Fin 4 → Fin 128 → Fin 384 → Bool) (hd : IVec S512x1 32)
    (hhd : ∀ r : Fin 512, hd (ix2 r 0) = BitVec.ofNat 32 (r.val / 128)) (mask : IVec S512x384 1) (b kh : Fin 4)
    (hm : ∀ (r : Fin 512) (k : Fin 384), mask (ix2 r k) = 1#1 ↔ mk b ⟨r.val % 128, by omega⟩ k = true)
    (c : Dev nD) (arg1 : Memref sig .tc .vmem S512x2048 .bf16) (harg1 : arg1.IsWhole)
    (arg2 : Memref sig .tc .vmem S512x512 .bf16) (harg2 : arg2.IsWhole)
    (arg3 : Memref sig .tc .vmem S128x512 .bf16) (harg3 : arg3.IsWhole) (arg4 : Memref sig .tc .vmem S128x512 .bf16)
    (harg4 : arg4.IsWhole) (arg5 : Memref sig .tc .vmem S512x512 .bf16) (harg5 : arg5.IsWhole)
    (arg6 : Memref sig .tc .vmem S128x512 .bf16) (harg6 : arg6.IsWhole) (arg7 : Memref sig .tc .vmem S128x512 .bf16)
    (harg7 : arg7.IsWhole) (arg8 : Memref sig .tc .vmem S16x128x384 .f32) (harg8 : arg8.IsWhole)
    (arg9 : Memref sig .tc .smem S1x16 .f32) (harg9 : arg9.IsWhole)
    (arg15 arg16 : Memref sig .tc .vmem S768x512 .bf16) (x0 : Vec Ideal S512x2048 .bf16)
    (x1 : Vec Ideal S512x512 .bf16) (x2 x3 : Vec Ideal S128x512 .bf16) (x4 : Vec Ideal S512x512 .bf16)
    (x5 x6 : Vec Ideal S128x512 .bf16) (x7 : Vec Ideal S16x128x384 .f32) (x8 : Vec Ideal S1x16 .f32)
    (o p0 p1 p2 p3 pk pb s0 s1 s2 s3 : ℕ) (i0 i1 i2 i3 ik iv ib j0 j1 j2 j3) (ho : o = 128 * b.val)
    (hp : p3 = 512 * kh.val + 384) (hk : pk = 128 * kh.val) (hb : pb = 4 * kh.val) (hs : s3 = 4 * kh.val + 3)
    (h : Fin 16) (hh : h.val = 4 * kh.val + 3) (n d : Fin 128) :
    shapeCast S128x128 (truncf .bf16 (extractStridedSlice S128x128 ![384, 0]
      (unitU hd mask (QL arg1 harg1 x0 o p0 i0) (QL arg1 harg1 x0 o p1 i1) (QL arg1 harg1 x0 o p2 i2)
        (QL arg1 harg1 x0 o p3 i3) (KL c arg2 harg2 arg3 harg3 arg4 harg4 arg15 x1 x2 x3 o pk ik)
        (VL c arg5 harg5 arg6 harg6 arg7 harg7 arg16 x4 x5 x6 o pk iv) (BL arg8 harg8 x7 pb ib)
        (SL arg9 harg9 x8 s0 j0) (SL arg9 harg9 x8 s1 j1) (SL arg9 harg9 x8 s2 j2) (SL arg9 harg9 x8 s3 j3))
      slices_S512x128_o384_0_S128x128) bitsLt_bf16_f32) shapeCasts_S128x128_S128x128 (ix2 n d)
      = attAt mk x0 x1 x2 x3 x4 x5 x6 x7 x8 b n h d := by
  have hkh : h.val / 4 = kh.val := by omega
  have hn : (⟨(384 + n.val) % 128, by omega⟩ : Fin 128) = n := Fin.ext (by show (384 + n.val) % 128 = n.val; omega)
  rw [piece_at3, unitU_at3 _ _ _ _ _ _ _ _ _ _ _ _ _ n d
    ((hhd ⟨384 + n.val, by omega⟩).trans (congrArg (BitVec.ofNat 32) (by show (384 + n.val) / 128 = 3; omega)))]
  unfold attAt
  rw [SL_eq arg9 harg9 x8 s3 j3 h (by omega)]
  refine congrArg₂ (fun f u => softMul f (x8 (ix2 0 h)) u) (funext fun k => ?_) (funext fun k => ?_)
  · have e1 := hm ⟨384 + n.val, by omega⟩ k
    rw [hn] at e1
    by_cases hc : mk b n k = true
    · rw [if_pos hc, if_pos (e1.2 hc), BL_at arg8 harg8 x7 pb ib 3 n k h (by show h.val = pb + 3; omega)]
      refine congrArg (· + _) (Finset.sum_congr rfl fun e _ => ?_)
      rw [QL_at arg1 harg1 x0 o p3 i3 n e ⟨128 * b.val + n.val, by omega⟩ ⟨128 * h.val + e.val, by omega⟩
          (by show 128 * b.val + n.val = _; omega) (by show 128 * h.val + e.val = _; omega),
        KL_at c arg2 harg2 arg3 harg3 arg4 harg4 arg15 x1 x2 x3 o pk ik k e (128 * b.val + k.val)
          ⟨128 * (h.val / 4) + e.val, by omega⟩ (by omega) (by show 128 * (h.val / 4) + e.val = _; omega)]
    · rw [if_neg hc, if_neg fun x => hc (e1.1 x)]
  · exact VL_at c arg5 harg5 arg6 harg6 arg7 harg7 arg16 x4 x5 x6 o pk iv k d (128 * b.val + k.val)
      ⟨128 * (h.val / 4) + d.val, by omega⟩ (by omega) (by show 128 * (h.val / 4) + d.val = _; omega)

end Cert.AttnBlock
-- ==== Proof.AttnMask.lean ====
/- The attention kernel's masks and stacked head numbers, read at one entry. -/
module

public import proofs.«01_k».proof.Proof.AttnKernel
public import proofs.«01_k».proof.Proof.Gen.AttnIdeal.Frame

@[expose] public section

set_option maxRecDepth 16384

noncomputable section

open Idealize.ShloMosaic Idealize.ShloMosaic.TcCoe Idealize.SL.Sem

namespace Cert.AttnMask

open Cert.AttnIdeal Cert.AttnIdeal.Gen

/-- The head number of a stacked row. -/
theorem head_at : ∀ r : Fin 512, kernelRun0_A.sl.r_2 (ix2 r 0) = BitVec.ofNat 32 (r.val / 128) := by
  decide +kernel

/-- The position of a stacked row in its block. -/
theorem row_at : ∀ r : Fin 512, kernelRun0_A.sl.v92 (ix2 r 0) = BitVec.ofNat 32 (r.val % 128) := by
  decide +kernel

/-- The column number. -/
theorem col0_at : ∀ k : Fin 384, kernelRun0_A.sl.v93 (ix2 0 k) = BitVec.ofNat 32 k.val := by
  decide +kernel

/-- The column number at any row. -/
theorem col_at (r : Fin 512) (k : Fin 384) : kernelRun0_A.sl.v93 (ix2 r k) = BitVec.ofNat 32 k.val := col0_at k

/-- The comparison of a shifted distance. -/
theorem dist_at : ∀ m : Fin 512, (Scalar.cmpi .sle (IntOp.absi (BitVec.ofNat 32 m.val - 256#32)) 128#32 = 1#1) ↔ 128 ≤ m.val ∧ m.val ≤ 384 := by
  decide +kernel

/-- The band. -/
theorem band_at (r : Fin 512) (k : Fin 384) :
    kernelRun0_A.sl.v99 (ix2 r k) = 1#1 ↔ r.val % 128 ≤ k.val ∧ k.val ≤ r.val % 128 + 256 := by
  have e1 : kernelRun0_A.sl.v92 (ix2 r k) = BitVec.ofNat 32 (r.val % 128) := row_at r
  have e2 : BitVec.ofNat 32 k.val - 128#32 - BitVec.ofNat 32 (r.val % 128) = BitVec.ofNat 32 (k.val + 128 - r.val % 128) - 256#32 := by
    have hk := k.isLt
    apply BitVec.eq_of_toNat_eq
    simp only [BitVec.toNat_sub, BitVec.toNat_ofNat]
    omega
  have e3 := dist_at ⟨k.val + 128 - r.val % 128, by have := k.isLt; omega⟩
  rw [← e2, ← e1] at e3
  have e0 : kernelRun0_A.sl.v99 (ix2 r k) = Scalar.cmpi .sle (IntOp.absi (BitVec.ofNat 32 k.val - 128#32 - kernelRun0_A.sl.v92 (ix2 r k))) 128#32 := by
    rw [← col_at r k]
    delta kernelRun0_A.sl.v99 kernelRun0_A.sl.v96
    rfl
  rw [e0, e3]
  show 128 ≤ k.val + 128 - r.val % 128 ∧ k.val + 128 - r.val % 128 ≤ 384 ↔ _
  omega

/-- The columns from the block's own on. -/
theorem ge_at : ∀ k : Fin 384, ∀ b : BitVec 1,
    (Scalar.cmpi .sge (BitVec.ofNat 32 k.val) (Scalar.select b 128#32 0#32) = 1#1) ↔ (b = 1#1 → 128 ≤ k.val) := by
  decide +kernel

/-- The columns up to the block's own. -/
theorem lt_at : ∀ k : Fin 384, ∀ b : BitVec 1,
    (Scalar.cmpi .slt (BitVec.ofNat 32 k.val) (Scalar.select b 256#32 384#32) = 1#1) ↔ (b = 1#1 → k.val < 256) := by
  decide +kernel

/-- Two bits both set. -/
theorem and_one : ∀ a b : BitVec 1, a &&& b = 1#1 ↔ a = 1#1 ∧ b = 1#1 := by
  decide

/-- The mask of the first block of a step: the band, and at a sequence's start no earlier key. -/
theorem first_at (i : grid0.Coords) (r : Fin 512) (k : Fin 384) :
    kernelRun0_A.sl.r_3 i (ix2 r k) = 1#1 ↔
      (r.val % 128 ≤ k.val ∧ k.val ≤ r.val % 128 + 256) ∧ (kernelRun0_A.sl.v25 i = 1#1 → 128 ≤ k.val) := by
  have e0 : kernelRun0_A.sl.r_3 i (ix2 r k) = kernelRun0_A.sl.v99 (ix2 r k) &&& Scalar.cmpi .sge (BitVec.ofNat 32 k.val)
      (Scalar.select (kernelRun0_A.sl.v25 i) 128#32 0#32) := by
    delta kernelRun0_A.sl.r_3 k0_pay12
    generalize kernelRun0_A.sl.v25 i = b
    generalize kernelRun0_A.sl.v99 = v
    rw [← col_at r k]
    rfl
  rw [e0, and_one, band_at, ge_at]

/-- The mask of the last block of a step: the band, and at a sequence's end no later key. -/
theorem last_at (i : grid0.Coords) (r : Fin 512) (k : Fin 384) :
    kernelRun0_A.sl.r_53 i (ix2 r k) = 1#1 ↔
      (r.val % 128 ≤ k.val ∧ k.val ≤ r.val % 128 + 256) ∧ (kernelRun0_A.sl.v51 i = 1#1 → k.val < 256) := by
  have e0 : kernelRun0_A.sl.r_53 i (ix2 r k) = kernelRun0_A.sl.v99 (ix2 r k) &&& Scalar.cmpi .slt (BitVec.ofNat 32 k.val)
      (Scalar.select (kernelRun0_A.sl.v51 i) 256#32 384#32) := by
    delta kernelRun0_A.sl.r_53 k0_pay114 kernelRun0_A.sl.v983 kernelRun0_A.sl.v982 kernelRun0_A.sl.v981
    generalize kernelRun0_A.sl.v51 i = b
    generalize kernelRun0_A.sl.v99 = v
    rw [← col_at r k]
    rfl
  rw [e0, and_one, band_at, lt_at]

/-- A step starts a sequence: the prompt's at its first step and its middle, a sample's at every fourth step after. -/
theorem start_at : ∀ t : Fin grid0.N, kernelRun0_A.sl.v25 (grid0.coords t) = 1#1 ↔ (t.val = 0 ∨ (16 ≤ t.val ∧ t.val % 4 = 0)) := by
  decide +kernel

/-- A step ends a sequence. -/
theorem end_at : ∀ t : Fin grid0.N, kernelRun0_A.sl.v51 (grid0.coords t) = 1#1 ↔ (t.val = 15 ∨ (16 ≤ t.val ∧ t.val % 4 = 3)) := by
  decide +kernel

end Cert.AttnMask
-- ==== Proof.AttnTile0.lean ====
/- The tiles the attention kernel stores for the first block of a step, one per head. -/
module

public import proofs.«01_k».proof.Proof.AttnBlock
public import proofs.«01_k».proof.Proof.AttnMask

@[expose] public section

set_option maxRecDepth 16384

noncomputable section

open Idealize.ShloMosaic Idealize.ShloMosaic.TcCoe Idealize.SL.Sem

namespace Cert.AttnTile

open Cert.AttnIdeal Cert.AttnIdeal.Gen Cert.AttnKernel Cert.AttnBlock Cert.AttnMask

variable (mk : Fin 4 → Fin 128 → Fin 384 → Bool) (i : grid0.Coords)
  (c : Dev nD) (arg1 : Memref sig .tc .vmem S512x2048 .bf16) (harg1 : arg1.IsWhole)
  (arg2 : Memref sig .tc .vmem S512x512 .bf16) (harg2 : arg2.IsWhole)
  (arg3 : Memref sig .tc .vmem S128x512 .bf16) (harg3 : arg3.IsWhole) (arg4 : Memref sig .tc .vmem S128x512 .bf16)
  (harg4 : arg4.IsWhole) (arg5 : Memref sig .tc .vmem S512x512 .bf16) (harg5 : arg5.IsWhole)
  (arg6 : Memref sig .tc .vmem S128x512 .bf16) (harg6 : arg6.IsWhole) (arg7 : Memref sig .tc .vmem S128x512 .bf16)
  (harg7 : arg7.IsWhole) (arg8 : Memref sig .tc .vmem S16x128x384 .f32) (harg8 : arg8.IsWhole)
  (arg9 : Memref sig .tc .smem S1x16 .f32) (harg9 : arg9.IsWhole)
  (arg15 arg16 : Memref sig .tc .vmem S768x512 .bf16) (x0 : Vec Ideal S512x2048 .bf16)
  (x1 : Vec Ideal S512x512 .bf16) (x2 x3 : Vec Ideal S128x512 .bf16) (x4 : Vec Ideal S512x512 .bf16)
  (x5 x6 : Vec Ideal S128x512 .bf16) (x7 : Vec Ideal S16x128x384 .f32) (x8 : Vec Ideal S1x16 .f32)

/-- The tile of block 0 and head 0. -/
theorem tile_0_0
    (hm : ∀ (r : Fin 512) (k : Fin 384), (kernelRun0_A.sl.r_3 i) (ix2 r k) = 1#1 ↔ mk 0 ⟨r.val % 128, by omega⟩ k = true)
    (n d : Fin 128) :
    (k0_pay17 (F := Ideal) (kernelRun0_A.sl.v181 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 0 d := by
  refine Eq.trans ?_ (core0 mk kernelRun0_A.sl.r_2 head_at (kernelRun0_A.sl.r_3 i) 0 0 hm c arg1 harg1 arg2 harg2 arg3 harg3 arg4 harg4 arg5 harg5 arg6 harg6 arg7 harg7 arg8 harg8 arg9 harg9 arg15 arg16 x0 x1 x2 x3 x4 x5 x6 x7 x8
    0 0 128 256 384 0 0 0 1 2 3 (by decide) (by decide) (by decide) (by decide) (by decide) (by decide) (by decide) (by decide) (by decide) (by decide) (by decide) rfl rfl rfl rfl rfl 0 rfl n d)
  refine congrFun ?_ (ix2 n d)
  rfl

/-- The tile of block 0 and head 1. -/
theorem tile_0_1
    (hm : ∀ (r : Fin 512) (k : Fin 384), (kernelRun0_A.sl.r_3 i) (ix2 r k) = 1#1 ↔ mk 0 ⟨r.val % 128, by omega⟩ k = true)
    (n d : Fin 128) :
    (k0_pay18 (F := Ideal) (kernelRun0_A.sl.v179 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 1 d := by
  refine Eq.trans ?_ (core1 mk kernelRun0_A.sl.r_2 head_at (kernelRun0_A.sl.r_3 i) 0 0 hm c arg1 harg1 arg2 harg2 arg3 harg3 arg4 harg4 arg5 harg5 arg6 harg6 arg7 harg7 arg8 harg8 arg9 harg9 arg15 arg16 x0 x1 x2 x3 x4 x5 x6 x7 x8
    0 0 128 256 384 0 0 0 1 2 3 (by decide) (by decide) (by decide) (by decide) (by decide) (by decide) (by decide) (by decide) (by decide) (by decide) (by decide) rfl rfl rfl rfl rfl 1 rfl n d)
  refine congrFun ?_ (ix2 n d)
  rfl

/-- The tile of block 0 and head 2. -/
theorem tile_0_2
    (hm : ∀ (r : Fin 512) (k : Fin 384), (kernelRun0_A.sl.r_3 i) (ix2 r k) = 1#1 ↔ mk 0 ⟨r.val % 128, by omega⟩ k = true)
    (n d : Fin 128) :
    (k0_pay19 (F := Ideal) (kernelRun0_A.sl.v179 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 2 d := by
  refine Eq.trans ?_ (core2 mk kernelRun0_A.sl.r_2 head_at (kernelRun0_A.sl.r_3 i) 0 0 hm c arg1 harg1 arg2 harg2 arg3 harg3 arg4 harg4 arg5 harg5 arg6 harg6 arg7 harg7 arg8 harg8 arg9 harg9 arg15 arg16 x0 x1 x2 x3 x4 x5 x6 x7 x8
    0 0 128 256 384 0 0 0 1 2 3 (by decide) (by decide) (by decide) (by decide) (by decide) (by decide) (by decide) (by decide) (by decide) (by decide) (by decide) rfl rfl rfl rfl rfl 2 rfl n d)
  refine congrFun ?_ (ix2 n d)
  rfl

/-- The tile of block 0 and head 3. -/
theorem tile_0_3
    (hm : ∀ (r : Fin 512) (k : Fin 384), (kernelRun0_A.sl.r_3 i) (ix2 r k) = 1#1 ↔ mk 0 ⟨r.val % 128, by omega⟩ k = true)
    (n d : Fin 128) :
    (k0_pay20 (F := Ideal) (kernelRun0_A.sl.v179 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 3 d := by
  refine Eq.trans ?_ (core3 mk kernelRun0_A.sl.r_2 head_at (kernelRun0_A.sl.r_3 i) 0 0 hm c arg1 harg1 arg2 harg2 arg3 harg3 arg4 harg4 arg5 harg5 arg6 harg6 arg7 harg7 arg8 harg8 arg9 harg9 arg15 arg16 x0 x1 x2 x3 x4 x5 x6 x7 x8
    0 0 128 256 384 0 0 0 1 2 3 (by decide) (by decide) (by decide) (by decide) (by decide) (by decide) (by decide) (by decide) (by decide) (by decide) (by decide) rfl rfl rfl rfl rfl 3 rfl n d)
  refine congrFun ?_ (ix2 n d)
  rfl

/-- The tile of block 0 and head 4. -/
theorem tile_0_4
    (hm : ∀ (r : Fin 512) (k : Fin 384), (kernelRun0_A.sl.r_3 i) (ix2 r k) = 1#1 ↔ mk 0 ⟨r.val % 128, by omega⟩ k = true)
    (n d : Fin 128) :
    (kernelRun0_A.sl.v255 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 0 n 4 d := by
  refine Eq.trans ?_ (core0 mk kernelRun0_A.sl.r_2 head_at (kernelRun0_A.sl.r_3 i) 0 1 hm c arg1 harg1 arg2 harg2 arg3 harg3 arg4 harg4 arg5 harg5 arg6 harg6 arg7 harg7 arg8 harg8 arg9 harg9 arg15 arg16 x0 x1 x2 x3 x4 x5 x6 x7 x8
    0 512 640 768 896 128 4 4 5 6 7 (by decide) (by decide) (by decide) (by decide) (by decide) (by decide) (by decide) (by decide) (by decide) (by decide) (by decide) rfl rfl rfl rfl rfl 4 rfl n d)
  refine congrFun ?_ (ix2 n d)
  rfl

/-- The tile of block 0 and head 5. -/
theorem tile_0_5
    (hm : ∀ (r : Fin 512) (k : Fin 384), (kernelRun0_A.sl.r_3 i) (ix2 r k) = 1#1 ↔ mk 0 ⟨r.val % 128, by omega⟩ k = true)
    (n d : Fin 128) :
    (k0_pay25 (F := Ideal) (kernelRun0_A.sl.v250 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 5 d := by
  refine Eq.trans ?_ (core1 mk kernelRun0_A.sl.r_2 head_at (kernelRun0_A.sl.r_3 i) 0 1 hm c arg1 harg1 arg2 harg2 arg3 harg3 arg4 harg4 arg5 harg5 arg6 harg6 arg7 harg7 arg8 harg8 arg9 harg9 arg15 arg16 x0 x1 x2 x3 x4 x5 x6 x7 x8
    0 512 640 768 896 128 4 4 5 6 7 (by decide) (by decide) (by decide) (by decide) (by decide) (by decide) (by decide) (by decide) (by decide) (by decide) (by decide) rfl rfl rfl rfl rfl 5 rfl n d)
  refine congrFun ?_ (ix2 n d)
  rfl

/-- The tile of block 0 and head 6. -/
theorem tile_0_6
    (hm : ∀ (r : Fin 512) (k : Fin 384), (kernelRun0_A.sl.r_3 i) (ix2 r k) = 1#1 ↔ mk 0 ⟨r.val % 128, by omega⟩ k = true)
    (n d : Fin 128) :
    (k0_pay26 (F := Ideal) (kernelRun0_A.sl.v250 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 6 d := by
  refine Eq.trans ?_ (core2 mk kernelRun0_A.sl.r_2 head_at (kernelRun0_A.sl.r_3 i) 0 1 hm c arg1 harg1 arg2 harg2 arg3 harg3 arg4 harg4 arg5 harg5 arg6 harg6 arg7 harg7 arg8 harg8 arg9 harg9 arg15 arg16 x0 x1 x2 x3 x4 x5 x6 x7 x8
    0 512 640 768 896 128 4 4 5 6 7 (by decide) (by decide) (by decide) (by decide) (by decide) (by decide) (by decide) (by decide) (by decide) (by decide) (by decide) rfl rfl rfl rfl rfl 6 rfl n d)
  refine congrFun ?_ (ix2 n d)
  rfl

/-- The tile of block 0 and head 7. -/
theorem tile_0_7
    (hm : ∀ (r : Fin 512) (k : Fin 384), (kernelRun0_A.sl.r_3 i) (ix2 r k) = 1#1 ↔ mk 0 ⟨r.val % 128, by omega⟩ k = true)
    (n d : Fin 128) :
    (k0_pay27 (F := Ideal) (kernelRun0_A.sl.v250 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 7 d := by
  refine Eq.trans ?_ (core3 mk kernelRun0_A.sl.r_2 head_at (kernelRun0_A.sl.r_3 i) 0 1 hm c arg1 harg1 arg2 harg2 arg3 harg3 arg4 harg4 arg5 harg5 arg6 harg6 arg7 harg7 arg8 harg8 arg9 harg9 arg15 arg16 x0 x1 x2 x3 x4 x5 x6 x7 x8
    0 512 640 768 896 128 4 4 5 6 7 (by decide) (by decide) (by decide) (by decide) (by decide) (by decide) (by decide) (by decide) (by decide) (by decide) (by decide) rfl rfl rfl rfl rfl 7 rfl n d)
  refine congrFun ?_ (ix2 n d)
  rfl

/-- The tile of block 0 and head 8. -/
theorem tile_0_8
    (hm : ∀ (r : Fin 512) (k : Fin 384), (kernelRun0_A.sl.r_3 i) (ix2 r k) = 1#1 ↔ mk 0 ⟨r.val % 128, by omega⟩ k = true)
    (n d : Fin 128) :
    (kernelRun0_A.sl.v326 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 0 n 8 d := by
  refine Eq.trans ?_ (core0 mk kernelRun0_A.sl.r_2 head_at (kernelRun0_A.sl.r_3 i) 0 2 hm c arg1 harg1 arg2 harg2 arg3 harg3 arg4 harg4 arg5 harg5 arg6 harg6 arg7 harg7 arg8 harg8 arg9 harg9 arg15 arg16 x0 x1 x2 x3 x4 x5 x6 x7 x8
    0 1024 1152 1280 1408 256 8 8 9 10 11 (by decide) (by decide) (by decide) (by decide) (by decide) (by decide) (by decide) (by decide) (by decide) (by decide) (by decide) rfl rfl rfl rfl rfl 8 rfl n d)
  refine congrFun ?_ (ix2 n d)
  rfl

/-- The tile of block 0 and head 9. -/
theorem tile_0_9
    (hm : ∀ (r : Fin 512) (k : Fin 384), (kernelRun0_A.sl.r_3 i) (ix2 r k) = 1#1 ↔ mk 0 ⟨r.val % 128, by omega⟩ k = true)
    (n d : Fin 128) :
    (k0_pay34 (F := Ideal) (kernelRun0_A.sl.v328 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 9 d := by
  refine Eq.trans ?_ (core1 mk kernelRun0_A.sl.r_2 head_at (kernelRun0_A.sl.r_3 i) 0 2 hm c arg1 harg1 arg2 harg2 arg3 harg3 arg4 harg4 arg5 harg5 arg6 harg6 arg7 harg7 arg8 harg8 arg9 harg9 arg15 arg16 x0 x1 x2 x3 x4 x5 x6 x7 x8
    0 1024 1152 1280 1408 256 8 8 9 10 11 (by decide) (by decide) (by decide) (by decide) (by decide) (by decide) (by decide) (by decide) (by decide) (by decide) (by decide) rfl rfl rfl rfl rfl 9 rfl n d)
  refine congrFun ?_ (ix2 n d)
  rfl

/-- The tile of block 0 and head 10. -/
theorem tile_0_10
    (hm : ∀ (r : Fin 512) (k : Fin 384), (kernelRun0_A.sl.r_3 i) (ix2 r k) = 1#1 ↔ mk 0 ⟨r.val % 128, by omega⟩ k = true)
    (n d : Fin 128) :
    (k0_pay35 (F := Ideal) (kernelRun0_A.sl.v321 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 10 d := by
  refine Eq.trans ?_ (core2 mk kernelRun0_A.sl.r_2 head_at (kernelRun0_A.sl.r_3 i) 0 2 hm c arg1 harg1 arg2 harg2 arg3 harg3 arg4 harg4 arg5 harg5 arg6 harg6 arg7 harg7 arg8 harg8 arg9 harg9 arg15 arg16 x0 x1 x2 x3 x4 x5 x6 x7 x8
    0 1024 1152 1280 1408 256 8 8 9 10 11 (by decide) (by decide) (by decide) (by decide) (by decide) (by decide) (by decide) (by decide) (by decide) (by decide) (by decide) rfl rfl rfl rfl rfl 10 rfl n d)
  refine congrFun ?_ (ix2 n d)
  rfl

/-- The tile of block 0 and head 11. -/
theorem tile_0_11
    (hm : ∀ (r : Fin 512) (k : Fin 384), (kernelRun0_A.sl.r_3 i) (ix2 r k) = 1#1 ↔ mk 0 ⟨r.val % 128, by omega⟩ k = true)
    (n d : Fin 128) :
    (k0_pay36 (F := Ideal) (kernelRun0_A.sl.v321 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 11 d := by
  refine Eq.trans ?_ (core3 mk kernelRun0_A.sl.r_2 head_at (kernelRun0_A.sl.r_3 i) 0 2 hm c arg1 harg1 arg2 harg2 arg3 harg3 arg4 harg4 arg5 harg5 arg6 harg6 arg7 harg7 arg8 harg8 arg9 harg9 arg15 arg16 x0 x1 x2 x3 x4 x5 x6 x7 x8
    0 1024 1152 1280 1408 256 8 8 9 10 11 (by decide) (by decide) (by decide) (by decide) (by decide) (by decide) (by decide) (by decide) (by decide) (by decide) (by decide) rfl rfl rfl rfl rfl 11 rfl n d)
  refine congrFun ?_ (ix2 n d)
  rfl

/-- The tile of block 0 and head 12. -/
theorem tile_0_12
    (hm : ∀ (r : Fin 512) (k : Fin 384), (kernelRun0_A.sl.r_3 i) (ix2 r k) = 1#1 ↔ mk 0 ⟨r.val % 128, by omega⟩ k = true)
    (n d : Fin 128) :
    (kernelRun0_A.sl.v397 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 0 n 12 d := by
  refine Eq.trans ?_ (core0 mk kernelRun0_A.sl.r_2 head_at (kernelRun0_A.sl.r_3 i) 0 3 hm c arg1 harg1 arg2 harg2 arg3 harg3 arg4 harg4 arg5 harg5 arg6 harg6 arg7 harg7 arg8 harg8 arg9 harg9 arg15 arg16 x0 x1 x2 x3 x4 x5 x6 x7 x8
    0 1536 1664 1792 1920 384 12 12 13 14 15 (by decide) (by decide) (by decide) (by decide) (by decide) (by decide) (by decide) (by decide) (by decide) (by decide) (by decide) rfl rfl rfl rfl rfl 12 rfl n d)
  refine congrFun ?_ (ix2 n d)
  rfl

/-- The tile of block 0 and head 13. -/
theorem tile_0_13
    (hm : ∀ (r : Fin 512) (k : Fin 384), (kernelRun0_A.sl.r_3 i) (ix2 r k) = 1#1 ↔ mk 0 ⟨r.val % 128, by omega⟩ k = true)
    (n d : Fin 128) :
    (k0_pay43 (F := Ideal) (kernelRun0_A.sl.v399 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 13 d := by
  refine Eq.trans ?_ (core1 mk kernelRun0_A.sl.r_2 head_at (kernelRun0_A.sl.r_3 i) 0 3 hm c arg1 harg1 arg2 harg2 arg3 harg3 arg4 harg4 arg5 harg5 arg6 harg6 arg7 harg7 arg8 harg8 arg9 harg9 arg15 arg16 x0 x1 x2 x3 x4 x5 x6 x7 x8
    0 1536 1664 1792 1920 384 12 12 13 14 15 (by decide) (by decide) (by decide) (by decide) (by decide) (by decide) (by decide) (by decide) (by decide) (by decide) (by decide) rfl rfl rfl rfl rfl 13 rfl n d)
  refine congrFun ?_ (ix2 n d)
  rfl

/-- The tile of block 0 and head 14. -/
theorem tile_0_14
    (hm : ∀ (r : Fin 512) (k : Fin 384), (kernelRun0_A.sl.r_3 i) (ix2 r k) = 1#1 ↔ mk 0 ⟨r.val % 128, by omega⟩ k = true)
    (n d : Fin 128) :
    (k0_pay44 (F := Ideal) (kernelRun0_A.sl.v392 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 14 d := by
  refine Eq.trans ?_ (core2 mk kernelRun0_A.sl.r_2 head_at (kernelRun0_A.sl.r_3 i) 0 3 hm c arg1 harg1 arg2 harg2 arg3 harg3 arg4 harg4 arg5 harg5 arg6 harg6 arg7 harg7 arg8 harg8 arg9 harg9 arg15 arg16 x0 x1 x2 x3 x4 x5 x6 x7 x8
    0 1536 1664 1792 1920 384 12 12 13 14 15 (by decide) (by decide) (by decide) (by decide) (by decide) (by decide) (by decide) (by decide) (by decide) (by decide) (by decide) rfl rfl rfl rfl rfl 14 rfl n d)
  refine congrFun ?_ (ix2 n d)
  rfl

/-- The tile of block 0 and head 15. -/
theorem tile_0_15
    (hm : ∀ (r : Fin 512) (k : Fin 384), (kernelRun0_A.sl.r_3 i) (ix2 r k) = 1#1 ↔ mk 0 ⟨r.val % 128, by omega⟩ k = true)
    (n d : Fin 128) :
    (k0_pay45 (F := Ideal) (kernelRun0_A.sl.v392 (F := Ideal) c i arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 0 n 15 d := by
  refine Eq.trans ?_ (core3 mk kernelRun0_A.sl.r_2 head_at (kernelRun0_A.sl.r_3 i) 0 3 hm c arg1 harg1 arg2 harg2 arg3 harg3 arg4 harg4 arg5 harg5 arg6 harg6 arg7 harg7 arg8 harg8 arg9 harg9 arg15 arg16 x0 x1 x2 x3 x4 x5 x6 x7 x8
    0 1536 1664 1792 1920 384 12 12 13 14 15 (by decide) (by decide) (by decide) (by decide) (by decide) (by decide) (by decide) (by decide) (by decide) (by decide) (by decide) rfl rfl rfl rfl rfl 15 rfl n d)
  refine congrFun ?_ (ix2 n d)
  rfl

end Cert.AttnTile
-- ==== Proof.AttnTile1.lean ====
/- The tiles the attention kernel stores for the second block of a step, one per head. -/
module

public import proofs.«01_k».proof.Proof.AttnBlock
public import proofs.«01_k».proof.Proof.AttnMask

@[expose] public section

set_option maxRecDepth 16384

noncomputable section

open Idealize.ShloMosaic Idealize.ShloMosaic.TcCoe Idealize.SL.Sem

namespace Cert.AttnTile

open Cert.AttnIdeal Cert.AttnIdeal.Gen Cert.AttnKernel Cert.AttnBlock Cert.AttnMask

variable (mk : Fin 4 → Fin 128 → Fin 384 → Bool) (i : grid0.Coords)
  (c : Dev nD) (arg1 : Memref sig .tc .vmem S512x2048 .bf16) (harg1 : arg1.IsWhole)
  (arg2 : Memref sig .tc .vmem S512x512 .bf16) (harg2 : arg2.IsWhole)
  (arg3 : Memref sig .tc .vmem S128x512 .bf16) (harg3 : arg3.IsWhole) (arg4 : Memref sig .tc .vmem S128x512 .bf16)
  (harg4 : arg4.IsWhole) (arg5 : Memref sig .tc .vmem S512x512 .bf16) (harg5 : arg5.IsWhole)
  (arg6 : Memref sig .tc .vmem S128x512 .bf16) (harg6 : arg6.IsWhole) (arg7 : Memref sig .tc .vmem S128x512 .bf16)
  (harg7 : arg7.IsWhole) (arg8 : Memref sig .tc .vmem S16x128x384 .f32) (harg8 : arg8.IsWhole)
  (arg9 : Memref sig .tc .smem S1x16 .f32) (harg9 : arg9.IsWhole)
  (arg15 arg16 : Memref sig .tc .vmem S768x512 .bf16) (x0 : Vec Ideal S512x2048 .bf16)
  (x1 : Vec Ideal S512x512 .bf16) (x2 x3 : Vec Ideal S128x512 .bf16) (x4 : Vec Ideal S512x512 .bf16)
  (x5 x6 : Vec Ideal S128x512 .bf16) (x7 : Vec Ideal S16x128x384 .f32) (x8 : Vec Ideal S1x16 .f32)

/-- The tile of block 1 and head 0. -/
theorem tile_1_0
    (hm : ∀ (r : Fin 512) (k : Fin 384), kernelRun0_A.sl.v99 (ix2 r k) = 1#1 ↔ mk 1 ⟨r.val % 128, by omega⟩ k = true)
    (n d : Fin 128) :
    (kernelRun0_A.sl.v468 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 0 d := by
  refine Eq.trans ?_ (core0 mk kernelRun0_A.sl.r_2 head_at kernelRun0_A.sl.v99 1 0 hm c arg1 harg1 arg2 harg2 arg3 harg3 arg4 harg4 arg5 harg5 arg6 harg6 arg7 harg7 arg8 harg8 arg9 harg9 arg15 arg16 x0 x1 x2 x3 x4 x5 x6 x7 x8
    128 0 128 256 384 0 0 0 1 2 3 (by decide) (by decide) (by decide) (by decide) (by decide) (by decide) (by decide) (by decide) (by decide) (by decide) (by decide) rfl rfl rfl rfl rfl 0 rfl n d)
  refine congrFun ?_ (ix2 n d)
  rfl

/-- The tile of block 1 and head 1. -/
theorem tile_1_1
    (hm : ∀ (r : Fin 512) (k : Fin 384), kernelRun0_A.sl.v99 (ix2 r k) = 1#1 ↔ mk 1 ⟨r.val % 128, by omega⟩ k = true)
    (n d : Fin 128) :
    (kernelRun0_A.sl.v473 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 1 d := by
  refine Eq.trans ?_ (core1 mk kernelRun0_A.sl.r_2 head_at kernelRun0_A.sl.v99 1 0 hm c arg1 harg1 arg2 harg2 arg3 harg3 arg4 harg4 arg5 harg5 arg6 harg6 arg7 harg7 arg8 harg8 arg9 harg9 arg15 arg16 x0 x1 x2 x3 x4 x5 x6 x7 x8
    128 0 128 256 384 0 0 0 1 2 3 (by decide) (by decide) (by decide) (by decide) (by decide) (by decide) (by decide) (by decide) (by decide) (by decide) (by decide) rfl rfl rfl rfl rfl 1 rfl n d)
  refine congrFun ?_ (ix2 n d)
  rfl

/-- The tile of block 1 and head 2. -/
theorem tile_1_2
    (hm : ∀ (r : Fin 512) (k : Fin 384), kernelRun0_A.sl.v99 (ix2 r k) = 1#1 ↔ mk 1 ⟨r.val % 128, by omega⟩ k = true)
    (n d : Fin 128) :
    (k0_pay51 (F := Ideal) (kernelRun0_A.sl.v463 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 2 d := by
  refine Eq.trans ?_ (core2 mk kernelRun0_A.sl.r_2 head_at kernelRun0_A.sl.v99 1 0 hm c arg1 harg1 arg2 harg2 arg3 harg3 arg4 harg4 arg5 harg5 arg6 harg6 arg7 harg7 arg8 harg8 arg9 harg9 arg15 arg16 x0 x1 x2 x3 x4 x5 x6 x7 x8
    128 0 128 256 384 0 0 0 1 2 3 (by decide) (by decide) (by decide) (by decide) (by decide) (by decide) (by decide) (by decide) (by decide) (by decide) (by decide) rfl rfl rfl rfl rfl 2 rfl n d)
  refine congrFun ?_ (ix2 n d)
  rfl

/-- The tile of block 1 and head 3. -/
theorem tile_1_3
    (hm : ∀ (r : Fin 512) (k : Fin 384), kernelRun0_A.sl.v99 (ix2 r k) = 1#1 ↔ mk 1 ⟨r.val % 128, by omega⟩ k = true)
    (n d : Fin 128) :
    (k0_pay52 (F := Ideal) (kernelRun0_A.sl.v463 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 3 d := by
  refine Eq.trans ?_ (core3 mk kernelRun0_A.sl.r_2 head_at kernelRun0_A.sl.v99 1 0 hm c arg1 harg1 arg2 harg2 arg3 harg3 arg4 harg4 arg5 harg5 arg6 harg6 arg7 harg7 arg8 harg8 arg9 harg9 arg15 arg16 x0 x1 x2 x3 x4 x5 x6 x7 x8
    128 0 128 256 384 0 0 0 1 2 3 (by decide) (by decide) (by decide) (by decide) (by decide) (by decide) (by decide) (by decide) (by decide) (by decide) (by decide) rfl rfl rfl rfl rfl 3 rfl n d)
  refine congrFun ?_ (ix2 n d)
  rfl

/-- The tile of block 1 and head 4. -/
theorem tile_1_4
    (hm : ∀ (r : Fin 512) (k : Fin 384), kernelRun0_A.sl.v99 (ix2 r k) = 1#1 ↔ mk 1 ⟨r.val % 128, by omega⟩ k = true)
    (n d : Fin 128) :
    (kernelRun0_A.sl.v539 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 4 d := by
  refine Eq.trans ?_ (core0 mk kernelRun0_A.sl.r_2 head_at kernelRun0_A.sl.v99 1 1 hm c arg1 harg1 arg2 harg2 arg3 harg3 arg4 harg4 arg5 harg5 arg6 harg6 arg7 harg7 arg8 harg8 arg9 harg9 arg15 arg16 x0 x1 x2 x3 x4 x5 x6 x7 x8
    128 512 640 768 896 128 4 4 5 6 7 (by decide) (by decide) (by decide) (by decide) (by decide) (by decide) (by decide) (by decide) (by decide) (by decide) (by decide) rfl rfl rfl rfl rfl 4 rfl n d)
  refine congrFun ?_ (ix2 n d)
  rfl

/-- The tile of block 1 and head 5. -/
theorem tile_1_5
    (hm : ∀ (r : Fin 512) (k : Fin 384), kernelRun0_A.sl.v99 (ix2 r k) = 1#1 ↔ mk 1 ⟨r.val % 128, by omega⟩ k = true)
    (n d : Fin 128) :
    (kernelRun0_A.sl.v544 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 5 d := by
  refine Eq.trans ?_ (core1 mk kernelRun0_A.sl.r_2 head_at kernelRun0_A.sl.v99 1 1 hm c arg1 harg1 arg2 harg2 arg3 harg3 arg4 harg4 arg5 harg5 arg6 harg6 arg7 harg7 arg8 harg8 arg9 harg9 arg15 arg16 x0 x1 x2 x3 x4 x5 x6 x7 x8
    128 512 640 768 896 128 4 4 5 6 7 (by decide) (by decide) (by decide) (by decide) (by decide) (by decide) (by decide) (by decide) (by decide) (by decide) (by decide) rfl rfl rfl rfl rfl 5 rfl n d)
  refine congrFun ?_ (ix2 n d)
  rfl

/-- The tile of block 1 and head 6. -/
theorem tile_1_6
    (hm : ∀ (r : Fin 512) (k : Fin 384), kernelRun0_A.sl.v99 (ix2 r k) = 1#1 ↔ mk 1 ⟨r.val % 128, by omega⟩ k = true)
    (n d : Fin 128) :
    (k0_pay60 (F := Ideal) (kernelRun0_A.sl.v546 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 6 d := by
  refine Eq.trans ?_ (core2 mk kernelRun0_A.sl.r_2 head_at kernelRun0_A.sl.v99 1 1 hm c arg1 harg1 arg2 harg2 arg3 harg3 arg4 harg4 arg5 harg5 arg6 harg6 arg7 harg7 arg8 harg8 arg9 harg9 arg15 arg16 x0 x1 x2 x3 x4 x5 x6 x7 x8
    128 512 640 768 896 128 4 4 5 6 7 (by decide) (by decide) (by decide) (by decide) (by decide) (by decide) (by decide) (by decide) (by decide) (by decide) (by decide) rfl rfl rfl rfl rfl 6 rfl n d)
  refine congrFun ?_ (ix2 n d)
  rfl

/-- The tile of block 1 and head 7. -/
theorem tile_1_7
    (hm : ∀ (r : Fin 512) (k : Fin 384), kernelRun0_A.sl.v99 (ix2 r k) = 1#1 ↔ mk 1 ⟨r.val % 128, by omega⟩ k = true)
    (n d : Fin 128) :
    (k0_pay61 (F := Ideal) (kernelRun0_A.sl.v534 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 7 d := by
  refine Eq.trans ?_ (core3 mk kernelRun0_A.sl.r_2 head_at kernelRun0_A.sl.v99 1 1 hm c arg1 harg1 arg2 harg2 arg3 harg3 arg4 harg4 arg5 harg5 arg6 harg6 arg7 harg7 arg8 harg8 arg9 harg9 arg15 arg16 x0 x1 x2 x3 x4 x5 x6 x7 x8
    128 512 640 768 896 128 4 4 5 6 7 (by decide) (by decide) (by decide) (by decide) (by decide) (by decide) (by decide) (by decide) (by decide) (by decide) (by decide) rfl rfl rfl rfl rfl 7 rfl n d)
  refine congrFun ?_ (ix2 n d)
  rfl

/-- The tile of block 1 and head 8. -/
theorem tile_1_8
    (hm : ∀ (r : Fin 512) (k : Fin 384), kernelRun0_A.sl.v99 (ix2 r k) = 1#1 ↔ mk 1 ⟨r.val % 128, by omega⟩ k = true)
    (n d : Fin 128) :
    (kernelRun0_A.sl.v610 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 8 d := by
  refine Eq.trans ?_ (core0 mk kernelRun0_A.sl.r_2 head_at kernelRun0_A.sl.v99 1 2 hm c arg1 harg1 arg2 harg2 arg3 harg3 arg4 harg4 arg5 harg5 arg6 harg6 arg7 harg7 arg8 harg8 arg9 harg9 arg15 arg16 x0 x1 x2 x3 x4 x5 x6 x7 x8
    128 1024 1152 1280 1408 256 8 8 9 10 11 (by decide) (by decide) (by decide) (by decide) (by decide) (by decide) (by decide) (by decide) (by decide) (by decide) (by decide) rfl rfl rfl rfl rfl 8 rfl n d)
  refine congrFun ?_ (ix2 n d)
  rfl

/-- The tile of block 1 and head 9. -/
theorem tile_1_9
    (hm : ∀ (r : Fin 512) (k : Fin 384), kernelRun0_A.sl.v99 (ix2 r k) = 1#1 ↔ mk 1 ⟨r.val % 128, by omega⟩ k = true)
    (n d : Fin 128) :
    (kernelRun0_A.sl.v615 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 9 d := by
  refine Eq.trans ?_ (core1 mk kernelRun0_A.sl.r_2 head_at kernelRun0_A.sl.v99 1 2 hm c arg1 harg1 arg2 harg2 arg3 harg3 arg4 harg4 arg5 harg5 arg6 harg6 arg7 harg7 arg8 harg8 arg9 harg9 arg15 arg16 x0 x1 x2 x3 x4 x5 x6 x7 x8
    128 1024 1152 1280 1408 256 8 8 9 10 11 (by decide) (by decide) (by decide) (by decide) (by decide) (by decide) (by decide) (by decide) (by decide) (by decide) (by decide) rfl rfl rfl rfl rfl 9 rfl n d)
  refine congrFun ?_ (ix2 n d)
  rfl

/-- The tile of block 1 and head 10. -/
theorem tile_1_10
    (hm : ∀ (r : Fin 512) (k : Fin 384), kernelRun0_A.sl.v99 (ix2 r k) = 1#1 ↔ mk 1 ⟨r.val % 128, by omega⟩ k = true)
    (n d : Fin 128) :
    (k0_pay70 (F := Ideal) (kernelRun0_A.sl.v617 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 10 d := by
  refine Eq.trans ?_ (core2 mk kernelRun0_A.sl.r_2 head_at kernelRun0_A.sl.v99 1 2 hm c arg1 harg1 arg2 harg2 arg3 harg3 arg4 harg4 arg5 harg5 arg6 harg6 arg7 harg7 arg8 harg8 arg9 harg9 arg15 arg16 x0 x1 x2 x3 x4 x5 x6 x7 x8
    128 1024 1152 1280 1408 256 8 8 9 10 11 (by decide) (by decide) (by decide) (by decide) (by decide) (by decide) (by decide) (by decide) (by decide) (by decide) (by decide) rfl rfl rfl rfl rfl 10 rfl n d)
  refine congrFun ?_ (ix2 n d)
  rfl

/-- The tile of block 1 and head 11. -/
theorem tile_1_11
    (hm : ∀ (r : Fin 512) (k : Fin 384), kernelRun0_A.sl.v99 (ix2 r k) = 1#1 ↔ mk 1 ⟨r.val % 128, by omega⟩ k = true)
    (n d : Fin 128) :
    (k0_pay71 (F := Ideal) (kernelRun0_A.sl.v605 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 11 d := by
  refine Eq.trans ?_ (core3 mk kernelRun0_A.sl.r_2 head_at kernelRun0_A.sl.v99 1 2 hm c arg1 harg1 arg2 harg2 arg3 harg3 arg4 harg4 arg5 harg5 arg6 harg6 arg7 harg7 arg8 harg8 arg9 harg9 arg15 arg16 x0 x1 x2 x3 x4 x5 x6 x7 x8
    128 1024 1152 1280 1408 256 8 8 9 10 11 (by decide) (by decide) (by decide) (by decide) (by decide) (by decide) (by decide) (by decide) (by decide) (by decide) (by decide) rfl rfl rfl rfl rfl 11 rfl n d)
  refine congrFun ?_ (ix2 n d)
  rfl

/-- The tile of block 1 and head 12. -/
theorem tile_1_12
    (hm : ∀ (r : Fin 512) (k : Fin 384), kernelRun0_A.sl.v99 (ix2 r k) = 1#1 ↔ mk 1 ⟨r.val % 128, by omega⟩ k = true)
    (n d : Fin 128) :
    (kernelRun0_A.sl.v681 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 12 d := by
  refine Eq.trans ?_ (core0 mk kernelRun0_A.sl.r_2 head_at kernelRun0_A.sl.v99 1 3 hm c arg1 harg1 arg2 harg2 arg3 harg3 arg4 harg4 arg5 harg5 arg6 harg6 arg7 harg7 arg8 harg8 arg9 harg9 arg15 arg16 x0 x1 x2 x3 x4 x5 x6 x7 x8
    128 1536 1664 1792 1920 384 12 12 13 14 15 (by decide) (by decide) (by decide) (by decide) (by decide) (by decide) (by decide) (by decide) (by decide) (by decide) (by decide) rfl rfl rfl rfl rfl 12 rfl n d)
  refine congrFun ?_ (ix2 n d)
  rfl

/-- The tile of block 1 and head 13. -/
theorem tile_1_13
    (hm : ∀ (r : Fin 512) (k : Fin 384), kernelRun0_A.sl.v99 (ix2 r k) = 1#1 ↔ mk 1 ⟨r.val % 128, by omega⟩ k = true)
    (n d : Fin 128) :
    (kernelRun0_A.sl.v686 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 13 d := by
  refine Eq.trans ?_ (core1 mk kernelRun0_A.sl.r_2 head_at kernelRun0_A.sl.v99 1 3 hm c arg1 harg1 arg2 harg2 arg3 harg3 arg4 harg4 arg5 harg5 arg6 harg6 arg7 harg7 arg8 harg8 arg9 harg9 arg15 arg16 x0 x1 x2 x3 x4 x5 x6 x7 x8
    128 1536 1664 1792 1920 384 12 12 13 14 15 (by decide) (by decide) (by decide) (by decide) (by decide) (by decide) (by decide) (by decide) (by decide) (by decide) (by decide) rfl rfl rfl rfl rfl 13 rfl n d)
  refine congrFun ?_ (ix2 n d)
  rfl

/-- The tile of block 1 and head 14. -/
theorem tile_1_14
    (hm : ∀ (r : Fin 512) (k : Fin 384), kernelRun0_A.sl.v99 (ix2 r k) = 1#1 ↔ mk 1 ⟨r.val % 128, by omega⟩ k = true)
    (n d : Fin 128) :
    (kernelRun0_A.sl.v691 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 1 n 14 d := by
  refine Eq.trans ?_ (core2 mk kernelRun0_A.sl.r_2 head_at kernelRun0_A.sl.v99 1 3 hm c arg1 harg1 arg2 harg2 arg3 harg3 arg4 harg4 arg5 harg5 arg6 harg6 arg7 harg7 arg8 harg8 arg9 harg9 arg15 arg16 x0 x1 x2 x3 x4 x5 x6 x7 x8
    128 1536 1664 1792 1920 384 12 12 13 14 15 (by decide) (by decide) (by decide) (by decide) (by decide) (by decide) (by decide) (by decide) (by decide) (by decide) (by decide) rfl rfl rfl rfl rfl 14 rfl n d)
  refine congrFun ?_ (ix2 n d)
  rfl

/-- The tile of block 1 and head 15. -/
theorem tile_1_15
    (hm : ∀ (r : Fin 512) (k : Fin 384), kernelRun0_A.sl.v99 (ix2 r k) = 1#1 ↔ mk 1 ⟨r.val % 128, by omega⟩ k = true)
    (n d : Fin 128) :
    (k0_pay80 (F := Ideal) (kernelRun0_A.sl.v692 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 1 n 15 d := by
  refine Eq.trans ?_ (core3 mk kernelRun0_A.sl.r_2 head_at kernelRun0_A.sl.v99 1 3 hm c arg1 harg1 arg2 harg2 arg3 harg3 arg4 harg4 arg5 harg5 arg6 harg6 arg7 harg7 arg8 harg8 arg9 harg9 arg15 arg16 x0 x1 x2 x3 x4 x5 x6 x7 x8
    128 1536 1664 1792 1920 384 12 12 13 14 15 (by decide) (by decide) (by decide) (by decide) (by decide) (by decide) (by decide) (by decide) (by decide) (by decide) (by decide) rfl rfl rfl rfl rfl 15 rfl n d)
  refine congrFun ?_ (ix2 n d)
  rfl

end Cert.AttnTile
-- ==== Proof.AttnTile2.lean ====
/- The tiles the attention kernel stores for the third block of a step, one per head. -/
module

public import proofs.«01_k».proof.Proof.AttnBlock
public import proofs.«01_k».proof.Proof.AttnMask

@[expose] public section

set_option maxRecDepth 16384

noncomputable section

open Idealize.ShloMosaic Idealize.ShloMosaic.TcCoe Idealize.SL.Sem

namespace Cert.AttnTile

open Cert.AttnIdeal Cert.AttnIdeal.Gen Cert.AttnKernel Cert.AttnBlock Cert.AttnMask

variable (mk : Fin 4 → Fin 128 → Fin 384 → Bool) (i : grid0.Coords)
  (c : Dev nD) (arg1 : Memref sig .tc .vmem S512x2048 .bf16) (harg1 : arg1.IsWhole)
  (arg2 : Memref sig .tc .vmem S512x512 .bf16) (harg2 : arg2.IsWhole)
  (arg3 : Memref sig .tc .vmem S128x512 .bf16) (harg3 : arg3.IsWhole) (arg4 : Memref sig .tc .vmem S128x512 .bf16)
  (harg4 : arg4.IsWhole) (arg5 : Memref sig .tc .vmem S512x512 .bf16) (harg5 : arg5.IsWhole)
  (arg6 : Memref sig .tc .vmem S128x512 .bf16) (harg6 : arg6.IsWhole) (arg7 : Memref sig .tc .vmem S128x512 .bf16)
  (harg7 : arg7.IsWhole) (arg8 : Memref sig .tc .vmem S16x128x384 .f32) (harg8 : arg8.IsWhole)
  (arg9 : Memref sig .tc .smem S1x16 .f32) (harg9 : arg9.IsWhole)
  (arg15 arg16 : Memref sig .tc .vmem S768x512 .bf16) (x0 : Vec Ideal S512x2048 .bf16)
  (x1 : Vec Ideal S512x512 .bf16) (x2 x3 : Vec Ideal S128x512 .bf16) (x4 : Vec Ideal S512x512 .bf16)
  (x5 x6 : Vec Ideal S128x512 .bf16) (x7 : Vec Ideal S16x128x384 .f32) (x8 : Vec Ideal S1x16 .f32)

/-- The tile of block 2 and head 0. -/
theorem tile_2_0
    (hm : ∀ (r : Fin 512) (k : Fin 384), kernelRun0_A.sl.v99 (ix2 r k) = 1#1 ↔ mk 2 ⟨r.val % 128, by omega⟩ k = true)
    (n d : Fin 128) :
    (kernelRun0_A.sl.v752 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 0 d := by
  refine Eq.trans ?_ (core0 mk kernelRun0_A.sl.r_2 head_at kernelRun0_A.sl.v99 2 0 hm c arg1 harg1 arg2 harg2 arg3 harg3 arg4 harg4 arg5 harg5 arg6 harg6 arg7 harg7 arg8 harg8 arg9 harg9 arg15 arg16 x0 x1 x2 x3 x4 x5 x6 x7 x8
    256 0 128 256 384 0 0 0 1 2 3 (by decide) (by decide) (by decide) (by decide) (by decide) (by decide) (by decide) (by decide) (by decide) (by decide) (by decide) rfl rfl rfl rfl rfl 0 rfl n d)
  refine congrFun ?_ (ix2 n d)
  rfl

/-- The tile of block 2 and head 1. -/
theorem tile_2_1
    (hm : ∀ (r : Fin 512) (k : Fin 384), kernelRun0_A.sl.v99 (ix2 r k) = 1#1 ↔ mk 2 ⟨r.val % 128, by omega⟩ k = true)
    (n d : Fin 128) :
    (kernelRun0_A.sl.v757 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 1 d := by
  refine Eq.trans ?_ (core1 mk kernelRun0_A.sl.r_2 head_at kernelRun0_A.sl.v99 2 0 hm c arg1 harg1 arg2 harg2 arg3 harg3 arg4 harg4 arg5 harg5 arg6 harg6 arg7 harg7 arg8 harg8 arg9 harg9 arg15 arg16 x0 x1 x2 x3 x4 x5 x6 x7 x8
    256 0 128 256 384 0 0 0 1 2 3 (by decide) (by decide) (by decide) (by decide) (by decide) (by decide) (by decide) (by decide) (by decide) (by decide) (by decide) rfl rfl rfl rfl rfl 1 rfl n d)
  refine congrFun ?_ (ix2 n d)
  rfl

/-- The tile of block 2 and head 2. -/
theorem tile_2_2
    (hm : ∀ (r : Fin 512) (k : Fin 384), kernelRun0_A.sl.v99 (ix2 r k) = 1#1 ↔ mk 2 ⟨r.val % 128, by omega⟩ k = true)
    (n d : Fin 128) :
    (kernelRun0_A.sl.v762 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 2 d := by
  refine Eq.trans ?_ (core2 mk kernelRun0_A.sl.r_2 head_at kernelRun0_A.sl.v99 2 0 hm c arg1 harg1 arg2 harg2 arg3 harg3 arg4 harg4 arg5 harg5 arg6 harg6 arg7 harg7 arg8 harg8 arg9 harg9 arg15 arg16 x0 x1 x2 x3 x4 x5 x6 x7 x8
    256 0 128 256 384 0 0 0 1 2 3 (by decide) (by decide) (by decide) (by decide) (by decide) (by decide) (by decide) (by decide) (by decide) (by decide) (by decide) rfl rfl rfl rfl rfl 2 rfl n d)
  refine congrFun ?_ (ix2 n d)
  rfl

/-- The tile of block 2 and head 3. -/
theorem tile_2_3
    (hm : ∀ (r : Fin 512) (k : Fin 384), kernelRun0_A.sl.v99 (ix2 r k) = 1#1 ↔ mk 2 ⟨r.val % 128, by omega⟩ k = true)
    (n d : Fin 128) :
    (k0_pay89 (F := Ideal) (kernelRun0_A.sl.v764 (F := Ideal) c arg1 harg1 arg2 harg2 arg3 harg3 arg4 harg4 arg5 harg5 arg6 harg6 arg7 harg7 arg8 harg8 arg9 harg9 arg15 arg16 x0 x1 x2 x3 x4 x5 x6 x7 x8)) (ix2 n d)
      = attAt mk x0 x1 x2 x3 x4 x5 x6 x7 x8 2 n 3 d := by
  refine Eq.trans ?_ (core3 mk kernelRun0_A.sl.r_2 head_at kernelRun0_A.sl.v99 2 0 hm c arg1 harg1 arg2 harg2 arg3 harg3 arg4 harg4 arg5 harg5 arg6 harg6 arg7 harg7 arg8 harg8 arg9 harg9 arg15 arg16 x0 x1 x2 x3 x4 x5 x6 x7 x8
    256 0 128 256 384 0 0 0 1 2 3 (by decide) (by decide) (by decide) (by decide) (by decide) (by decide) (by decide) (by decide) (by decide) (by decide) (by decide) rfl rfl rfl rfl rfl 3 rfl n d)
  refine congrFun ?_ (ix2 n d)
  rfl

/-- The tile of block 2 and head 4. -/
theorem tile_2_4
    (hm : ∀ (r : Fin 512) (k : Fin 384), kernelRun0_A.sl.v99 (ix2 r k) = 1#1 ↔ mk 2 ⟨r.val % 128, by omega⟩ k = true)
    (n d : Fin 128) :
    (kernelRun0_A.sl.v823 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 4 d := by
  refine Eq.trans ?_ (core0 mk kernelRun0_A.sl.r_2 head_at kernelRun0_A.sl.v99 2 1 hm c arg1 harg1 arg2 harg2 arg3 harg3 arg4 harg4 arg5 harg5 arg6 harg6 arg7 harg7 arg8 harg8 arg9 harg9 arg15 arg16 x0 x1 x2 x3 x4 x5 x6 x7 x8
    256 512 640 768 896 128 4 4 5 6 7 (by decide) (by decide) (by decide) (by decide) (by decide) (by decide) (by decide) (by decide) (by decide) (by decide) (by decide) rfl rfl rfl rfl rfl 4 rfl n d)
  refine congrFun ?_ (ix2 n d)
  rfl

/-- The tile of block 2 and head 5. -/
theorem tile_2_5
    (hm : ∀ (r : Fin 512) (k : Fin 384), kernelRun0_A.sl.v99 (ix2 r k) = 1#1 ↔ mk 2 ⟨r.val % 128, by omega⟩ k = true)
    (n d : Fin 128) :
    (kernelRun0_A.sl.v828 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 5 d := by
  refine Eq.trans ?_ (core1 mk kernelRun0_A.sl.r_2 head_at kernelRun0_A.sl.v99 2 1 hm c arg1 harg1 arg2 harg2 arg3 harg3 arg4 harg4 arg5 harg5 arg6 harg6 arg7 harg7 arg8 harg8 arg9 harg9 arg15 arg16 x0 x1 x2 x3 x4 x5 x6 x7 x8
    256 512 640 768 896 128 4 4 5 6 7 (by decide) (by decide) (by decide) (by decide) (by decide) (by decide) (by decide) (by decide) (by decide) (by decide) (by decide) rfl rfl rfl rfl rfl 5 rfl n d)
  refine congrFun ?_ (ix2 n d)
  rfl

/-- The tile of block 2 and head 6. -/
theorem tile_2_6
    (hm : ∀ (r : Fin 512) (k : Fin 384), kernelRun0_A.sl.v99 (ix2 r k) = 1#1 ↔ mk 2 ⟨r.val % 128, by omega⟩ k = true)
    (n d : Fin 128) :
    (kernelRun0_A.sl.v833 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 6 d := by
  refine Eq.trans ?_ (core2 mk kernelRun0_A.sl.r_2 head_at kernelRun0_A.sl.v99 2 1 hm c arg1 harg1 arg2 harg2 arg3 harg3 arg4 harg4 arg5 harg5 arg6 harg6 arg7 harg7 arg8 harg8 arg9 harg9 arg15 arg16 x0 x1 x2 x3 x4 x5 x6 x7 x8
    256 512 640 768 896 128 4 4 5 6 7 (by decide) (by decide) (by decide) (by decide) (by decide) (by decide) (by decide) (by decide) (by decide) (by decide) (by decide) rfl rfl rfl rfl rfl 6 rfl n d)
  refine congrFun ?_ (ix2 n d)
  rfl

/-- The tile of block 2 and head 7. -/
theorem tile_2_7
    (hm : ∀ (r : Fin 512) (k : Fin 384), kernelRun0_A.sl.v99 (ix2 r k) = 1#1 ↔ mk 2 ⟨r.val % 128, by omega⟩ k = true)
    (n d : Fin 128) :
    (kernelRun0_A.sl.v838 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 7 d := by
  refine Eq.trans ?_ (core3 mk kernelRun0_A.sl.r_2 head_at kernelRun0_A.sl.v99 2 1 hm c arg1 harg1 arg2 harg2 arg3 harg3 arg4 harg4 arg5 harg5 arg6 harg6 arg7 harg7 arg8 harg8 arg9 harg9 arg15 arg16 x0 x1 x2 x3 x4 x5 x6 x7 x8
    256 512 640 768 896 128 4 4 5 6 7 (by decide) (by decide) (by decide) (by decide) (by decide) (by decide) (by decide) (by decide) (by decide) (by decide) (by decide) rfl rfl rfl rfl rfl 7 rfl n d)
  refine congrFun ?_ (ix2 n d)
  rfl

/-- The tile of block 2 and head 8. -/
theorem tile_2_8
    (hm : ∀ (r : Fin 512) (k : Fin 384), kernelRun0_A.sl.v99 (ix2 r k) = 1#1 ↔ mk 2 ⟨r.val % 128, by omega⟩ k = true)
    (n d : Fin 128) :
    (kernelRun0_A.sl.v894 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 8 d := by
  refine Eq.trans ?_ (core0 mk kernelRun0_A.sl.r_2 head_at kernelRun0_A.sl.v99 2 2 hm c arg1 harg1 arg2 harg2 arg3 harg3 arg4 harg4 arg5 harg5 arg6 harg6 arg7 harg7 arg8 harg8 arg9 harg9 arg15 arg16 x0 x1 x2 x3 x4 x5 x6 x7 x8
    256 1024 1152 1280 1408 256 8 8 9 10 11 (by decide) (by decide) (by decide) (by decide) (by decide) (by decide) (by decide) (by decide) (by decide) (by decide) (by decide) rfl rfl rfl rfl rfl 8 rfl n d)
  refine congrFun ?_ (ix2 n d)
  rfl

/-- The tile of block 2 and head 9. -/
theorem tile_2_9
    (hm : ∀ (r : Fin 512) (k : Fin 384), kernelRun0_A.sl.v99 (ix2 r k) = 1#1 ↔ mk 2 ⟨r.val % 128, by omega⟩ k = true)
    (n d : Fin 128) :
    (kernelRun0_A.sl.v899 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 9 d := by
  refine Eq.trans ?_ (core1 mk kernelRun0_A.sl.r_2 head_at kernelRun0_A.sl.v99 2 2 hm c arg1 harg1 arg2 harg2 arg3 harg3 arg4 harg4 arg5 harg5 arg6 harg6 arg7 harg7 arg8 harg8 arg9 harg9 arg15 arg16 x0 x1 x2 x3 x4 x5 x6 x7 x8
    256 1024 1152 1280 1408 256 8 8 9 10 11 (by decide) (by decide) (by decide) (by decide) (by decide) (by decide) (by decide) (by decide) (by decide) (by decide) (by decide) rfl rfl rfl rfl rfl 9 rfl n d)
  refine congrFun ?_ (ix2 n d)
  rfl

/-- The tile of block 2 and head 10. -/
theorem tile_2_10
    (hm : ∀ (r : Fin 512) (k : Fin 384), kernelRun0_A.sl.v99 (ix2 r k) = 1#1 ↔ mk 2 ⟨r.val % 128, by omega⟩ k = true)
    (n d : Fin 128) :
    (kernelRun0_A.sl.v904 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 10 d := by
  refine Eq.trans ?_ (core2 mk kernelRun0_A.sl.r_2 head_at kernelRun0_A.sl.v99 2 2 hm c arg1 harg1 arg2 harg2 arg3 harg3 arg4 harg4 arg5 harg5 arg6 harg6 arg7 harg7 arg8 harg8 arg9 harg9 arg15 arg16 x0 x1 x2 x3 x4 x5 x6 x7 x8
    256 1024 1152 1280 1408 256 8 8 9 10 11 (by decide) (by decide) (by decide) (by decide) (by decide) (by decide) (by decide) (by decide) (by decide) (by decide) (by decide) rfl rfl rfl rfl rfl 10 rfl n d)
  refine congrFun ?_ (ix2 n d)
  rfl

/-- The tile of block 2 and head 11. -/
theorem tile_2_11
    (hm : ∀ (r : Fin 512) (k : Fin 384), kernelRun0_A.sl.v99 (ix2 r k) = 1#1 ↔ mk 2 ⟨r.val % 128, by omega⟩ k = true)
    (n d : Fin 128) :
    (kernelRun0_A.sl.v909 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 11 d := by
  refine Eq.trans ?_ (core3 mk kernelRun0_A.sl.r_2 head_at kernelRun0_A.sl.v99 2 2 hm c arg1 harg1 arg2 harg2 arg3 harg3 arg4 harg4 arg5 harg5 arg6 harg6 arg7 harg7 arg8 harg8 arg9 harg9 arg15 arg16 x0 x1 x2 x3 x4 x5 x6 x7 x8
    256 1024 1152 1280 1408 256 8 8 9 10 11 (by decide) (by decide) (by decide) (by decide) (by decide) (by decide) (by decide) (by decide) (by decide) (by decide) (by decide) rfl rfl rfl rfl rfl 11 rfl n d)
  refine congrFun ?_ (ix2 n d)
  rfl

/-- The tile of block 2 and head 12. -/
theorem tile_2_12
    (hm : ∀ (r : Fin 512) (k : Fin 384), kernelRun0_A.sl.v99 (ix2 r k) = 1#1 ↔ mk 2 ⟨r.val % 128, by omega⟩ k = true)
    (n d : Fin 128) :
    (kernelRun0_A.sl.v965 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 12 d := by
  refine Eq.trans ?_ (core0 mk kernelRun0_A.sl.r_2 head_at kernelRun0_A.sl.v99 2 3 hm c arg1 harg1 arg2 harg2 arg3 harg3 arg4 harg4 arg5 harg5 arg6 harg6 arg7 harg7 arg8 harg8 arg9 harg9 arg15 arg16 x0 x1 x2 x3 x4 x5 x6 x7 x8
    256 1536 1664 1792 1920 384 12 12 13 14 15 (by decide) (by decide) (by decide) (by decide) (by decide) (by decide) (by decide) (by decide) (by decide) (by decide) (by decide) rfl rfl rfl rfl rfl 12 rfl n d)
  refine congrFun ?_ (ix2 n d)
  rfl

/-- The tile of block 2 and head 13. -/
theorem tile_2_13
    (hm : ∀ (r : Fin 512) (k : Fin 384), kernelRun0_A.sl.v99 (ix2 r k) = 1#1 ↔ mk 2 ⟨r.val % 128, by omega⟩ k = true)
    (n d : Fin 128) :
    (kernelRun0_A.sl.v970 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 13 d := by
  refine Eq.trans ?_ (core1 mk kernelRun0_A.sl.r_2 head_at kernelRun0_A.sl.v99 2 3 hm c arg1 harg1 arg2 harg2 arg3 harg3 arg4 harg4 arg5 harg5 arg6 harg6 arg7 harg7 arg8 harg8 arg9 harg9 arg15 arg16 x0 x1 x2 x3 x4 x5 x6 x7 x8
    256 1536 1664 1792 1920 384 12 12 13 14 15 (by decide) (by decide) (by decide) (by decide) (by decide) (by decide) (by decide) (by decide) (by decide) (by decide) (by decide) rfl rfl rfl rfl rfl 13 rfl n d)
  refine congrFun ?_ (ix2 n d)
  rfl

/-- The tile of block 2 and head 14. -/
theorem tile_2_14
    (hm : ∀ (r : Fin 512) (k : Fin 384), kernelRun0_A.sl.v99 (ix2 r k) = 1#1 ↔ mk 2 ⟨r.val % 128, by omega⟩ k = true)
    (n d : Fin 128) :
    (kernelRun0_A.sl.v975 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 14 d := by
  refine Eq.trans ?_ (core2 mk kernelRun0_A.sl.r_2 head_at kernelRun0_A.sl.v99 2 3 hm c arg1 harg1 arg2 harg2 arg3 harg3 arg4 harg4 arg5 harg5 arg6 harg6 arg7 harg7 arg8 harg8 arg9 harg9 arg15 arg16 x0 x1 x2 x3 x4 x5 x6 x7 x8
    256 1536 1664 1792 1920 384 12 12 13 14 15 (by decide) (by decide) (by decide) (by decide) (by decide) (by decide) (by decide) (by decide) (by decide) (by decide) (by decide) rfl rfl rfl rfl rfl 14 rfl n d)
  refine congrFun ?_ (ix2 n d)
  rfl

/-- The tile of block 2 and head 15. -/
theorem tile_2_15
    (hm : ∀ (r : Fin 512) (k : Fin 384), kernelRun0_A.sl.v99 (ix2 r k) = 1#1 ↔ mk 2 ⟨r.val % 128, by omega⟩ k = true)
    (n d : Fin 128) :
    (kernelRun0_A.sl.v980 (F := Ideal) c arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 2 n 15 d := by
  refine Eq.trans ?_ (core3 mk kernelRun0_A.sl.r_2 head_at kernelRun0_A.sl.v99 2 3 hm c arg1 harg1 arg2 harg2 arg3 harg3 arg4 harg4 arg5 harg5 arg6 harg6 arg7 harg7 arg8 harg8 arg9 harg9 arg15 arg16 x0 x1 x2 x3 x4 x5 x6 x7 x8
    256 1536 1664 1792 1920 384 12 12 13 14 15 (by decide) (by decide) (by decide) (by decide) (by decide) (by decide) (by decide) (by decide) (by decide) (by decide) (by decide) rfl rfl rfl rfl rfl 15 rfl n d)
  refine congrFun ?_ (ix2 n d)
  rfl

end Cert.AttnTile
-- ==== Proof.AttnTile3.lean ====
/- The tiles the attention kernel stores for the fourth block of a step, one per head. -/
module

public import proofs.«01_k».proof.Proof.AttnBlock
public import proofs.«01_k».proof.Proof.AttnMask

@[expose] public section

set_option maxRecDepth 16384

noncomputable section

open Idealize.ShloMosaic Idealize.ShloMosaic.TcCoe Idealize.SL.Sem

namespace Cert.AttnTile

open Cert.AttnIdeal Cert.AttnIdeal.Gen Cert.AttnKernel Cert.AttnBlock Cert.AttnMask

variable (mk : Fin 4 → Fin 128 → Fin 384 → Bool) (i : grid0.Coords)
  (c : Dev nD) (arg1 : Memref sig .tc .vmem S512x2048 .bf16) (harg1 : arg1.IsWhole)
  (arg2 : Memref sig .tc .vmem S512x512 .bf16) (harg2 : arg2.IsWhole)
  (arg3 : Memref sig .tc .vmem S128x512 .bf16) (harg3 : arg3.IsWhole) (arg4 : Memref sig .tc .vmem S128x512 .bf16)
  (harg4 : arg4.IsWhole) (arg5 : Memref sig .tc .vmem S512x512 .bf16) (harg5 : arg5.IsWhole)
  (arg6 : Memref sig .tc .vmem S128x512 .bf16) (harg6 : arg6.IsWhole) (arg7 : Memref sig .tc .vmem S128x512 .bf16)
  (harg7 : arg7.IsWhole) (arg8 : Memref sig .tc .vmem S16x128x384 .f32) (harg8 : arg8.IsWhole)
  (arg9 : Memref sig .tc .smem S1x16 .f32) (harg9 : arg9.IsWhole)
  (arg15 arg16 : Memref sig .tc .vmem S768x512 .bf16) (x0 : Vec Ideal S512x2048 .bf16)
  (x1 : Vec Ideal S512x512 .bf16) (x2 x3 : Vec Ideal S128x512 .bf16) (x4 : Vec Ideal S512x512 .bf16)
  (x5 x6 : Vec Ideal S128x512 .bf16) (x7 : Vec Ideal S16x128x384 .f32) (x8 : Vec Ideal S1x16 .f32)

/-- The tile of block 3 and head 0. -/
theorem tile_3_0
    (hm : ∀ (r : Fin 512) (k : Fin 384), (kernelRun0_A.sl.r_53 i) (ix2 r k) = 1#1 ↔ mk 3 ⟨r.val % 128, by omega⟩ k = true)
    (n d : Fin 128) :
    (kernelRun0_A.sl.v1040 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 0 d := by
  refine Eq.trans ?_ (core0 mk kernelRun0_A.sl.r_2 head_at (kernelRun0_A.sl.r_53 i) 3 0 hm c arg1 harg1 arg2 harg2 arg3 harg3 arg4 harg4 arg5 harg5 arg6 harg6 arg7 harg7 arg8 harg8 arg9 harg9 arg15 arg16 x0 x1 x2 x3 x4 x5 x6 x7 x8
    384 0 128 256 384 0 0 0 1 2 3 (by decide) (by decide) (by decide) (by decide) (by decide) (by decide) (by decide) (by decide) (by decide) (by decide) (by decide) rfl rfl rfl rfl rfl 0 rfl n d)
  refine congrFun ?_ (ix2 n d)
  rfl

/-- The tile of block 3 and head 1. -/
theorem tile_3_1
    (hm : ∀ (r : Fin 512) (k : Fin 384), (kernelRun0_A.sl.r_53 i) (ix2 r k) = 1#1 ↔ mk 3 ⟨r.val % 128, by omega⟩ k = true)
    (n d : Fin 128) :
    (kernelRun0_A.sl.v1045 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 1 d := by
  refine Eq.trans ?_ (core1 mk kernelRun0_A.sl.r_2 head_at (kernelRun0_A.sl.r_53 i) 3 0 hm c arg1 harg1 arg2 harg2 arg3 harg3 arg4 harg4 arg5 harg5 arg6 harg6 arg7 harg7 arg8 harg8 arg9 harg9 arg15 arg16 x0 x1 x2 x3 x4 x5 x6 x7 x8
    384 0 128 256 384 0 0 0 1 2 3 (by decide) (by decide) (by decide) (by decide) (by decide) (by decide) (by decide) (by decide) (by decide) (by decide) (by decide) rfl rfl rfl rfl rfl 1 rfl n d)
  refine congrFun ?_ (ix2 n d)
  rfl

/-- The tile of block 3 and head 2. -/
theorem tile_3_2
    (hm : ∀ (r : Fin 512) (k : Fin 384), (kernelRun0_A.sl.r_53 i) (ix2 r k) = 1#1 ↔ mk 3 ⟨r.val % 128, by omega⟩ k = true)
    (n d : Fin 128) :
    (kernelRun0_A.sl.v1050 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 2 d := by
  refine Eq.trans ?_ (core2 mk kernelRun0_A.sl.r_2 head_at (kernelRun0_A.sl.r_53 i) 3 0 hm c arg1 harg1 arg2 harg2 arg3 harg3 arg4 harg4 arg5 harg5 arg6 harg6 arg7 harg7 arg8 harg8 arg9 harg9 arg15 arg16 x0 x1 x2 x3 x4 x5 x6 x7 x8
    384 0 128 256 384 0 0 0 1 2 3 (by decide) (by decide) (by decide) (by decide) (by decide) (by decide) (by decide) (by decide) (by decide) (by decide) (by decide) rfl rfl rfl rfl rfl 2 rfl n d)
  refine congrFun ?_ (ix2 n d)
  rfl

/-- The tile of block 3 and head 3. -/
theorem tile_3_3
    (hm : ∀ (r : Fin 512) (k : Fin 384), (kernelRun0_A.sl.r_53 i) (ix2 r k) = 1#1 ↔ mk 3 ⟨r.val % 128, by omega⟩ k = true)
    (n d : Fin 128) :
    (kernelRun0_A.sl.v1055 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 3 d := by
  refine Eq.trans ?_ (core3 mk kernelRun0_A.sl.r_2 head_at (kernelRun0_A.sl.r_53 i) 3 0 hm c arg1 harg1 arg2 harg2 arg3 harg3 arg4 harg4 arg5 harg5 arg6 harg6 arg7 harg7 arg8 harg8 arg9 harg9 arg15 arg16 x0 x1 x2 x3 x4 x5 x6 x7 x8
    384 0 128 256 384 0 0 0 1 2 3 (by decide) (by decide) (by decide) (by decide) (by decide) (by decide) (by decide) (by decide) (by decide) (by decide) (by decide) rfl rfl rfl rfl rfl 3 rfl n d)
  refine congrFun ?_ (ix2 n d)
  rfl

/-- The tile of block 3 and head 4. -/
theorem tile_3_4
    (hm : ∀ (r : Fin 512) (k : Fin 384), (kernelRun0_A.sl.r_53 i) (ix2 r k) = 1#1 ↔ mk 3 ⟨r.val % 128, by omega⟩ k = true)
    (n d : Fin 128) :
    (kernelRun0_A.sl.v1111 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 4 d := by
  refine Eq.trans ?_ (core0 mk kernelRun0_A.sl.r_2 head_at (kernelRun0_A.sl.r_53 i) 3 1 hm c arg1 harg1 arg2 harg2 arg3 harg3 arg4 harg4 arg5 harg5 arg6 harg6 arg7 harg7 arg8 harg8 arg9 harg9 arg15 arg16 x0 x1 x2 x3 x4 x5 x6 x7 x8
    384 512 640 768 896 128 4 4 5 6 7 (by decide) (by decide) (by decide) (by decide) (by decide) (by decide) (by decide) (by decide) (by decide) (by decide) (by decide) rfl rfl rfl rfl rfl 4 rfl n d)
  refine congrFun ?_ (ix2 n d)
  rfl

/-- The tile of block 3 and head 5. -/
theorem tile_3_5
    (hm : ∀ (r : Fin 512) (k : Fin 384), (kernelRun0_A.sl.r_53 i) (ix2 r k) = 1#1 ↔ mk 3 ⟨r.val % 128, by omega⟩ k = true)
    (n d : Fin 128) :
    (kernelRun0_A.sl.v1116 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 5 d := by
  refine Eq.trans ?_ (core1 mk kernelRun0_A.sl.r_2 head_at (kernelRun0_A.sl.r_53 i) 3 1 hm c arg1 harg1 arg2 harg2 arg3 harg3 arg4 harg4 arg5 harg5 arg6 harg6 arg7 harg7 arg8 harg8 arg9 harg9 arg15 arg16 x0 x1 x2 x3 x4 x5 x6 x7 x8
    384 512 640 768 896 128 4 4 5 6 7 (by decide) (by decide) (by decide) (by decide) (by decide) (by decide) (by decide) (by decide) (by decide) (by decide) (by decide) rfl rfl rfl rfl rfl 5 rfl n d)
  refine congrFun ?_ (ix2 n d)
  rfl

/-- The tile of block 3 and head 6. -/
theorem tile_3_6
    (hm : ∀ (r : Fin 512) (k : Fin 384), (kernelRun0_A.sl.r_53 i) (ix2 r k) = 1#1 ↔ mk 3 ⟨r.val % 128, by omega⟩ k = true)
    (n d : Fin 128) :
    (kernelRun0_A.sl.v1121 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 6 d := by
  refine Eq.trans ?_ (core2 mk kernelRun0_A.sl.r_2 head_at (kernelRun0_A.sl.r_53 i) 3 1 hm c arg1 harg1 arg2 harg2 arg3 harg3 arg4 harg4 arg5 harg5 arg6 harg6 arg7 harg7 arg8 harg8 arg9 harg9 arg15 arg16 x0 x1 x2 x3 x4 x5 x6 x7 x8
    384 512 640 768 896 128 4 4 5 6 7 (by decide) (by decide) (by decide) (by decide) (by decide) (by decide) (by decide) (by decide) (by decide) (by decide) (by decide) rfl rfl rfl rfl rfl 6 rfl n d)
  refine congrFun ?_ (ix2 n d)
  rfl

/-- The tile of block 3 and head 7. -/
theorem tile_3_7
    (hm : ∀ (r : Fin 512) (k : Fin 384), (kernelRun0_A.sl.r_53 i) (ix2 r k) = 1#1 ↔ mk 3 ⟨r.val % 128, by omega⟩ k = true)
    (n d : Fin 128) :
    (kernelRun0_A.sl.v1126 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 7 d := by
  refine Eq.trans ?_ (core3 mk kernelRun0_A.sl.r_2 head_at (kernelRun0_A.sl.r_53 i) 3 1 hm c arg1 harg1 arg2 harg2 arg3 harg3 arg4 harg4 arg5 harg5 arg6 harg6 arg7 harg7 arg8 harg8 arg9 harg9 arg15 arg16 x0 x1 x2 x3 x4 x5 x6 x7 x8
    384 512 640 768 896 128 4 4 5 6 7 (by decide) (by decide) (by decide) (by decide) (by decide) (by decide) (by decide) (by decide) (by decide) (by decide) (by decide) rfl rfl rfl rfl rfl 7 rfl n d)
  refine congrFun ?_ (ix2 n d)
  rfl

/-- The tile of block 3 and head 8. -/
theorem tile_3_8
    (hm : ∀ (r : Fin 512) (k : Fin 384), (kernelRun0_A.sl.r_53 i) (ix2 r k) = 1#1 ↔ mk 3 ⟨r.val % 128, by omega⟩ k = true)
    (n d : Fin 128) :
    (kernelRun0_A.sl.v1182 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 8 d := by
  refine Eq.trans ?_ (core0 mk kernelRun0_A.sl.r_2 head_at (kernelRun0_A.sl.r_53 i) 3 2 hm c arg1 harg1 arg2 harg2 arg3 harg3 arg4 harg4 arg5 harg5 arg6 harg6 arg7 harg7 arg8 harg8 arg9 harg9 arg15 arg16 x0 x1 x2 x3 x4 x5 x6 x7 x8
    384 1024 1152 1280 1408 256 8 8 9 10 11 (by decide) (by decide) (by decide) (by decide) (by decide) (by decide) (by decide) (by decide) (by decide) (by decide) (by decide) rfl rfl rfl rfl rfl 8 rfl n d)
  refine congrFun ?_ (ix2 n d)
  rfl

/-- The tile of block 3 and head 9. -/
theorem tile_3_9
    (hm : ∀ (r : Fin 512) (k : Fin 384), (kernelRun0_A.sl.r_53 i) (ix2 r k) = 1#1 ↔ mk 3 ⟨r.val % 128, by omega⟩ k = true)
    (n d : Fin 128) :
    (kernelRun0_A.sl.v1187 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 9 d := by
  refine Eq.trans ?_ (core1 mk kernelRun0_A.sl.r_2 head_at (kernelRun0_A.sl.r_53 i) 3 2 hm c arg1 harg1 arg2 harg2 arg3 harg3 arg4 harg4 arg5 harg5 arg6 harg6 arg7 harg7 arg8 harg8 arg9 harg9 arg15 arg16 x0 x1 x2 x3 x4 x5 x6 x7 x8
    384 1024 1152 1280 1408 256 8 8 9 10 11 (by decide) (by decide) (by decide) (by decide) (by decide) (by decide) (by decide) (by decide) (by decide) (by decide) (by decide) rfl rfl rfl rfl rfl 9 rfl n d)
  refine congrFun ?_ (ix2 n d)
  rfl

/-- The tile of block 3 and head 10. -/
theorem tile_3_10
    (hm : ∀ (r : Fin 512) (k : Fin 384), (kernelRun0_A.sl.r_53 i) (ix2 r k) = 1#1 ↔ mk 3 ⟨r.val % 128, by omega⟩ k = true)
    (n d : Fin 128) :
    (kernelRun0_A.sl.v1192 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 10 d := by
  refine Eq.trans ?_ (core2 mk kernelRun0_A.sl.r_2 head_at (kernelRun0_A.sl.r_53 i) 3 2 hm c arg1 harg1 arg2 harg2 arg3 harg3 arg4 harg4 arg5 harg5 arg6 harg6 arg7 harg7 arg8 harg8 arg9 harg9 arg15 arg16 x0 x1 x2 x3 x4 x5 x6 x7 x8
    384 1024 1152 1280 1408 256 8 8 9 10 11 (by decide) (by decide) (by decide) (by decide) (by decide) (by decide) (by decide) (by decide) (by decide) (by decide) (by decide) rfl rfl rfl rfl rfl 10 rfl n d)
  refine congrFun ?_ (ix2 n d)
  rfl

/-- The tile of block 3 and head 11. -/
theorem tile_3_11
    (hm : ∀ (r : Fin 512) (k : Fin 384), (kernelRun0_A.sl.r_53 i) (ix2 r k) = 1#1 ↔ mk 3 ⟨r.val % 128, by omega⟩ k = true)
    (n d : Fin 128) :
    (kernelRun0_A.sl.v1197 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 11 d := by
  refine Eq.trans ?_ (core3 mk kernelRun0_A.sl.r_2 head_at (kernelRun0_A.sl.r_53 i) 3 2 hm c arg1 harg1 arg2 harg2 arg3 harg3 arg4 harg4 arg5 harg5 arg6 harg6 arg7 harg7 arg8 harg8 arg9 harg9 arg15 arg16 x0 x1 x2 x3 x4 x5 x6 x7 x8
    384 1024 1152 1280 1408 256 8 8 9 10 11 (by decide) (by decide) (by decide) (by decide) (by decide) (by decide) (by decide) (by decide) (by decide) (by decide) (by decide) rfl rfl rfl rfl rfl 11 rfl n d)
  refine congrFun ?_ (ix2 n d)
  rfl

/-- The tile of block 3 and head 12. -/
theorem tile_3_12
    (hm : ∀ (r : Fin 512) (k : Fin 384), (kernelRun0_A.sl.r_53 i) (ix2 r k) = 1#1 ↔ mk 3 ⟨r.val % 128, by omega⟩ k = true)
    (n d : Fin 128) :
    (kernelRun0_A.sl.v1253 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 12 d := by
  refine Eq.trans ?_ (core0 mk kernelRun0_A.sl.r_2 head_at (kernelRun0_A.sl.r_53 i) 3 3 hm c arg1 harg1 arg2 harg2 arg3 harg3 arg4 harg4 arg5 harg5 arg6 harg6 arg7 harg7 arg8 harg8 arg9 harg9 arg15 arg16 x0 x1 x2 x3 x4 x5 x6 x7 x8
    384 1536 1664 1792 1920 384 12 12 13 14 15 (by decide) (by decide) (by decide) (by decide) (by decide) (by decide) (by decide) (by decide) (by decide) (by decide) (by decide) rfl rfl rfl rfl rfl 12 rfl n d)
  refine congrFun ?_ (ix2 n d)
  rfl

/-- The tile of block 3 and head 13. -/
theorem tile_3_13
    (hm : ∀ (r : Fin 512) (k : Fin 384), (kernelRun0_A.sl.r_53 i) (ix2 r k) = 1#1 ↔ mk 3 ⟨r.val % 128, by omega⟩ k = true)
    (n d : Fin 128) :
    (kernelRun0_A.sl.v1258 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 13 d := by
  refine Eq.trans ?_ (core1 mk kernelRun0_A.sl.r_2 head_at (kernelRun0_A.sl.r_53 i) 3 3 hm c arg1 harg1 arg2 harg2 arg3 harg3 arg4 harg4 arg5 harg5 arg6 harg6 arg7 harg7 arg8 harg8 arg9 harg9 arg15 arg16 x0 x1 x2 x3 x4 x5 x6 x7 x8
    384 1536 1664 1792 1920 384 12 12 13 14 15 (by decide) (by decide) (by decide) (by decide) (by decide) (by decide) (by decide) (by decide) (by decide) (by decide) (by decide) rfl rfl rfl rfl rfl 13 rfl n d)
  refine congrFun ?_ (ix2 n d)
  rfl

/-- The tile of block 3 and head 14. -/
theorem tile_3_14
    (hm : ∀ (r : Fin 512) (k : Fin 384), (kernelRun0_A.sl.r_53 i) (ix2 r k) = 1#1 ↔ mk 3 ⟨r.val % 128, by omega⟩ k = true)
    (n d : Fin 128) :
    (kernelRun0_A.sl.v1263 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 14 d := by
  refine Eq.trans ?_ (core2 mk kernelRun0_A.sl.r_2 head_at (kernelRun0_A.sl.r_53 i) 3 3 hm c arg1 harg1 arg2 harg2 arg3 harg3 arg4 harg4 arg5 harg5 arg6 harg6 arg7 harg7 arg8 harg8 arg9 harg9 arg15 arg16 x0 x1 x2 x3 x4 x5 x6 x7 x8
    384 1536 1664 1792 1920 384 12 12 13 14 15 (by decide) (by decide) (by decide) (by decide) (by decide) (by decide) (by decide) (by decide) (by decide) (by decide) (by decide) rfl rfl rfl rfl rfl 14 rfl n d)
  refine congrFun ?_ (ix2 n d)
  rfl

/-- The tile of block 3 and head 15. -/
theorem tile_3_15
    (hm : ∀ (r : Fin 512) (k : Fin 384), (kernelRun0_A.sl.r_53 i) (ix2 r k) = 1#1 ↔ mk 3 ⟨r.val % 128, by omega⟩ k = true)
    (n d : Fin 128) :
    (kernelRun0_A.sl.v1268 (F := Ideal) c i arg1 harg1 arg2 harg2 arg3 harg3 arg4 harg4 arg5 harg5 arg6 harg6 arg7 harg7 arg8 harg8 arg9 harg9 arg15 arg16 x0 x1 x2 x3 x4 x5 x6 x7 x8) (ix2 n d)
      = attAt mk x0 x1 x2 x3 x4 x5 x6 x7 x8 3 n 15 d := by
  refine Eq.trans ?_ (core3 mk kernelRun0_A.sl.r_2 head_at (kernelRun0_A.sl.r_53 i) 3 3 hm c arg1 harg1 arg2 harg2 arg3 harg3 arg4 harg4 arg5 harg5 arg6 harg6 arg7 harg7 arg8 harg8 arg9 harg9 arg15 arg16 x0 x1 x2 x3 x4 x5 x6 x7 x8
    384 1536 1664 1792 1920 384 12 12 13 14 15 (by decide) (by decide) (by decide) (by decide) (by decide) (by decide) (by decide) (by decide) (by decide) (by decide) (by decide) rfl rfl rfl rfl rfl 15 rfl n d)
  refine congrFun ?_ (ix2 n d)
  rfl

end Cert.AttnTile
-- ==== Proof.AttnStep.lean ====
/- A step of the attention kernel: its scratch after the 64 tiles, and its output block at one entry. -/
module

public import proofs.«01_k».proof.Proof.AttnTile0
public import proofs.«01_k».proof.Proof.AttnTile1
public import proofs.«01_k».proof.Proof.AttnTile2
public import proofs.«01_k».proof.Proof.AttnTile3

@[expose] public section

set_option maxRecDepth 16384

noncomputable section

open Idealize.ShloMosaic Idealize.ShloMosaic.TcCoe Idealize.SL.Sem

namespace Cert.AttnStep

open Cert.AttnIdeal Cert.AttnIdeal.Gen Cert.AttnKernel Cert.AttnBlock Cert.AttnMask Cert.AttnTile Cert.LayerMath

/-- The keys a row of a block sees: the band of 128 either way, none before a sequence's start, none after its end. -/
def mkOf (st en : BitVec 1) (b : Fin 4) (n : Fin 128) (k : Fin 384) : Bool :=
  decide ((n.val ≤ k.val ∧ k.val ≤ n.val + 256) ∧ (b.val = 0 → st = 1#1 → 128 ≤ k.val) ∧ (b.val = 3 → en = 1#1 → k.val < 256))

/-- The first block's mask. -/
theorem mk0 (i : grid0.Coords) (r : Fin 512) (k : Fin 384) : kernelRun0_A.sl.r_3 i (ix2 r k) = 1#1 ↔
    mkOf (kernelRun0_A.sl.v25 i) (kernelRun0_A.sl.v51 i) 0 ⟨r.val % 128, by omega⟩ k = true := by
  rw [first_at, mkOf, decide_eq_true_iff]
  exact ⟨fun h => ⟨h.1, fun _ => h.2, fun h3 => absurd h3 (by decide)⟩, fun h => ⟨h.1, h.2.1 rfl⟩⟩

/-- The inner blocks' mask. -/
theorem mk1 (i : grid0.Coords) (b : Fin 4) (hb : b.val ≠ 0) (hb3 : b.val ≠ 3) (r : Fin 512) (k : Fin 384) :
    kernelRun0_A.sl.v99 (ix2 r k) = 1#1 ↔
    mkOf (kernelRun0_A.sl.v25 i) (kernelRun0_A.sl.v51 i) b ⟨r.val % 128, by omega⟩ k = true := by
  rw [band_at, mkOf, decide_eq_true_iff]
  exact ⟨fun h => ⟨h, fun h0 => absurd h0 hb, fun h3 => absurd h3 hb3⟩, fun h => h.1⟩

/-- The last block's mask. -/
theorem mk3 (i : grid0.Coords) (r : Fin 512) (k : Fin 384) : kernelRun0_A.sl.r_53 i (ix2 r k) = 1#1 ↔
    mkOf (kernelRun0_A.sl.v25 i) (kernelRun0_A.sl.v51 i) 3 ⟨r.val % 128, by omega⟩ k = true := by
  rw [last_at, mkOf, decide_eq_true_iff]
  exact ⟨fun h => ⟨h.1, fun h0 => absurd h0 (by decide), fun _ => h.2⟩, fun h => ⟨h.1, h.2.2 rfl⟩⟩

/-- The attention of a step at a row and a lane. -/
def aoAt (st en : BitVec 1) (x0 : Vec Ideal S512x2048 .bf16) (x1 : Vec Ideal S512x512 .bf16)
    (x2 x3 : Vec Ideal S128x512 .bf16) (x4 : Vec Ideal S512x512 .bf16) (x5 x6 : Vec Ideal S128x512 .bf16)
    (x7 : Vec Ideal S16x128x384 .f32) (x8 : Vec Ideal S1x16 .f32) (r : Fin 512) (l : Fin 2048) : EReal :=
  attAt (mkOf st en) x0 x1 x2 x3 x4 x5 x6 x7 x8 ⟨r.val / 128, by omega⟩ ⟨r.val % 128, by omega⟩ ⟨l.val / 128, by omega⟩
    ⟨l.val % 128, by omega⟩

variable (i : grid0.Coords)
  (c : Dev nD) (arg1 : Memref sig .tc .vmem S512x2048 .bf16) (harg1 : arg1.IsWhole)
  (arg2 : Memref sig .tc .vmem S512x512 .bf16) (harg2 : arg2.IsWhole)
  (arg3 : Memref sig .tc .vmem S128x512 .bf16) (harg3 : arg3.IsWhole) (arg4 : Memref sig .tc .vmem S128x512 .bf16)
  (harg4 : arg4.IsWhole) (arg5 : Memref sig .tc .vmem S512x512 .bf16) (harg5 : arg5.IsWhole)
  (arg6 : Memref sig .tc .vmem S128x512 .bf16) (harg6 : arg6.IsWhole) (arg7 : Memref sig .tc .vmem S128x512 .bf16)
  (harg7 : arg7.IsWhole) (arg8 : Memref sig .tc .vmem S16x128x384 .f32) (harg8 : arg8.IsWhole)
  (arg9 : Memref sig .tc .smem S1x16 .f32) (harg9 : arg9.IsWhole)
  (arg15 arg16 : Memref sig .tc .vmem S768x512 .bf16) (x0 : Vec Ideal S512x2048 .bf16)
  (x1 : Vec Ideal S512x512 .bf16) (x2 x3 : Vec Ideal S128x512 .bf16) (x4 : Vec Ideal S512x512 .bf16)
  (x5 x6 : Vec Ideal S128x512 .bf16) (x7 : Vec Ideal S16x128x384 .f32) (x8 : Vec Ideal S1x16 .f32)

/-- The scratch after the 64 tiles. -/
theorem ao_at (arg17 : Memref sig .tc .vmem S512x2048 .bf16) (r : Fin 512) (l : Fin 2048) :
    (kernelRun0_A.sl.v1269 (F := Ideal) c i arg1 harg1 arg2 harg2 arg3 harg3 arg4 harg4 arg5 harg5 arg6 harg6 arg7 harg7 arg8 harg8 arg9 harg9 arg15 arg16 arg17 x0 x1 x2 x3 x4 x5 x6 x7 x8 : Vec Ideal S512x2048 .bf16) (ix2 r l)
      = aoAt (kernelRun0_A.sl.v25 i) (kernelRun0_A.sl.v51 i) x0 x1 x2 x3 x4 x5 x6 x7 x8 r l := by
  unfold kernelRun0_A.sl.v1269
  rw [View.readCov_eq_canon']
  refine View.canon_eq_of_allAt _ _ _ (View.cover_of_tiledL (kernelRun0_A.sl.HS2_64 (F := Ideal) c i arg1 harg1 arg2 harg2 arg3 harg3 arg4 harg4 arg5 harg5 arg6 harg6 arg7 harg7 arg8 harg8 arg9 harg9 arg15 arg16 x0 x1 x2 x3 x4 x5 x6 x7 x8) S128x128.size
    (by sl_kernel_rfl) _) ?_
  have e : ((Rect.unit (s := S512x2048) ![0, 0] S512x2048.size inb_S512x2048_S512x2048_0_0).toLoadRect.idx (ix2 r l))
      = (ix2 r l : S512x2048.Idx) :=
    funext fun a => Fin.ext ((Rect.idx_unit_val _ _ _ _ a).trans (by
      revert a
      exact Fin.forall_fin_two.2 ⟨Nat.zero_add _, Nat.zero_add _⟩))
  rw [e]
  unfold kernelRun0_A.sl.HS2_64 aoAt
  exact View.allAt_cons_unit _ _ _ _ _ (tile_of (attAt (mkOf (kernelRun0_A.sl.v25 i) (kernelRun0_A.sl.v51 i)) x0 x1 x2 x3 x4 x5 x6 x7 x8) 3 15 384 1920 _ rfl rfl (tile_3_15 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 14 384 1792 _ rfl rfl (tile_3_14 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 13 384 1664 _ rfl rfl (tile_3_13 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 12 384 1536 _ rfl rfl (tile_3_12 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 11 384 1408 _ rfl rfl (tile_3_11 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 10 384 1280 _ rfl rfl (tile_3_10 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 9 384 1152 _ rfl rfl (tile_3_9 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 8 384 1024 _ rfl rfl (tile_3_8 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 7 384 896 _ rfl rfl (tile_3_7 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 6 384 768 _ rfl rfl (tile_3_6 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 5 384 640 _ rfl rfl (tile_3_5 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 4 384 512 _ rfl rfl (tile_3_4 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 3 384 384 _ rfl rfl (tile_3_3 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 2 384 256 _ rfl rfl (tile_3_2 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 1 384 128 _ rfl rfl (tile_3_1 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 3 0 384 0 _ rfl rfl (tile_3_0 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk3 i)) r l) <|
      View.allAt_cons_unit _ _ _ _ _ (tile_of (attAt (mkOf (kernelRun0_A.sl.v25 i) (kernelRun0_A.sl.v51 i)) x0 x1 x2 x3 x4 x5 x6 x7 x8) 2 15 256 1920 _ rfl rfl (tile_2_15 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 14 256 1792 _ rfl rfl (tile_2_14 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 13 256 1664 _ rfl rfl (tile_2_13 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 12 256 1536 _ rfl rfl (tile_2_12 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 11 256 1408 _ rfl rfl (tile_2_11 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 10 256 1280 _ rfl rfl (tile_2_10 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 9 256 1152 _ rfl rfl (tile_2_9 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 8 256 1024 _ rfl rfl (tile_2_8 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 7 256 896 _ rfl rfl (tile_2_7 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 6 256 768 _ rfl rfl (tile_2_6 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 5 256 640 _ rfl rfl (tile_2_5 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 4 256 512 _ rfl rfl (tile_2_4 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 3 256 384 _ rfl rfl (tile_2_3 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 2 256 256 _ rfl rfl (tile_2_2 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 1 256 128 _ rfl rfl (tile_2_1 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 2 0 256 0 _ rfl rfl (tile_2_0 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 2 (by decide) (by decide))) r l) <|
      View.allAt_cons_unit _ _ _ _ _ (tile_of (attAt (mkOf (kernelRun0_A.sl.v25 i) (kernelRun0_A.sl.v51 i)) x0 x1 x2 x3 x4 x5 x6 x7 x8) 1 15 128 1920 _ rfl rfl (tile_1_15 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 14 128 1792 _ rfl rfl (tile_1_14 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 13 128 1664 _ rfl rfl (tile_1_13 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 12 128 1536 _ rfl rfl (tile_1_12 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 11 128 1408 _ rfl rfl (tile_1_11 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 10 128 1280 _ rfl rfl (tile_1_10 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 9 128 1152 _ rfl rfl (tile_1_9 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 8 128 1024 _ rfl rfl (tile_1_8 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 7 128 896 _ rfl rfl (tile_1_7 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 6 128 768 _ rfl rfl (tile_1_6 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 5 128 640 _ rfl rfl (tile_1_5 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 4 128 512 _ rfl rfl (tile_1_4 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 3 128 384 _ rfl rfl (tile_1_3 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 2 128 256 _ rfl rfl (tile_1_2 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 1 128 128 _ rfl rfl (tile_1_1 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 1 0 128 0 _ rfl rfl (tile_1_0 (mkOf (kernelRun0_A.sl.v25 i) (kernelRun0_A.sl.v51 i)) c arg1 harg1 arg2 harg2 arg3 harg3 arg4 harg4 arg5 harg5 arg6 harg6 arg7 harg7 arg8 harg8 arg9 harg9 arg15 arg16 x0 x1 x2 x3 x4 x5 x6 x7 x8 (mk1 i 1 (by decide) (by decide))) r l) <|
      View.allAt_cons_unit _ _ _ _ _ (tile_of (attAt (mkOf (kernelRun0_A.sl.v25 i) (kernelRun0_A.sl.v51 i)) x0 x1 x2 x3 x4 x5 x6 x7 x8) 0 15 0 1920 _ rfl rfl (tile_0_15 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 14 0 1792 _ rfl rfl (tile_0_14 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 13 0 1664 _ rfl rfl (tile_0_13 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 12 0 1536 _ rfl rfl (tile_0_12 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 11 0 1408 _ rfl rfl (tile_0_11 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 10 0 1280 _ rfl rfl (tile_0_10 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 9 0 1152 _ rfl rfl (tile_0_9 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 8 0 1024 _ rfl rfl (tile_0_8 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 7 0 896 _ rfl rfl (tile_0_7 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 6 0 768 _ rfl rfl (tile_0_6 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 5 0 640 _ rfl rfl (tile_0_5 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 4 0 512 _ rfl rfl (tile_0_4 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 3 0 384 _ rfl rfl (tile_0_3 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 2 0 256 _ rfl rfl (tile_0_2 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 1 0 128 _ rfl rfl (tile_0_1 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_cons_unit _ _ _ _ _ (tile_of (attAt (mkOf (kernelRun0_A.sl.v25 i) (kernelRun0_A.sl.v51 i)) x0 x1 x2 x3 x4 x5 x6 x7 x8) 0 0 0 0 _ rfl rfl (tile_0_0 (mkOf (kernelRun0_A.sl.v25 i) (kernelRun0_A.sl.v51 i)) i c arg1 harg1 arg2 harg2 arg3 harg3 arg4 harg4 arg5 harg5 arg6 harg6 arg7 harg7 arg8 harg8 arg9 harg9 arg15 arg16 x0 x1 x2 x3 x4 x5 x6 x7 x8 (mk0 i)) r l) <|
      View.allAt_nil _ _

/-- The output block of a step: the attention's projection, the residual sum and the norm. -/
theorem out_step  (arg10 : Memref sig .tc .vmem S512x2048 .f32) (harg10 : arg10.IsWhole) (arg11 : Memref sig .tc .vmem S2048x2048 .bf16)
    (harg11 : arg11.IsWhole) (arg12 : Memref sig .tc .vmem S1x2048 .f32) (harg12 : arg12.IsWhole)
    (arg13 : Memref sig .tc .vmem S1x2048 .f32) (harg13 : arg13.IsWhole) (arg14 : Memref sig .tc .vmem S512x2048 .f32)
    (harg14 : arg14.IsWhole) (harg15 : arg15.IsWhole) (harg16 : arg16.IsWhole)
    (arg17 : Memref sig .tc .vmem S512x2048 .bf16) (harg17 : arg17.IsWhole) (x9 : Vec Ideal S512x2048 .f32)
    (x10 : Vec Ideal S2048x2048 .bf16) (x11 x12 : Vec Ideal S1x2048 .f32) (r : Fin 512) (l : Fin 2048) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix2 r l)
      = lnAt (fun k => resid (x9 (ix2 r k)) (∑ j : Fin 2048,
          aoAt (kernelRun0_A.sl.v25 i) (kernelRun0_A.sl.v51 i) x0 x1 x2 x3 x4 x5 x6 x7 x8 r j * x10 (ix2 j k))) l (x11 (ix2 0 l)) (x12 (ix2 0 l)) := by
  have e0 : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12).1
      = [⟨Rect.unit (s := S512x2048) ![0, 0] S512x2048.size inb_S512x2048_S512x2048_0_0,
          k0_pay1 (kernelRun0_A.sl.r_68 c arg12 harg12 x11) (kernelRun0_A.sl.r_69 c arg13 harg13 x12)
            (kernelRun0_A.sl.r_70 c i arg1 harg1 arg2 harg2 arg3 harg3 arg4 harg4 arg5 harg5 arg6 harg6 arg7 harg7 arg8 harg8 arg9 harg9 arg10 harg10 arg11 harg11 arg15 arg16 arg17 x0 x1 x2 x3 x4 x5 x6 x7 x8 x9 x10)
            (kernelRun0_A.sl.r_71 c i arg1 harg1 arg2 harg2 arg3 harg3 arg4 harg4 arg5 harg5 arg6 harg6 arg7 harg7 arg8 harg8 arg9 harg9 arg10 harg10 arg11 harg11 arg15 arg16 arg17 x0 x1 x2 x3 x4 x5 x6 x7 x8 x9 x10)⟩] := rfl
  have e1 : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
      = k0_pay1 (k0_pay147 x11) (k0_pay148 x12)
          (k0_pay149 (k0_pay146 (kernelRun0_A.sl.v1269 c i arg1 harg1 arg2 harg2 arg3 harg3 arg4 harg4 arg5 harg5 arg6 harg6 arg7 harg7 arg8 harg8 arg9 harg9 arg15 arg16 arg17 x0 x1 x2 x3 x4 x5 x6 x7 x8) x10) x9)
          (k0_pay150 (k0_pay146 (kernelRun0_A.sl.v1269 c i arg1 harg1 arg2 harg2 arg3 harg3 arg4 harg4 arg5 harg5 arg6 harg6 arg7 harg7 arg8 harg8 arg9 harg9 arg15 arg16 arg17 x0 x1 x2 x3 x4 x5 x6 x7 x8) x10) x9) := by
    unfold out0_A_13
    rw [e0]
    have e2 : kernelRun0_A.sl.v1272 c i arg1 harg1 arg2 harg2 arg3 harg3 arg4 harg4 arg5 harg5 arg6 harg6 arg7 harg7 arg8 harg8 arg9 harg9 arg11 harg11 arg15 arg16 arg17 x0 x1 x2 x3 x4 x5 x6 x7 x8 x10
        = k0_pay146 (kernelRun0_A.sl.v1269 c i arg1 harg1 arg2 harg2 arg3 harg3 arg4 harg4 arg5 harg5 arg6 harg6 arg7 harg7 arg8 harg8 arg9 harg9 arg15 arg16 arg17 x0 x1 x2 x3 x4 x5 x6 x7 x8)
          (View.readAt (Elt Ideal) arg11.view (Rect.unit (s := S2048x2048) ![0, 0] S2048x2048.size (by decide)).toLoadRect (harg11.unread x10)) := rfl
    unfold kernelRun0_A.sl.r_68 kernelRun0_A.sl.r_69 kernelRun0_A.sl.r_70 kernelRun0_A.sl.r_71
    rw [e2]
    generalize kernelRun0_A.sl.v1269 c i arg1 harg1 arg2 harg2 arg3 harg3 arg4 harg4 arg5 harg5 arg6 harg6 arg7 harg7 arg8 harg8 arg9 harg9 arg15 arg16 arg17 x0 x1 x2 x3 x4 x5 x6 x7 x8 = ao
    frame_out
  rw [e1, out_at]
  refine congrArg (fun f => lnAt f l _ _) (funext fun k => congrArg (resid _) (Finset.sum_congr rfl fun j _ => ?_))
  exact congrArg (· * _) (ao_at i c arg1 harg1 arg2 harg2 arg3 harg3 arg4 harg4 arg5 harg5 arg6 harg6 arg7 harg7 arg8 harg8 arg9 harg9 arg15 arg16 x0 x1 x2 x3 x4 x5 x6 x7 x8 arg17 r j)

end Cert.AttnStep
-- ==== Proof.AttnPure.lean ====
/- The packed sliding-window attention with sinks, as a function of its arguments: the mask of the packed sequences, the
   softmax row of a head, and the layer's output. -/
module

public import proofs.«01_k».proof.AttnIdeal
public import proofs.«01_k».proof.Proof.LayerMath
public import proofs.«01_k».proof.Proof.AttnSoft

@[expose] public section

noncomputable section

open Idealize.ShloMosaic Idealize.ShloMosaic.TcCoe Idealize.SL.Sem Cert.LayerMath Cert.AttnSoft

namespace Cert.AttnPure

open Cert.AttnIdeal

/-- The first block of the sequence that holds block `b`: the prompt's 64 blocks, then samples of 16 blocks. -/
def firstB (b : ℕ) : ℕ := if b < 64 then 0 else 64 + 16 * ((b - 64) / 16)

/-- The first block after that sequence. -/
def lastB (b : ℕ) : ℕ := if b < 64 then 64 else 64 + 16 * ((b - 64) / 16) + 16

/-- Row `n` of block `b` sees key `k` of the 384 around its block: within 128 either way, in its own sequence. -/
def sees (b n k : ℕ) : Prop :=
  (n ≤ k ∧ k ≤ n + 256) ∧ 128 * firstB b + 128 ≤ 128 * b + k ∧ 128 * b + k < 128 * lastB b + 128

instance (b n k : ℕ) : Decidable (sees b n k) := by unfold sees; infer_instance

/-- Row `r - 128` of an array of rows, zero outside it. -/
def rowAt (a : FVec Ideal S16384x512 .bf16) (r : ℕ) (j : Fin 512) : EReal :=
  if h : 128 ≤ r ∧ r < 16512 then a (ix2 ⟨r - 128, by omega⟩ j) else 0

/-- The logits of row `R` and head `h`. -/
def logits (q : FVec Ideal S16384x2048 .bf16) (k : FVec Ideal S16384x512 .bf16) (b : FVec Ideal S16x128x384 .f32)
    (R : Fin 16384) (h : Fin 16) (c : Fin 384) : EReal :=
  if sees (R.val / 128) (R.val % 128) c.val then
    (∑ e : Fin 128, q (ix2 R ⟨128 * h.val + e.val, by omega⟩) * rowAt k (128 * (R.val / 128) + c.val) ⟨128 * (h.val / 4) + e.val, by omega⟩)
      + b (ix3 h ⟨R.val % 128, by omega⟩ c)
  else ⊥

/-- The attention of row `R`, head `h`, lane `d`, the weights as products with the denominator's reciprocal. -/
def attMul (q : FVec Ideal S16384x2048 .bf16) (k v : FVec Ideal S16384x512 .bf16) (b : FVec Ideal S16x128x384 .f32)
    (s : FVec Ideal S16 .f32) (R : Fin 16384) (h : Fin 16) (d : Fin 128) : EReal :=
  softMul (logits q k b R h) (s (ix1 h)) (fun c => rowAt v (128 * (R.val / 128) + c.val) ⟨128 * (h.val / 4) + d.val, by omega⟩)

/-- The same, the weights as quotients. -/
def attDiv (q : FVec Ideal S16384x2048 .bf16) (k v : FVec Ideal S16384x512 .bf16) (b : FVec Ideal S16x128x384 .f32)
    (s : FVec Ideal S16 .f32) (R : Fin 16384) (h : Fin 16) (d : Fin 128) : EReal :=
  softDiv (logits q k b R h) (s (ix1 h)) (fun c => rowAt v (128 * (R.val / 128) + c.val) ⟨128 * (h.val / 4) + d.val, by omega⟩)

/-- The layer's output over an attention `a`: its projection, the residual sum and the norm. -/
def out (a : Fin 16384 → Fin 16 → Fin 128 → EReal) (x : FVec Ideal S16384x2048 .f32) (w : FVec Ideal S2048x2048 .f32)
    (g b : FVec Ideal S2048 .f32) (R : Fin 16384) (l : Fin 2048) : EReal :=
  lnAt (fun k => resid (x (ix2 R k)) (∑ j : Fin 2048, a R ⟨j.val / 128, by omega⟩ ⟨j.val % 128, by omega⟩ * w (ix2 j k))) l
    (g (ix1 l)) (b (ix1 l))

/-- A softmax row depends on the values only where its logits are not minus infinity. -/
theorem soft_congr (lg lg' : Fin 384 → EReal) (s : EReal) (v v' : Fin 384 → EReal) (hl : ∀ c, lg c = lg' c)
    (hv : ∀ c, lg' c ≠ ⊥ → v c = v' c) : softMul lg s v = softMul lg' s v' := by
  rw [show lg = lg' from funext hl]
  unfold softMul
  refine Finset.sum_congr rfl fun c _ => ?_
  by_cases h : lg' c = ⊥
  · rw [h, exp_bot_sub, zero_mul, zero_mul, zero_mul]
  · rw [hv c h]

end Cert.AttnPure
-- ==== Proof.AttnValue.lean ====
/- The attention kernel's result array as one function of its arguments. -/
module

public import proofs.«01_k».proof.Proof.AttnStep
public import proofs.«01_k».proof.Proof.AttnPure
public import proofs.«01_k».proof.Proof.Gen.AttnIdeal.Value
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AttnValue

open Cert.AttnIdeal Cert.AttnIdeal.Gen Cert.AttnIdeal.Value Cert.AttnBlock Cert.AttnMask Cert.AttnStep Cert.AttnSoft
  Cert.AttnPure Cert.LayerMath

variable (m : (ℓ : Loc nD τ sig) → Buf (Elt Ideal) ℓ)

/-- The block of each window at a grid point. -/
theorem idx : ∀ t : Fin cfg0.N, win0_0.index t = ![t.val, 0] ∧ win0_1.index t = ![t.val, 0]
    ∧ win0_2.index t = ![4 * t.val - 1, 0] ∧ win0_3.index t = ![min (4 * (t.val + 1)) 127, 0] ∧ win0_4.index t = ![t.val, 0]
    ∧ win0_5.index t = ![4 * t.val - 1, 0] ∧ win0_6.index t = ![min (4 * (t.val + 1)) 127, 0]
    ∧ win0_7.index t = ![0, 0, 0] ∧ win0_8.index t = ![0, 0] ∧ win0_9.index t = ![t.val, 0]
    ∧ win0_10.index t = ![0, 0] ∧ win0_11.index t = ![0, 0] ∧ win0_12.index t = ![0, 0] ∧ win0_13.index t = ![t.val, 0] :=
  (by decide +kernel : ∀ t : Fin grid0.N, _)

/-- The queries. -/
abbrev Q (c : Dev nD) : FVec Ideal S16384x2048 .bf16 := m ((c : Thread nD τ).loc main_arg0)
/-- The keys. -/
abbrev K (c : Dev nD) : FVec Ideal S16384x512 .bf16 := m ((c : Thread nD τ).loc main_arg1)
/-- The values. -/
abbrev VA (c : Dev nD) : FVec Ideal S16384x512 .bf16 := m ((c : Thread nD τ).loc main_arg2)
/-- The biases. -/
abbrev B (c : Dev nD) : FVec Ideal S16x128x384 .f32 := m ((c : Thread nD τ).loc main_arg3)
/-- The sinks. -/
abbrev S (c : Dev nD) : FVec Ideal S16 .f32 := m ((c : Thread nD τ).loc main_arg4)
/-- The rows of the residual stream. -/
abbrev X (c : Dev nD) : FVec Ideal S16384x2048 .f32 := m ((c : Thread nD τ).loc main_arg5)
/-- The output projection. -/
abbrev WO (c : Dev nD) : FVec Ideal S2048x2048 .f32 := m ((c : Thread nD τ).loc main_arg6)
/-- The norm's scale. -/
abbrev GA (c : Dev nD) : FVec Ideal S2048 .f32 := m ((c : Thread nD τ).loc main_arg7)
/-- The norm's shift. -/
abbrev BE (c : Dev nD) : FVec Ideal S2048 .f32 := m ((c : Thread nD τ).loc main_arg8)

/-- Row `r` of step `t`. -/
abbrev row (t : Fin cfg0.N) (r : Fin 512) : Fin 16384 := ⟨512 * t.val + r.val, by have : t.val < 32 := t.isLt; omega⟩

/-- The queries' block. -/
theorem blk0 (c : Dev nD) (t : Fin cfg0.N) (r : Fin 512) (l : Fin 2048) :
    iblk m c 0 t (ix2 r l) = Q m c (ix2 (row t r) l) := by
  blk_ext [iblk, V, idx t]

/-- The keys' block. -/
theorem blk1 (c : Dev nD) (t : Fin cfg0.N) (r : Fin 512) (l : Fin 512) :
    iblk m c 1 t (ix2 r l) = K m c (ix2 (row t r) l) := by
  blk_ext [iblk, V, idx t]

/-- The keys before the block. -/
theorem blk2 (c : Dev nD) (t : Fin cfg0.N) (r : Fin 128) (l : Fin 512) :
    iblk m c 2 t (ix2 r l) = K m c (ix2 ⟨128 * (4 * t.val - 1) + r.val, by have : t.val < 32 := t.isLt; omega⟩ l) := by
  blk_ext [iblk, V, idx t]

/-- The keys after the block. -/
theorem blk3 (c : Dev nD) (t : Fin cfg0.N) (r : Fin 128) (l : Fin 512) :
    iblk m c 3 t (ix2 r l) = K m c (ix2 ⟨128 * (min (4 * (t.val + 1)) 127) + r.val, by have : t.val < 32 := t.isLt; omega⟩ l) := by
  blk_ext [iblk, V, idx t]

/-- The values' block. -/
theorem blk4 (c : Dev nD) (t : Fin cfg0.N) (r : Fin 512) (l : Fin 512) :
    iblk m c 4 t (ix2 r l) = VA m c (ix2 (row t r) l) := by
  blk_ext [iblk, V, idx t]

/-- The values before the block. -/
theorem blk5 (c : Dev nD) (t : Fin cfg0.N) (r : Fin 128) (l : Fin 512) :
    iblk m c 5 t (ix2 r l) = VA m c (ix2 ⟨128 * (4 * t.val - 1) + r.val, by have : t.val < 32 := t.isLt; omega⟩ l) := by
  blk_ext [iblk, V, idx t]

/-- The values after the block. -/
theorem blk6 (c : Dev nD) (t : Fin cfg0.N) (r : Fin 128) (l : Fin 512) :
    iblk m c 6 t (ix2 r l) = VA m c (ix2 ⟨128 * (min (4 * (t.val + 1)) 127) + r.val, by have : t.val < 32 := t.isLt; omega⟩ l) := by
  blk_ext [iblk, V, idx t]

/-- The biases' block. -/
theorem blk7 (c : Dev nD) (t : Fin cfg0.N) (h : Fin 16) (n : Fin 128) (k : Fin 384) :
    iblk m c 7 t (ix3 h n k) = B m c (ix3 h n k) := by
  blk_ext [iblk, V, idx t]

/-- The sinks' block. -/
theorem blk8 (c : Dev nD) (t : Fin cfg0.N) (h : Fin 16) : iblk m c 8 t (ix2 0 h) = S m c (ix1 h) := by
  blk_simp [iblk]
  entry_read
  pointwise
  blk_ext [idx t]

/-- The residual stream's block. -/
theorem blk9 (c : Dev nD) (t : Fin cfg0.N) (r : Fin 512) (l : Fin 2048) :
    iblk m c 9 t (ix2 r l) = X m c (ix2 (row t r) l) := by
  blk_ext [iblk, V, idx t]

/-- The output projection's block. -/
theorem blk10 (c : Dev nD) (t : Fin cfg0.N) (j l : Fin 2048) : iblk m c 10 t (ix2 j l) = WO m c (ix2 j l) := by
  blk_simp [iblk]
  entry_read
  pointwise
  blk_ext [idx t]

/-- The scale's block. -/
theorem blk11 (c : Dev nD) (t : Fin cfg0.N) (l : Fin 2048) : iblk m c 11 t (ix2 0 l) = GA m c (ix1 l) := by
  blk_simp [iblk]
  entry_read
  pointwise
  blk_ext [idx t]

/-- The shift's block. -/
theorem blk12 (c : Dev nD) (t : Fin cfg0.N) (l : Fin 2048) : iblk m c 12 t (ix2 0 l) = BE m c (ix1 l) := by
  blk_simp [iblk]
  entry_read
  pointwise
  blk_ext [idx t]

/-- A window of the keys is the packed keys shifted by a block, where no end of the rows is passed. -/
theorem winK (c : Dev nD) (t : Fin cfg0.N) (r : ℕ) (hr : r < 768) (h0 : t.val = 0 → 128 ≤ r) (h1 : t.val = 31 → r < 640)
    (j : Fin 512) : win (iblk m c 1 t) (iblk m c 2 t) (iblk m c 3 t) r j = rowAt (K m c) (512 * t.val + r) j := by
  have ht : t.val < 32 := t.isLt
  rw [rowAt, dif_pos (by omega), win]
  by_cases a1 : r < 128
  · rw [dif_pos a1, blk2 m c t]
    exact congrArg (fun x => K m c (ix2 x j)) (Fin.ext (by show 128 * (4 * t.val - 1) + r = 512 * t.val + r - 128; omega))
  · by_cases a2 : r < 640
    · rw [dif_neg a1, dif_pos a2, blk1 m c t]
      exact congrArg (fun x => K m c (ix2 x j)) (Fin.ext (by show 512 * t.val + (r - 128) = 512 * t.val + r - 128; omega))
    · rw [dif_neg a1, dif_neg a2, dif_pos hr, blk3 m c t]
      exact congrArg (fun x => K m c (ix2 x j)) (Fin.ext (by show 128 * min (4 * (t.val + 1)) 127 + (r - 640) = 512 * t.val + r - 128; omega))

/-- A window of the values, likewise. -/
theorem winV (c : Dev nD) (t : Fin cfg0.N) (r : ℕ) (hr : r < 768) (h0 : t.val = 0 → 128 ≤ r) (h1 : t.val = 31 → r < 640)
    (j : Fin 512) : win (iblk m c 4 t) (iblk m c 5 t) (iblk m c 6 t) r j = rowAt (VA m c) (512 * t.val + r) j := by
  have ht : t.val < 32 := t.isLt
  rw [rowAt, dif_pos (by omega), win]
  by_cases a1 : r < 128
  · rw [dif_pos a1, blk5 m c t]
    exact congrArg (fun x => VA m c (ix2 x j)) (Fin.ext (by show 128 * (4 * t.val - 1) + r = 512 * t.val + r - 128; omega))
  · by_cases a2 : r < 640
    · rw [dif_neg a1, dif_pos a2, blk4 m c t]
      exact congrArg (fun x => VA m c (ix2 x j)) (Fin.ext (by show 512 * t.val + (r - 128) = 512 * t.val + r - 128; omega))
    · rw [dif_neg a1, dif_neg a2, dif_pos hr, blk6 m c t]
      exact congrArg (fun x => VA m c (ix2 x j)) (Fin.ext (by show 128 * min (4 * (t.val + 1)) 127 + (r - 640) = 512 * t.val + r - 128; omega))

/-- A step's mask is the mask of the packed sequences. -/
theorem mask_eq (t : Fin cfg0.N) (b : Fin 4) (n : Fin 128) (k : Fin 384) :
    mkOf (kernelRun0_A.sl.v25 (grid0.coords t)) (kernelRun0_A.sl.v51 (grid0.coords t)) b n k = true
      ↔ sees (4 * t.val + b.val) n.val k.val := by
  have ht : t.val < 32 := t.isLt
  have hb := b.isLt
  have hk := k.isLt
  rw [mkOf, decide_eq_true_iff, start_at t, end_at t]
  unfold sees firstB lastB
  split_ifs <;> omega

/-- The attention of a step at a row and a lane, over the arguments. -/
theorem ao_eq (c : Dev nD) (t : Fin cfg0.N) (r : Fin 512) (l : Fin 2048) :
    aoAt (kernelRun0_A.sl.v25 (grid0.coords t)) (kernelRun0_A.sl.v51 (grid0.coords t)) (iblk m c 0 t) (iblk m c 1 t)
        (iblk m c 2 t) (iblk m c 3 t) (iblk m c 4 t) (iblk m c 5 t) (iblk m c 6 t) (iblk m c 7 t) (iblk m c 8 t) r l
      = attMul (Q m c) (K m c) (VA m c) (B m c) (S m c) (row t r) ⟨l.val / 128, by omega⟩ ⟨l.val % 128, by omega⟩ := by
  have ht : t.val < 32 := t.isLt
  have hd : (512 * t.val + r.val) / 128 = 4 * t.val + r.val / 128 := by omega
  have hm : (512 * t.val + r.val) % 128 = r.val % 128 := by omega
  unfold aoAt attAt attMul logits
  rw [blk8 m c t]
  have key : ∀ k : Fin 384, mkOf (kernelRun0_A.sl.v25 (grid0.coords t)) (kernelRun0_A.sl.v51 (grid0.coords t))
      ⟨r.val / 128, by omega⟩ ⟨r.val % 128, by omega⟩ k = true ↔ sees ((512 * t.val + r.val) / 128) ((512 * t.val + r.val) % 128) k.val := by
    intro k
    rw [hd, hm]
    exact mask_eq t ⟨r.val / 128, by omega⟩ ⟨r.val % 128, by omega⟩ k
  have lo : ∀ k : Fin 384, sees ((512 * t.val + r.val) / 128) ((512 * t.val + r.val) % 128) k.val →
      (t.val = 0 → 128 ≤ 128 * (r.val / 128) + k.val) ∧ (t.val = 31 → 128 * (r.val / 128) + k.val < 640) := by
    intro k hs
    have hk := k.isLt
    have hr := r.isLt
    rw [hd, hm] at hs
    unfold sees firstB lastB at hs
    obtain ⟨_, h1, h2⟩ := hs
    split_ifs at h1 h2 <;> omega
  refine (soft_congr _ _ _ _ _ (fun k => ?_) (fun k hk => ?_))
  · by_cases hs : sees ((512 * t.val + r.val) / 128) ((512 * t.val + r.val) % 128) k.val
    · rw [if_pos ((key k).2 hs), if_pos hs, blk7 m c t]
      have hbm : (⟨r.val % 128, by omega⟩ : Fin 128) = ⟨(512 * t.val + r.val) % 128, by omega⟩ := Fin.ext hm.symm
      rw [hbm]
      refine congrArg (· + _) (Finset.sum_congr rfl fun e _ => ?_)
      rw [blk0 m c t, winK m c t _ (by have := k.isLt; have := r.isLt; show 128 * (r.val / 128) + k.val < 768; omega) (lo k hs).1 (lo k hs).2]
      refine congrArg₂ (· * ·) (congrArg (fun x => Q m c (ix2 x _)) (Fin.ext ?_)) ?_
      · show 512 * t.val + (128 * (r.val / 128) + (512 * t.val + r.val) % 128) = 512 * t.val + r.val
        omega
      exact congrArg (fun x => rowAt (K m c) x _) (by show 512 * t.val + (128 * (r.val / 128) + k.val) = 128 * ((512 * t.val + r.val) / 128) + k.val; omega)
    · rw [if_neg fun x => hs ((key k).1 x), if_neg hs]
  · have hs : sees ((512 * t.val + r.val) / 128) ((512 * t.val + r.val) % 128) k.val := by
      by_contra hn
      exact hk (if_neg hn)
    rw [winV m c t _ (by have := k.isLt; have := r.isLt; show 128 * (r.val / 128) + k.val < 768; omega) (lo k hs).1 (lo k hs).2]
    exact congrArg (fun x => rowAt (VA m c) x _) (by show 512 * t.val + (128 * (r.val / 128) + k.val) = 128 * ((512 * t.val + r.val) / 128) + k.val; omega)

/-- The result array: the attention block of the arguments. -/
def G (c : Dev nD) : Buf (Elt Ideal) ((c : Thread nD τ).loc main_v4) := fun (i : S16384x2048.Idx) =>
  out (attMul (Q m c) (K m c) (VA m c) (B m c) (S m c)) (X m c) (WO m c) (GA m c) (BE m c) (i 0) (i 1)

/-- What a step leaves in the output. -/
theorem step_at (c : Dev nD) (t : Fin cfg0.N) (r : Fin 512) (l : Fin 2048) :
    outsAt0 m c t (ix2 r l)
      = out (attMul (Q m c) (K m c) (VA m c) (B m c) (S m c)) (X m c) (WO m c) (GA m c) (BE m c) (row t r) l := by
  unfold outsAt0
  rw [out_step, blk11 m c t, blk12 m c t]
  unfold out
  refine congrArg (fun f => lnAt f l _ _) (funext fun k => ?_)
  rw [blk9 m c t]
  refine congrArg (resid _) (Finset.sum_congr rfl fun j _ => ?_)
  rw [ao_eq m c t r j, blk10 m c t]

/-- The result array after the run. -/
theorem final (c : Dev nD) : (dats m 0 c).arrAt 13 cfg0.N = G m c := by
  refine (dats m 0 c).arrAt_eq_of_covers 13 _ (by decide +kernel) fun t hf y => ?_
  blk_simp
  rw [after0_13]
  suffices key : ∀ i : S512x2048.Idx, outsAt0 m c t i = G m c ((win0_13.blk t).view.emb i) from key y
  intro i
  idx_vars i
  rw [step_at m c t i0 i1]
  unfold G
  refine congrArg₂ (out _ (X m c) (WO m c) (GA m c) (BE m c)) (Fin.ext ?_) (Fin.ext ?_)
  · blk_simp [idx t]
    show 512 * t.val + i0.val = _
    omega
  · blk_simp [idx t]

end Cert.AttnValue
-- ==== Proof.AttnRef.lean ====
/- The attention reference, read at one entry: its mask, its key and value windows, its softmax and its output. -/
module

public import proofs.«01_k».proof.Proof.AttnPure
public import proofs.«01_k».proof.Proof.Gen.AttnRefIdeal.Read

@[expose] public section

set_option maxRecDepth 16384

noncomputable section

open Idealize.ShloMosaic Idealize.ShloMosaic.TcCoe Idealize.SL.Sem Cert.LayerMath Cert.AttnSoft Cert.AttnPure

namespace Cert.AttnRef

open Cert.AttnRefIdeal Cert.AttnRefIdeal.Gen Cert.AttnRefIdeal.Read

/-- The first block of a block's sequence. -/
theorem first_at : ∀ b : Fin 128, val_main_v18 (F := Ideal) (ix2 b 0) = BitVec.ofNat 32 (firstB b.val) := by
  decide +kernel

/-- The first row of a block's sequence. -/
theorem lo_at : ∀ b : Fin 128, val_main_v32 (F := Ideal) (ix2 b 0) = BitVec.ofInt 32 (128 * firstB b.val : ℕ) := by
  decide +kernel

/-- The row after a block's sequence. -/
theorem hi_at : ∀ b : Fin 128, val_main_v36 (F := Ideal) (ix2 b 0) = BitVec.ofInt 32 (128 * lastB b.val : ℕ) := by
  decide +kernel

/-- The first row of the block before. -/
theorem base_at : ∀ b : Fin 128, val_main_v27 (F := Ideal) (ix2 b 0) = BitVec.ofInt 32 (128 * (b.val : ℤ) - 128) := by
  decide +kernel

/-- A signed word of a small integer. -/
theorem toInt_small (n : ℤ) (h : -100000 < n ∧ n < 100000) : (BitVec.ofInt 32 n).toInt = n := by
  rw [BitVec.toInt_ofInt]
  exact Int.bmod_eq_of_le (by omega) (by omega)

/-- The row of a key of a block's window. -/
theorem key_at (b : Fin 128) (c : Fin 384) :
    val_main_v30 (F := Ideal) (ix2 b c) = BitVec.ofInt 32 (128 * (b.val : ℤ) - 128 + c.val) := by
  have h := base_at b
  pointwise [val_main_v30, val_main_v28, val_main_v29, val_main_v3, val_main_v2, h]
  rw [BitVec.ofInt_add, BitVec.ofInt_natCast]
  rfl

/-- The band, by the distance. -/
theorem dist_at : ∀ m : Fin 512, (IntOp.cmpi .sle (IntOp.absi (BitVec.ofNat 32 m.val - 256#32)) 128#32 = 1#1) ↔ 128 ≤ m.val ∧ m.val ≤ 384 := by
  decide +kernel

/-- The band. -/
theorem band_at (n : Fin 128) (c : Fin 384) :
    val_main_v11 (F := Ideal) (ix2 n c) = 1#1 ↔ n.val ≤ c.val ∧ c.val ≤ n.val + 256 := by
  have e2 : BitVec.ofNat 32 c.val - 128#32 - BitVec.ofNat 32 n.val = BitVec.ofNat 32 (c.val + 128 - n.val) - 256#32 := by
    have hk := c.isLt
    have hn := n.isLt
    apply BitVec.eq_of_toNat_eq
    simp only [BitVec.toNat_sub, BitVec.toNat_ofNat]
    omega
  have e3 := dist_at ⟨c.val + 128 - n.val, by have := c.isLt; omega⟩
  rw [← e2] at e3
  have e0 : val_main_v11 (F := Ideal) (ix2 n c) = IntOp.cmpi .sle (IntOp.absi (BitVec.ofNat 32 c.val - 128#32 - BitVec.ofNat 32 n.val)) 128#32 := rfl
  rw [e0, e3]
  show 128 ≤ c.val + 128 - n.val ∧ c.val + 128 - n.val ≤ 384 ↔ _
  omega

/-- The bounds of a block's sequence stay small. -/
theorem bounds : ∀ b : Fin 128, firstB b.val < 129 ∧ lastB b.val < 129 := by
  decide +kernel

/-- The mask of the packed sequences. -/
theorem seq_at (b : Fin 128) (c : Fin 384) :
    val_main_v39 (F := Ideal) (ix2 b c) = 1#1 ↔
      128 * firstB b.val + 128 ≤ 128 * b.val + c.val ∧ 128 * b.val + c.val < 128 * lastB b.val + 128 := by
  have h1 := lo_at b
  have h2 := hi_at b
  have h3 := key_at b c
  have e1 : val_main_v33 (F := Ideal) (ix2 b c) = val_main_v32 (F := Ideal) (ix2 b 0) := by
    pointwise [val_main_v33]
  have e2 : val_main_v37 (F := Ideal) (ix2 b c) = val_main_v36 (F := Ideal) (ix2 b 0) := by
    pointwise [val_main_v37]
  have hb := bounds b
  have hbl := b.isLt
  have hcl := c.isLt
  rw [val_main_v39_apply, IntOp.andi_eq_one, val_main_v34_apply, val_main_v38_apply, IntOp.cmpi_sge, IntOp.cmpi_slt,
    e1, e2, h1, h2, h3, toInt_small _ (by omega), toInt_small _ (by omega), toInt_small _ (by omega)]
  omega

/-- The whole mask. -/
theorem mask_at (b n : Fin 128) (c : Fin 384) :
    val_main_v44 (F := Ideal) (ix3 b n c) = 1#1 ↔ sees b.val n.val c.val := by
  have e1 : val_main_v42 (F := Ideal) (ix3 b n c) = val_main_v11 (F := Ideal) (ix2 n c) := by
    pointwise [val_main_v42, val_main_v40]
  have e2 : val_main_v43 (F := Ideal) (ix3 b n c) = val_main_v39 (F := Ideal) (ix2 b c) := by
    pointwise [val_main_v43, val_main_v41]
  rw [val_main_v44_apply, IntOp.andi_eq_one, e1, e2, band_at, seq_at]
  rfl

/-- A row of the padded keys. -/
theorem pad_at (x : FVec Ideal S16384x512 .bf16) (r : Fin 16640) (h : Fin 4) (d : Fin 128) :
    val_main_v49 (F := Ideal) x (ix3 r h d) = rowAt x r.val ⟨128 * h.val + d.val, by omega⟩ := by
  unfold rowAt
  pointwise [val_main_v49, val_main_v48, val_main_v47, val_main_call2_v0, val_main_c_11]
  have e0 : (FloatOps.sitofp (F := Ideal) .f32 0#32 : EReal) = 0 := by simp [FloatOps.sitofp]
  rw [e0]
  by_cases hr : 128 ≤ r.val ∧ r.val < 16512
  · rw [dif_pos hr, dif_pos ⟨hr.1, by omega⟩]
    exact congrArg (fun j => x (ix2 _ j)) (Fin.ext (by show h.val * 128 + d.val = 128 * h.val + d.val; omega))
  · rw [dif_neg hr, dif_neg (by omega)]

/-- An entry of a block's key window. -/
theorem win_at (x : FVec Ideal S16384x512 .bf16) (b : Fin 128) (c : Fin 384) (h : Fin 4) (d : Fin 128) :
    val_main_v54 (F := Ideal) x (ix4 b c h d) = rowAt x (128 * b.val + c.val) ⟨128 * h.val + d.val, by omega⟩ := by
  have hp := pad_at x
  generalize hy : val_main_v49 (F := Ideal) x = y at hp
  pointwise [val_main_v54, val_main_v53, val_main_v52, val_main_v51, val_main_v50, hy, hp]
  split
  · exact congrArg (fun r => rowAt x r _) (by omega)
  · split
    · exact congrArg (fun r => rowAt x r _) (by omega)
    · exact congrArg (fun r => rowAt x r _) (by omega)

/-- The value windows are made as the key windows. -/
theorem win_eq (x : FVec Ideal S16384x512 .bf16) : val_main_v62 (F := Ideal) x = val_main_v54 (F := Ideal) x := rfl

/-- The query window at an entry. -/
theorem query_at (x : FVec Ideal S16384x2048 .bf16) (b n : Fin 128) (h g : Fin 4) (d : Fin 128) :
    val_main_v46 (F := Ideal) x (ix5 b n h g d)
      = x (ix2 ⟨128 * b.val + n.val, by omega⟩ ⟨128 * (4 * h.val + g.val) + d.val, by omega⟩) := by
  pointwise [val_main_v46, val_main_v45]
  exact congrArg₂ (fun i j => x (ix2 i j)) (Fin.ext (by show b.val * 128 + n.val = 128 * b.val + n.val; omega))
    (Fin.ext (by show h.val * 512 + g.val * 128 + d.val = 128 * (4 * h.val + g.val) + d.val; omega))

/-- The bias at an entry. -/
theorem bias_at (x : FVec Ideal S16x128x384 .f32) (b n : Fin 128) (h g : Fin 4) (c : Fin 384) :
    val_main_v67 (F := Ideal) x (ix5 b h g n c) = x (ix3 ⟨4 * h.val + g.val, by omega⟩ n c) := by
  pointwise [val_main_v67, val_main_v66, val_main_v63]
  exact congrArg (fun i => x (ix3 i n c)) (Fin.ext (by show h.val * 4 + g.val = 4 * h.val + g.val; omega))

/-- The logits of row `n` of block `b`. -/
def lg (q : FVec Ideal S16384x2048 .bf16) (k : FVec Ideal S16384x512 .bf16) (bi : FVec Ideal S16x128x384 .f32)
    (b n : Fin 128) (h g : Fin 4) (c : Fin 384) : EReal :=
  logits q k bi ⟨128 * b.val + n.val, by omega⟩ ⟨4 * h.val + g.val, by omega⟩ c

/-- The logits by block and row. -/
theorem lg_eq (q : FVec Ideal S16384x2048 .bf16) (k : FVec Ideal S16384x512 .bf16) (bi : FVec Ideal S16x128x384 .f32)
    (b n : Fin 128) (h g : Fin 4) (c : Fin 384) :
    lg q k bi b n h g c = if sees b.val n.val c.val then
      (∑ e : Fin 128, q (ix2 ⟨128 * b.val + n.val, by omega⟩ ⟨128 * (4 * h.val + g.val) + e.val, by omega⟩)
          * rowAt k (128 * b.val + c.val) ⟨128 * h.val + e.val, by omega⟩)
        + bi (ix3 ⟨4 * h.val + g.val, by omega⟩ n c)
      else ⊥ := by
  have e1 : (128 * b.val + n.val) / 128 = b.val := by omega
  have e2 : (128 * b.val + n.val) % 128 = n.val := by omega
  have e3 : (4 * h.val + g.val) / 4 = h.val := by omega
  simp only [lg, logits, e1, e2, e3]

/-- The reference's product of a query row and a key row. -/
theorem dot_at (q : FVec Ideal S16384x2048 .bf16) (k : FVec Ideal S16384x512 .bf16)
    (b n : Fin 128) (h g : Fin 4) (c : Fin 384) :
    val_main_v65 (F := Ideal) q k (ix5 b h g n c)
      = ∑ e : Fin 128, q (ix2 ⟨128 * b.val + n.val, by omega⟩ ⟨128 * (4 * h.val + g.val) + e.val, by omega⟩)
          * rowAt k (128 * b.val + c.val) ⟨128 * h.val + e.val, by omega⟩ := by
  have h1 := win_at k
  have h2 := query_at q
  generalize hy : val_main_v54 (F := Ideal) k = y at h1
  generalize hz : val_main_v46 (F := Ideal) q = z at h2
  pointwise [val_main_v65, val_main_v64, hy, hz, h1, h2]
  exact Finset.sum_congr rfl fun e _ => mul_comm _ _

/-- The reference's logits. -/
theorem logit_at (q : FVec Ideal S16384x2048 .bf16) (k : FVec Ideal S16384x512 .bf16) (bi : FVec Ideal S16x128x384 .f32)
    (b n : Fin 128) (h g : Fin 4) (c : Fin 384) :
    val_main_v70 (F := Ideal) q k bi (ix5 b h g n c) = lg q k bi b n h g c := by
  have hm := mask_at b n c
  have hb : (Ideal.ofBits .f32 0xFF800000#32 : EReal) = ⊥ := by simp [Ideal.ofBits, Ideal.ieee]
  have e1 : val_main_call4_v1 (F := Ideal) (ix5 b h g n c) = val_main_v44 (F := Ideal) (ix3 b n c) := by
    pointwise [val_main_call4_v1, val_main_v69]
  have e2 : val_main_call4_v2 (F := Ideal) (ix5 b h g n c) = ⊥ := hb
  rw [val_main_v70_apply, e1, e2, val_main_v68_apply, dot_at, bias_at, lg_eq]
  by_cases hs : sees b.val n.val c.val
  · rw [if_pos hs, hm.mpr hs]; rfl
  · rw [if_neg hs, show val_main_v44 (F := Ideal) (ix3 b n c) = 0#1 from by
      have := fun e => hs (hm.mp e); revert this; generalize val_main_v44 (F := Ideal) (ix3 b n c) = w; revert w; decide]
    rfl

/-- The sink at an entry. -/
theorem sink_at (x : FVec Ideal S16 .f32) (h g : Fin 4) :
    val_main_v72 (F := Ideal) x (ix5 0 h g 0 0) = x (ix1 ⟨4 * h.val + g.val, by omega⟩) := by
  pointwise [val_main_v72, val_main_v71]
  exact congrArg (fun i => x (ix1 i)) (Fin.ext (by show h.val * 4 + g.val = 4 * h.val + g.val; omega))

/-- The largest entry of a row of the last axis. -/
theorem max_at (y : FVec Ideal S128x4x4x128x384 .f32) (b n : Fin 128) (h g : Fin 4) :
    Host.reduce FloatOps.maximumf y (val_main_cst_13 (F := Ideal)) reducesTo_S128x4x4x128x384_S128x4x4x128_d4 h_S_ (ix4 b h g n)
      = Finset.univ.fold max ⊥ (fun c : Fin 384 => y (ix5 b h g n c)) := by
  have hb : (Ideal.ofBits .f32 0xFF800000#32 : EReal) = ⊥ := by simp [Ideal.ofBits, Ideal.ieee]
  generalize hr : Finset.univ.fold max ⊥ (fun c : Fin 384 => y (ix5 b h g n c)) = r
  pointwise [val_main_cst_13, hb]
  exact hr

/-- The largest logit or sink of a row. -/
theorem top_at (q : FVec Ideal S16384x2048 .bf16) (k : FVec Ideal S16384x512 .bf16) (bi : FVec Ideal S16x128x384 .f32)
    (s : FVec Ideal S16 .f32) (b n : Fin 128) (h g : Fin 4) :
    val_main_v76 (F := Ideal) q k bi s (ix5 b h g n 0)
      = top (lg q k bi b n h g) (s (ix1 ⟨4 * h.val + g.val, by omega⟩)) := by
  have h1 := logit_at q k bi
  have e1 : val_main_v74 (F := Ideal) q k bi (ix5 b h g n 0) = val_main_v73 (F := Ideal) q k bi (ix4 b h g n) := by
    unfold val_main_v74
    generalize val_main_v73 (F := Ideal) q k bi = y
    pointwise []
  have e2 : val_main_v75 (F := Ideal) s (ix5 b h g n 0) = val_main_v72 (F := Ideal) s (ix5 0 h g 0 0) := by
    unfold val_main_v75
    generalize val_main_v72 (F := Ideal) s = y
    pointwise []
  have e3 : val_main_v73 (F := Ideal) q k bi (ix4 b h g n) = Finset.univ.fold max ⊥ (lg q k bi b n h g) := by
    unfold val_main_v73
    rw [max_at]
    simp only [h1]
  rw [val_main_v76_apply, e1, e2, e3, sink_at]
  generalize s (ix1 ⟨4 * h.val + g.val, by omega⟩) = t
  unfold top
  generalize Finset.univ.fold max ⊥ (lg q k bi b n h g) = u
  rfl

/-- A weight before its division. -/
theorem exp_at (q : FVec Ideal S16384x2048 .bf16) (k : FVec Ideal S16384x512 .bf16) (bi : FVec Ideal S16x128x384 .f32)
    (s : FVec Ideal S16 .f32) (b n : Fin 128) (h g : Fin 4) (c : Fin 384) :
    val_main_v79 (F := Ideal) q k bi s (ix5 b h g n c)
      = Ideal.exp (lg q k bi b n h g c - top (lg q k bi b n h g) (s (ix1 ⟨4 * h.val + g.val, by omega⟩))) := by
  have h1 := logit_at q k bi
  have h2 := top_at q k bi s
  generalize hy : val_main_v70 (F := Ideal) q k bi = y at h1
  generalize hz : val_main_v76 (F := Ideal) q k bi s = z at h2
  pointwise [val_main_v79, val_main_v78, val_main_v77, hy, hz, h1, h2]

/-- The normaliser of a row. -/
theorem den_at (q : FVec Ideal S16384x2048 .bf16) (k : FVec Ideal S16384x512 .bf16) (bi : FVec Ideal S16x128x384 .f32)
    (s : FVec Ideal S16 .f32) (b n : Fin 128) (h g : Fin 4) :
    val_main_v85 (F := Ideal) q k bi s (ix5 b h g n 0)
      = den (lg q k bi b n h g) (s (ix1 ⟨4 * h.val + g.val, by omega⟩)) := by
  have h1 := exp_at q k bi s
  have h2 := top_at q k bi s
  have h3 := sink_at s
  generalize hy : val_main_v79 (F := Ideal) q k bi s = y at h1
  generalize hz : val_main_v76 (F := Ideal) q k bi s = z at h2
  generalize hw : val_main_v72 (F := Ideal) s = w at h3
  pointwise [val_main_v85, val_main_v84, val_main_v83, val_main_v82, val_main_v81, val_main_v80, val_main_cst_14, hy, hz, hw, h1, h2, h3, den]

/-- A weight. -/
theorem weight_at (q : FVec Ideal S16384x2048 .bf16) (k : FVec Ideal S16384x512 .bf16) (bi : FVec Ideal S16x128x384 .f32)
    (s : FVec Ideal S16 .f32) (b n : Fin 128) (h g : Fin 4) (c : Fin 384) :
    val_main_v87 (F := Ideal) q k bi s (ix5 b h g n c)
      = Ideal.div (Ideal.exp (lg q k bi b n h g c - top (lg q k bi b n h g) (s (ix1 ⟨4 * h.val + g.val, by omega⟩))))
          (den (lg q k bi b n h g) (s (ix1 ⟨4 * h.val + g.val, by omega⟩))) := by
  have h1 := exp_at q k bi s
  have h2 := den_at q k bi s
  generalize hy : val_main_v79 (F := Ideal) q k bi s = y at h1
  generalize hz : val_main_v85 (F := Ideal) q k bi s = z at h2
  pointwise [val_main_v87, val_main_v86, hy, hz, h1, h2]

/-- The attention by block, row and head. -/
theorem att_at (q : FVec Ideal S16384x2048 .bf16) (k v : FVec Ideal S16384x512 .bf16) (bi : FVec Ideal S16x128x384 .f32)
    (s : FVec Ideal S16 .f32) (b n : Fin 128) (h g : Fin 4) (d : Fin 128) :
    val_main_v89 (F := Ideal) q k v bi s (ix5 b n h g d)
      = softDiv (lg q k bi b n h g) (s (ix1 ⟨4 * h.val + g.val, by omega⟩))
          (fun c => rowAt v (128 * b.val + c.val) ⟨128 * h.val + d.val, by omega⟩) := by
  have h1 := weight_at q k bi s
  have h2 := win_at v
  rw [← win_eq] at h2
  generalize hy : val_main_v87 (F := Ideal) q k bi s = y at h1
  generalize hz : val_main_v62 (F := Ideal) v = z at h2
  pointwise [val_main_v89, val_main_v88, hy, hz, h1, h2, softDiv]

/-- The attention at a row and a lane. -/
theorem att_row (q : FVec Ideal S16384x2048 .bf16) (k v : FVec Ideal S16384x512 .bf16) (bi : FVec Ideal S16x128x384 .f32)
    (s : FVec Ideal S16 .f32) (R : Fin 16384) (j : Fin 2048) :
    val_main_v90 (F := Ideal) q k v bi s (ix2 R j)
      = attDiv q k v bi s R ⟨j.val / 128, by omega⟩ ⟨j.val % 128, by omega⟩ := by
  have h1 := att_at q k v bi s ⟨R.val / 128, by omega⟩ ⟨R.val % 128, by omega⟩ ⟨j.val / 512, by omega⟩ ⟨j.val / 128 % 4, by omega⟩
    ⟨j.val % 128, by omega⟩
  have e1 : 128 * (R.val / 128) + R.val % 128 = R.val := by omega
  have e2 : 4 * (j.val / 512) + j.val / 128 % 4 = j.val / 128 := by omega
  have e3 : j.val / 128 / 4 = j.val / 512 := by omega
  have e4 : lg q k bi ⟨R.val / 128, by omega⟩ ⟨R.val % 128, by omega⟩ ⟨j.val / 512, by omega⟩ ⟨j.val / 128 % 4, by omega⟩
      = logits q k bi R ⟨j.val / 128, by omega⟩ := funext fun c => by simp only [lg, e1, e2]
  rw [e4] at h1
  simp only [e2] at h1
  simp only [attDiv, e3]
  refine Eq.trans ?_ h1
  unfold val_main_v90
  generalize val_main_v89 (F := Ideal) q k v bi s = y
  pointwise []

/-- The residual sum. -/
theorem res_at (q : FVec Ideal S16384x2048 .bf16) (k v : FVec Ideal S16384x512 .bf16) (bi : FVec Ideal S16x128x384 .f32)
    (s : FVec Ideal S16 .f32) (x : FVec Ideal S16384x2048 .f32) (w : FVec Ideal S2048x2048 .f32) (R : Fin 16384) (l : Fin 2048) :
    val_main_v94 (F := Ideal) q k v bi s x w (ix2 R l)
      = resid (x (ix2 R l)) (∑ j : Fin 2048, attDiv q k v bi s R ⟨j.val / 128, by omega⟩ ⟨j.val % 128, by omega⟩ * w (ix2 j l)) := by
  have h1 := att_row q k v bi s
  generalize hy : val_main_v90 (F := Ideal) q k v bi s = y at h1
  generalize attDiv q k v bi s = a at h1 ⊢
  pointwise [val_main_v94, val_main_v93, val_main_v92, val_main_v91, val_main_cst_15, hy, h1, resid]

/-- The reference's result at an entry. -/
theorem ref_at (q : FVec Ideal S16384x2048 .bf16) (k v : FVec Ideal S16384x512 .bf16) (bi : FVec Ideal S16x128x384 .f32)
    (s : FVec Ideal S16 .f32) (x : FVec Ideal S16384x2048 .f32) (w : FVec Ideal S2048x2048 .f32) (ga be : FVec Ideal S2048 .f32)
    (R : Fin 16384) (l : Fin 2048) :
    val_main_v118 (F := Ideal) q k v bi s x w ga be (ix2 R l) = out (attDiv q k v bi s) x w ga be R l := by
  have h := res_at q k v bi s x w
  unfold out
  generalize hy : val_main_v94 (F := Ideal) q k v bi s x w = y at h
  generalize attDiv q k v bi s = a at h ⊢
  pointwise [val_main_v118, val_main_v117, val_main_v116, val_main_v115, val_main_v114, val_main_v113, val_main_v112, val_main_v111, val_main_v110, val_main_v109, val_main_v108, val_main_cst_20, val_main_v107, val_main_v106, val_main_v105, val_main_v104, val_main_cst_19, val_main_v103, val_main_v102, val_main_cst_18, val_main_v101, val_main_v100, val_main_v99, val_main_v98, val_main_v97, val_main_cst_17, val_main_v96, val_main_v95, val_main_cst_16, hy, h, lnAt, mean]

end Cert.AttnRef

end
-- ==== Proof.AttnClaim.lean ====
/- The attention kernel leaves what its reference leaves, on arguments whose queries, keys, biases and sinks are finite. -/
module

public import proofs.«01_k».proof.Defs
public import proofs.«01_k».proof.Proof.AttnValue
public import proofs.«01_k».proof.Proof.AttnRef
public import proofs.«01_k».proof.Proof.Gen.AttnRefIdeal.Run
public import Idealize.ShloMosaic.Lib.Claim
public import Idealize.ShloMosaic.Lib.ReduceAll

@[expose] public section

noncomputable section

open Idealize.ShloMosaic Idealize.ShloMosaic.TcCoe Idealize.SL.Sem Cert.AttnSoft Cert.AttnPure

namespace Cert.AttnClaim

/-- The side conditions of the predicate's operations. -/
theorem facts : Cert.Pre_finite_logits.Facts where
  bitsLt_bf16_f32 := by decide
  bcast_S_S16384x2048 := by decide
  reducesTo_S16384x2048_S_d0_1 := by decide
  h_S_ := by decide
  bcast_S_S16384x512 := by decide
  reducesTo_S16384x512_S_d0_1 := by decide
  bcast_S_S16x128x384 := by decide
  reducesTo_S16x128x384_S_d0_1_2 := by decide
  bcast_S_S16 := by decide
  reducesTo_S16_S_d0 := by decide

/-- What an extended real's absolute value below +∞ says. -/
def Finite (x : EReal) : Prop := x ≠ ⊤ ∧ x ≠ ⊥

/-- The comparison of an absolute value with +∞, read back. -/
theorem of_cmp (x : EReal) (h : Ideal.cmp .olt (max x (-x)) (Ideal.ofBits .f32 0x7F800000#32) = 1#1) : Finite x := by
  have htop : Ideal.ofBits .f32 0x7F800000#32 = ⊤ := by simp [Ideal.ofBits, Ideal.ieee]
  rw [htop] at h
  constructor <;> rintro rfl <;> revert h <;> simp [Ideal.cmp]

/-- A finite extended real is a real's image. -/
theorem Finite.ex {x : EReal} (h : Finite x) : ∃ r : ℝ, x = r := ⟨x.toReal, (EReal.coe_toReal h.1 h.2).symm⟩

/-- A product of finite ones is finite. -/
theorem Finite.mul {x y : EReal} (hx : Finite x) (hy : Finite y) : Finite (x * y) := by
  obtain ⟨a, rfl⟩ := hx.ex
  obtain ⟨b, rfl⟩ := hy.ex
  rw [← EReal.coe_mul]
  exact ⟨EReal.coe_ne_top _, EReal.coe_ne_bot _⟩

/-- A sum of finite ones is finite. -/
theorem Finite.add {x y : EReal} (hx : Finite x) (hy : Finite y) : Finite (x + y) := by
  obtain ⟨a, rfl⟩ := hx.ex
  obtain ⟨b, rfl⟩ := hy.ex
  rw [← EReal.coe_add]
  exact ⟨EReal.coe_ne_top _, EReal.coe_ne_bot _⟩

/-- Zero is finite. -/
theorem Finite.zero : Finite 0 := ⟨EReal.zero_ne_top, EReal.zero_ne_bot⟩

/-- A finite sum of finite ones is finite. -/
theorem Finite.sum {n : ℕ} (f : Fin n → EReal) (h : ∀ i, Finite (f i)) : Finite (∑ i, f i) :=
  Finset.sum_induction f Finite (fun _ _ => Finite.add) Finite.zero (fun i _ => h i)

section Pre
open Cert.Pre_finite_logits

instance : Subsingleton S_.Idx := ⟨fun a b => funext fun i => i.elim0⟩

/-- The predicate says that the queries, keys, biases and sinks are finite. -/
theorem of_pre [Facts] (q : FVec Ideal S16384x2048 .bf16) (k v : FVec Ideal S16384x512 .bf16) (bi : FVec Ideal S16x128x384 .f32)
    (s : FVec Ideal S16 .f32) (x : FVec Ideal S16384x2048 .f32) (w : FVec Ideal S2048x2048 .f32) (ga be : FVec Ideal S2048 .f32)
    (h : fn (F := Ideal) q k v bi s x w ga be = fun _ => 1#1) :
    (∀ i, Finite (q i)) ∧ (∀ i, Finite (k i)) ∧ (∀ i, Finite (bi i)) ∧ (∀ i, Finite (s i)) := by
  have h0 := congrFun h (fun i => i.elim0)
  unfold fn fn_part1 at h0
  obtain ⟨h1, h2⟩ := IntOp.andi_eq_one.1 h0
  obtain ⟨h3, h4⟩ := IntOp.andi_eq_one.1 h1
  obtain ⟨h5, h6⟩ := IntOp.andi_eq_one.1 h3
  exact ⟨fun i => of_cmp _ (Host.reduce_andi_all _ _ _ _ _ h5 i), fun i => of_cmp _ (Host.reduce_andi_all _ _ _ _ _ h6 i),
    fun i => of_cmp _ (Host.reduce_andi_all _ _ _ _ _ h4 i), fun i => of_cmp _ (Host.reduce_andi_all _ _ _ _ _ h2 i)⟩

end Pre

section Att
open Cert.AttnIdeal

/-- On finite queries, keys, biases and sinks the two forms of the attention agree. -/
theorem att_eq (q : FVec Ideal S16384x2048 .bf16) (k v : FVec Ideal S16384x512 .bf16) (bi : FVec Ideal S16x128x384 .f32)
    (s : FVec Ideal S16 .f32) (hq : ∀ i, Finite (q i)) (hk : ∀ i, Finite (k i)) (hb : ∀ i, Finite (bi i)) (hs : ∀ i, Finite (s i)) :
    attMul q k v bi s = attDiv q k v bi s := by
  funext R h d
  refine soft_eq _ _ _ _ _ (fun _ => rfl) (fun _ _ => rfl) (den_ne_zero _ _ (fun c => ?_) (hs _).2 (hs _).1)
  unfold logits
  split
  · refine lt_top_iff_ne_top.mpr (((Finite.sum _ fun e => (hq _).mul ?_).add (hb _))).1
    unfold rowAt
    split
    · exact hk _
    · exact Finite.zero
  · exact bot_lt_top

end Att

/-- The reference's result is the layer's output over the attention of its arguments. -/
theorem ref_result (q : FVec Ideal Cert.AttnRefIdeal.S16384x2048 .bf16) (k v : FVec Ideal Cert.AttnRefIdeal.S16384x512 .bf16)
    (bi : FVec Ideal Cert.AttnRefIdeal.S16x128x384 .f32) (s : FVec Ideal Cert.AttnRefIdeal.S16 .f32)
    (x : FVec Ideal Cert.AttnRefIdeal.S16384x2048 .f32) (w : FVec Ideal Cert.AttnRefIdeal.S2048x2048 .f32)
    (ga be : FVec Ideal Cert.AttnRefIdeal.S2048 .f32) :
    Cert.AttnRefIdeal.Read.val_main_v118 (F := Ideal) q k v bi s x w ga be
      = fun i => out (attDiv q k v bi s) x w ga be (i 0) (i 1) := by
  funext i
  idx_vars i
  exact Cert.AttnRef.ref_at _ _ _ _ _ _ _ _ _ i0 i1

/-- The reference's result, at the arguments of a memory. -/
theorem ref_mem (m : (ℓ : Loc Cert.AttnRefIdeal.nD Cert.AttnRefIdeal.τ Cert.AttnRefIdeal.sig) → Buf (Elt Ideal) ℓ)
    (c : Dev Cert.AttnRefIdeal.nD) :
    Cert.AttnRefIdeal.Read.val_main_v118 (F := Ideal) (StableHlo.launchContents m c (Proc.devRef .tc Cert.AttnRefIdeal.main_arg0))
      (StableHlo.launchContents m c (Proc.devRef .tc Cert.AttnRefIdeal.main_arg1))
      (StableHlo.launchContents m c (Proc.devRef .tc Cert.AttnRefIdeal.main_arg2))
      (StableHlo.launchContents m c (Proc.devRef .tc Cert.AttnRefIdeal.main_arg3))
      (StableHlo.launchContents m c (Proc.devRef .tc Cert.AttnRefIdeal.main_arg4))
      (StableHlo.launchContents m c (Proc.devRef .tc Cert.AttnRefIdeal.main_arg5))
      (StableHlo.launchContents m c (Proc.devRef .tc Cert.AttnRefIdeal.main_arg6))
      (StableHlo.launchContents m c (Proc.devRef .tc Cert.AttnRefIdeal.main_arg7))
      (StableHlo.launchContents m c (Proc.devRef .tc Cert.AttnRefIdeal.main_arg8))
      = fun i => out (attDiv (m ((c.tc : Thread Cert.AttnRefIdeal.nD Cert.AttnRefIdeal.τ).loc Cert.AttnRefIdeal.main_arg0))
          (m ((c.tc : Thread Cert.AttnRefIdeal.nD Cert.AttnRefIdeal.τ).loc Cert.AttnRefIdeal.main_arg1))
          (m ((c.tc : Thread Cert.AttnRefIdeal.nD Cert.AttnRefIdeal.τ).loc Cert.AttnRefIdeal.main_arg2))
          (m ((c.tc : Thread Cert.AttnRefIdeal.nD Cert.AttnRefIdeal.τ).loc Cert.AttnRefIdeal.main_arg3))
          (m ((c.tc : Thread Cert.AttnRefIdeal.nD Cert.AttnRefIdeal.τ).loc Cert.AttnRefIdeal.main_arg4)))
          (m ((c.tc : Thread Cert.AttnRefIdeal.nD Cert.AttnRefIdeal.τ).loc Cert.AttnRefIdeal.main_arg5))
          (m ((c.tc : Thread Cert.AttnRefIdeal.nD Cert.AttnRefIdeal.τ).loc Cert.AttnRefIdeal.main_arg6))
          (m ((c.tc : Thread Cert.AttnRefIdeal.nD Cert.AttnRefIdeal.τ).loc Cert.AttnRefIdeal.main_arg7))
          (m ((c.tc : Thread Cert.AttnRefIdeal.nD Cert.AttnRefIdeal.τ).loc Cert.AttnRefIdeal.main_arg8)) (i 0) (i 1) :=
  ref_result _ _ _ _ _ _ _ _ _

/-- On finite queries, keys, biases and sinks the idealized kernel's result is the reference's. -/
theorem algebraic : Cert.algebraic_AttnIdeal_AttnRefIdeal_pre_finite_logits (hAttnIdeal := Cert.AttnIdeal.Gen.facts)
    (hAttnRefIdeal := Cert.AttnRefIdeal.Gen.facts) (hPre_finite_logits := facts) := by
  haveI := facts
  pair_intro
  · run_from Cert.AttnIdeal.Gen.run_main m g
  · run_from Cert.AttnRefIdeal.Value.run m' g'
    refine Eq.trans ?_ (Cert.AttnValue.final m c).symm
    obtain ⟨e0, e1, e2, e3, e4, e5, e6, e7, e8⟩ := hagree c
    obtain ⟨hq, hk, hb, hs⟩ := of_pre (h := hpre c)
    rw [← e7, ← e8]
    refine (Cert.AttnRefIdeal.Read.val_main_v118_eq (StableHlo.launchContents m' c)).trans ?_
    refine (ref_mem m' c).trans ?_
    rw [e0, e1, e2, e3, e4, e5, e6, e7, e8, ← att_eq _ _ _ _ _ hq hk hb hs]
    rfl

end Cert.AttnClaim

end
-- ==== Proof.FfnPure.lean ====
/- The feed-forward block read at one entry: the kernel's stored vectors, and the reference's result. -/
module

public import proofs.«01_k».proof.Proof.Gen.FfnIdeal.Skeleton
public import proofs.«01_k».proof.Proof.Gen.FfnRefIdeal.Read
public import proofs.«01_k».proof.Proof.LayerMath

@[expose] public section

set_option maxRecDepth 16384

noncomputable section

open Idealize.ShloMosaic Idealize.ShloMosaic.TcCoe Idealize.SL.Sem Cert.LayerMath

namespace Cert.FfnPure

/-- One hidden entry: the gate product `g` through the logistic unit, times the up product `u`. -/
def swish (g u : EReal) : EReal := g * Ideal.logistic g * u

section Kernel
open Cert.FfnIdeal Cert.FfnIdeal.Gen

/-- The scratch copy of the rows is the rows. -/
theorem pay1_at (x : Vec Ideal S512x2048 .f32) (r : Fin 512) (l : Fin 2048) :
    k0_pay1 (F := Ideal) x (ix2 r l) = x (ix2 r l) := by
  pointwise [k0_pay1]

/-- The accumulator starts at zero. -/
theorem pay2_at (r : Fin 512) (l : Fin 2048) :
    k0_pay2 (F := Ideal) (ix2 r l) = 0 := by
  pointwise [k0_pay2]

/-- One step adds to the accumulator the down product of this chunk's 512 hidden entries. -/
theorem pay3_at (xb : Vec Ideal S512x2048 .bf16) (wg wu : Vec Ideal S2048x512 .bf16) (acc : Vec Ideal S512x2048 .f32)
    (wd : Vec Ideal S512x2048 .bf16) (r : Fin 512) (l : Fin 2048) :
    k0_pay3 (F := Ideal) xb wg wu acc wd (ix2 r l)
      = acc (ix2 r l) + ∑ n : Fin 512,
          swish (∑ k : Fin 2048, xb (ix2 r k) * wg (ix2 k n)) (∑ k : Fin 2048, xb (ix2 r k) * wu (ix2 k n))
            * wd (ix2 n l) := by
  pointwise [k0_pay3, swish]

/-- The last step normalises the residual sum. -/
theorem pay4_at (x a : Vec Ideal S512x2048 .f32) (g b : Vec Ideal S1x2048 .f32) (r : Fin 512) (l : Fin 2048) :
    k0_pay4 (F := Ideal) x a g b (ix2 r l)
      = lnAt (fun k => resid (x (ix2 r k)) (a (ix2 r k))) l (g (ix2 0 l)) (b (ix2 0 l)) := by
  pointwise [k0_pay4, lnAt, mean, resid]

end Kernel

/-- The hidden entry `n` of row `R`. -/
def hid (x0 : FVec Ideal Cert.FfnRefIdeal.S16384x2048 .f32) (x1 : FVec Ideal Cert.FfnRefIdeal.S2048x11264 .f32)
    (R : Fin 16384) (n : Fin 5632) : EReal :=
  swish (∑ k : Fin 2048, x0 (ix2 R k) * x1 (ix2 k ⟨n.val, by omega⟩))
    (∑ k : Fin 2048, x0 (ix2 R k) * x1 (ix2 k ⟨5632 + n.val, by omega⟩))

/-- Entry `l` of row `R` of the block's output before the norm: the down product over all 5632 hidden entries. -/
def down (x0 : FVec Ideal Cert.FfnRefIdeal.S16384x2048 .f32) (x1 : FVec Ideal Cert.FfnRefIdeal.S2048x11264 .f32)
    (x2 : FVec Ideal Cert.FfnRefIdeal.S5632x2048 .f32) (R : Fin 16384) (l : Fin 2048) : EReal :=
  ∑ n : Fin 5632, hid x0 x1 R n * x2 (ix2 n l)

/-- The feed-forward block's result. -/
def out (x0 : FVec Ideal Cert.FfnRefIdeal.S16384x2048 .f32) (x1 : FVec Ideal Cert.FfnRefIdeal.S2048x11264 .f32)
    (x2 : FVec Ideal Cert.FfnRefIdeal.S5632x2048 .f32) (x3 x4 : FVec Ideal Cert.FfnRefIdeal.S2048 .f32)
    (R : Fin 16384) (l : Fin 2048) : EReal :=
  lnAt (fun k => resid (x0 (ix2 R k)) (down x0 x1 x2 R k)) l (x3 (ix1 l)) (x4 (ix1 l))

section Ref
open Cert.FfnRefIdeal Cert.FfnRefIdeal.Gen Cert.FfnRefIdeal.Read

/-- The reference's residual sum. -/
theorem ref_v8_at (x0 : FVec Ideal S16384x2048 .f32) (x1 : FVec Ideal S2048x11264 .f32) (x2 : FVec Ideal S5632x2048 .f32)
    (r : Fin 16384) (l : Fin 2048) :
    val_main_v8 (F := Ideal) x0 x1 x2 (ix2 r l) = resid (x0 (ix2 r l)) (down x0 x1 x2 r l) := by
  pointwise [val_main_v8, val_main_v7, val_main_v6, val_main_v5, val_main_v4, val_main_v3, val_main_v2, val_main_v1, val_main_v0,
    val_main_cst, val_main_call0_v0, val_main_call0_v1, val_main_call0_v2, val_main_call0_v3, val_main_call0_v4, val_main_call0_v5,
    val_main_call0_cst, val_main_call0_cst_0, resid, down, hid, swish, Ideal.logistic]

/-- The reference's result at an entry. -/
theorem ref_at (x0 : FVec Ideal S16384x2048 .f32) (x1 : FVec Ideal S2048x11264 .f32) (x2 : FVec Ideal S5632x2048 .f32)
    (x3 x4 : FVec Ideal S2048 .f32) (r : Fin 16384) (l : Fin 2048) :
    val_main_v32 (F := Ideal) x0 x1 x2 x3 x4 (ix2 r l) = out x0 x1 x2 x3 x4 r l := by
  have h := ref_v8_at x0 x1 x2
  unfold out
  generalize down x0 x1 x2 = d at h ⊢
  pointwise [val_main_v32, val_main_v31, val_main_v30, val_main_v29, val_main_v28, val_main_v27, val_main_v26, val_main_v25,
    val_main_v24, val_main_v23, val_main_v22, val_main_v21, val_main_v20, val_main_v19, val_main_v18, val_main_v17, val_main_v16,
    val_main_v15, val_main_v14, val_main_v13, val_main_v12, val_main_v11, val_main_v10, val_main_v9, val_main_cst_0,
    val_main_cst_1, val_main_cst_2, val_main_cst_3, val_main_cst_4, h, lnAt, mean]

end Ref

end Cert.FfnPure
-- ==== Proof.FfnValue.lean ====
/- The feed-forward kernel's result array: its grid accumulates the down product of eleven chunks of hidden entries per
   block of rows, and normalises at the last chunk. -/
module

public import proofs.«01_k».proof.Proof.Gen.FfnIdeal.Value
public import proofs.«01_k».proof.Proof.FfnPure
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnValue

open Cert.FfnIdeal Cert.FfnIdeal.Gen Cert.FfnIdeal.Value Cert.FfnPure Cert.LayerMath

variable (m : (ℓ : Loc nD τ sig) → Buf (Elt Ideal) ℓ)

/-- The block of each window at a grid point: the row block is the point's quotient by 11, the chunk its remainder. -/
theorem idx : ∀ t : Fin cfg0.N, win0_0.index t = ![t.val / 11, 0] ∧ win0_1.index t = ![0, t.val % 11]
    ∧ win0_2.index t = ![0, 11 + t.val % 11] ∧ win0_3.index t = ![t.val % 11, 0] ∧ win0_4.index t = ![0, 0]
    ∧ win0_5.index t = ![0, 0] ∧ win0_6.index t = ![t.val / 11, 0] ∧ t.val / 11 < 32 :=
  (by decide +kernel : ∀ t : Fin grid0.N, _)

/-- The rows. -/
abbrev X (c : Dev nD) : FVec Ideal S16384x2048 .f32 := m ((c : Thread nD τ).loc main_arg0)
/-- The gate and up weights. -/
abbrev WGU (c : Dev nD) : FVec Ideal S2048x11264 .f32 := m ((c : Thread nD τ).loc main_arg1)
/-- The down weights. -/
abbrev WD (c : Dev nD) : FVec Ideal S5632x2048 .f32 := m ((c : Thread nD τ).loc main_arg2)
/-- The norm's scale. -/
abbrev GA (c : Dev nD) : FVec Ideal S2048 .f32 := m ((c : Thread nD τ).loc main_arg3)
/-- The norm's shift. -/
abbrev BE (c : Dev nD) : FVec Ideal S2048 .f32 := m ((c : Thread nD τ).loc main_arg4)

/-- Row `r` of row block `q`. -/
abbrev row (q : ℕ) (hq : q < 32) (r : Fin 512) : Fin 16384 := ⟨512 * q + r.val, by omega⟩

/-- The rows' block at a point. -/
theorem blk0 (c : Dev nD) (t : Fin cfg0.N) (hq : t.val / 11 < 32) (r : Fin 512) (l : Fin 2048) :
    iblk m c 0 t (ix2 r l) = X m c (ix2 (row (t.val / 11) hq r) l) := by
  blk_ext [iblk, V, idx t]

/-- The gate weights' block at a point. -/
theorem blk1 (c : Dev nD) (t : Fin cfg0.N) (k : Fin 2048) (n : Fin 512) :
    iblk m c 1 t (ix2 k n) = WGU m c (ix2 k ⟨512 * (t.val % 11) + n.val, by omega⟩) := by
  blk_simp [iblk]
  entry_read
  pointwise
  blk_ext [idx t]

/-- The up weights' block at a point. -/
theorem blk2 (c : Dev nD) (t : Fin cfg0.N) (k : Fin 2048) (n : Fin 512) :
    iblk m c 2 t (ix2 k n) = WGU m c (ix2 k ⟨5632 + (512 * (t.val % 11) + n.val), by omega⟩) := by
  blk_simp [iblk]
  entry_read
  pointwise
  blk_ext [idx t]

/-- The down weights' block at a point. -/
theorem blk3 (c : Dev nD) (t : Fin cfg0.N) (n : Fin 512) (l : Fin 2048) :
    iblk m c 3 t (ix2 n l) = WD m c (ix2 ⟨512 * (t.val % 11) + n.val, by omega⟩ l) := by
  blk_simp [iblk]
  entry_read
  pointwise
  blk_ext [idx t]

/-- The scale's block at a point. -/
theorem blk4 (c : Dev nD) (t : Fin cfg0.N) (l : Fin 2048) :
    iblk m c 4 t (ix2 0 l) = GA m c (ix1 l) := by
  blk_simp [iblk]
  entry_read
  pointwise
  blk_ext [idx t]

/-- The shift's block at a point. -/
theorem blk5 (c : Dev nD) (t : Fin cfg0.N) (l : Fin 2048) :
    iblk m c 5 t (ix2 0 l) = BE m c (ix1 l) := by
  blk_simp [iblk]
  entry_read
  pointwise
  blk_ext [idx t]

/-- At a block's first point the scratch copy is the rows' block. -/
theorem scA0 (c : Dev nD) (t : Fin cfg0.N) (h0 : t.val % 11 = 0) (h1 : ¬t.val % 11 = 10) :
    (outsAt0 m c t.val t.isLt).2.1 = k0_pay1 (F := Ideal) (iblk m c 0 t) := by
  rw [outsAt0_A m c t h0 h1]
  frame_out

/-- At a block's first point the accumulator is one step from zero. -/
theorem scA1 (c : Dev nD) (t : Fin cfg0.N) (h0 : t.val % 11 = 0) (h1 : ¬t.val % 11 = 10) :
    (outsAt0 m c t.val t.isLt).2.2
      = k0_pay3 (F := Ideal) (k0_pay1 (iblk m c 0 t)) (iblk m c 1 t) (iblk m c 2 t) (k0_pay2 (F := Ideal)) (iblk m c 3 t) := by
  rw [outsAt0_A m c t h0 h1]
  frame_out

/-- After a block's first point the scratch copy stays as it was. -/
theorem scB0 (c : Dev nD) (n : ℕ) (h : n + 1 < cfg0.N) (h0 : ¬(n + 1) % 11 = 0) :
    (outsAt0 m c (n + 1) h).2.1 = (outsAt0 m c n (Nat.lt_of_succ_lt h)).2.1 := by
  by_cases h1 : (n + 1) % 11 = 10
  · rw [outsAt0_C m c ⟨n + 1, h⟩ h0 h1]
    rfl
  · rw [outsAt0_B m c ⟨n + 1, h⟩ h0 h1]
    rfl

/-- After a block's first point the accumulator takes one more step. -/
theorem scB1 (c : Dev nD) (n : ℕ) (h : n + 1 < cfg0.N) (h0 : ¬(n + 1) % 11 = 0) :
    (outsAt0 m c (n + 1) h).2.2
      = k0_pay3 (F := Ideal) (outsAt0 m c n (Nat.lt_of_succ_lt h)).2.1 (iblk m c 1 ⟨n + 1, h⟩) (iblk m c 2 ⟨n + 1, h⟩)
          (outsAt0 m c n (Nat.lt_of_succ_lt h)).2.2 (iblk m c 3 ⟨n + 1, h⟩) := by
  by_cases h1 : (n + 1) % 11 = 10
  · rw [outsAt0_C m c ⟨n + 1, h⟩ h0 h1]
    frame_out
    rw [read_unread_whole, read_unread_whole]
    rfl
  · rw [outsAt0_B m c ⟨n + 1, h⟩ h0 h1]
    frame_out
    rw [read_unread_whole, read_unread_whole]
    rfl

/-- At a block's last point the output is the norm of the residual sum over the finished accumulator. -/
theorem outC (c : Dev nD) (n : ℕ) (h : n + 1 < cfg0.N) (h0 : ¬(n + 1) % 11 = 0) (h1 : (n + 1) % 11 = 10) :
    (outsAt0 m c (n + 1) h).1
      = k0_pay4 (F := Ideal) (iblk m c 0 ⟨n + 1, h⟩) (outsAt0 m c (n + 1) h).2.2 (iblk m c 4 ⟨n + 1, h⟩) (iblk m c 5 ⟨n + 1, h⟩) := by
  rw [scB1 m c n h h0, outsAt0_C m c ⟨n + 1, h⟩ h0 h1]
  frame_out
  rw [read_unread_whole, read_unread_whole]
  rfl

/-- Chunk `j`'s share of the down product at entry `l` of row `R` (zero past the last chunk). -/
def part (c : Dev nD) (R : Fin 16384) (l : Fin 2048) (j : ℕ) : EReal :=
  if hj : j < 11 then
    ∑ n : Fin 512, hid (X m c) (WGU m c) R ⟨512 * j + n.val, by omega⟩ * WD m c (ix2 ⟨512 * j + n.val, by omega⟩ l)
  else 0

/-- One step over a scratch that holds the rows adds the chunk's share. -/
theorem step_at (c : Dev nD) (t : Fin cfg0.N) (hq : t.val / 11 < 32) (xb : Vec Ideal S512x2048 .bf16)
    (hxb : ∀ (r : Fin 512) (l : Fin 2048), xb (ix2 r l) = X m c (ix2 (row (t.val / 11) hq r) l))
    (acc : Vec Ideal S512x2048 .f32) (r : Fin 512) (l : Fin 2048) :
    k0_pay3 (F := Ideal) xb (iblk m c 1 t) (iblk m c 2 t) acc (iblk m c 3 t) (ix2 r l)
      = acc (ix2 r l) + part m c (row (t.val / 11) hq r) l (t.val % 11) := by
  rw [pay3_at, part, dif_pos (Nat.mod_lt _ (by decide))]
  refine congrArg (acc (ix2 r l) + ·) (Finset.sum_congr rfl fun n _ => ?_)
  rw [blk3 m c t n l]
  refine congrArg (· * _) ?_
  unfold hid
  refine congrArg₂ swish (Finset.sum_congr rfl fun k _ => ?_) (Finset.sum_congr rfl fun k _ => ?_)
  · rw [hxb, blk1 m c t k n]
  · rw [hxb, blk2 m c t k n]

/-- What the scratch and the accumulator hold after each point: the block's rows, and the shares of the chunks so far. -/
theorem inv (c : Dev nD) : ∀ (n : ℕ) (h : n < cfg0.N) (hq : n / 11 < 32),
    (∀ (r : Fin 512) (l : Fin 2048), (outsAt0 m c n h).2.1 (ix2 r l) = X m c (ix2 (row (n / 11) hq r) l))
    ∧ (∀ (r : Fin 512) (l : Fin 2048), (outsAt0 m c n h).2.2 (ix2 r l)
        = ∑ j ∈ Finset.range (n % 11 + 1), part m c (row (n / 11) hq r) l j) := by
  intro n
  induction n with
  | zero =>
    intro h hq
    have e0 := scA0 m c ⟨0, h⟩ rfl (by show ¬0 % 11 = 10; decide)
    have e1 := scA1 m c ⟨0, h⟩ rfl (by show ¬0 % 11 = 10; decide)
    refine ⟨fun r l => ?_, fun r l => ?_⟩
    · rw [e0, pay1_at, blk0 m c ⟨0, h⟩ hq]
    · rw [e1, step_at m c ⟨0, h⟩ hq _ (fun r l => by rw [pay1_at, blk0 m c ⟨0, h⟩ hq]), pay2_at, zero_add]
      simp
  | succ n ih =>
    intro h hq
    by_cases h0 : (n + 1) % 11 = 0
    · have e0 := scA0 m c ⟨n + 1, h⟩ h0 (by show ¬(n + 1) % 11 = 10; omega)
      have e1 := scA1 m c ⟨n + 1, h⟩ h0 (by show ¬(n + 1) % 11 = 10; omega)
      refine ⟨fun r l => ?_, fun r l => ?_⟩
      · rw [e0, pay1_at, blk0 m c ⟨n + 1, h⟩ hq]
      · rw [e1, step_at m c ⟨n + 1, h⟩ hq _ (fun r l => by rw [pay1_at, blk0 m c ⟨n + 1, h⟩ hq]), pay2_at, zero_add]
        show part m c _ l ((n + 1) % 11) = _
        rw [h0]
        simp
    · have hd : (n + 1) / 11 = n / 11 := by omega
      have hm : (n + 1) % 11 = n % 11 + 1 := by omega
      have hq' : n / 11 < 32 := by omega
      have hr : ∀ r, row ((n + 1) / 11) hq r = row (n / 11) hq' r := fun r => Fin.ext (by show 512 * ((n + 1) / 11) + _ = _; rw [hd])
      obtain ⟨i0, i1⟩ := ih (Nat.lt_of_succ_lt h) hq'
      refine ⟨fun r l => ?_, fun r l => ?_⟩
      · rw [scB0 m c n h h0, i0, hr]
      · rw [scB1 m c n h h0, step_at m c ⟨n + 1, h⟩ hq _ (fun r l => by rw [i0]; exact congrArg (fun R => X m c (ix2 R l)) (hr r).symm), i1]
        show _ + part m c _ l ((n + 1) % 11) = _
        rw [hm, Finset.sum_range_succ _ (n % 11 + 1), show row ((⟨n + 1, h⟩ : Fin cfg0.N).val / 11) hq r = row (n / 11) hq' r from hr r]

/-- The eleven shares are the whole down product. -/
theorem parts_eq (c : Dev nD) (R : Fin 16384) (l : Fin 2048) :
    ∑ j ∈ Finset.range 11, part m c R l j = down (X m c) (WGU m c) (WD m c) R l := by
  unfold down
  rw [Fin.sum_univ_tiles 11 512 rfl, Finset.sum_range]
  refine Finset.sum_congr rfl fun j _ => ?_
  unfold part
  rw [dif_pos j.isLt]
  refine Finset.sum_congr rfl fun n _ => ?_
  have e : (⟨512 * j.val + n.val, by omega⟩ : Fin 5632) = ⟨j.val * 512 + n.val, by omega⟩ := Fin.ext (by show 512 * j.val + n.val = j.val * 512 + n.val; omega)
  rw [e]

/-- The result array: the feed-forward block of the arguments. -/
def G (c : Dev nD) : Buf (Elt Ideal) ((c : Thread nD τ).loc main_v4) := fun (i : S16384x2048.Idx) =>
  out (X m c) (WGU m c) (WD m c) (GA m c) (BE m c) (i 0) (i 1)

/-- What a block's last point leaves in the output. -/
theorem out_at (c : Dev nD) (t : Fin cfg0.N) (h1 : t.val % 11 = 10) (hq : t.val / 11 < 32) (r : Fin 512) (l : Fin 2048) :
    (outsAt0 m c t.val t.isLt).1 (ix2 r l)
      = out (X m c) (WGU m c) (WD m c) (GA m c) (BE m c) (row (t.val / 11) hq r) l := by
  obtain ⟨n, hn⟩ := t
  obtain _ | n := n
  · exact absurd h1 (by show ¬0 % 11 = 10; decide)
  have h1' : (n + 1) % 11 = 10 := h1
  have h0 : ¬(n + 1) % 11 = 0 := by omega
  have e := outC m c n hn h0 h1'
  show (outsAt0 m c (n + 1) hn).1 (ix2 r l) = _
  rw [e, pay4_at, blk4 m c ⟨n + 1, hn⟩, blk5 m c ⟨n + 1, hn⟩]
  unfold out
  refine congrArg (fun f => lnAt f l _ _) (funext fun k => ?_)
  rw [blk0 m c ⟨n + 1, hn⟩ hq, (inv m c (n + 1) hn hq).2 r k, h1', parts_eq]

/-- The result array after the run. -/
theorem final (c : Dev nD) : (dats m 0 c).arrAt 6 cfg0.N = G m c := by
  refine (dats m 0 c).arrAt_eq_of_covers 6 _ (by decide +kernel) fun t hf y => ?_
  have h1 : t.val % 11 = 10 := (flush0_6 t).mp hf
  have hq : t.val / 11 < 32 := (idx t).2.2.2.2.2.2.2
  blk_simp
  rw [after0_6]
  suffices key : ∀ i : S512x2048.Idx, (outsAt0 m c t.val t.isLt).1 i = G m c ((win0_6.blk t).view.emb i) from key y
  intro i
  idx_vars i
  refine (out_at m c t h1 hq i0 i1).trans ?_
  unfold G
  refine congrArg₂ (out (X m c) (WGU m c) (WD m c) (GA m c) (BE m c)) (Fin.ext ?_) (Fin.ext ?_)
  · blk_simp [idx t]
    show 512 * (t.val / 11) + i0.val = _
    omega
  · blk_simp [idx t]

end Cert.FfnValue
-- ==== Proof.FfnClaim.lean ====
/- The feed-forward kernel and its reference leave the same result. -/
module

public import proofs.«01_k».proof.Defs
public import proofs.«01_k».proof.Proof.FfnValue
public import proofs.«01_k».proof.Proof.Gen.FfnRefIdeal.Run
public import proofs.«01_k».proof.Proof.Gen.FfnRefIdeal.Read
public import Idealize.ShloMosaic.Lib.Claim

@[expose] public section

set_option maxRecDepth 16384

noncomputable section

open Idealize.ShloMosaic Idealize.ShloMosaic.TcCoe Idealize.SL.Sem

namespace Cert.FfnClaim

/-- The reference's result, at the arguments of a memory, is the feed-forward block of them. -/
theorem ref_result (m : (ℓ : Loc Cert.FfnRefIdeal.nD Cert.FfnRefIdeal.τ Cert.FfnRefIdeal.sig) → Buf (Elt Ideal) ℓ)
    (c : Dev Cert.FfnRefIdeal.nD) (i : (⟨2, ![16384, 2048]⟩ : Shape).Idx) :
    Cert.FfnRefIdeal.Value.res_main_v32 (F := Ideal) m c i
      = Cert.FfnPure.out (m ((c.tc : Thread Cert.FfnRefIdeal.nD Cert.FfnRefIdeal.τ).loc Cert.FfnRefIdeal.main_arg0))
          (m ((c.tc : Thread Cert.FfnRefIdeal.nD Cert.FfnRefIdeal.τ).loc Cert.FfnRefIdeal.main_arg1))
          (m ((c.tc : Thread Cert.FfnRefIdeal.nD Cert.FfnRefIdeal.τ).loc Cert.FfnRefIdeal.main_arg2))
          (m ((c.tc : Thread Cert.FfnRefIdeal.nD Cert.FfnRefIdeal.τ).loc Cert.FfnRefIdeal.main_arg3))
          (m ((c.tc : Thread Cert.FfnRefIdeal.nD Cert.FfnRefIdeal.τ).loc Cert.FfnRefIdeal.main_arg4)) (i 0) (i 1) := by
  rw [Cert.FfnRefIdeal.Read.val_main_v32_eq m c]
  idx_vars i
  exact Cert.FfnPure.ref_at _ _ _ _ _ i0 i1

/-- The idealized kernel's result is the reference's. -/
theorem algebraic : Cert.algebraic_FfnIdeal_FfnRefIdeal := by
  pair_intro
  · run_from Cert.FfnIdeal.Gen.run_main m g
  · run_from Cert.FfnRefIdeal.Value.run m' g'
    refine Eq.trans (funext fun i => ?_) (Cert.FfnValue.final m c).symm
    obtain ⟨e0, e1, e2, e3, e4⟩ := hagree c
    refine (ref_result m' c i).trans ?_
    rw [e0, e1, e2, e3, e4]
    rfl

end Cert.FfnClaim

end
-- ==== Proof.QkvValue.lean ====
/- The projection kernel's three result arrays: each row block's products with the weights, the queries scaled. -/
module

public import proofs.«01_k».proof.Defs
public import proofs.«01_k».proof.Proof.Gen.QkvIdeal.Value
public import proofs.«01_k».proof.Proof.Gen.QkvRefIdeal.Run
public import proofs.«01_k».proof.Proof.Gen.QkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvValue

/-- Entry `n` of row `R` of the product of the rows and the weights. -/
def proj (x : FVec Ideal ⟨2, ![16384, 2048]⟩ .f32) (w : FVec Ideal ⟨2, ![2048, 3072]⟩ .f32) (R : Fin 16384) (n : Fin 3072) : EReal :=
  ∑ k : Fin 2048, x (ix2 R k) * w (ix2 k n)

section kernel

open Cert.QkvIdeal Cert.QkvIdeal.Gen Cert.QkvIdeal.Value

variable (m : (ℓ : Loc nD τ sig) → Buf (Elt Ideal) ℓ)

/-- The block of each window at a grid point: the rows' windows move with the point, the weights' window stands. -/
theorem idx : ∀ t : Fin cfg0.N, win0_0.index t = ![t.val, 0] ∧ win0_1.index t = ![0, 0]
    ∧ win0_2.index t = ![t.val, 0] ∧ win0_3.index t = ![t.val, 0] ∧ win0_4.index t = ![t.val, 0] ∧ t.val < 32 :=
  (by decide +kernel : ∀ t : Fin grid0.N, _)

/-- The rows. -/
abbrev X (c : Dev nD) : FVec Ideal S16384x2048 .f32 := m ((c : Thread nD τ).loc main_arg0)
/-- The weights. -/
abbrev W (c : Dev nD) : FVec Ideal S2048x3072 .f32 := m ((c : Thread nD τ).loc main_arg1)

/-- Row `r` of row block `q`. -/
abbrev row (q : ℕ) (hq : q < 32) (r : Fin 512) : Fin 16384 := ⟨512 * q + r.val, by omega⟩

/-- The rows' block at a point. -/
theorem blk0 (c : Dev nD) (t : Fin cfg0.N) (hq : t.val < 32) (r : Fin 512) (l : Fin 2048) :
    iblk m c 0 t (ix2 r l) = X m c (ix2 (row t.val hq r) l) := by
  blk_ext [iblk, V, idx t]

/-- The weights' block at a point. -/
theorem blk1 (c : Dev nD) (t : Fin cfg0.N) (k : Fin 2048) (n : Fin 3072) :
    iblk m c 1 t (ix2 k n) = W m c (ix2 k n) := by
  blk_simp [iblk]
  entry_read
  pointwise
  blk_ext [idx t]

/-- The block product at an entry. -/
theorem pay1_at (x : Vec Ideal S512x2048 .f32) (w : Vec Ideal S2048x3072 .bf16) (r : Fin 512) (n : Fin 3072) :
    k0_pay1 (F := Ideal) x w (ix2 r n) = ∑ k : Fin 2048, x (ix2 r k) * w (ix2 k n) := by
  pointwise [k0_pay1]

/-- The block product of the blocks at a point is the whole product's. -/
theorem pay1_blk (c : Dev nD) (t : Fin cfg0.N) (hq : t.val < 32) (r : Fin 512) (n : Fin 3072) :
    k0_pay1 (F := Ideal) (iblk m c 0 t) (iblk m c 1 t) (ix2 r n) = proj (X m c) (W m c) (row t.val hq r) n := by
  rw [pay1_at]
  exact Finset.sum_congr rfl fun k _ => by rw [blk0 m c t hq, blk1 m c t]

/-- The queries' stored block. -/
theorem pay2_at (x : Vec Ideal S512x2048 .f32) (w : Vec Ideal S2048x3072 .bf16) (r : Fin 512) (l : Fin 2048) :
    k0_pay2 (F := Ideal) x w (ix2 r l) = k0_pay1 (F := Ideal) x w (ix2 r ⟨l.val, by omega⟩) * Ideal.ofBits .f32 0x3DB504F3#32 := by
  pointwise [k0_pay2]

/-- The keys' stored block. -/
theorem pay3_at (x : Vec Ideal S512x2048 .f32) (w : Vec Ideal S2048x3072 .bf16) (r : Fin 512) (l : Fin 512) :
    k0_pay3 (F := Ideal) x w (ix2 r l) = k0_pay1 (F := Ideal) x w (ix2 r ⟨2048 + l.val, by omega⟩) := by
  pointwise [k0_pay3]

/-- The values' stored block. -/
theorem pay4_at (x : Vec Ideal S512x2048 .f32) (w : Vec Ideal S2048x3072 .bf16) (r : Fin 512) (l : Fin 512) :
    k0_pay4 (F := Ideal) x w (ix2 r l) = k0_pay1 (F := Ideal) x w (ix2 r ⟨2560 + l.val, by omega⟩) := by
  pointwise [k0_pay4]

/-- The query array: the product's first 2048 columns, scaled. -/
def GQ (c : Dev nD) : Buf (Elt Ideal) ((c : Thread nD τ).loc main_v1_0) := fun (i : S16384x2048.Idx) =>
  proj (X m c) (W m c) (i 0) ⟨(i 1).val, lt_of_lt_of_le (i 1).isLt (by decide : 2048 ≤ 3072)⟩ * Ideal.ofBits .f32 0x3DB504F3#32
/-- The key array: the product's next 512 columns. -/
def GK (c : Dev nD) : Buf (Elt Ideal) ((c : Thread nD τ).loc main_v1_1) := fun (i : S16384x512.Idx) =>
  proj (X m c) (W m c) (i 0) ⟨2048 + (i 1).val, by have h : (i 1).val < 512 := (i 1).isLt; omega⟩
/-- The value array: the product's last 512 columns. -/
def GV (c : Dev nD) : Buf (Elt Ideal) ((c : Thread nD τ).loc main_v1_2) := fun (i : S16384x512.Idx) =>
  proj (X m c) (W m c) (i 0) ⟨2560 + (i 1).val, by have h : (i 1).val < 512 := (i 1).isLt; omega⟩

/-- The query array after the run. -/
theorem finalQ (c : Dev nD) : (dats m 0 c).arrAt 2 cfg0.N = GQ m c := by
  refine (dats m 0 c).arrAt_eq_of_covers 2 _ (by decide +kernel) fun t hf y => ?_
  have hq : t.val < 32 := (idx t).2.2.2.2.2
  blk_simp
  rw [after0_2]
  frame_out
  suffices key : ∀ i : S512x2048.Idx, k0_pay2 (F := Ideal) (iblk m c 0 t) (iblk m c 1 t) i = GQ m c ((win0_2.blk t).view.emb i) from key y
  intro i
  idx_vars i
  rw [pay2_at, pay1_blk m c t hq]
  unfold GQ
  refine congrArg (· * _) (congrArg₂ (proj (X m c) (W m c)) (Fin.ext ?_) (Fin.ext ?_))
  · blk_simp [idx t]
    show 512 * t.val + i0.val = _
    omega
  · blk_simp [idx t]

/-- The key array after the run. -/
theorem finalK (c : Dev nD) : (dats m 0 c).arrAt 3 cfg0.N = GK m c := by
  refine (dats m 0 c).arrAt_eq_of_covers 3 _ (by decide +kernel) fun t hf y => ?_
  have hq : t.val < 32 := (idx t).2.2.2.2.2
  blk_simp
  rw [after0_3]
  frame_out
  suffices key : ∀ i : S512x512.Idx, k0_pay3 (F := Ideal) (iblk m c 0 t) (iblk m c 1 t) i = GK m c ((win0_3.blk t).view.emb i) from key y
  intro i
  idx_vars i
  rw [pay3_at, pay1_blk m c t hq]
  unfold GK
  refine congrArg₂ (proj (X m c) (W m c)) (Fin.ext ?_) (Fin.ext ?_)
  · blk_simp [idx t]
    show 512 * t.val + i0.val = _
    omega
  · blk_simp [idx t]

/-- The value array after the run. -/
theorem finalV (c : Dev nD) : (dats m 0 c).arrAt 4 cfg0.N = GV m c := by
  refine (dats m 0 c).arrAt_eq_of_covers 4 _ (by decide +kernel) fun t hf y => ?_
  have hq : t.val < 32 := (idx t).2.2.2.2.2
  blk_simp
  rw [after0_4]
  frame_out
  suffices key : ∀ i : S512x512.Idx, k0_pay4 (F := Ideal) (iblk m c 0 t) (iblk m c 1 t) i = GV m c ((win0_4.blk t).view.emb i) from key y
  intro i
  idx_vars i
  rw [pay4_at, pay1_blk m c t hq]
  unfold GV
  refine congrArg₂ (proj (X m c) (W m c)) (Fin.ext ?_) (Fin.ext ?_)
  · blk_simp [idx t]
    show 512 * t.val + i0.val = _
    omega
  · blk_simp [idx t]

end kernel

section reference

open Cert.QkvRefIdeal Cert.QkvRefIdeal.Read

/-- The reference's product at an entry. -/
theorem ref0_at (x : FVec Ideal S16384x2048 .f32) (w : FVec Ideal S2048x3072 .f32) (R : Fin 16384) (n : Fin 3072) :
    val_main_v0 (F := Ideal) x w (ix2 R n) = proj x w R n := by
  unfold proj
  pointwise [val_main_v0]

/-- The reference's queries at an entry. -/
theorem refQ_at (x : FVec Ideal S16384x2048 .f32) (w : FVec Ideal S2048x3072 .f32) (R : Fin 16384) (l : Fin 2048) :
    val_main_v6 (F := Ideal) x w (ix2 R l) = proj x w R ⟨l.val, by omega⟩ * Ideal.ofBits .f32 0x3DB504F3#32 := by
  rw [← ref0_at]
  pointwise [val_main_v6, val_main_v3, val_main_v2, val_main_v1, val_main_cst]

/-- The reference's keys at an entry. -/
theorem refK_at (x : FVec Ideal S16384x2048 .f32) (w : FVec Ideal S2048x3072 .f32) (R : Fin 16384) (l : Fin 512) :
    val_main_v7 (F := Ideal) x w (ix2 R l) = proj x w R ⟨2048 + l.val, by omega⟩ := by
  rw [← ref0_at]
  pointwise [val_main_v7, val_main_v4]

/-- The reference's values at an entry. -/
theorem refV_at (x : FVec Ideal S16384x2048 .f32) (w : FVec Ideal S2048x3072 .f32) (R : Fin 16384) (l : Fin 512) :
    val_main_v8 (F := Ideal) x w (ix2 R l) = proj x w R ⟨2560 + l.val, by omega⟩ := by
  rw [← ref0_at]
  pointwise [val_main_v8, val_main_v5]

end reference

/-- The idealized kernel's three results are the reference's. -/
theorem algebraic : Cert.algebraic_QkvIdeal_QkvRefIdeal := by
  pair_intro
  · run_from Cert.QkvIdeal.Gen.run_main m g
  · run_from Cert.QkvRefIdeal.Value.run m' g'
    · refine Eq.trans (funext fun (i : (⟨2, ![16384, 2048]⟩ : Shape).Idx) => ?_) (finalQ m c).symm
      idx_vars i
      exact refQ_at _ _ i0 i1
    · refine Eq.trans (funext fun (i : (⟨2, ![16384, 512]⟩ : Shape).Idx) => ?_) (finalK m c).symm
      idx_vars i
      exact refK_at _ _ i0 i1
    · refine Eq.trans (funext fun (i : (⟨2, ![16384, 512]⟩ : Shape).Idx) => ?_) (finalV m c).symm
      idx_vars i
      exact refV_at _ _ i0 i1

end Cert.QkvValue

end
-- ==== Proof.BwdRun.lean ====
/- The body of the backward recurrence's kernel, run once at any grid point. -/
module

public import proofs.«01_k».proof.Proof.BwdBase

@[expose] public section

set_option maxRecDepth 16384

noncomputable section

namespace Cert.Bwd.Hand

open Cert.Bwd Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at a point that restarts: from the inputs at their contents and everything else at anything it runs to the inputs as they were and everything else at something. -/
theorem run_A (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : Restarts i)
    (x0 : Vec F S256x2048 .f32) (x1 : Vec F S256x2048 .f32) (x2 : Vec F S256x2048 .f32) (x3 : Vec F S256x2048 .f32) (x4 : Vec F S16x128x256 .bf16) (x5 : Vec F S2x2048 .f32) (x6 : Vec F S1x2048 .f32) (x7 : Vec F S2048x2048 .bf16) (x8 : Vec F S1x2048 .f32) (x9 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    unfold lruBody
    simp only [cc0_lru_bwd_eq_skeleton]; unfold cc0_lru_bwd_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    have hc : cond0_0 i := (restarts_iff i).mp hc0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

set_option maxHeartbeats 1600000 in
/-- The body at a point that carries on: from the inputs at their contents and everything else at anything it runs to the inputs as they were and everything else at something. -/
theorem run_B (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : ¬Restarts i)
    (x0 : Vec F S256x2048 .f32) (x1 : Vec F S256x2048 .f32) (x2 : Vec F S256x2048 .f32) (x3 : Vec F S256x2048 .f32) (x4 : Vec F S16x128x256 .bf16) (x5 : Vec F S2x2048 .f32) (x6 : Vec F S1x2048 .f32) (x7 : Vec F S2048x2048 .bf16) (x8 : Vec F S1x2048 .f32) (x9 : Vec F S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    unfold lruBody
    simp only [cc0_lru_bwd_eq_skeleton]; unfold cc0_lru_bwd_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    have hc : ¬cond0_0 i := fun h => hc0 ((restarts_iff i).mpr h)
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

end Cert.Bwd.Hand

end
-- ==== Proof.BwdFrameBase.lean ====
/- The frame of the backward recurrence's kernel: the body at every point, the launch, the arguments as they were. -/
module

public import proofs.«01_k».proof.Proof.BwdRun

@[expose] public section

set_option maxRecDepth 16384

noncomputable section

namespace Cert.Bwd.Hand

open Cert.Bwd Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one whose contents are not named. -/
def forgets0 : Fin 11 → Bool := fun w => w.val == 10

/-- The proof data: the inputs stay at their blocks, the output is not named, the scratch is at anything at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
  Φ _ := Pipeline.ΦA spec0 c
  q _ := fullShare
  owed _ := 0

/-- The arrays the proof data starts from are those the region finds. -/
theorem A_eq (c : Dev nD) (w : Fin cfg0.W) : (dats m 0 c).A w = V m c (Pipeline.arrRef spec0 w) := by dsimp only [dats]

/-- Input 0 after a point is its block. -/
theorem after0_0 (c : Dev nD) (t : Fin cfg0.N) : (dats m 0 c).after 0 t = iblk m c 0 t := by dsimp only [dats]
/-- Input 1 after a point is its block. -/
theorem after0_1 (c : Dev nD) (t : Fin cfg0.N) : (dats m 0 c).after 1 t = iblk m c 1 t := by dsimp only [dats]
/-- Input 2 after a point is its block. -/
theorem after0_2 (c : Dev nD) (t : Fin cfg0.N) : (dats m 0 c).after 2 t = iblk m c 2 t := by dsimp only [dats]
/-- Input 3 after a point is its block. -/
theorem after0_3 (c : Dev nD) (t : Fin cfg0.N) : (dats m 0 c).after 3 t = iblk m c 3 t := by dsimp only [dats]
/-- Input 4 after a point is its block. -/
theorem after0_4 (c : Dev nD) (t : Fin cfg0.N) : (dats m 0 c).after 4 t = iblk m c 4 t := by dsimp only [dats]
/-- Input 5 after a point is its block. -/
theorem after0_5 (c : Dev nD) (t : Fin cfg0.N) : (dats m 0 c).after 5 t = iblk m c 5 t := by dsimp only [dats]
/-- Input 6 after a point is its block. -/
theorem after0_6 (c : Dev nD) (t : Fin cfg0.N) : (dats m 0 c).after 6 t = iblk m c 6 t := by dsimp only [dats]
/-- Input 7 after a point is its block. -/
theorem after0_7 (c : Dev nD) (t : Fin cfg0.N) : (dats m 0 c).after 7 t = iblk m c 7 t := by dsimp only [dats]
/-- Input 8 after a point is its block. -/
theorem after0_8 (c : Dev nD) (t : Fin cfg0.N) : (dats m 0 c).after 8 t = iblk m c 8 t := by dsimp only [dats]
/-- Input 9 after a point is its block. -/
theorem after0_9 (c : Dev nD) (t : Fin cfg0.N) : (dats m 0 c).after 9 t = iblk m c 9 t := by dsimp only [dats]
/-- Input 0 before a point is its block. -/
theorem before0_0 (c : Dev nD) (t : Fin cfg0.N) (d) : (dats m 0 c).before 0 t d = iblk m c 0 t :=
  before0_0_of m (dats m 0 c) (A_eq m c 0) (after0_0 m c) t d
/-- Input 1 before a point is its block. -/
theorem before0_1 (c : Dev nD) (t : Fin cfg0.N) (d) : (dats m 0 c).before 1 t d = iblk m c 1 t :=
  before0_1_of m (dats m 0 c) (A_eq m c 1) (after0_1 m c) t d
/-- Input 2 before a point is its block. -/
theorem before0_2 (c : Dev nD) (t : Fin cfg0.N) (d) : (dats m 0 c).before 2 t d = iblk m c 2 t :=
  before0_2_of m (dats m 0 c) (A_eq m c 2) (after0_2 m c) t d
/-- Input 3 before a point is its block. -/
theorem before0_3 (c : Dev nD) (t : Fin cfg0.N) (d) : (dats m 0 c).before 3 t d = iblk m c 3 t :=
  before0_3_of m (dats m 0 c) (A_eq m c 3) (after0_3 m c) t d
/-- Input 4 before a point is its block. -/
theorem before0_4 (c : Dev nD) (t : Fin cfg0.N) (d) : (dats m 0 c).before 4 t d = iblk m c 4 t :=
  before0_4_of m (dats m 0 c) (A_eq m c 4) (after0_4 m c) t d
/-- Input 5 before a point is its block. -/
theorem before0_5 (c : Dev nD) (t : Fin cfg0.N) (d) : (dats m 0 c).before 5 t d = iblk m c 5 t :=
  before0_5_of m (dats m 0 c) (A_eq m c 5) (after0_5 m c) t d
/-- Input 6 before a point is its block. -/
theorem before0_6 (c : Dev nD) (t : Fin cfg0.N) (d) : (dats m 0 c).before 6 t d = iblk m c 6 t :=
  before0_6_of m (dats m 0 c) (A_eq m c 6) (after0_6 m c) t d
/-- Input 7 before a point is its block. -/
theorem before0_7 (c : Dev nD) (t : Fin cfg0.N) (d) : (dats m 0 c).before 7 t d = iblk m c 7 t :=
  before0_7_of m (dats m 0 c) (A_eq m c 7) (after0_7 m c) t d
/-- Input 8 before a point is its block. -/
theorem before0_8 (c : Dev nD) (t : Fin cfg0.N) (d) : (dats m 0 c).before 8 t d = iblk m c 8 t :=
  before0_8_of m (dats m 0 c) (A_eq m c 8) (after0_8 m c) t d
/-- Input 9 before a point is its block. -/
theorem before0_9 (c : Dev nD) (t : Fin cfg0.N) (d) : (dats m 0 c).before 9 t d = iblk m c 9 t :=
  before0_9_of m (dats m 0 c) (A_eq m c 9) (after0_9 m c) t d

/-- The invariant at a point is all of the scratch at anything. -/
theorem Phi_eq (c : Dev nD) (t : Fin (cfg0.N + 1)) : (dats (F := F) m 0 c).Φ t = Pipeline.ΦA spec0 c := by dsimp only [dats]

/-- The core owes nothing before or after a point. -/
theorem owesAt_eq (c : Dev nD) (t : Fin cfg0.N) : (dats m 0 c).owesAt () t.succ = (dats m 0 c).owesAt () t.castSucc := rfl

/-- The launch hands over the invariant. -/
theorem hin (c : Dev nD) : Pipeline.ΦA spec0 c ⊢ (dats (F := F) m 0 c).Φ 0 := by
  rw [Phi_eq]

/-- The invariant is handed back. -/
theorem hout (c : Dev nD) : (dats (F := F) m 0 c).Φ (Fin.last cfg0.N) ⊢ Pipeline.ΦA spec0 c := by
  rw [Phi_eq]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d))

set_option maxHeartbeats 2000000 in
/-- A body's run from what it holds to what it leaves, rearranged to the order of the launch, the rest kept aside. -/
theorem glue {D0 D1 D2 D3 D4 D5 D6 D7 D8 D9 : Type} (X0 X1 X2 X3 X4 X5 X6 X7 X8 X9 Y Y' S0 S1 S2 S3 S0' S1' S2' S3' G O : sProp 𝕄) (W : (PUnit → sProp 𝕄) → sProp 𝕄)
    (h : ∀ K : PUnit → sProp 𝕄, iprop(X0 ∗ X1 ∗ X2 ∗ X3 ∗ X4 ∗ X5 ∗ X6 ∗ X7 ∗ X8 ∗ X9 ∗ Y ∗ S0 ∗ S1 ∗ S2 ∗ S3 ∗ (iprop(X0 ∗ X1 ∗ X2 ∗ X3 ∗ X4 ∗ X5 ∗ X6 ∗ X7 ∗ X8 ∗ X9 ∗ Y' ∗ S0' ∗ S1' ∗ S2' ∗ S3') -∗ K ⟨⟩)) ⊢ W K) :
    iprop(((S0 ∗ S1 ∗ S2 ∗ S3) ∗ G) ∗ O ∗ (∃ _ : D0, X0) ∗ (∃ _ : D1, X1) ∗ (∃ _ : D2, X2) ∗ (∃ _ : D3, X3) ∗ (∃ _ : D4, X4) ∗ (∃ _ : D5, X5) ∗ (∃ _ : D6, X6) ∗ (∃ _ : D7, X7) ∗ (∃ _ : D8, X8) ∗ (∃ _ : D9, X9) ∗ Y)
      ⊢ W (fun _ => iprop(((S0' ∗ S1' ∗ S2' ∗ S3') ∗ G) ∗ O ∗ X0 ∗ X1 ∗ X2 ∗ X3 ∗ X4 ∗ X5 ∗ X6 ∗ X7 ∗ X8 ∗ X9 ∗ Y')) := by
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (h _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

end Cert.Bwd.Hand

end
-- ==== Proof.BwdBody.lean ====
/- The frame of the backward recurrence's kernel: the body at every point, the launch, the arguments as they were. -/
module

public import proofs.«01_k».proof.Proof.BwdFrameBase

@[expose] public section

set_option maxRecDepth 16384

noncomputable section

namespace Cert.Bwd.Hand

open Cert.Bwd Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's body at a point, kept folded. -/
abbrev pointBody (t : Fin cfg0.N) : Prog (TpuEff nD τ sig (Elt F) Λ₀ .tc) PUnit :=
  lruBody (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)

set_option maxHeartbeats 1000000 in
/-- The body at a point that restarts runs from what it is called with to what it returns. -/
theorem sound_A (c : Dev nD) (t : Fin cfg0.N) (h0 : Restarts (grid0.coords t)) :
    bodyPre m c t ⊢ wp frame (wpE (defs₀ (F := F)) Variants.none c none) Set.univ (pointBody (F := F) t) (fun _ => bodyPost m c t) := by
  unfold bodyPre bodyPost
  simp only [before0_0, before0_1, before0_2, before0_3, before0_4, before0_5, before0_6, before0_7, before0_8, before0_9]
  rw [owesAt_eq, after0_0, after0_1, after0_2, after0_3, after0_4, after0_5, after0_6, after0_7, after0_8, after0_9]
  rw [Phi_eq m c t.castSucc, Phi_eq m c t.succ, PhiA0_eq]
  exact glue _ _ _ _ _ _ _ _ _ _ _ _ _ _ _ _ _ _ _ _ _ _ (wp frame (wpE (defs₀ (F := F)) Variants.none c none) Set.univ (pointBody (F := F) t))
    (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) Set.univ)

set_option maxHeartbeats 1000000 in
/-- The body at a point that does not restart runs from what it is called with to what it returns. -/
theorem sound_B (c : Dev nD) (t : Fin cfg0.N) (h0 : ¬Restarts (grid0.coords t)) :
    bodyPre m c t ⊢ wp frame (wpE (defs₀ (F := F)) Variants.none c none) Set.univ (pointBody (F := F) t) (fun _ => bodyPost m c t) := by
  unfold bodyPre bodyPost
  simp only [before0_0, before0_1, before0_2, before0_3, before0_4, before0_5, before0_6, before0_7, before0_8, before0_9]
  rw [owesAt_eq, after0_0, after0_1, after0_2, after0_3, after0_4, after0_5, after0_6, after0_7, after0_8, after0_9]
  rw [Phi_eq m c t.castSucc, Phi_eq m c t.succ, PhiA0_eq]
  exact glue _ _ _ _ _ _ _ _ _ _ _ _ _ _ _ _ _ _ _ _ _ _ (wp frame (wpE (defs₀ (F := F)) Variants.none c none) Set.univ (pointBody (F := F) t))
    (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) Set.univ)

/-- The body at any point runs from what it is called with to what it returns. -/
theorem sound_body (c : Dev nD) (t : Fin cfg0.N) :
    bodyPre m c t ⊢ wp frame (wpE (defs₀ (F := F)) Variants.none c none) Set.univ (pointBody (F := F) t) (fun _ => bodyPost m c t) :=
  Classical.byCases (sound_A m c t) (sound_B m c t)

/-- The body table's row at a point is the body. -/
theorem defs₀_row (t : Fin cfg0.N) :
    defs₀ (F := F) .tc cfg0.body (cfg0.bodyArgs t (cfg0.slots t)) = pointBody t := by
  unfold defs₀ pointBody lruBody; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

end Cert.Bwd.Hand

end
-- ==== Proof.BwdFrame.lean ====
/- The frame of the backward recurrence's kernel: the body at every point, the launch, the arguments as they were. -/
module

public import proofs.«01_k».proof.Proof.BwdBody

@[expose] public section

set_option maxRecDepth 16384

noncomputable section

namespace Cert.Bwd.Hand

open Cert.Bwd Cert.Bwd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] cc0_lru_bwd defs₀

set_option maxHeartbeats 1000000 in
set_option backward.isDefEq.respectTransparency.types false in
/-- The launch: every execution ends, with the inputs as they were and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: every argument ends as it was and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(Pipeline.RDat.FramePost.arr_in h.1 c 0 rfl).trans ((A_eq m c 0).trans (V_main_arg0 m c)),
    (Pipeline.RDat.FramePost.arr_in h.1 c 1 rfl).trans ((A_eq m c 1).trans (V_main_arg1 m c)),
    (Pipeline.RDat.FramePost.arr_in h.1 c 2 rfl).trans ((A_eq m c 2).trans (V_main_arg2 m c)),
    (Pipeline.RDat.FramePost.arr_in h.1 c 3 rfl).trans ((A_eq m c 3).trans (V_main_arg3 m c)),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c)⟩, h.2⟩) (run_main_quiescent m ρ)

end Cert.Bwd.Hand

end
-- ==== Proof.BwdIdealBase.lean ====
/- The memrefs a grid point of the backward recurrence's kernel works on, and the condition of its restart. -/
module

public import proofs.«01_k».proof.Proof.Gen.BwdIdeal.Frame
public import proofs.«01_k».proof.Proof.Gen.BwdIdeal.Skeleton
public import proofs.«01_k».proof.Proof.Gen.BwdIdeal.Loops
public import Idealize.ShloMosaic.Lib.Claim

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's restart: the block's rows are the last of a sequence. -/
abbrev cond0_0 (i : grid0.Coords) : Prop := (Scalar.cmpi .ne (Scalar.extui (Scalar.select (Scalar.cmpi .sle (Scalar.addi (Scalar.muli (Scalar.subi 63#32 (BitVec.ofNat 32 (i 0).val)) 256#32) 256#32) 8192#32) (Scalar.cmpi .eq (Scalar.select (Scalar.andi (Scalar.xori (Scalar.cmpi .slt (Scalar.remsi (Scalar.addi (Scalar.muli (Scalar.subi 63#32 (BitVec.ofNat 32 (i 0).val)) 256#32) 256#32) (Scalar.select (Scalar.cmpi .eq 8192#32 0#32) 1#32 8192#32)) 0#32) (Scalar.cmpi .slt (Scalar.select (Scalar.cmpi .eq 8192#32 0#32) 1#32 8192#32) 0#32)) (Scalar.cmpi .ne (Scalar.remsi (Scalar.addi (Scalar.muli (Scalar.subi 63#32 (BitVec.ofNat 32 (i 0).val)) 256#32) 256#32) (Scalar.select (Scalar.cmpi .eq 8192#32 0#32) 1#32 8192#32)) 0#32)) (Scalar.addi (Scalar.remsi (Scalar.addi (Scalar.muli (Scalar.subi 63#32 (BitVec.ofNat 32 (i 0).val)) 256#32) 256#32) (Scalar.select (Scalar.cmpi .eq 8192#32 0#32) 1#32 8192#32)) (Scalar.select (Scalar.cmpi .eq 8192#32 0#32) 1#32 8192#32)) (Scalar.remsi (Scalar.addi (Scalar.muli (Scalar.subi 63#32 (BitVec.ofNat 32 (i 0).val)) 256#32) 256#32) (Scalar.select (Scalar.cmpi .eq 8192#32 0#32) 1#32 8192#32))) 0#32) (Scalar.cmpi .eq (Scalar.select (Scalar.andi (Scalar.xori (Scalar.cmpi .slt (Scalar.remsi (Scalar.subi (Scalar.addi (Scalar.muli (Scalar.subi 63#32 (BitVec.ofNat 32 (i 0).val)) 256#32) 256#32) 8192#32) (Scalar.select (Scalar.cmpi .eq 2048#32 0#32) 1#32 2048#32)) 0#32) (Scalar.cmpi .slt (Scalar.select (Scalar.cmpi .eq 2048#32 0#32) 1#32 2048#32) 0#32)) (Scalar.cmpi .ne (Scalar.remsi (Scalar.subi (Scalar.addi (Scalar.muli (Scalar.subi 63#32 (BitVec.ofNat 32 (i 0).val)) 256#32) 256#32) 8192#32) (Scalar.select (Scalar.cmpi .eq 2048#32 0#32) 1#32 2048#32)) 0#32)) (Scalar.addi (Scalar.remsi (Scalar.subi (Scalar.addi (Scalar.muli (Scalar.subi 63#32 (BitVec.ofNat 32 (i 0).val)) 256#32) 256#32) 8192#32) (Scalar.select (Scalar.cmpi .eq 2048#32 0#32) 1#32 2048#32)) (Scalar.select (Scalar.cmpi .eq 2048#32 0#32) 1#32 2048#32)) (Scalar.remsi (Scalar.subi (Scalar.addi (Scalar.muli (Scalar.subi 63#32 (BitVec.ofNat 32 (i 0).val)) 256#32) 256#32) 8192#32) (Scalar.select (Scalar.cmpi .eq 2048#32 0#32) 1#32 2048#32))) 0#32))) 0#32) = 1#1

/-- The restart happens at the points 0, 8, 16, 24 and 32 and at no other. -/
theorem hcond0_0 : ∀ t : Fin cfg0.N, cond0_0 (grid0.coords t) ↔ (t.val = 0 ∨ t.val = 8 ∨ t.val = 16 ∨ t.val = 24 ∨ t.val = 32) :=
  (by decide +kernel : ∀ t : Fin grid0.N, cond0_0 (grid0.coords t) ↔ (t.val = 0 ∨ t.val = 8 ∨ t.val = 16 ∨ t.val = 24 ∨ t.val = 32))

/-- The point restarts the recurrence: its condition, by name. -/
def Restarts (i : grid0.Coords) : Prop := cond0_0 i

/-- What the name stands for. -/
theorem restarts_iff (i : grid0.Coords) : Restarts i ↔ cond0_0 i := by unfold Restarts; exact Iff.rfl

/-- The points that restart, by name. -/
theorem restarts_at (t : Fin cfg0.N) : Restarts (grid0.coords t) ↔ (t.val = 0 ∨ t.val = 8 ∨ t.val = 16 ∨ t.val = 24 ∨ t.val = 32) := by
  unfold Restarts; exact hcond0_0 t

/-- The kernel's body, kept folded. -/
@[irreducible] def lruBody (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) : Prog (TpuEff nD τ sig (Elt F) Λ₀ .tc) PUnit :=
  cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15

/-- The staging memref of window 0 at a point. -/
abbrev ms0_0 (t : Fin cfg0.N) : Memref sig .tc .vmem S256x2048 .f32 := win0_0.stage (cfg0.slots t 0)
/-- It is a whole buffer. -/
abbrev hs0_0 (t : Fin cfg0.N) : (ms0_0 t).IsWhole := hstage0_0 ((cfg0.slots t 0).cast nbuf0_0)
/-- The staging memref of window 1 at a point. -/
abbrev ms0_1 (t : Fin cfg0.N) : Memref sig .tc .vmem S256x2048 .f32 := win0_1.stage (cfg0.slots t 1)
/-- It is a whole buffer. -/
abbrev hs0_1 (t : Fin cfg0.N) : (ms0_1 t).IsWhole := hstage0_1 ((cfg0.slots t 1).cast nbuf0_1)
/-- The staging memref of window 2 at a point. -/
abbrev ms0_2 (t : Fin cfg0.N) : Memref sig .tc .vmem S256x2048 .f32 := win0_2.stage (cfg0.slots t 2)
/-- It is a whole buffer. -/
abbrev hs0_2 (t : Fin cfg0.N) : (ms0_2 t).IsWhole := hstage0_2 ((cfg0.slots t 2).cast nbuf0_2)
/-- The staging memref of window 3 at a point. -/
abbrev ms0_3 (t : Fin cfg0.N) : Memref sig .tc .vmem S256x2048 .f32 := win0_3.stage (cfg0.slots t 3)
/-- It is a whole buffer. -/
abbrev hs0_3 (t : Fin cfg0.N) : (ms0_3 t).IsWhole := hstage0_3 ((cfg0.slots t 3).cast nbuf0_3)
/-- The staging memref of window 4 at a point. -/
abbrev ms0_4 (t : Fin cfg0.N) : Memref sig .tc .vmem S16x128x256 .bf16 := win0_4.stage (cfg0.slots t 4)
/-- It is a whole buffer. -/
abbrev hs0_4 (t : Fin cfg0.N) : (ms0_4 t).IsWhole := hstage0_4 ((cfg0.slots t 4).cast nbuf0_4)
/-- The staging memref of window 5 at a point. -/
abbrev ms0_5 (t : Fin cfg0.N) : Memref sig .tc .vmem S2x2048 .f32 := win0_5.stage (cfg0.slots t 5)
/-- It is a whole buffer. -/
abbrev hs0_5 (t : Fin cfg0.N) : (ms0_5 t).IsWhole := hstage0_5 ((cfg0.slots t 5).cast nbuf0_5)
/-- The staging memref of window 6 at a point. -/
abbrev ms0_6 (t : Fin cfg0.N) : Memref sig .tc .vmem S1x2048 .f32 := win0_6.stage (cfg0.slots t 6)
/-- It is a whole buffer. -/
abbrev hs0_6 (t : Fin cfg0.N) : (ms0_6 t).IsWhole := hstage0_6 ((cfg0.slots t 6).cast nbuf0_6)
/-- The staging memref of window 7 at a point. -/
abbrev ms0_7 (t : Fin cfg0.N) : Memref sig .tc .vmem S2048x2048 .bf16 := win0_7.stage (cfg0.slots t 7)
/-- It is a whole buffer. -/
abbrev hs0_7 (t : Fin cfg0.N) : (ms0_7 t).IsWhole := hstage0_7 ((cfg0.slots t 7).cast nbuf0_7)
/-- The staging memref of window 8 at a point. -/
abbrev ms0_8 (t : Fin cfg0.N) : Memref sig .tc .vmem S1x2048 .f32 := win0_8.stage (cfg0.slots t 8)
/-- It is a whole buffer. -/
abbrev hs0_8 (t : Fin cfg0.N) : (ms0_8 t).IsWhole := hstage0_8 ((cfg0.slots t 8).cast nbuf0_8)
/-- The staging memref of window 9 at a point. -/
abbrev ms0_9 (t : Fin cfg0.N) : Memref sig .tc .vmem S1x2048 .f32 := win0_9.stage (cfg0.slots t 9)
/-- It is a whole buffer. -/
abbrev hs0_9 (t : Fin cfg0.N) : (ms0_9 t).IsWhole := hstage0_9 ((cfg0.slots t 9).cast nbuf0_9)
/-- The staging memref of window 10 at a point. -/
abbrev ms0_10 (t : Fin cfg0.N) : Memref sig .tc .vmem S256x2048 .f32 := win0_10.stage (cfg0.slots t 10)
/-- It is a whole buffer. -/
abbrev hs0_10 (t : Fin cfg0.N) : (ms0_10 t).IsWhole := hstage0_10 ((cfg0.slots t 10).cast nbuf0_10)
/-- The scratch of the decay rows. -/
abbrev scM0_0 : Memref sig .tc .vmem S256x2048 .f32 := Memref.whole cc0_scratch0
/-- The scratch of the input rows. -/
abbrev scM0_1 : Memref sig .tc .vmem S256x2048 .f32 := Memref.whole cc0_scratch1
/-- The scratch of the state rows. -/
abbrev scM0_2 : Memref sig .tc .vmem S256x2048 .f32 := Memref.whole cc0_scratch2
/-- The scratch of the carried state. -/
abbrev scM0_3 : Memref sig .tc .vmem S8x2048 .f32 := Memref.whole cc0_scratch3

/-- What the launch hands the region, the scratch as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.BwdIdeal.Hand

end
-- ==== Proof.BwdMath.lean ====
/- The gates of the backward recurrence at one position, and the recurrence itself, as plain mathematics. -/
module

public import Idealize.ShloMosaic.Lib.Pointwise
public import Idealize.ShloMosaic.Lib.IdealHost
public import proofs.«01_k».proof.Proof.LayerMath

@[expose] public section

noncomputable section

open Idealize.ShloMosaic

namespace Cert.BwdMath

/-- The softplus of the negated parameter. -/
def soft (p : EReal) : EReal := max (-p) 0 + Ideal.log1p (Ideal.exp (-(max (-p) p)))

/-- The logarithm of the decay: minus eight times the softplus times the recurrence gate. -/
def logDecay (p g : EReal) : EReal := Ideal.ofBits .f32 0xC1000000#32 * soft p * Ideal.logistic g

/-- The decay. -/
def decay (p g : EReal) : EReal := Ideal.exp (logDecay p g)

/-- The scaled input, its scale written through the hyperbolic tangent. -/
def scaled (p g k x : EReal) : EReal :=
  Ideal.sqrt (Ideal.div (Ideal.ofBits .f32 0xC0000000#32 * Ideal.tanh (logDecay p g)) (Ideal.ofBits .f32 0x3F800000#32 - Ideal.tanh (logDecay p g)))
    * Ideal.logistic k * x

theorem neg_eight : Ideal.ofBits .f32 0xC1000000#32 = ((-8 : ℝ) : EReal) := by
  simp [Ideal.ofBits, Ideal.ieee, -EReal.coe_mul]; norm_num

theorem neg_two : Ideal.ofBits .f32 0xC0000000#32 = ((-2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

/-- The exponential is never negative. -/
theorem exp_nonneg (x : EReal) : 0 ≤ Ideal.exp x := by
  induction x using EReal.rec with
  | bot => exact le_refl _
  | top => exact le_top
  | coe r => exact EReal.coe_nonneg.mpr (Real.exp_pos r).le

/-- The logarithm of one plus something not negative is not negative. -/
theorem log1p_nonneg (x : EReal) (h : 0 ≤ x) : 0 ≤ Ideal.log1p x := by
  unfold Ideal.log1p
  induction x using EReal.rec with
  | bot => exact absurd h (by simp)
  | top =>
    rw [show (1 : EReal) + ⊤ = ⊤ from rfl]
    exact le_top
  | coe r =>
    have h0 : 0 ≤ r := EReal.coe_nonneg.mp h
    rw [show (1 : EReal) + (r : EReal) = ((1 + r : ℝ) : EReal) from rfl]
    show 0 ≤ (if 1 + r ≤ 0 then (⊥ : EReal) else (Real.log (1 + r) : EReal))
    rw [if_neg (by linarith)]
    exact EReal.coe_nonneg.mpr (Real.log_nonneg (by linarith))

/-- The softplus is not negative. -/
theorem soft_nonneg (p : EReal) : 0 ≤ soft p :=
  add_nonneg (le_max_right _ _) (log1p_nonneg _ (exp_nonneg _))

/-- The logistic function is not negative. -/
theorem logistic_nonneg (g : EReal) : 0 ≤ Ideal.logistic g := by
  unfold Ideal.logistic Ideal.div
  split
  · rw [if_pos (by norm_num)]; exact le_top
  · rw [one_mul]; exact EReal.inv_nonneg_of_nonneg (add_nonneg zero_le_one (exp_nonneg _))

/-- The logarithm of the decay is not positive. -/
theorem logDecay_nonpos (p g : EReal) : logDecay p g ≤ 0 := by
  unfold logDecay
  rw [neg_eight]
  refine EReal.mul_nonpos_iff.mpr (Or.inr ⟨EReal.mul_nonpos_iff.mpr (Or.inr ⟨?_, soft_nonneg p⟩), logistic_nonneg g⟩)
  exact EReal.coe_nonpos.mpr (by norm_num)

/-- Below the top, twice the tangent over the tangent less one is the exponential of the double less one. -/
theorem tanh_expm1 (L : EReal) (h : L ≤ 0) :
    Ideal.div (Ideal.ofBits .f32 0xC0000000#32 * Ideal.tanh L) (Ideal.ofBits .f32 0x3F800000#32 - Ideal.tanh L)
      = -(Ideal.expm1 (Ideal.ofBits .f32 0x40000000#32 * L)) := by
  rw [neg_two, two, Ideal.ofBits_one_f32]
  induction L using EReal.rec with
  | top => exact absurd h (by simp)
  | bot =>
    have e1 : ((2 : ℝ) : EReal) * ⊥ = ⊥ := EReal.coe_mul_bot_of_pos (by norm_num)
    rw [e1]
    show Ideal.div (((-2 : ℝ) : EReal) * (-1)) (1 - (-1)) = -((0 : EReal) - 1)
    have e2 : ((-2 : ℝ) : EReal) * (-1) = ((2 : ℝ) : EReal) := by
      rw [show (-1 : EReal) = ((-1 : ℝ) : EReal) from rfl, ← EReal.coe_mul]; norm_num
    have e3 : (1 : EReal) - (-1) = ((2 : ℝ) : EReal) := by
      rw [show (1 : EReal) - (-1) = ((1 - (-1) : ℝ) : EReal) from rfl]; norm_num
    rw [e2, e3]
    unfold Ideal.div
    rw [if_neg (by exact_mod_cast (by norm_num : (2 : ℝ) ≠ 0)), ← EReal.coe_inv, ← EReal.coe_mul,
      show -((0 : EReal) - 1) = ((-(0 - 1) : ℝ) : EReal) from rfl]
    norm_num
  | coe r =>
    rw [show Ideal.tanh (r : EReal) = ((Real.tanh r : ℝ) : EReal) from rfl, ← EReal.coe_mul, ← EReal.coe_mul]
    show Ideal.div _ ((1 - Real.tanh r : ℝ) : EReal) = ((-(Real.exp (2 * r) - 1) : ℝ) : EReal)
    have ht : Real.tanh r = (Real.exp (2 * r) - 1) / (Real.exp (2 * r) + 1) := by
      rw [Real.tanh_eq_sinh_div_cosh, Real.sinh_eq, Real.cosh_eq, Real.exp_neg, show (2 : ℝ) * r = r + r by ring, Real.exp_add]
      have := Real.exp_pos r
      field_simp
    have hp := Real.exp_pos (2 * r)
    have h1 : 1 - Real.tanh r = 2 / (Real.exp (2 * r) + 1) := by rw [ht]; field_simp; ring
    have h2 : (1 - Real.tanh r : ℝ) ≠ 0 := by rw [h1]; positivity
    unfold Ideal.div
    rw [if_neg (by exact_mod_cast h2), ← EReal.coe_inv, ← EReal.coe_mul, EReal.coe_eq_coe_iff, h1, ht]
    field_simp

/-- The scaled input, its scale written through the exponential. -/
theorem scaled_eq (p g k x : EReal) :
    scaled p g k x = Ideal.sqrt (-(Ideal.expm1 (Ideal.ofBits .f32 0x40000000#32 * logDecay p g))) * Ideal.logistic k * x := by
  unfold scaled
  rw [tanh_expm1 _ (logDecay_nonpos p g)]

/-- The logarithm of the decay, the gate taken before the softplus. -/
theorem logDecay_eq (p g : EReal) : logDecay p g = Ideal.ofBits .f32 0xC1000000#32 * Ideal.logistic g * soft p := by
  unfold logDecay
  rw [mul_right_comm]

/-- The state after `n` rows counted from the last one, begun anew where `e` says so. -/
def state (e : ℕ → Prop) [DecidablePred e] (a u : ℕ → EReal) : ℕ → EReal
  | 0 => 0
  | n + 1 => a n * (if e n then 0 else state e a u n) + u n

/-- The state after `n` rows from a given one, never begun anew. -/
def run (h : EReal) (a u : ℕ → EReal) : ℕ → EReal
  | 0 => h
  | n + 1 => a n * run h a u n + u n

/-- Where nothing begins anew within a block, the block's states are those of a run from its first state. -/
theorem state_block (e : ℕ → Prop) [DecidablePred e] (a u : ℕ → EReal) (n₀ B : ℕ) (he : ∀ j, 0 < j → j < B → ¬ e (n₀ + j)) (k : ℕ) (hk : k < B) :
    state e a u (n₀ + (k + 1)) = run (if e n₀ then 0 else state e a u n₀) (fun j => a (n₀ + j)) (fun j => u (n₀ + j)) (k + 1) := by
  induction k with
  | zero => rfl
  | succ k ih =>
    show a (n₀ + (k + 1)) * (if e (n₀ + (k + 1)) then 0 else state e a u (n₀ + (k + 1))) + u (n₀ + (k + 1)) = _
    rw [if_neg (he _ (by omega) hk), ih (by omega)]
    rfl

end Cert.BwdMath

end
-- ==== Proof.BwdPure.lean ====
/- The vectors the backward recurrence's kernel stores, read at one entry. -/
module

public import proofs.«01_k».proof.Proof.Gen.BwdIdeal.Skeleton
public import proofs.«01_k».proof.Proof.BwdMath

@[expose] public section

set_option maxRecDepth 16384

noncomputable section

open Idealize.ShloMosaic Idealize.ShloMosaic.TcCoe Idealize.SL.Sem Cert.LayerMath Cert.BwdMath

namespace Cert.BwdPure

open Cert.BwdIdeal Cert.BwdIdeal.Gen

/-- One block's product of rows and gate weights. -/
def blkDot (X : Vec Ideal S256x128 .f32) (W : Vec Ideal S1x128x256 .bf16) : FVec Ideal S256x256 .f32 :=
  matmul (φ₁ := .bf16) (φ₂ := .bf16) dot_S256x128_S128x256_S256x256_1_0_0_1_n_n none (truncf .bf16 X bitsLt_bf16_f32)
    (shapeCast S128x256 W shapeCasts_S1x128x256_S128x256) (constant S256x256 .f32 0x00000000#32)

/-- One block's logarithms of the decay. -/
def blkLog (off : ℕ) (hs : S1x2048.Slices ![0, off] S1x128) (v : FVec Ideal S1x2048 .f32) (X : Vec Ideal S256x128 .f32)
    (W : Vec Ideal S1x128x256 .bf16) (B : Vec Ideal S1x128 .f32) : FVec Ideal S256x128 .f32 :=
  mulf (broadcastTo S256x128 (extractStridedSlice S1x128 ![0, off] v hs) broadcasts_S1x128_S256x128)
    (logistic (addf (extractStridedSlice S256x128 ![0, 0] (blkDot X W) slices_S256x256_o0_0_S256x128)
      (broadcastTo S256x128 (shapeCast S1x128 B shapeCasts_S1x128_S1x128) broadcasts_S1x128_S256x128)))

/-- One block's decays. -/
def blkA (off : ℕ) (hs : S1x2048.Slices ![0, off] S1x128) (v : FVec Ideal S1x2048 .f32) (X : Vec Ideal S256x128 .f32)
    (W : Vec Ideal S1x128x256 .bf16) (B : Vec Ideal S1x128 .f32) : FVec Ideal S256x128 .f32 :=
  shapeCast S256x128 (exp (blkLog off hs v X W B)) shapeCasts_S256x128_S256x128

/-- One block's scaled inputs. -/
def blkU (off : ℕ) (hs : S1x2048.Slices ![0, off] S1x128) (v : FVec Ideal S1x2048 .f32) (X : Vec Ideal S256x128 .f32)
    (W : Vec Ideal S1x128x256 .bf16) (B B' : Vec Ideal S1x128 .f32) : FVec Ideal S256x128 .f32 :=
  shapeCast S256x128 (mulf (mulf (sqrt (divf
      (mulf (broadcast S256x128 (Scalar.ofBits .f32 0xC0000000#32)) (tanh (blkLog off hs v X W B)))
      (subf (broadcast S256x128 (Scalar.ofBits .f32 0x3F800000#32)) (tanh (blkLog off hs v X W B)))))
    (logistic (addf (extractStridedSlice S256x128 ![0, 128] (blkDot X W) slices_S256x256_o0_128_S256x128)
      (broadcastTo S256x128 (shapeCast S1x128 B' shapeCasts_S1x128_S1x128) broadcasts_S1x128_S256x128)))) X)
    shapeCasts_S256x128_S256x128

/-- A product's entry. -/
theorem blkDot_at (X : Vec Ideal S256x128 .f32) (W : Vec Ideal S1x128x256 .bf16) (r : Fin 256) (j : Fin 256) :
    blkDot X W (ix2 r j) = ∑ k : Fin 128, X (ix2 r k) * W (ix3 0 k j) := by
  pointwise [blkDot]

/-- A logarithm's entry. -/
theorem blkLog_at (off : ℕ) (hs : S1x2048.Slices ![0, off] S1x128) (ho : off + 128 ≤ 2048) (v : FVec Ideal S1x2048 .f32) (X : Vec Ideal S256x128 .f32)
    (W : Vec Ideal S1x128x256 .bf16) (B : Vec Ideal S1x128 .f32) (r : Fin 256) (l : Fin 128) :
    blkLog off hs v X W B (ix2 r l)
      = v (ix2 0 ⟨off + l.val, by omega⟩) * Ideal.logistic (∑ k : Fin 128, X (ix2 r k) * W (ix3 0 k ⟨l.val, by omega⟩) + B (ix2 0 l)) := by
  rw [← blkDot_at]
  unfold blkLog
  generalize blkDot X W = d
  pointwise []

/-- A decay's entry. -/
theorem blkA_at (off : ℕ) (hs : S1x2048.Slices ![0, off] S1x128) (v : FVec Ideal S1x2048 .f32) (X : Vec Ideal S256x128 .f32)
    (W : Vec Ideal S1x128x256 .bf16) (B : Vec Ideal S1x128 .f32) (r : Fin 256) (l : Fin 128) :
    blkA off hs v X W B (ix2 r l) = Ideal.exp (blkLog off hs v X W B (ix2 r l)) := by
  unfold blkA
  generalize blkLog off hs v X W B = d
  pointwise []

/-- A scaled input's entry. -/
theorem blkU_at (off : ℕ) (hs : S1x2048.Slices ![0, off] S1x128) (v : FVec Ideal S1x2048 .f32) (X : Vec Ideal S256x128 .f32)
    (W : Vec Ideal S1x128x256 .bf16) (B B' : Vec Ideal S1x128 .f32) (r : Fin 256) (l : Fin 128) :
    blkU off hs v X W B B' (ix2 r l)
      = Ideal.sqrt (Ideal.div (Ideal.ofBits .f32 0xC0000000#32 * Ideal.tanh (blkLog off hs v X W B (ix2 r l)))
          (Ideal.ofBits .f32 0x3F800000#32 - Ideal.tanh (blkLog off hs v X W B (ix2 r l))))
        * Ideal.logistic (∑ k : Fin 128, X (ix2 r k) * W (ix3 0 k ⟨128 + l.val, by omega⟩) + B' (ix2 0 l)) * X (ix2 r l) := by
  rw [← blkDot_at]
  unfold blkU
  generalize blkLog off hs v X W B = d
  generalize blkDot X W = d'
  pointwise []

/-- The factor of the logarithm of the decay that does not depend on the row. -/
theorem pay4_at (p : Vec Ideal S1x2048 .f32) (l : Fin 2048) :
    k0_pay4 (F := Ideal) (k0_pay3 p) (Scalar.ofBits .f32 0x00000000#32) (ix2 0 l)
      = Ideal.ofBits .f32 0xC1000000#32 * soft (p (ix2 0 l)) := by
  pointwise [k0_pay4, k0_pay3, soft]
  simp only [sub_eq_add_neg, zero_add]
  have e : FloatOps.absf (F := Ideal) (φ := .f32) (-p (ix2 0 l)) = max (-p (ix2 0 l)) (-(-p (ix2 0 l))) := rfl
  rw [e, neg_neg]

/-- The state is cleared with zeros. -/
theorem pay2_at (r : Fin 8) (l : Fin 2048) : k0_pay2 (F := Ideal) (ix2 r l) = 0 := by
  pointwise [k0_pay2]

/-- One step of the recurrence. -/
theorem pay95_at (h a u : Vec Ideal S1x2048 .f32) (l : Fin 2048) :
    k0_pay95 (F := Ideal) h a u (ix2 0 l) = a (ix2 0 l) * h (ix2 0 l) + u (ix2 0 l) := by
  pointwise [k0_pay95]

/-- The stored state is the step's. -/
theorem pay96_at (h a u : Vec Ideal S1x2048 .f32) (l : Fin 2048) :
    k0_pay96 (F := Ideal) h a u (ix2 0 l) = a (ix2 0 l) * h (ix2 0 l) + u (ix2 0 l) := by
  pointwise [k0_pay96, k0_pay95]

/-- The state handed on is the last one. -/
theorem pay97_at (h : Vec Ideal S1x2048 .f32) (l : Fin 2048) : k0_pay97 (F := Ideal) h (ix2 0 l) = h (ix2 0 l) := by
  pointwise [k0_pay97]

/-- The projection's entry before the norm. -/
def proj (y hf hb : Vec Ideal S256x2048 .f32) (w : Vec Ideal S2048x2048 .bf16) (r : Fin 256) (l : Fin 2048) : EReal :=
  ∑ k : Fin 2048, y (ix2 r k) * (hf (ix2 r k) + hb (ix2 r k)) * w (ix2 k l)

/-- The stored output at an entry: the layer norm of the residual sum. -/
theorem out_at (y hf hb x : Vec Ideal S256x2048 .f32) (w : Vec Ideal S2048x2048 .bf16) (g b : Vec Ideal S1x2048 .f32) (r : Fin 256) (l : Fin 2048) :
    k0_pay1 (F := Ideal) (k0_pay98 g) (k0_pay99 b) (k0_pay100 y hf hb w x) (k0_pay101 y hf hb w x) (ix2 r l)
      = lnAt (fun k => resid (x (ix2 r k)) (proj y hf hb w r k)) l (g (ix2 0 l)) (b (ix2 0 l)) := by
  pointwise [k0_pay1, k0_pay98, k0_pay99, k0_pay100, k0_pay101, lnAt, mean, resid, proj]

end Cert.BwdPure

end
-- ==== Proof.BwdGates.lean ====
/- The gates of one block of the backward recurrence, column block by column block. -/
module

public import proofs.«01_k».proof.Proof.BwdIdealBase
public import proofs.«01_k».proof.Proof.BwdPure

public import Idealize.ShloMosaic.Lib.Pipeline.ReadBack
public import Idealize.ShloMosaic.Lib.WholeRead
public import Idealize.ShloMosaic.Lib.VecWindow

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What goes into a gate at a row, a block of columns and a column of the block. -/
def kpreN (q : Fin 2) (x0 : Vec Ideal S256x2048 .f32) (x4 : Vec Ideal S16x128x256 .bf16) (x5 : Vec Ideal S2x2048 .f32) (r : Fin 256) (n : Fin 16) (l : Fin 128) : EReal :=
  ∑ d : Fin 128, x0 (ix2 r ⟨128 * n.val + d.val, by omega⟩) * x4 (ix3 n d ⟨128 * q.val + l.val, by omega⟩) + x5 (ix2 q ⟨128 * n.val + l.val, by omega⟩)

/-- What goes into a gate at a row and a column. -/
def kpre (q : Fin 2) (x0 : Vec Ideal S256x2048 .f32) (x4 : Vec Ideal S16x128x256 .bf16) (x5 : Vec Ideal S2x2048 .f32) (r : Fin 256) (L : Fin 2048) : EReal :=
  kpreN q x0 x4 x5 r ⟨L.val / 128, by omega⟩ ⟨L.val % 128, by omega⟩

/-- A column is the column of its block. -/
theorem kpre_col (q : Fin 2) (x0 : Vec Ideal S256x2048 .f32) (x4 : Vec Ideal S16x128x256 .bf16) (x5 : Vec Ideal S2x2048 .f32) (r : Fin 256) (n : Fin 16) (l : Fin 128) (L : Fin 2048)
    (hL : L.val = 128 * n.val + l.val) : kpre q x0 x4 x5 r L = kpreN q x0 x4 x5 r n l := by
  unfold kpre
  rw [show (⟨L.val / 128, by omega⟩ : Fin 16) = n from Fin.ext (by show L.val / 128 = n.val; omega), show (⟨L.val % 128, by omega⟩ : Fin 128) = l from Fin.ext (by show L.val % 128 = l.val; omega)]

/-- The decays of a block. -/
def GA (x0 : Vec Ideal S256x2048 .f32) (x4 : Vec Ideal S16x128x256 .bf16) (x5 : Vec Ideal S2x2048 .f32) (x6 : Vec Ideal S1x2048 .f32) : S256x2048.Idx → EReal :=
  fun y => decay (x6 (ix2 0 (y 1))) (kpre 0 x0 x4 x5 (y 0) (y 1))

/-- The scaled inputs of a block. -/
def GU (x0 : Vec Ideal S256x2048 .f32) (x4 : Vec Ideal S16x128x256 .bf16) (x5 : Vec Ideal S2x2048 .f32) (x6 : Vec Ideal S1x2048 .f32) : S256x2048.Idx → EReal :=
  fun y => scaled (x6 (ix2 0 (y 1))) (kpre 0 x0 x4 x5 (y 0) (y 1)) (kpre 1 x0 x4 x5 (y 0) (y 1)) (x0 (ix2 (y 0) (y 1)))

/-- A column block's rectangle puts its columns behind one another. -/
theorem col_emb (off : ℕ) (ho : off + 128 ≤ 2048) (inb : ∀ a, (![0, off] : Fin 2 → ℕ) a + S256x128.size a ≤ S256x2048.size a) (r : Fin 256) (l : Fin 128) :
    (Rect.unit (s := S256x2048) ![0, off] S256x128.size inb).toLoadRect.idx (ix2 r l) = (ix2 r ⟨off + l.val, by omega⟩ : S256x2048.Idx) := by
  funext a
  apply Fin.ext
  rw [LoadRect.idx_apply]
  fin_cases a <;> simp [ix2]

section
variable (n : Fin 16) (off : ℕ) (ho : off = 128 * n.val)
  (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole)
  (x0 : Vec Ideal S256x2048 .f32) (x4 : Vec Ideal S16x128x256 .bf16) (x5 : Vec Ideal S2x2048 .f32) (x6 : Vec Ideal S1x2048 .f32)
  (inbX : ∀ a, (![0, off] : Fin 2 → ℕ) a + S256x128.size a ≤ S256x2048.size a)
  (inbW : ∀ a, (![n.val, 0, 0] : Fin 3 → ℕ) a + S1x128x256.size a ≤ S16x128x256.size a)
  (inbB : ∀ a, (![0, off] : Fin 2 → ℕ) a + S1x128.size a ≤ S2x2048.size a)
  (inbB' : ∀ a, (![1, off] : Fin 2 → ℕ) a + S1x128.size a ≤ S2x2048.size a)
  (hs : S1x2048.Slices ![0, off] S1x128) (v : FVec Ideal S1x2048 .f32)
  (hv : ∀ l, v (ix2 0 l) = Ideal.ofBits .f32 0xC1000000#32 * soft (x6 (ix2 0 l)))

/-- A column block of rows, as loaded. -/
theorem loadX (r : Fin 256) (k : Fin 128) :
    View.readAt (Elt Ideal) arg1.view (Rect.unit (s := S256x2048) ![0, off] S256x128.size inbX).toLoadRect (harg1.unread x0) (ix2 r k) = x0 (ix2 r ⟨128 * n.val + k.val, by omega⟩) := by
  subst ho
  rw [harg1.readAt_unread, col_emb _ (by omega)]

/-- A block's weights, as loaded. -/
theorem loadW (k : Fin 128) (j : Fin 256) :
    View.readAt (Elt Ideal) arg5.view (Rect.unit (s := S16x128x256) ![n.val, 0, 0] S1x128x256.size inbW).toLoadRect (harg5.unread x4) (ix3 0 k j) = x4 (ix3 n k j) := by
  rw [harg5.readAt_unread]
  refine congrArg x4 ?_
  funext a
  apply Fin.ext
  rw [LoadRect.idx_apply]
  fin_cases a <;> simp [ix3]

/-- A block's first biases, as loaded. -/
theorem loadB (l : Fin 128) :
    View.readAt (Elt Ideal) arg6.view (Rect.unit (s := S2x2048) ![0, off] S1x128.size inbB).toLoadRect (harg6.unread x5) (ix2 0 l) = x5 (ix2 0 ⟨128 * n.val + l.val, by omega⟩) := by
  subst ho
  rw [harg6.readAt_unread]
  refine congrArg x5 ?_
  funext a
  apply Fin.ext
  rw [LoadRect.idx_apply]
  fin_cases a <;> simp [ix2]

/-- A block's second biases, as loaded. -/
theorem loadB' (l : Fin 128) :
    View.readAt (Elt Ideal) arg6.view (Rect.unit (s := S2x2048) ![1, off] S1x128.size inbB').toLoadRect (harg6.unread x5) (ix2 0 l) = x5 (ix2 1 ⟨128 * n.val + l.val, by omega⟩) := by
  subst ho
  rw [harg6.readAt_unread]
  refine congrArg x5 ?_
  funext a
  apply Fin.ext
  rw [LoadRect.idx_apply]
  fin_cases a <;> simp [ix2]

include ho hv in
/-- A block's logarithms of the decay are the reference's. -/
theorem log_at (r : Fin 256) (l : Fin 128) :
    blkLog off hs v (View.readAt (Elt Ideal) arg1.view (Rect.unit (s := S256x2048) ![0, off] S256x128.size inbX).toLoadRect (harg1.unread x0))
      (View.readAt (Elt Ideal) arg5.view (Rect.unit (s := S16x128x256) ![n.val, 0, 0] S1x128x256.size inbW).toLoadRect (harg5.unread x4))
      (View.readAt (Elt Ideal) arg6.view (Rect.unit (s := S2x2048) ![0, off] S1x128.size inbB).toLoadRect (harg6.unread x5)) (ix2 r l)
      = logDecay (x6 (ix2 0 ⟨off + l.val, by omega⟩)) (kpreN 0 x0 x4 x5 r n l) := by
  have hX := loadX n off ho arg1 harg1 x0 inbX
  have hW := loadW n arg5 harg5 x4 inbW
  have hB := loadB n off ho arg6 harg6 x5 inbB
  revert hX hW hB
  generalize View.readAt (Elt Ideal) arg1.view (Rect.unit (s := S256x2048) ![0, off] S256x128.size inbX).toLoadRect (harg1.unread x0) = X
  generalize View.readAt (Elt Ideal) arg5.view (Rect.unit (s := S16x128x256) ![n.val, 0, 0] S1x128x256.size inbW).toLoadRect (harg5.unread x4) = W
  generalize View.readAt (Elt Ideal) arg6.view (Rect.unit (s := S2x2048) ![0, off] S1x128.size inbB).toLoadRect (harg6.unread x5) = B
  intro hX hW hB
  refine (blkLog_at off hs (by omega) v X W B r l).trans ?_
  simp only [hX, hW, hB, hv]
  unfold logDecay kpreN
  simp

include ho hv in
/-- A stored block of decays is a block of the decays. -/
theorem pieceA (x : (Rect.unit (s := S256x2048) ![0, off] S256x128.size inbX).shape.Idx) :
    blkA off hs v (View.readAt (Elt Ideal) arg1.view (Rect.unit (s := S256x2048) ![0, off] S256x128.size inbX).toLoadRect (harg1.unread x0))
      (View.readAt (Elt Ideal) arg5.view (Rect.unit (s := S16x128x256) ![n.val, 0, 0] S1x128x256.size inbW).toLoadRect (harg5.unread x4))
      (View.readAt (Elt Ideal) arg6.view (Rect.unit (s := S2x2048) ![0, off] S1x128.size inbB).toLoadRect (harg6.unread x5)) x
      = GA x0 x4 x5 x6 ((Rect.unit (s := S256x2048) ![0, off] S256x128.size inbX).emb x) := by
  obtain ⟨r, l, rfl⟩ : ∃ (r : Fin 256) (l : Fin 128), x = ix2 r l := ⟨x 0, x 1, by funext a; fin_cases a <;> rfl⟩
  rw [blkA_at, log_at n off ho arg1 harg1 arg5 harg5 arg6 harg6 x0 x4 x5 x6 inbX inbW inbB hs v hv]
  refine Eq.trans ?_ (congrArg (GA x0 x4 x5 x6) (col_emb off (by omega) inbX r l)).symm
  show _ = decay (x6 (ix2 0 ⟨off + l.val, _⟩)) (kpre 0 x0 x4 x5 r ⟨off + l.val, _⟩)
  rw [kpre_col 0 x0 x4 x5 r n l _ (by show off + l.val = _; omega)]
  rfl

include ho hv in
/-- A stored block of scaled inputs is a block of the scaled inputs. -/
theorem pieceU (x : (Rect.unit (s := S256x2048) ![0, off] S256x128.size inbX).shape.Idx) :
    blkU off hs v (View.readAt (Elt Ideal) arg1.view (Rect.unit (s := S256x2048) ![0, off] S256x128.size inbX).toLoadRect (harg1.unread x0))
      (View.readAt (Elt Ideal) arg5.view (Rect.unit (s := S16x128x256) ![n.val, 0, 0] S1x128x256.size inbW).toLoadRect (harg5.unread x4))
      (View.readAt (Elt Ideal) arg6.view (Rect.unit (s := S2x2048) ![0, off] S1x128.size inbB).toLoadRect (harg6.unread x5))
      (View.readAt (Elt Ideal) arg6.view (Rect.unit (s := S2x2048) ![1, off] S1x128.size inbB').toLoadRect (harg6.unread x5)) x
      = GU x0 x4 x5 x6 ((Rect.unit (s := S256x2048) ![0, off] S256x128.size inbX).emb x) := by
  obtain ⟨r, l, rfl⟩ : ∃ (r : Fin 256) (l : Fin 128), x = ix2 r l := ⟨x 0, x 1, by funext a; fin_cases a <;> rfl⟩
  rw [blkU_at, log_at n off ho arg1 harg1 arg5 harg5 arg6 harg6 x0 x4 x5 x6 inbX inbW inbB hs v hv]
  have hX := loadX n off ho arg1 harg1 x0 inbX
  have hW := loadW n arg5 harg5 x4 inbW
  have hB := loadB' n off ho arg6 harg6 x5 inbB'
  revert hX hW hB
  generalize View.readAt (Elt Ideal) arg1.view (Rect.unit (s := S256x2048) ![0, off] S256x128.size inbX).toLoadRect (harg1.unread x0) = X
  generalize View.readAt (Elt Ideal) arg5.view (Rect.unit (s := S16x128x256) ![n.val, 0, 0] S1x128x256.size inbW).toLoadRect (harg5.unread x4) = W
  generalize View.readAt (Elt Ideal) arg6.view (Rect.unit (s := S2x2048) ![1, off] S1x128.size inbB').toLoadRect (harg6.unread x5) = B
  intro hX hW hB
  simp only [hX, hW, hB]
  refine Eq.trans ?_ (congrArg (GU x0 x4 x5 x6) (col_emb off (by omega) inbX r l)).symm
  show _ = scaled (x6 (ix2 0 ⟨off + l.val, _⟩)) (kpre 0 x0 x4 x5 r ⟨off + l.val, _⟩) (kpre 1 x0 x4 x5 r ⟨off + l.val, _⟩) (x0 (ix2 r ⟨off + l.val, _⟩))
  rw [kpre_col 0 x0 x4 x5 r n l _ (by show off + l.val = _; omega), kpre_col 1 x0 x4 x5 r n l _ (by show off + l.val = _; omega)]
  subst ho
  rfl

end

/-- The rectangles of the column blocks, the last first. -/
def cols : List (Rect S256x2048) :=
  [Rect.unit (s := S256x2048) ![0, 1920] S256x128.size inb_S256x2048_S256x128_0_1920,
   Rect.unit (s := S256x2048) ![0, 1792] S256x128.size inb_S256x2048_S256x128_0_1792,
   Rect.unit (s := S256x2048) ![0, 1664] S256x128.size inb_S256x2048_S256x128_0_1664,
   Rect.unit (s := S256x2048) ![0, 1536] S256x128.size inb_S256x2048_S256x128_0_1536,
   Rect.unit (s := S256x2048) ![0, 1408] S256x128.size inb_S256x2048_S256x128_0_1408,
   Rect.unit (s := S256x2048) ![0, 1280] S256x128.size inb_S256x2048_S256x128_0_1280,
   Rect.unit (s := S256x2048) ![0, 1152] S256x128.size inb_S256x2048_S256x128_0_1152,
   Rect.unit (s := S256x2048) ![0, 1024] S256x128.size inb_S256x2048_S256x128_0_1024,
   Rect.unit (s := S256x2048) ![0, 896] S256x128.size inb_S256x2048_S256x128_0_896,
   Rect.unit (s := S256x2048) ![0, 768] S256x128.size inb_S256x2048_S256x128_0_768,
   Rect.unit (s := S256x2048) ![0, 640] S256x128.size inb_S256x2048_S256x128_0_640,
   Rect.unit (s := S256x2048) ![0, 512] S256x128.size inb_S256x2048_S256x128_0_512,
   Rect.unit (s := S256x2048) ![0, 384] S256x128.size inb_S256x2048_S256x128_0_384,
   Rect.unit (s := S256x2048) ![0, 256] S256x128.size inb_S256x2048_S256x128_0_256,
   Rect.unit (s := S256x2048) ![0, 128] S256x128.size inb_S256x2048_S256x128_0_128,
   Rect.unit (s := S256x2048) ![0, 0] S256x128.size inb_S256x2048_S256x128_0_0]

/-- A column lies in its block. -/
theorem mem_col (off : ℕ) (inb : ∀ a, (![0, off] : Fin 2 → ℕ) a + S256x128.size a ≤ S256x2048.size a) (y : S256x2048.Idx) (h : off ≤ (y 1).val) (h' : (y 1).val < off + 128) :
    y ∈ (Rect.unit (s := S256x2048) ![0, off] S256x128.size inb).set := by
  rw [Rect.mem_set_unit]
  intro a
  fin_cases a
  · exact ⟨Nat.zero_le _, by have : (y 0).val < 256 := (y 0).isLt; simpa using this⟩
  · exact ⟨h, h'⟩

/-- Every entry lies in a column block. -/
theorem cols_cover (y : S256x2048.Idx) : ∃ r ∈ cols, y ∈ r.set := by
  have hy : (y 1).val < 2048 := (y 1).isLt
  rcases Nat.lt_or_ge (y 1).val 128 with h0 | h0
  · exact ⟨_, .tail _ (.tail _ (.tail _ (.tail _ (.tail _ (.tail _ (.tail _ (.tail _ (.tail _ (.tail _ (.tail _ (.tail _ (.tail _ (.tail _ (.tail _ (.head _))))))))))))))), mem_col 0 _ y (by omega) (by omega)⟩
  rcases Nat.lt_or_ge (y 1).val 256 with h1 | h1
  · exact ⟨_, .tail _ (.tail _ (.tail _ (.tail _ (.tail _ (.tail _ (.tail _ (.tail _ (.tail _ (.tail _ (.tail _ (.tail _ (.tail _ (.tail _ (.head _)))))))))))))), mem_col 128 _ y (by omega) (by omega)⟩
  rcases Nat.lt_or_ge (y 1).val 384 with h2 | h2
  · exact ⟨_, .tail _ (.tail _ (.tail _ (.tail _ (.tail _ (.tail _ (.tail _ (.tail _ (.tail _ (.tail _ (.tail _ (.tail _ (.tail _ (.head _))))))))))))), mem_col 256 _ y (by omega) (by omega)⟩
  rcases Nat.lt_or_ge (y 1).val 512 with h3 | h3
  · exact ⟨_, .tail _ (.tail _ (.tail _ (.tail _ (.tail _ (.tail _ (.tail _ (.tail _ (.tail _ (.tail _ (.tail _ (.tail _ (.head _)))))))))))), mem_col 384 _ y (by omega) (by omega)⟩
  rcases Nat.lt_or_ge (y 1).val 640 with h4 | h4
  · exact ⟨_, .tail _ (.tail _ (.tail _ (.tail _ (.tail _ (.tail _ (.tail _ (.tail _ (.tail _ (.tail _ (.tail _ (.head _))))))))))), mem_col 512 _ y (by omega) (by omega)⟩
  rcases Nat.lt_or_ge (y 1).val 768 with h5 | h5
  · exact ⟨_, .tail _ (.tail _ (.tail _ (.tail _ (.tail _ (.tail _ (.tail _ (.tail _ (.tail _ (.tail _ (.head _)))))))))), mem_col 640 _ y (by omega) (by omega)⟩
  rcases Nat.lt_or_ge (y 1).val 896 with h6 | h6
  · exact ⟨_, .tail _ (.tail _ (.tail _ (.tail _ (.tail _ (.tail _ (.tail _ (.tail _ (.tail _ (.head _))))))))), mem_col 768 _ y (by omega) (by omega)⟩
  rcases Nat.lt_or_ge (y 1).val 1024 with h7 | h7
  · exact ⟨_, .tail _ (.tail _ (.tail _ (.tail _ (.tail _ (.tail _ (.tail _ (.tail _ (.head _)))))))), mem_col 896 _ y (by omega) (by omega)⟩
  rcases Nat.lt_or_ge (y 1).val 1152 with h8 | h8
  · exact ⟨_, .tail _ (.tail _ (.tail _ (.tail _ (.tail _ (.tail _ (.tail _ (.head _))))))), mem_col 1024 _ y (by omega) (by omega)⟩
  rcases Nat.lt_or_ge (y 1).val 1280 with h9 | h9
  · exact ⟨_, .tail _ (.tail _ (.tail _ (.tail _ (.tail _ (.tail _ (.head _)))))), mem_col 1152 _ y (by omega) (by omega)⟩
  rcases Nat.lt_or_ge (y 1).val 1408 with h10 | h10
  · exact ⟨_, .tail _ (.tail _ (.tail _ (.tail _ (.tail _ (.head _))))), mem_col 1280 _ y (by omega) (by omega)⟩
  rcases Nat.lt_or_ge (y 1).val 1536 with h11 | h11
  · exact ⟨_, .tail _ (.tail _ (.tail _ (.tail _ (.head _)))), mem_col 1408 _ y (by omega) (by omega)⟩
  rcases Nat.lt_or_ge (y 1).val 1664 with h12 | h12
  · exact ⟨_, .tail _ (.tail _ (.tail _ (.head _))), mem_col 1536 _ y (by omega) (by omega)⟩
  rcases Nat.lt_or_ge (y 1).val 1792 with h13 | h13
  · exact ⟨_, .tail _ (.tail _ (.head _)), mem_col 1664 _ y (by omega) (by omega)⟩
  rcases Nat.lt_or_ge (y 1).val 1920 with h14 | h14
  · exact ⟨_, .tail _ (.head _), mem_col 1792 _ y (by omega) (by omega)⟩
  exact ⟨_, .head _, mem_col 1920 _ y (by omega) (by omega)⟩

/-- Contents written by column blocks of a function are that function. -/
theorem read_cols (m : Memref sig .tc .vmem S256x2048 .f32) (f : BufTy.Contents (Elt Ideal) m.view.ty) (G : S256x2048.Idx → EReal)
    (L : List (View.Piece (Elt Ideal) S256x2048 .f32)) (hL : View.PiecesOf (e := .f32) G L) (hm : L.map Sigma.fst = cols) (y : S256x2048.Idx) :
    m.view.read (Elt Ideal) (m.view.writes (Elt Ideal) f L) y = G y := by
  have hc : ∃ p ∈ L, y ∈ p.1.set := by
    obtain ⟨r, hr, hy⟩ := cols_cover y
    rw [← hm] at hr
    obtain ⟨p, hp, rfl⟩ := List.mem_map.mp hr
    exact ⟨p, hp, hy⟩
  rw [View.read_writes_apply_eq_canon _ _ _ _ hc]
  have := View.canon_append_of_piecesOf G [] L hL y hc
  rwa [List.append_nil] at this

end Cert.BwdIdeal.Hand

end
-- ==== Proof.BwdLoop.lean ====
/- The loop over the rows of one block of the backward recurrence, evaluated. -/
module

public import proofs.«01_k».proof.Proof.BwdIdealBase
public import proofs.«01_k».proof.Proof.BwdPure
public import Idealize.ShloMosaic.Lib.Pipeline.ReadBack

@[expose] public section

set_option maxRecDepth 16384

noncomputable section

namespace Cert.BwdIdeal.Hand

open Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (v584 : Vec Ideal S256x128 .f32) (v586 : FVec Ideal S128x256 .bf16) (v588 : FVec Ideal S1x128 .f32) (v590 : FVec Ideal S1x128 .f32) (v591 : FVec Ideal S1x128 .f32) (v592 : FVec Ideal S256x128 .bf16) (X12 : BufTy.Contents (Elt Ideal) arg12.view.ty) (X13 : BufTy.Contents (Elt Ideal) arg13.view.ty)

/-- The row a trip of the loop works on, counted from the block's last. -/
abbrev rowRect (k : Fin k0_t1_loop.trips) : Rect S256x2048 := Rect.unit (s := S256x2048) (k0_off1 k) S1x2048.size (k0_off1_inb k)

/-- What a trip hands on. -/
theorem tripR_eq (k : Fin k0_t1_loop.trips) (acc : Vec Ideal S1x2048 .f32) :
    tripR_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 k acc
      = k0_pay95 acc (arg12.view.readAt (Elt Ideal) (rowRect k).toLoadRect X12) (arg13.view.readAt (Elt Ideal) (rowRect k).toLoadRect X13) := by
  unfold tripR_k0_t1 trip_k0_t1
  rfl

/-- What a trip stores. -/
theorem tripL_eq (k : Fin k0_t1_loop.trips) (acc : Vec Ideal S1x2048 .f32) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 k acc
      = [⟨rowRect k, k0_pay96 acc (arg12.view.readAt (Elt Ideal) (rowRect k).toLoadRect X12) (arg13.view.readAt (Elt Ideal) (rowRect k).toLoadRect X13)⟩] := by
  unfold tripL_k0_t1 trip_k0_t1
  rfl

/-- The loop runs over all the rows of a block. -/
theorem trips_eq : k0_t1_loop.trips = 256 := by decide +kernel

/-- The entry of a row's rectangle. -/
theorem rowRect_emb (k : Fin k0_t1_loop.trips) (l : Fin 2048) :
    (rowRect k).emb (ix2 0 l) = (ix2 ⟨255 - k.val, by omega⟩ l : S256x2048.Idx) := by
  funext a
  apply Fin.ext
  show k0_off1 k a + 1 * _ = _
  rw [k0_off1_eq]
  fin_cases a <;> simp [ix2]

/-- The state after a number of rows of a block, given the rows' decays and inputs. -/
def rowState (A U : S256x2048.Idx → EReal) (h : Fin 2048 → EReal) (l : Fin 2048) : ℕ → EReal :=
  run (h l) (fun k => A (ix2 ⟨255 - k, by omega⟩ l)) (fun k => U (ix2 ⟨255 - k, by omega⟩ l))

/-- The states of a block, row by row. -/
def rowStates (A U : S256x2048.Idx → EReal) (h : Fin 2048 → EReal) : S256x2048.Idx → EReal :=
  fun y => rowState A U h (y 1) (256 - (y 0).val)

/-- The state of a loop run over a block: the value handed on, and the rows stored. -/
theorem loop_state (A U : S256x2048.Idx → EReal) (hA : ∀ y, arg12.view.read (Elt Ideal) X12 y = A y) (hU : ∀ y, arg13.view.read (Elt Ideal) X13 y = U y)
    (init : Vec Ideal S1x2048 .f32) (h : Fin 2048 → EReal) (hi : ∀ l, init (ix2 0 l) = h l) : ∀ k : ℕ, k ≤ 256 →
    (∀ l, (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k).1 (ix2 0 l) = rowState A U h l k)
      ∧ (∀ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k).2, ∀ x, p.2 x = rowStates A U h (p.1.emb x))
      ∧ (∀ y : S256x2048.Idx, 256 ≤ (y 0).val + k → ∃ p ∈ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k).2, y ∈ p.1.set) := by
  intro k
  induction k with
  | zero =>
    intro _
    refine ⟨hi, fun p hp => absurd hp (List.not_mem_nil), fun y hy => ?_⟩
    have : (y 0).val < 256 := (y 0).isLt
    omega
  | succ k ih =>
    intro hk
    obtain ⟨ih1, ih2, ih3⟩ := ih (by omega)
    have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init ⟨k, by rw [trips_eq]; omega⟩
    rw [tripR_eq, tripL_eq] at e
    dsimp only at e
    rw [e]
    generalize (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k) = st at *
    have ha : ∀ l, arg12.view.readAt (Elt Ideal) (rowRect ⟨k, by rw [trips_eq]; omega⟩).toLoadRect X12 (ix2 0 l) = A (ix2 ⟨255 - k, by omega⟩ l) := fun l => by
      rw [← hA, ← rowRect_emb ⟨k, by rw [trips_eq]; omega⟩ l]; rfl
    have hu : ∀ l, arg13.view.readAt (Elt Ideal) (rowRect ⟨k, by rw [trips_eq]; omega⟩).toLoadRect X13 (ix2 0 l) = U (ix2 ⟨255 - k, by omega⟩ l) := fun l => by
      rw [← hU, ← rowRect_emb ⟨k, by rw [trips_eq]; omega⟩ l]; rfl
    refine ⟨fun l => ?_, fun p hp x => ?_, fun y hy => ?_⟩
    · dsimp only
      rw [pay95_at, ha, hu, ih1]; rfl
    · rcases List.mem_append.mp hp with hp | hp
      · obtain rfl := List.mem_singleton.mp hp
        obtain ⟨r, l, rfl⟩ : ∃ (r : Fin 1) (l : Fin 2048), x = ix2 r l := ⟨x 0, x 1, by funext a; fin_cases a <;> rfl⟩
        obtain rfl : r = 0 := Subsingleton.elim _ _
        rw [rowRect_emb]
        dsimp only
        rw [pay96_at, ha, hu, ih1]
        show _ = rowState A U h l (256 - (255 - k))
        rw [show 256 - (255 - k) = k + 1 by omega]; rfl
      · exact ih2 p hp x
    · by_cases hr : 256 ≤ (y 0).val + k
      · obtain ⟨p, hp, hm⟩ := ih3 y hr
        exact ⟨p, List.mem_append_right _ hp, hm⟩
      · refine ⟨_, List.mem_append_left _ (List.mem_singleton_self _), ?_⟩
        have : y = (rowRect ⟨k, by rw [trips_eq]; omega⟩).emb (ix2 0 (y 1)) := by
          refine Eq.trans ?_ (rowRect_emb _ (y 1)).symm
          funext a
          fin_cases a
          · exact Fin.ext (show (y 0).val = 255 - k by omega)
          · rfl
        rw [this]
        exact LoadRect.idx_mem (rowRect _).toLoadRect _

/-- The value a loop over a block hands on. -/
theorem loop_carry (A U : S256x2048.Idx → EReal) (hA : ∀ y, arg12.view.read (Elt Ideal) X12 y = A y) (hU : ∀ y, arg13.view.read (Elt Ideal) X13 y = U y)
    (init : Vec Ideal S1x2048 .f32) (h : Fin 2048 → EReal) (hi : ∀ l, init (ix2 0 l) = h l) (l : Fin 2048) :
    (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k0_t1_loop.trips).1 (ix2 0 l) = rowState A U h l 256 := by
  rw [trips_eq]
  exact (loop_state 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 A U hA hU init h hi 256 le_rfl).1 l

/-- The rows a loop over a block leaves. -/
theorem loop_rows (A U : S256x2048.Idx → EReal) (hA : ∀ y, arg12.view.read (Elt Ideal) X12 y = A y) (hU : ∀ y, arg13.view.read (Elt Ideal) X13 y = U y)
    (init : Vec Ideal S1x2048 .f32) (h : Fin 2048 → EReal) (hi : ∀ l, init (ix2 0 l) = h l) (f : BufTy.Contents (Elt Ideal) arg14.view.ty) (y : S256x2048.Idx) :
    arg14.view.read (Elt Ideal) (arg14.view.writes (Elt Ideal) f (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 init k0_t1_loop.trips).2) y = rowStates A U h y := by
  rw [trips_eq]
  obtain ⟨-, h2, h3⟩ := loop_state 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 v584 v586 v588 v590 v591 v592 X12 X13 A U hA hU init h hi 256 le_rfl
  have hc := h3 y (by omega)
  rw [View.read_writes_apply_eq_canon _ _ _ _ hc]
  have := View.canon_append_of_pieces (rowStates A U h) [] _ h2 y hc
  rwa [List.append_nil] at this

end Cert.BwdIdeal.Hand

end
-- ==== Proof.BwdIdealRunA.lean ====
/- The body of the idealized kernel of the backward recurrence, run once at a point that restarts. -/
module

public import proofs.«01_k».proof.Proof.BwdIdealBase

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the output's staging buffer and in the carried state at a point that restarts, as pieces, with the proof that it runs to them. -/
noncomputable def runA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : Restarts i)
    (x0 : Vec F S256x2048 .f32) (x1 : Vec F S256x2048 .f32) (x2 : Vec F S256x2048 .f32) (x3 : Vec F S256x2048 .f32) (x4 : Vec F S16x128x256 .bf16) (x5 : Vec F S2x2048 .f32) (x6 : Vec F S1x2048 .f32) (x7 : Vec F S2048x2048 .bf16) (x8 : Vec F S1x2048 .f32) (x9 : Vec F S1x2048 .f32) (y0 s0 s1 s2 : Vec F S256x2048 .f32) (s3 : Vec F S8x2048 .f32) :
    Σ' (LO : List (View.Piece (Elt F) S256x2048 .f32)), { LS : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y0 ∗ owns (c : Thread nD τ) arg12 fullShare s0 ∗ owns (c : Thread nD τ) arg13 fullShare s1 ∗ owns (c : Thread nD τ) arg14 fullShare s2 ∗ owns (c : Thread nD τ) arg15 fullShare s3
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ b, arg11.view.loc (c : Thread nD τ) ↦[arg11.view.set]{fullShare} arg11.view.writes (Elt F) b LO) ∗ (∃ d, owns (c : Thread nD τ) arg12 fullShare d) ∗ (∃ d, owns (c : Thread nD τ) arg13 fullShare d) ∗ (∃ d, owns (c : Thread nD τ) arg14 fullShare d) ∗ (∃ b, arg15.view.loc (c : Thread nD τ) ↦[arg15.view.set]{fullShare} arg15.view.writes (Elt F) b LS)) -∗ K ⟨⟩))
          ⊢ wp frame (wpE (defs₀ (F := F)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    unfold lruBody
    simp only [cc0_lru_bwd_eq_skeleton]; unfold cc0_lru_bwd_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    have hc : cond0_0 i := (restarts_iff i).mp hc0
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _; iexact H14

end Cert.BwdIdeal.Hand

end
-- ==== Proof.BwdValA.lean ====
/- The values the body leaves at a point that restarts. -/
module

public import proofs.«01_k».proof.Proof.BwdGates
public import proofs.«01_k».proof.Proof.BwdLoop
public import proofs.«01_k».proof.Proof.BwdIdealRunA

import all proofs.«01_k».proof.Proof.BwdIdealRunA

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The row-independent factor of the logarithms. -/
theorem factorA (c : Dev nD) (arg7 : Memref sig .tc .vmem S1x2048 .f32) (harg7 : arg7.IsWhole) (x6 : Vec Ideal S1x2048 .f32) (l : Fin 2048) :
    runA.sl.r_1 (F := Ideal) c arg7 harg7 x6 (ix2 0 l) = Ideal.ofBits .f32 0xC1000000#32 * soft (x6 (ix2 0 l)) := by
  refine (pay4_at _ l).trans ?_
  rw [View.readAt_full, harg7.read_unread]

set_option maxHeartbeats 2000000 in
/-- The stored decays are blocks of the block's. -/
theorem piecesA_A (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    View.PiecesOf (e := .f32) (GA x0 x4 x5 x6) (runA.sl.H11_16 (F := Ideal) c arg1 harg1 arg5 harg5 arg6 harg6 arg7 harg7 x0 x4 x5 x6) := by
  have hv := factorA c arg7 harg7 x6
  unfold runA.sl.H11_16
  exact ⟨fun x => pieceA 15 1920 rfl arg1 harg1 arg5 harg5 arg6 harg6 x0 x4 x5 x6 _ _ _ slices_S1x2048_o0_1920_S1x128 _ hv x, fun x => pieceA 14 1792 rfl arg1 harg1 arg5 harg5 arg6 harg6 x0 x4 x5 x6 _ _ _ slices_S1x2048_o0_1792_S1x128 _ hv x, fun x => pieceA 13 1664 rfl arg1 harg1 arg5 harg5 arg6 harg6 x0 x4 x5 x6 _ _ _ slices_S1x2048_o0_1664_S1x128 _ hv x, fun x => pieceA 12 1536 rfl arg1 harg1 arg5 harg5 arg6 harg6 x0 x4 x5 x6 _ _ _ slices_S1x2048_o0_1536_S1x128 _ hv x, fun x => pieceA 11 1408 rfl arg1 harg1 arg5 harg5 arg6 harg6 x0 x4 x5 x6 _ _ _ slices_S1x2048_o0_1408_S1x128 _ hv x, fun x => pieceA 10 1280 rfl arg1 harg1 arg5 harg5 arg6 harg6 x0 x4 x5 x6 _ _ _ slices_S1x2048_o0_1280_S1x128 _ hv x, fun x => pieceA 9 1152 rfl arg1 harg1 arg5 harg5 arg6 harg6 x0 x4 x5 x6 _ _ _ slices_S1x2048_o0_1152_S1x128 _ hv x, fun x => pieceA 8 1024 rfl arg1 harg1 arg5 harg5 arg6 harg6 x0 x4 x5 x6 _ _ _ slices_S1x2048_o0_1024_S1x128 _ hv x, fun x => pieceA 7 896 rfl arg1 harg1 arg5 harg5 arg6 harg6 x0 x4 x5 x6 _ _ _ slices_S1x2048_o0_896_S1x128 _ hv x, fun x => pieceA 6 768 rfl arg1 harg1 arg5 harg5 arg6 harg6 x0 x4 x5 x6 _ _ _ slices_S1x2048_o0_768_S1x128 _ hv x, fun x => pieceA 5 640 rfl arg1 harg1 arg5 harg5 arg6 harg6 x0 x4 x5 x6 _ _ _ slices_S1x2048_o0_640_S1x128 _ hv x, fun x => pieceA 4 512 rfl arg1 harg1 arg5 harg5 arg6 harg6 x0 x4 x5 x6 _ _ _ slices_S1x2048_o0_512_S1x128 _ hv x, fun x => pieceA 3 384 rfl arg1 harg1 arg5 harg5 arg6 harg6 x0 x4 x5 x6 _ _ _ slices_S1x2048_o0_384_S1x128 _ hv x, fun x => pieceA 2 256 rfl arg1 harg1 arg5 harg5 arg6 harg6 x0 x4 x5 x6 _ _ _ slices_S1x2048_o0_256_S1x128 _ hv x, fun x => pieceA 1 128 rfl arg1 harg1 arg5 harg5 arg6 harg6 x0 x4 x5 x6 _ _ _ slices_S1x2048_o0_128_S1x128 _ hv x, fun x => pieceA 0 0 rfl arg1 harg1 arg5 harg5 arg6 harg6 x0 x4 x5 x6 _ _ _ slices_S1x2048_o0_0_S1x128 _ hv x, trivial⟩

/-- They are stored by column blocks. -/
theorem mapA_A (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    (runA.sl.H11_16 (F := Ideal) c arg1 harg1 arg5 harg5 arg6 harg6 arg7 harg7 x0 x4 x5 x6).map Sigma.fst = cols := rfl

set_option maxHeartbeats 2000000 in
/-- The stored scaled inputs are blocks of the block's. -/
theorem piecesU_A (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    View.PiecesOf (e := .f32) (GU x0 x4 x5 x6) (runA.sl.H12_16 (F := Ideal) c arg1 harg1 arg5 harg5 arg6 harg6 arg7 harg7 x0 x4 x5 x6) := by
  have hv := factorA c arg7 harg7 x6
  unfold runA.sl.H12_16
  exact ⟨fun x => pieceU 15 1920 rfl arg1 harg1 arg5 harg5 arg6 harg6 x0 x4 x5 x6 _ _ _ _ slices_S1x2048_o0_1920_S1x128 _ hv x, fun x => pieceU 14 1792 rfl arg1 harg1 arg5 harg5 arg6 harg6 x0 x4 x5 x6 _ _ _ _ slices_S1x2048_o0_1792_S1x128 _ hv x, fun x => pieceU 13 1664 rfl arg1 harg1 arg5 harg5 arg6 harg6 x0 x4 x5 x6 _ _ _ _ slices_S1x2048_o0_1664_S1x128 _ hv x, fun x => pieceU 12 1536 rfl arg1 harg1 arg5 harg5 arg6 harg6 x0 x4 x5 x6 _ _ _ _ slices_S1x2048_o0_1536_S1x128 _ hv x, fun x => pieceU 11 1408 rfl arg1 harg1 arg5 harg5 arg6 harg6 x0 x4 x5 x6 _ _ _ _ slices_S1x2048_o0_1408_S1x128 _ hv x, fun x => pieceU 10 1280 rfl arg1 harg1 arg5 harg5 arg6 harg6 x0 x4 x5 x6 _ _ _ _ slices_S1x2048_o0_1280_S1x128 _ hv x, fun x => pieceU 9 1152 rfl arg1 harg1 arg5 harg5 arg6 harg6 x0 x4 x5 x6 _ _ _ _ slices_S1x2048_o0_1152_S1x128 _ hv x, fun x => pieceU 8 1024 rfl arg1 harg1 arg5 harg5 arg6 harg6 x0 x4 x5 x6 _ _ _ _ slices_S1x2048_o0_1024_S1x128 _ hv x, fun x => pieceU 7 896 rfl arg1 harg1 arg5 harg5 arg6 harg6 x0 x4 x5 x6 _ _ _ _ slices_S1x2048_o0_896_S1x128 _ hv x, fun x => pieceU 6 768 rfl arg1 harg1 arg5 harg5 arg6 harg6 x0 x4 x5 x6 _ _ _ _ slices_S1x2048_o0_768_S1x128 _ hv x, fun x => pieceU 5 640 rfl arg1 harg1 arg5 harg5 arg6 harg6 x0 x4 x5 x6 _ _ _ _ slices_S1x2048_o0_640_S1x128 _ hv x, fun x => pieceU 4 512 rfl arg1 harg1 arg5 harg5 arg6 harg6 x0 x4 x5 x6 _ _ _ _ slices_S1x2048_o0_512_S1x128 _ hv x, fun x => pieceU 3 384 rfl arg1 harg1 arg5 harg5 arg6 harg6 x0 x4 x5 x6 _ _ _ _ slices_S1x2048_o0_384_S1x128 _ hv x, fun x => pieceU 2 256 rfl arg1 harg1 arg5 harg5 arg6 harg6 x0 x4 x5 x6 _ _ _ _ slices_S1x2048_o0_256_S1x128 _ hv x, fun x => pieceU 1 128 rfl arg1 harg1 arg5 harg5 arg6 harg6 x0 x4 x5 x6 _ _ _ _ slices_S1x2048_o0_128_S1x128 _ hv x, fun x => pieceU 0 0 rfl arg1 harg1 arg5 harg5 arg6 harg6 x0 x4 x5 x6 _ _ _ _ slices_S1x2048_o0_0_S1x128 _ hv x, trivial⟩

/-- They are stored by column blocks. -/
theorem mapU_A (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    (runA.sl.H12_16 (F := Ideal) c arg1 harg1 arg5 harg5 arg6 harg6 arg7 harg7 x0 x4 x5 x6).map Sigma.fst = cols := rfl

/-- The state a restarting block begins from. -/
theorem initA (c : Dev nD) (arg15 : Memref sig .tc .vmem S8x2048 .f32) (l : Fin 2048) : runA.sl.v620 (F := Ideal) c arg15 (ix2 0 l) = 0 := by
  unfold runA.sl.v620 runA.sl.H14_1
  rw [View.readCov_fill _ _ _ _ _ (by intro a; fin_cases a <;> rfl)]
  show k0_pay2 (F := Ideal) ((Rect.unit (s := S8x2048) ![0, 0] S1x2048.size inb_S8x2048_S1x2048_0_0).toLoadRect.idx (ix2 0 l)) = 0
  refine Eq.trans (congrArg _ ?_) (pay2_at 0 l)
  funext a
  apply Fin.ext
  rw [LoadRect.idx_apply]
  fin_cases a <;> simp [ix2]

set_option maxHeartbeats 2000000 in
/-- The block's states, as the body reads them back. -/
theorem rowsA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (y : S256x2048.Idx) :
    runA.sl.v628 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x4 x5 x6 s2 y = rowStates (GA x0 x4 x5 x6) (GU x0 x4 x5 x6) (fun _ => 0) y := by
  unfold runA.sl.v628
  rw [View.readAt_full]
  exact loop_rows Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ (GA x0 x4 x5 x6) (GU x0 x4 x5 x6) (read_cols arg12 _ _ _ (piecesA_A c arg1 harg1 arg5 harg5 arg6 harg6 arg7 harg7 x0 x4 x5 x6) (mapA_A c arg1 harg1 arg5 harg5 arg6 harg6 arg7 harg7 x0 x4 x5 x6)) (read_cols arg13 _ _ _ (piecesU_A c arg1 harg1 arg5 harg5 arg6 harg6 arg7 harg7 x0 x4 x5 x6) (mapU_A c arg1 harg1 arg5 harg5 arg6 harg6 arg7 harg7 x0 x4 x5 x6)) _ (fun _ => 0) (initA c arg15) _ y

set_option maxHeartbeats 2000000 in
/-- The output block: the layer norm of the residual sum with the projection of the gated sum of the two states. -/
theorem outA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (b : BufTy.Contents (Elt Ideal) arg11.view.ty) (r : Fin 256) (l : Fin 2048) :
    arg11.view.read (Elt Ideal) (arg11.view.writes (Elt Ideal) b (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).1) (ix2 r l)
      = lnAt (fun k => resid (x3 (ix2 r k)) (proj x1 x2 (rowStates (GA x0 x4 x5 x6) (GU x0 x4 x5 x6) (fun _ => 0)) x7 r k)) l (x8 (ix2 0 l)) (x9 (ix2 0 l)) := by
  have e : runA.sl.v628 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x4 x5 x6 s2 = rowStates (GA x0 x4 x5 x6) (GU x0 x4 x5 x6) (fun _ => 0) := funext (rowsA c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y0 s0 s1 s2 s3)
  unfold runA
  dsimp only
  refine (congrFun (View.read_writes_full _ _ _ _ _) (ix2 r l)).trans ?_
  refine (out_at _ _ _ _ _ _ _ r l).trans ?_
  rw [e]
  simp only [runA.sl.r_39, runA.sl.r_40]
  repeat rw [View.readAt_full]
  repeat rw [Memref.IsWhole.read_unread]

set_option maxHeartbeats 2000000 in
/-- The state handed to the next block. -/
theorem carryA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (b : BufTy.Contents (Elt Ideal) arg15.view.ty) (l : Fin 2048) :
    arg15.view.read (Elt Ideal) (arg15.view.writes (Elt Ideal) b (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.1) (ix2 0 l)
      = rowState (GA x0 x4 x5 x6) (GU x0 x4 x5 x6) (fun _ => 0) l 256 := by
  unfold runA
  dsimp only
  have hm : (ix2 0 l : S8x2048.Idx) = (Rect.unit (s := S8x2048) ![0, 0] S1x2048.size inb_S8x2048_S1x2048_0_0).emb (ix2 0 l) := by
    funext a
    apply Fin.ext
    refine Eq.trans ?_ (LoadRect.idx_apply (Rect.unit (s := S8x2048) ![0, 0] S1x2048.size inb_S8x2048_S1x2048_0_0).toLoadRect (ix2 0 l) a).symm
    fin_cases a <;> simp [ix2]
  rw [hm, View.read_writes_cons_emb]
  exact (pay97_at _ l).trans (loop_carry Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ (GA x0 x4 x5 x6) (GU x0 x4 x5 x6) (read_cols arg12 _ _ _ (piecesA_A c arg1 harg1 arg5 harg5 arg6 harg6 arg7 harg7 x0 x4 x5 x6) (mapA_A c arg1 harg1 arg5 harg5 arg6 harg6 arg7 harg7 x0 x4 x5 x6)) (read_cols arg13 _ _ _ (piecesU_A c arg1 harg1 arg5 harg5 arg6 harg6 arg7 harg7 x0 x4 x5 x6) (mapU_A c arg1 harg1 arg5 harg5 arg6 harg6 arg7 harg7 x0 x4 x5 x6)) _ (fun _ => 0) (initA c arg15) l)

end Cert.BwdIdeal.Hand

end
-- ==== Proof.BwdIdealRunB.lean ====
/- The body of the idealized kernel of the backward recurrence, run once at a point that carries on. -/
module

public import proofs.«01_k».proof.Proof.BwdIdealRunA

@[expose] public section

set_option maxRecDepth 16384

noncomputable section

namespace Cert.BwdIdeal.Hand

open Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- What the body's stores leave in the output's staging buffer and in the carried state at a point that carries on, as pieces, with the proof that it runs to them. -/
noncomputable def runB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : ¬Restarts i)
    (x0 : Vec F S256x2048 .f32) (x1 : Vec F S256x2048 .f32) (x2 : Vec F S256x2048 .f32) (x3 : Vec F S256x2048 .f32) (x4 : Vec F S16x128x256 .bf16) (x5 : Vec F S2x2048 .f32) (x6 : Vec F S1x2048 .f32) (x7 : Vec F S2048x2048 .bf16) (x8 : Vec F S1x2048 .f32) (x9 : Vec F S1x2048 .f32) (y0 s0 s1 s2 : Vec F S256x2048 .f32) (s3 : Vec F S8x2048 .f32) :
    Σ' (LO : List (View.Piece (Elt F) S256x2048 .f32)), { LS : List (View.Piece (Elt F) S8x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y0 ∗ owns (c : Thread nD τ) arg12 fullShare s0 ∗ owns (c : Thread nD τ) arg13 fullShare s1 ∗ owns (c : Thread nD τ) arg14 fullShare s2 ∗ owns (c : Thread nD τ) arg15 fullShare s3
          ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ b, arg11.view.loc (c : Thread nD τ) ↦[arg11.view.set]{fullShare} arg11.view.writes (Elt F) b LO) ∗ (∃ d, owns (c : Thread nD τ) arg12 fullShare d) ∗ (∃ d, owns (c : Thread nD τ) arg13 fullShare d) ∗ (∃ d, owns (c : Thread nD τ) arg14 fullShare d) ∗ (∃ b, arg15.view.loc (c : Thread nD τ) ↦[arg15.view.set]{fullShare} arg15.view.writes (Elt F) b LS)) -∗ K ⟨⟩))
          ⊢ wp frame (wpE (defs₀ (F := F)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    unfold lruBody
    simp only [cc0_lru_bwd_eq_skeleton]; unfold cc0_lru_bwd_skel
    simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    have hc : ¬cond0_0 i := fun h => hc0 ((restarts_iff i).mpr h)
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _; iexact H14

end Cert.BwdIdeal.Hand

end
-- ==== Proof.BwdValB.lean ====
/- The values the body leaves at a point that goes on. -/
module

public import proofs.«01_k».proof.Proof.BwdGates
public import proofs.«01_k».proof.Proof.BwdLoop
public import proofs.«01_k».proof.Proof.BwdIdealRunB

import all proofs.«01_k».proof.Proof.BwdIdealRunB

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The row-independent factor of the logarithms. -/
theorem factorB (c : Dev nD) (arg7 : Memref sig .tc .vmem S1x2048 .f32) (harg7 : arg7.IsWhole) (x6 : Vec Ideal S1x2048 .f32) (l : Fin 2048) :
    runB.sl.r_1 (F := Ideal) c arg7 harg7 x6 (ix2 0 l) = Ideal.ofBits .f32 0xC1000000#32 * soft (x6 (ix2 0 l)) := by
  refine (pay4_at _ l).trans ?_
  rw [View.readAt_full, harg7.read_unread]

set_option maxHeartbeats 2000000 in
/-- The stored decays are blocks of the block's. -/
theorem piecesA_B (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    View.PiecesOf (e := .f32) (GA x0 x4 x5 x6) (runB.sl.H11_16 (F := Ideal) c arg1 harg1 arg5 harg5 arg6 harg6 arg7 harg7 x0 x4 x5 x6) := by
  have hv := factorB c arg7 harg7 x6
  unfold runB.sl.H11_16
  exact ⟨fun x => pieceA 15 1920 rfl arg1 harg1 arg5 harg5 arg6 harg6 x0 x4 x5 x6 _ _ _ slices_S1x2048_o0_1920_S1x128 _ hv x, fun x => pieceA 14 1792 rfl arg1 harg1 arg5 harg5 arg6 harg6 x0 x4 x5 x6 _ _ _ slices_S1x2048_o0_1792_S1x128 _ hv x, fun x => pieceA 13 1664 rfl arg1 harg1 arg5 harg5 arg6 harg6 x0 x4 x5 x6 _ _ _ slices_S1x2048_o0_1664_S1x128 _ hv x, fun x => pieceA 12 1536 rfl arg1 harg1 arg5 harg5 arg6 harg6 x0 x4 x5 x6 _ _ _ slices_S1x2048_o0_1536_S1x128 _ hv x, fun x => pieceA 11 1408 rfl arg1 harg1 arg5 harg5 arg6 harg6 x0 x4 x5 x6 _ _ _ slices_S1x2048_o0_1408_S1x128 _ hv x, fun x => pieceA 10 1280 rfl arg1 harg1 arg5 harg5 arg6 harg6 x0 x4 x5 x6 _ _ _ slices_S1x2048_o0_1280_S1x128 _ hv x, fun x => pieceA 9 1152 rfl arg1 harg1 arg5 harg5 arg6 harg6 x0 x4 x5 x6 _ _ _ slices_S1x2048_o0_1152_S1x128 _ hv x, fun x => pieceA 8 1024 rfl arg1 harg1 arg5 harg5 arg6 harg6 x0 x4 x5 x6 _ _ _ slices_S1x2048_o0_1024_S1x128 _ hv x, fun x => pieceA 7 896 rfl arg1 harg1 arg5 harg5 arg6 harg6 x0 x4 x5 x6 _ _ _ slices_S1x2048_o0_896_S1x128 _ hv x, fun x => pieceA 6 768 rfl arg1 harg1 arg5 harg5 arg6 harg6 x0 x4 x5 x6 _ _ _ slices_S1x2048_o0_768_S1x128 _ hv x, fun x => pieceA 5 640 rfl arg1 harg1 arg5 harg5 arg6 harg6 x0 x4 x5 x6 _ _ _ slices_S1x2048_o0_640_S1x128 _ hv x, fun x => pieceA 4 512 rfl arg1 harg1 arg5 harg5 arg6 harg6 x0 x4 x5 x6 _ _ _ slices_S1x2048_o0_512_S1x128 _ hv x, fun x => pieceA 3 384 rfl arg1 harg1 arg5 harg5 arg6 harg6 x0 x4 x5 x6 _ _ _ slices_S1x2048_o0_384_S1x128 _ hv x, fun x => pieceA 2 256 rfl arg1 harg1 arg5 harg5 arg6 harg6 x0 x4 x5 x6 _ _ _ slices_S1x2048_o0_256_S1x128 _ hv x, fun x => pieceA 1 128 rfl arg1 harg1 arg5 harg5 arg6 harg6 x0 x4 x5 x6 _ _ _ slices_S1x2048_o0_128_S1x128 _ hv x, fun x => pieceA 0 0 rfl arg1 harg1 arg5 harg5 arg6 harg6 x0 x4 x5 x6 _ _ _ slices_S1x2048_o0_0_S1x128 _ hv x, trivial⟩

/-- They are stored by column blocks. -/
theorem mapA_B (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    (runB.sl.H11_16 (F := Ideal) c arg1 harg1 arg5 harg5 arg6 harg6 arg7 harg7 x0 x4 x5 x6).map Sigma.fst = cols := rfl

set_option maxHeartbeats 2000000 in
/-- The stored scaled inputs are blocks of the block's. -/
theorem piecesU_B (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    View.PiecesOf (e := .f32) (GU x0 x4 x5 x6) (runB.sl.H12_16 (F := Ideal) c arg1 harg1 arg5 harg5 arg6 harg6 arg7 harg7 x0 x4 x5 x6) := by
  have hv := factorB c arg7 harg7 x6
  unfold runB.sl.H12_16
  exact ⟨fun x => pieceU 15 1920 rfl arg1 harg1 arg5 harg5 arg6 harg6 x0 x4 x5 x6 _ _ _ _ slices_S1x2048_o0_1920_S1x128 _ hv x, fun x => pieceU 14 1792 rfl arg1 harg1 arg5 harg5 arg6 harg6 x0 x4 x5 x6 _ _ _ _ slices_S1x2048_o0_1792_S1x128 _ hv x, fun x => pieceU 13 1664 rfl arg1 harg1 arg5 harg5 arg6 harg6 x0 x4 x5 x6 _ _ _ _ slices_S1x2048_o0_1664_S1x128 _ hv x, fun x => pieceU 12 1536 rfl arg1 harg1 arg5 harg5 arg6 harg6 x0 x4 x5 x6 _ _ _ _ slices_S1x2048_o0_1536_S1x128 _ hv x, fun x => pieceU 11 1408 rfl arg1 harg1 arg5 harg5 arg6 harg6 x0 x4 x5 x6 _ _ _ _ slices_S1x2048_o0_1408_S1x128 _ hv x, fun x => pieceU 10 1280 rfl arg1 harg1 arg5 harg5 arg6 harg6 x0 x4 x5 x6 _ _ _ _ slices_S1x2048_o0_1280_S1x128 _ hv x, fun x => pieceU 9 1152 rfl arg1 harg1 arg5 harg5 arg6 harg6 x0 x4 x5 x6 _ _ _ _ slices_S1x2048_o0_1152_S1x128 _ hv x, fun x => pieceU 8 1024 rfl arg1 harg1 arg5 harg5 arg6 harg6 x0 x4 x5 x6 _ _ _ _ slices_S1x2048_o0_1024_S1x128 _ hv x, fun x => pieceU 7 896 rfl arg1 harg1 arg5 harg5 arg6 harg6 x0 x4 x5 x6 _ _ _ _ slices_S1x2048_o0_896_S1x128 _ hv x, fun x => pieceU 6 768 rfl arg1 harg1 arg5 harg5 arg6 harg6 x0 x4 x5 x6 _ _ _ _ slices_S1x2048_o0_768_S1x128 _ hv x, fun x => pieceU 5 640 rfl arg1 harg1 arg5 harg5 arg6 harg6 x0 x4 x5 x6 _ _ _ _ slices_S1x2048_o0_640_S1x128 _ hv x, fun x => pieceU 4 512 rfl arg1 harg1 arg5 harg5 arg6 harg6 x0 x4 x5 x6 _ _ _ _ slices_S1x2048_o0_512_S1x128 _ hv x, fun x => pieceU 3 384 rfl arg1 harg1 arg5 harg5 arg6 harg6 x0 x4 x5 x6 _ _ _ _ slices_S1x2048_o0_384_S1x128 _ hv x, fun x => pieceU 2 256 rfl arg1 harg1 arg5 harg5 arg6 harg6 x0 x4 x5 x6 _ _ _ _ slices_S1x2048_o0_256_S1x128 _ hv x, fun x => pieceU 1 128 rfl arg1 harg1 arg5 harg5 arg6 harg6 x0 x4 x5 x6 _ _ _ _ slices_S1x2048_o0_128_S1x128 _ hv x, fun x => pieceU 0 0 rfl arg1 harg1 arg5 harg5 arg6 harg6 x0 x4 x5 x6 _ _ _ _ slices_S1x2048_o0_0_S1x128 _ hv x, trivial⟩

/-- They are stored by column blocks. -/
theorem mapU_B (c : Dev nD) (arg1 : Memref sig .tc .vmem S256x2048 .f32) (harg1 : arg1.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (x0 : Vec Ideal S256x2048 .f32) (x4 : Vec Ideal S16x128x256 .bf16) (x5 : Vec Ideal S2x2048 .f32) (x6 : Vec Ideal S1x2048 .f32) :
    (runB.sl.H12_16 (F := Ideal) c arg1 harg1 arg5 harg5 arg6 harg6 arg7 harg7 x0 x4 x5 x6).map Sigma.fst = cols := rfl

/-- The state a continuing block begins from. -/
theorem initB (arg15 : Memref sig .tc .vmem S8x2048 .f32) (harg15 : arg15.IsWhole) (s3 : Vec Ideal S8x2048 .f32) (l : Fin 2048) :
    View.readAt (Elt Ideal) arg15.view (Rect.unit (s := S8x2048) ![0, 0] S1x2048.size inb_S8x2048_S1x2048_0_0).toLoadRect (harg15.unread s3) (ix2 0 l) = s3 (ix2 0 l) := by
  rw [harg15.readAt_unread]
  refine congrArg s3 ?_
  funext a
  apply Fin.ext
  rw [LoadRect.idx_apply]
  fin_cases a <;> simp [ix2]

set_option maxHeartbeats 2000000 in
/-- The block's states, as the body reads them back. -/
theorem rowsB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (y : S256x2048.Idx) :
    runB.sl.v628 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x4 x5 x6 s2 s3 y = rowStates (GA x0 x4 x5 x6) (GU x0 x4 x5 x6) (fun l => s3 (ix2 0 l)) y := by
  unfold runB.sl.v628
  rw [View.readAt_full]
  exact loop_rows Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ (GA x0 x4 x5 x6) (GU x0 x4 x5 x6) (read_cols arg12 _ _ _ (piecesA_B c arg1 harg1 arg5 harg5 arg6 harg6 arg7 harg7 x0 x4 x5 x6) (mapA_B c arg1 harg1 arg5 harg5 arg6 harg6 arg7 harg7 x0 x4 x5 x6)) (read_cols arg13 _ _ _ (piecesU_B c arg1 harg1 arg5 harg5 arg6 harg6 arg7 harg7 x0 x4 x5 x6) (mapU_B c arg1 harg1 arg5 harg5 arg6 harg6 arg7 harg7 x0 x4 x5 x6)) _ (fun l => s3 (ix2 0 l)) (initB arg15 harg15 s3) _ y

set_option maxHeartbeats 2000000 in
/-- The output block: the layer norm of the residual sum with the projection of the gated sum of the two states. -/
theorem outB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : ¬Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (b : BufTy.Contents (Elt Ideal) arg11.view.ty) (r : Fin 256) (l : Fin 2048) :
    arg11.view.read (Elt Ideal) (arg11.view.writes (Elt Ideal) b (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).1) (ix2 r l)
      = lnAt (fun k => resid (x3 (ix2 r k)) (proj x1 x2 (rowStates (GA x0 x4 x5 x6) (GU x0 x4 x5 x6) (fun l => s3 (ix2 0 l))) x7 r k)) l (x8 (ix2 0 l)) (x9 (ix2 0 l)) := by
  have e : runB.sl.v628 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x4 x5 x6 s2 s3 = rowStates (GA x0 x4 x5 x6) (GU x0 x4 x5 x6) (fun l => s3 (ix2 0 l)) := funext (rowsB c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 y0 s0 s1 s2 s3)
  unfold runB
  dsimp only
  refine (congrFun (View.read_writes_full _ _ _ _ _) (ix2 r l)).trans ?_
  refine (out_at _ _ _ _ _ _ _ r l).trans ?_
  rw [e]
  simp only [runB.sl.r_39, runB.sl.r_40]
  repeat rw [View.readAt_full]
  repeat rw [Memref.IsWhole.read_unread]

set_option maxHeartbeats 2000000 in
/-- The state handed to the next block. -/
theorem carryB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : ¬Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (y0 s0 s1 s2 : Vec Ideal S256x2048 .f32) (s3 : Vec Ideal S8x2048 .f32) (b : BufTy.Contents (Elt Ideal) arg15.view.ty) (l : Fin 2048) :
    arg15.view.read (Elt Ideal) (arg15.view.writes (Elt Ideal) b (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.1) (ix2 0 l)
      = rowState (GA x0 x4 x5 x6) (GU x0 x4 x5 x6) (fun l => s3 (ix2 0 l)) l 256 := by
  unfold runB
  dsimp only
  have hm : (ix2 0 l : S8x2048.Idx) = (Rect.unit (s := S8x2048) ![0, 0] S1x2048.size inb_S8x2048_S1x2048_0_0).emb (ix2 0 l) := by
    funext a
    apply Fin.ext
    refine Eq.trans ?_ (LoadRect.idx_apply (Rect.unit (s := S8x2048) ![0, 0] S1x2048.size inb_S8x2048_S1x2048_0_0).toLoadRect (ix2 0 l) a).symm
    fin_cases a <;> simp [ix2]
  rw [hm, View.read_writes_cons_emb]
  exact (pay97_at _ l).trans (loop_carry Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ _ _ (GA x0 x4 x5 x6) (GU x0 x4 x5 x6) (read_cols arg12 _ _ _ (piecesA_B c arg1 harg1 arg5 harg5 arg6 harg6 arg7 harg7 x0 x4 x5 x6) (mapA_B c arg1 harg1 arg5 harg5 arg6 harg6 arg7 harg7 x0 x4 x5 x6)) (read_cols arg13 _ _ _ (piecesU_B c arg1 harg1 arg5 harg5 arg6 harg6 arg7 harg7 x0 x4 x5 x6) (mapU_B c arg1 harg1 arg5 harg5 arg6 harg6 arg7 harg7 x0 x4 x5 x6)) _ (fun l => s3 (ix2 0 l)) (initB arg15 harg15 s3) l)

end Cert.BwdIdeal.Hand

end
-- ==== Proof.BwdIdealVal.lean ====
/- The body of the idealized backward recurrence at every point, with what it leaves named. -/
module

public import proofs.«01_k».proof.Proof.BwdValA
public import proofs.«01_k».proof.Proof.BwdValB

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- What the body leaves in the output's block, from the blocks it reads and the state it begins from. -/
def outOf (x0 x1 x2 x3 : Vec Ideal S256x2048 .f32) (x4 : Vec Ideal S16x128x256 .bf16) (x5 : Vec Ideal S2x2048 .f32) (x6 : Vec Ideal S1x2048 .f32) (x7 : Vec Ideal S2048x2048 .bf16) (x8 x9 : Vec Ideal S1x2048 .f32) (h : Fin 2048 → EReal) : Vec Ideal S256x2048 .f32 := fun y =>
  lnAt (fun k => resid (x3 (ix2 (y 0) k)) (proj x1 x2 (rowStates (GA x0 x4 x5 x6) (GU x0 x4 x5 x6) h) x7 (y 0) k)) (y 1) (x8 (ix2 0 (y 1))) (x9 (ix2 0 (y 1)))

/-- The state the body leaves, from the blocks it reads and the state it begins from. -/
def stateOf (x0 : Vec Ideal S256x2048 .f32) (x4 : Vec Ideal S16x128x256 .bf16) (x5 : Vec Ideal S2x2048 .f32) (x6 : Vec Ideal S1x2048 .f32) (h : Fin 2048 → EReal) (l : Fin 2048) : EReal :=
  rowState (GA x0 x4 x5 x6) (GU x0 x4 x5 x6) h l 256

set_option maxHeartbeats 2000000 in
/-- The body at a point that restarts: what it leaves in the output and in the carried state. -/
theorem valA (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outOf x0 x1 x2 x3 x4 x5 x6 x7 x8 x9 (fun _ => 0)) ∗ (∃ d, owns (c : Thread nD τ) arg12 fullShare d) ∗ (∃ d, owns (c : Thread nD τ) arg13 fullShare d) ∗ (∃ d, owns (c : Thread nD τ) arg14 fullShare d) ∗ (∃ d, ⌜∀ l : Fin 2048, d (ix2 0 l) = stateOf x0 x4 x5 x6 (fun _ => 0) l⌝ ∗ owns (c : Thread nD τ) arg15 fullShare d)) -∗ K ⟨⟩))
      ⊢ wp frame (wpE (defs₀ (F := Ideal)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, ⟨%y0, H10⟩, ⟨%s0, H11⟩, ⟨%s1, H12⟩, ⟨%s2, H13⟩, ⟨%s3, H14⟩, Hk⟩
  iapply ((runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, ⟨%b, H10⟩, H11, H12, H13, ⟨%b2, H14⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns
    iexists _; isplitr; swap; · iexact H10
    ipureintro
    funext y
    have key : ∀ (r : Fin 256) (l : Fin 2048), arg11.view.read (Elt Ideal) (arg11.view.writes (Elt Ideal) b (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).1) (ix2 r l) = outOf x0 x1 x2 x3 x4 x5 x6 x7 x8 x9 (fun _ => 0) (ix2 r l) :=
      fun r l => outA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3 b r l
    exact (congrArg _ (ix2_eta y).symm).trans ((key (y 0) (y 1)).trans (congrArg _ (ix2_eta y)))
  isplitl [H11]; · iexact H11
  isplitl [H12]; · iexact H12
  isplitl [H13]; · iexact H13
  unfold owns
  iexists arg15.view.read (Elt Ideal) (arg15.view.writes (Elt Ideal) b2 (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.1)
  isplitr
  · ipureintro
    exact fun l => carryA c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3 b2 l
  iexists _; isplitr; swap; · iexact H14
  ipureintro; rfl

set_option maxHeartbeats 2000000 in
/-- The body at a point that does not restart: what it leaves in the output and in the carried state. -/
theorem valB (c : Dev nD) (i : grid0.Coords) (arg1 : Memref sig .tc .vmem S256x2048 .f32) (harg1 : arg1.IsWhole) (arg2 : Memref sig .tc .vmem S256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S16x128x256 .bf16) (harg5 : arg5.IsWhole) (arg6 : Memref sig .tc .vmem S2x2048 .f32) (harg6 : arg6.IsWhole) (arg7 : Memref sig .tc .vmem S1x2048 .f32) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (hc0 : ¬Restarts i) (x0 : Vec Ideal S256x2048 .f32) (x1 : Vec Ideal S256x2048 .f32) (x2 : Vec Ideal S256x2048 .f32) (x3 : Vec Ideal S256x2048 .f32) (x4 : Vec Ideal S16x128x256 .bf16) (x5 : Vec Ideal S2x2048 .f32) (x6 : Vec Ideal S1x2048 .f32) (x7 : Vec Ideal S2048x2048 .bf16) (x8 : Vec Ideal S1x2048 .f32) (x9 : Vec Ideal S1x2048 .f32) (h : Fin 2048 → EReal) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, ⌜∀ l : Fin 2048, d (ix2 0 l) = h l⌝ ∗ owns (c : Thread nD τ) arg15 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (outOf x0 x1 x2 x3 x4 x5 x6 x7 x8 x9 (h)) ∗ (∃ d, owns (c : Thread nD τ) arg12 fullShare d) ∗ (∃ d, owns (c : Thread nD τ) arg13 fullShare d) ∗ (∃ d, owns (c : Thread nD τ) arg14 fullShare d) ∗ (∃ d, ⌜∀ l : Fin 2048, d (ix2 0 l) = stateOf x0 x4 x5 x6 (h) l⌝ ∗ owns (c : Thread nD τ) arg15 fullShare d)) -∗ K ⟨⟩))
      ⊢ wp frame (wpE (defs₀ (F := Ideal)) Variants.none c none) E (lruBody i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  iintro ⟨H0, H1, H2, H3, H4, H5, H6, H7, H8, H9, ⟨%y0, H10⟩, ⟨%s0, H11⟩, ⟨%s1, H12⟩, ⟨%s2, H13⟩, ⟨%s3, %hs, H14⟩, Hk⟩
  iapply ((runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, ⟨%b, H10⟩, H11, H12, H13, ⟨%b2, H14⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns
    iexists _; isplitr; swap; · iexact H10
    ipureintro
    have e : (fun l => s3 (ix2 0 l)) = h := funext hs
    funext y
    have key : ∀ (r : Fin 256) (l : Fin 2048), arg11.view.read (Elt Ideal) (arg11.view.writes (Elt Ideal) b (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).1) (ix2 r l) = outOf x0 x1 x2 x3 x4 x5 x6 x7 x8 x9 (h) (ix2 r l) :=
      fun r l => (outB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3 b r l).trans (by rw [e]; rfl)
    exact (congrArg _ (ix2_eta y).symm).trans ((key (y 0) (y 1)).trans (congrArg _ (ix2_eta y)))
  isplitl [H11]; · iexact H11
  isplitl [H12]; · iexact H12
  isplitl [H13]; · iexact H13
  unfold owns
  iexists arg15.view.read (Elt Ideal) (arg15.view.writes (Elt Ideal) b2 (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3).2.1)
  isplitr
  · ipureintro
    have e : (fun l => s3 (ix2 0 l)) = h := funext hs
    exact fun l => (carryB c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 y0 s0 s1 s2 s3 b2 l).trans (by rw [e]; rfl)
  iexists _; isplitr; swap; · iexact H14
  ipureintro; rfl

end Cert.BwdIdeal.Hand

end
-- ==== Proof.BwdIdealBody.lean ====
/- The body of the idealized backward recurrence at every point, with what it leaves named. -/
module

public import proofs.«01_k».proof.Proof.BwdIdealVal

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The points at which the state begins from zero. -/
def restartAt (n : ℕ) : Prop := n = 0 ∨ n = 8 ∨ n = 16 ∨ n = 24 ∨ n = 32

open Classical in
/-- The state the body at point `n` begins from, `h` being what the point before left. -/
def begins (n : ℕ) (h : Fin 2048 → EReal) : Fin 2048 → EReal := if restartAt n then fun _ => 0 else h

/-- At a point that restarts it is zero. -/
theorem begins_restart (n : ℕ) (h : Fin 2048 → EReal) (hr : restartAt n) : begins n h = fun _ => 0 := if_pos hr
/-- At any other it is what the point before left. -/
theorem begins_carry (n : ℕ) (h : Fin 2048 → EReal) (hr : ¬restartAt n) : begins n h = h := if_neg hr

/-- The state before point `n`, as the blocks leave it. -/
def carry (c : Dev nD) : ℕ → Fin 2048 → EReal
  | 0 => fun _ => 0
  | n + 1 => if h : n < cfg0.N then stateOf (iblk m c 0 ⟨n, h⟩) (iblk m c 4 ⟨n, h⟩) (iblk m c 5 ⟨n, h⟩) (iblk m c 6 ⟨n, h⟩) (begins n (carry c n)) else fun _ => 0

/-- The state after a point. -/
theorem carry_succ (c : Dev nD) (t : Fin cfg0.N) :
    carry m c (t.val + 1) = stateOf (iblk m c 0 t) (iblk m c 4 t) (iblk m c 5 t) (iblk m c 6 t) (begins t.val (carry m c t.val)) := by
  rw [carry]; exact dif_pos t.isLt

/-- What the body leaves in the output's block at a point. -/
def leaves (c : Dev nD) (t : Fin cfg0.N) : Vec Ideal S256x2048 .f32 :=
  outOf (iblk m c 0 t) (iblk m c 1 t) (iblk m c 2 t) (iblk m c 3 t) (iblk m c 4 t) (iblk m c 5 t) (iblk m c 6 t) (iblk m c 7 t) (iblk m c 8 t) (iblk m c 9 t) (begins t.val (carry m c t.val))

/-- The carried scratch before point `n`: its first row is the state, once a point has left one. -/
def carried (c : Dev nD) (n : ℕ) : sProp 𝕄 :=
  iprop(∃ d, ⌜n ≠ 0 → ∀ l : Fin 2048, d (ix2 0 l) = carry m c n l⌝ ∗ owns (c : Thread nD τ) scM0_3 fullShare d)

/-- The scratch and the generator's register before point `n`. -/
def PhiAt (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ carried m c n) ∗ (∃ r, prngReg c r))

/-- Held contents may be named by less. -/
theorem weaken {sh : Shape} {e : EltTy} (c : Dev nD) (a : Memref sig .tc .vmem sh e) {P Q : Vec Ideal sh e → Prop} (h : ∀ d, P d → Q d) :
    (iprop(∃ d, ⌜P d⌝ ∗ owns (c : Thread nD τ) a fullShare d) : sProp 𝕄) ⊢ iprop(∃ d, ⌜Q d⌝ ∗ owns (c : Thread nD τ) a fullShare d) := by
  iintro ⟨%d, %hd, H⟩
  iexists d
  isplitr
  · ipureintro; exact h d hd
  iexact H

/-- Held contents may be left unnamed. -/
theorem unname {sh : Shape} {e : EltTy} (c : Dev nD) (a : Memref sig .tc .vmem sh e) {P : Vec Ideal sh e → Prop} :
    (iprop(∃ d, ⌜P d⌝ ∗ owns (c : Thread nD τ) a fullShare d) : sProp 𝕄) ⊢ iprop(∃ d, owns (c : Thread nD τ) a fullShare d) := by
  iintro ⟨%d, %hd, H⟩
  iexists d
  iexact H

/-- Once a point has left one, the carried scratch's first row is the state. -/
theorem carried_before (c : Dev nD) (n : ℕ) (hn : n ≠ 0) :
    carried m c n ⊢ iprop(∃ d, ⌜∀ l : Fin 2048, d (ix2 0 l) = carry m c n l⌝ ∗ owns (c : Thread nD τ) scM0_3 fullShare d) :=
  weaken c scM0_3 (P := fun d => n ≠ 0 → ∀ l : Fin 2048, d (ix2 0 l) = carry m c n l) (Q := fun d => ∀ l : Fin 2048, d (ix2 0 l) = carry m c n l) fun d hd l => hd hn l

/-- What the body leaves in the carried scratch is the next state. -/
theorem carried_after (c : Dev nD) (t : Fin cfg0.N) (h : Fin 2048 → EReal) (hh : begins t.val (carry m c t.val) = h) :
    (iprop(∃ d, ⌜∀ l : Fin 2048, d (ix2 0 l) = stateOf (iblk m c 0 t) (iblk m c 4 t) (iblk m c 5 t) (iblk m c 6 t) h l⌝ ∗ owns (c : Thread nD τ) scM0_3 fullShare d) : sProp 𝕄) ⊢ carried m c (t.val + 1) :=
  weaken c scM0_3 (P := fun d => ∀ l : Fin 2048, d (ix2 0 l) = stateOf (iblk m c 0 t) (iblk m c 4 t) (iblk m c 5 t) (iblk m c 6 t) h l)
    (Q := fun d => t.val + 1 ≠ 0 → ∀ l : Fin 2048, d (ix2 0 l) = carry m c (t.val + 1) l) fun d hd _ l => by rw [carry_succ, hh]; exact hd l

/-- Contents found by a function are contents. -/
theorem found {sh : Shape} {e : EltTy} {D : Type} (c : Dev nD) (a : Memref sig .tc .vmem sh e) (f : D → Vec Ideal sh e) :
    (iprop(∃ d, owns (c : Thread nD τ) a fullShare (f d)) : sProp 𝕄) ⊢ iprop(∃ d, owns (c : Thread nD τ) a fullShare d) := by
  iintro ⟨%d, H⟩
  iexists _
  iexact H

/-- The scratch at anything is the scratch before the first point. -/
theorem PhiAt_of (c : Dev nD) : Pipeline.ΦA spec0 c ⊢ PhiAt m c 0 := by
  rw [PhiA0_eq]
  unfold PhiAt carried
  iintro ⟨⟨H0, H1, H2, ⟨%d, H3⟩⟩, Hg⟩
  isplitr [Hg]
  · isplitl [H0]; · iexact H0
    isplitl [H1]; · iexact H1
    isplitl [H2]; · iexact H2
    iexists d
    isplitr
    · ipureintro; exact fun h => absurd rfl h
    iexact H3
  iexact Hg

/-- The scratch before any point is the scratch at anything. -/
theorem of_PhiAt (c : Dev nD) (n : ℕ) : PhiAt m c n ⊢ Pipeline.ΦA spec0 c := by
  rw [PhiA0_eq]
  unfold PhiAt carried
  iintro ⟨⟨H0, H1, H2, ⟨%d, %hd, H3⟩⟩, Hg⟩
  isplitr [Hg]
  · isplitl [H0]; · iexact H0
    isplitl [H1]; · iexact H1
    isplitl [H2]; · iexact H2
    iexists d
    iexact H3
  iexact Hg

/-- The proof data: the inputs stay at their blocks, the output at what the body leaves, the carried scratch at the state. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => leaves m c t
  Φ t := PhiAt m c t.val
  q _ := fullShare
  owed _ := 0

/-- The arrays the proof data starts from are those the region finds. -/
theorem A_eq (c : Dev nD) (w : Fin cfg0.W) : (dats m 0 c).A w = V m c (Pipeline.arrRef spec0 w) := by dsimp only [dats]

/-- Input 0 after a point is its block. -/
theorem after0_0 (c : Dev nD) (t : Fin cfg0.N) : (dats m 0 c).after 0 t = iblk m c 0 t := by dsimp only [dats]
/-- Input 1 after a point is its block. -/
theorem after0_1 (c : Dev nD) (t : Fin cfg0.N) : (dats m 0 c).after 1 t = iblk m c 1 t := by dsimp only [dats]
/-- Input 2 after a point is its block. -/
theorem after0_2 (c : Dev nD) (t : Fin cfg0.N) : (dats m 0 c).after 2 t = iblk m c 2 t := by dsimp only [dats]
/-- Input 3 after a point is its block. -/
theorem after0_3 (c : Dev nD) (t : Fin cfg0.N) : (dats m 0 c).after 3 t = iblk m c 3 t := by dsimp only [dats]
/-- Input 4 after a point is its block. -/
theorem after0_4 (c : Dev nD) (t : Fin cfg0.N) : (dats m 0 c).after 4 t = iblk m c 4 t := by dsimp only [dats]
/-- Input 5 after a point is its block. -/
theorem after0_5 (c : Dev nD) (t : Fin cfg0.N) : (dats m 0 c).after 5 t = iblk m c 5 t := by dsimp only [dats]
/-- Input 6 after a point is its block. -/
theorem after0_6 (c : Dev nD) (t : Fin cfg0.N) : (dats m 0 c).after 6 t = iblk m c 6 t := by dsimp only [dats]
/-- Input 7 after a point is its block. -/
theorem after0_7 (c : Dev nD) (t : Fin cfg0.N) : (dats m 0 c).after 7 t = iblk m c 7 t := by dsimp only [dats]
/-- Input 8 after a point is its block. -/
theorem after0_8 (c : Dev nD) (t : Fin cfg0.N) : (dats m 0 c).after 8 t = iblk m c 8 t := by dsimp only [dats]
/-- Input 9 after a point is its block. -/
theorem after0_9 (c : Dev nD) (t : Fin cfg0.N) : (dats m 0 c).after 9 t = iblk m c 9 t := by dsimp only [dats]
/-- Input 0 before a point is its block. -/
theorem before0_0 (c : Dev nD) (t : Fin cfg0.N) (d) : (dats m 0 c).before 0 t d = iblk m c 0 t :=
  before0_0_of m (dats m 0 c) (A_eq m c 0) (after0_0 m c) t d
/-- Input 1 before a point is its block. -/
theorem before0_1 (c : Dev nD) (t : Fin cfg0.N) (d) : (dats m 0 c).before 1 t d = iblk m c 1 t :=
  before0_1_of m (dats m 0 c) (A_eq m c 1) (after0_1 m c) t d
/-- Input 2 before a point is its block. -/
theorem before0_2 (c : Dev nD) (t : Fin cfg0.N) (d) : (dats m 0 c).before 2 t d = iblk m c 2 t :=
  before0_2_of m (dats m 0 c) (A_eq m c 2) (after0_2 m c) t d
/-- Input 3 before a point is its block. -/
theorem before0_3 (c : Dev nD) (t : Fin cfg0.N) (d) : (dats m 0 c).before 3 t d = iblk m c 3 t :=
  before0_3_of m (dats m 0 c) (A_eq m c 3) (after0_3 m c) t d
/-- Input 4 before a point is its block. -/
theorem before0_4 (c : Dev nD) (t : Fin cfg0.N) (d) : (dats m 0 c).before 4 t d = iblk m c 4 t :=
  before0_4_of m (dats m 0 c) (A_eq m c 4) (after0_4 m c) t d
/-- Input 5 before a point is its block. -/
theorem before0_5 (c : Dev nD) (t : Fin cfg0.N) (d) : (dats m 0 c).before 5 t d = iblk m c 5 t :=
  before0_5_of m (dats m 0 c) (A_eq m c 5) (after0_5 m c) t d
/-- Input 6 before a point is its block. -/
theorem before0_6 (c : Dev nD) (t : Fin cfg0.N) (d) : (dats m 0 c).before 6 t d = iblk m c 6 t :=
  before0_6_of m (dats m 0 c) (A_eq m c 6) (after0_6 m c) t d
/-- Input 7 before a point is its block. -/
theorem before0_7 (c : Dev nD) (t : Fin cfg0.N) (d) : (dats m 0 c).before 7 t d = iblk m c 7 t :=
  before0_7_of m (dats m 0 c) (A_eq m c 7) (after0_7 m c) t d
/-- Input 8 before a point is its block. -/
theorem before0_8 (c : Dev nD) (t : Fin cfg0.N) (d) : (dats m 0 c).before 8 t d = iblk m c 8 t :=
  before0_8_of m (dats m 0 c) (A_eq m c 8) (after0_8 m c) t d
/-- Input 9 before a point is its block. -/
theorem before0_9 (c : Dev nD) (t : Fin cfg0.N) (d) : (dats m 0 c).before 9 t d = iblk m c 9 t :=
  before0_9_of m (dats m 0 c) (A_eq m c 9) (after0_9 m c) t d

/-- The output after a point is what the body leaves. -/
theorem after0_10 (c : Dev nD) (t : Fin cfg0.N) : (dats m 0 c).after 10 t = leaves m c t := by dsimp only [dats]

/-- The invariant at a position. -/
theorem Phi_eq (c : Dev nD) (t : Fin (cfg0.N + 1)) : (dats m 0 c).Φ t = PhiAt m c t.val := by dsimp only [dats]

/-- The invariant at a point's start. -/
theorem Phi_start (c : Dev nD) (t : Fin cfg0.N) : (dats m 0 c).Φ t.castSucc = PhiAt m c t.val := Phi_eq m c t.castSucc

/-- The invariant at a point's end. -/
theorem Phi_end (c : Dev nD) (t : Fin cfg0.N) : (dats m 0 c).Φ t.succ = PhiAt m c (t.val + 1) := Phi_eq m c t.succ

/-- The core owes nothing before or after a point. -/
theorem owesAt_eq (c : Dev nD) (t : Fin cfg0.N) : (dats m 0 c).owesAt () t.succ = (dats m 0 c).owesAt () t.castSucc := rfl

/-- The launch hands over the invariant. -/
theorem hin (c : Dev nD) : Pipeline.ΦA spec0 c ⊢ (dats m 0 c).Φ 0 := by
  rw [Phi_eq]
  exact PhiAt_of m c

/-- The invariant is handed back. -/
theorem hout (c : Dev nD) : (dats m 0 c).Φ (Fin.last cfg0.N) ⊢ Pipeline.ΦA spec0 c := by
  rw [Phi_eq]
  exact of_PhiAt m c _

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2000000 in
/-- A body's run from what it holds to what it leaves, rearranged to the order of the launch, the rest kept aside. -/
theorem glue {D0 D1 D2 D3 D4 D5 D6 D7 D8 D9 : Type} (X0 X1 X2 X3 X4 X5 X6 X7 X8 X9 Z Y Y' S0 S1 S2 T S3 S3' T' G O : sProp 𝕄) (W : (PUnit → sProp 𝕄) → sProp 𝕄)
    (hY : Z ⊢ Y) (hS : T ⊢ S3) (hS' : S3' ⊢ T')
    (h : ∀ K : PUnit → sProp 𝕄, iprop(X0 ∗ X1 ∗ X2 ∗ X3 ∗ X4 ∗ X5 ∗ X6 ∗ X7 ∗ X8 ∗ X9 ∗ Y ∗ S0 ∗ S1 ∗ S2 ∗ S3 ∗ (iprop(X0 ∗ X1 ∗ X2 ∗ X3 ∗ X4 ∗ X5 ∗ X6 ∗ X7 ∗ X8 ∗ X9 ∗ Y' ∗ S0 ∗ S1 ∗ S2 ∗ S3') -∗ K ⟨⟩)) ⊢ W K) :
    iprop(((S0 ∗ S1 ∗ S2 ∗ T) ∗ G) ∗ O ∗ (∃ _ : D0, X0) ∗ (∃ _ : D1, X1) ∗ (∃ _ : D2, X2) ∗ (∃ _ : D3, X3) ∗ (∃ _ : D4, X4) ∗ (∃ _ : D5, X5) ∗ (∃ _ : D6, X6) ∗ (∃ _ : D7, X7) ∗ (∃ _ : D8, X8) ∗ (∃ _ : D9, X9) ∗ Z)
      ⊢ W (fun _ => iprop(((S0 ∗ S1 ∗ S2 ∗ T') ∗ G) ∗ O ∗ X0 ∗ X1 ∗ X2 ∗ X3 ∗ X4 ∗ X5 ∗ X6 ∗ X7 ∗ X8 ∗ X9 ∗ Y')) := by
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
  iapply (h _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply hY; iexact H10
  isplitl [HS0]; · iexact HS0
  isplitl [HS1]; · iexact HS1
  isplitl [HS2]; · iexact HS2
  isplitl [HS3]; · iapply hS; iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iapply hS'; iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The kernel's body at a point, kept folded. -/
abbrev pointBody (t : Fin cfg0.N) : Prog (TpuEff nD τ sig (Elt Ideal) Λ₀ .tc) PUnit :=
  lruBody (F := Ideal) (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _)

set_option maxHeartbeats 1000000 in
/-- The body at a point that restarts runs from what it is called with to what it returns. -/
theorem sound_A (c : Dev nD) (t : Fin cfg0.N) (h0 : Restarts (grid0.coords t)) :
    bodyPre m c t ⊢ wp frame (wpE (defs₀ (F := Ideal)) Variants.none c none) Set.univ (pointBody t) (fun _ => bodyPost m c t) := by
  have hr : restartAt t.val := (restarts_at t).mp h0

  unfold bodyPre bodyPost
  simp only [before0_0, before0_1, before0_2, before0_3, before0_4, before0_5, before0_6, before0_7, before0_8, before0_9]
  rw [owesAt_eq, after0_0, after0_1, after0_2, after0_3, after0_4, after0_5, after0_6, after0_7, after0_8, after0_9, after0_10]
  rw [Phi_start, Phi_end]
  unfold PhiAt leaves
  rw [begins_restart _ _ hr]
  exact glue _ _ _ _ _ _ _ _ _ _ _ _ _ _ _ _ _ _ _ _ _ _ (wp frame (wpE (defs₀ (F := Ideal)) Variants.none c none) Set.univ (pointBody t))
    (found c (ms0_10 t) _) (by unfold carried; exact unname c scM0_3) (carried_after m c t _ (begins_restart _ _ hr))
    (valA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) Set.univ)

set_option maxHeartbeats 1000000 in
/-- The body at a point that does not restart runs from what it is called with to what it returns. -/
theorem sound_B (c : Dev nD) (t : Fin cfg0.N) (h0 : ¬Restarts (grid0.coords t)) :
    bodyPre m c t ⊢ wp frame (wpE (defs₀ (F := Ideal)) Variants.none c none) Set.univ (pointBody t) (fun _ => bodyPost m c t) := by
  have hr : ¬restartAt t.val := fun h => h0 ((restarts_at t).mpr h)
  have hn : t.val ≠ 0 := fun h => hr (Or.inl h)
  unfold bodyPre bodyPost
  simp only [before0_0, before0_1, before0_2, before0_3, before0_4, before0_5, before0_6, before0_7, before0_8, before0_9]
  rw [owesAt_eq, after0_0, after0_1, after0_2, after0_3, after0_4, after0_5, after0_6, after0_7, after0_8, after0_9, after0_10]
  rw [Phi_start, Phi_end]
  unfold PhiAt leaves
  rw [begins_carry _ _ hr]
  exact glue _ _ _ _ _ _ _ _ _ _ _ _ _ _ _ _ _ _ _ _ _ _ (wp frame (wpE (defs₀ (F := Ideal)) Variants.none c none) Set.univ (pointBody t))
    (found c (ms0_10 t) _) (carried_before m c t.val hn) (carried_after m c t _ (begins_carry _ _ hr))
    (valB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) h0 (iblk m c 0 t) (iblk m c 1 t) (iblk m c 2 t) (iblk m c 3 t) (iblk m c 4 t) (iblk m c 5 t) (iblk m c 6 t) (iblk m c 7 t) (iblk m c 8 t) (iblk m c 9 t) (carry m c t.val) Set.univ)

/-- The body at any point runs from what it is called with to what it returns. -/
theorem sound_body (c : Dev nD) (t : Fin cfg0.N) :
    bodyPre m c t ⊢ wp frame (wpE (defs₀ (F := Ideal)) Variants.none c none) Set.univ (pointBody t) (fun _ => bodyPost m c t) :=
  Classical.byCases (sound_A m c t) (sound_B m c t)

/-- The body table's row at a point is the body. -/
theorem defs₀_row (t : Fin cfg0.N) :
    defs₀ (F := Ideal) .tc cfg0.body (cfg0.bodyArgs t (cfg0.slots t)) = pointBody t := by
  unfold defs₀ pointBody lruBody; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

end Cert.BwdIdeal.Hand

end
-- ==== Proof.BwdIdealFrame.lean ====
/- The body of the idealized backward recurrence at every point, with what it leaves named. -/
module

public import proofs.«01_k».proof.Proof.BwdIdealBody

@[expose] public section

set_option maxRecDepth 16384

noncomputable section

namespace Cert.BwdIdeal.Hand

open Cert.LayerMath Cert.BwdMath Cert.BwdPure Cert.BwdIdeal Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

attribute [local irreducible] cc0_lru_bwd defs₀

set_option maxHeartbeats 1000000 in
set_option backward.isDefEq.respectTransparency.types false in
/-- The launch: every execution ends, with the inputs as they were and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The launch's final memory. -/
theorem run_main : θ_run defs (onTc (τ := τ) (main (F := Ideal))) (s₀ m ρ) (Pipeline.FramePost cfgs (dats m) 0 (V m)) :=
  (θ_run defs _ _).mono (fun _ h => h.1) (run_main_quiescent m ρ)

/-- The frame: every argument ends as it was and every semaphore ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.BwdIdeal.Hand

end
-- ==== Proof.BwdSpec.lean ====
/- The backward recurrence as a function of its arguments, position by position. -/
module

public import proofs.«01_k».proof.Proof.LayerMath
public import proofs.«01_k».proof.Proof.BwdMath
public import Idealize.ShloMosaic.Lib.Pointwise

@[expose] public section

noncomputable section

open Idealize.ShloMosaic

namespace Cert.BwdSpec

open Cert.LayerMath Cert.BwdMath

/-- A matrix of a row per position and a column per channel. -/
abbrev Rows := (⟨2, ![16384, 2048]⟩ : Shape).Idx → EReal
/-- The gates' weights. -/
abbrev Gates := (⟨4, ![2, 16, 128, 128]⟩ : Shape).Idx → EReal
/-- The gates' biases. -/
abbrev Biases := (⟨3, ![2, 16, 128]⟩ : Shape).Idx → EReal
/-- A number per channel. -/
abbrev Chans := (⟨1, ![2048]⟩ : Shape).Idx → EReal
/-- A square matrix of channels. -/
abbrev Square := (⟨2, ![2048, 2048]⟩ : Shape).Idx → EReal

/-- What goes into a gate at a row and a channel: the row's block times the block's weights, and the bias. -/
def pre (x : Rows) (w : Gates) (b : Biases) (q : Fin 2) (r : Fin 16384) (l : Fin 2048) : EReal :=
  ∑ d : Fin 128, x (ix2 r ⟨128 * (l.val / 128) + d.val, by omega⟩) * w (ix4 q ⟨l.val / 128, by omega⟩ d ⟨l.val % 128, by omega⟩)
    + b (ix3 q ⟨l.val / 128, by omega⟩ ⟨l.val % 128, by omega⟩)

/-- The decay at a row and a channel. -/
def dec (x : Rows) (w : Gates) (b : Biases) (p : Chans) (r : Fin 16384) (l : Fin 2048) : EReal :=
  decay (p (ix1 l)) (pre x w b 0 r l)

/-- The scaled input at a row and a channel. -/
def inp (x : Rows) (w : Gates) (b : Biases) (p : Chans) (r : Fin 16384) (l : Fin 2048) : EReal :=
  scaled (p (ix1 l)) (pre x w b 0 r l) (pre x w b 1 r l) (x (ix2 r l))

/-- A sequence ends before the `n`-th row counted from the last one. -/
abbrev ends (n : ℕ) : Prop := n = 0 ∨ n = 2048 ∨ n = 4096 ∨ n = 6144 ∨ n = 8192

/-- A matrix's column, its rows counted from the last one. -/
def fromLast (f : Fin 16384 → Fin 2048 → EReal) (l : Fin 2048) (n : ℕ) : EReal :=
  if h : n < 16384 then f ⟨16383 - n, by omega⟩ l else 0

/-- The state of a channel after `n` rows counted from the last one. -/
def st (x : Rows) (w : Gates) (b : Biases) (p : Chans) (l : Fin 2048) (n : ℕ) : EReal :=
  state ends (fromLast (dec x w b p) l) (fromLast (inp x w b p) l) n

/-- The result at a row and a channel: the layer norm of the residual sum with the projection of the gated sum of the two states. -/
def result (xr y hf x : Rows) (w : Gates) (b : Biases) (p : Chans) (wo : Square) (g be : Chans) (r : Fin 16384) (l : Fin 2048) : EReal :=
  lnAt (fun k => resid (x (ix2 r k)) (∑ j : Fin 2048, y (ix2 r j) * (hf (ix2 r j) + st xr w b p j (16384 - r.val)) * wo (ix2 j k))) l (g (ix1 l)) (be (ix1 l))

/-- A run only reads what it is told of the rows it passes. -/
theorem run_congr (h h' : EReal) (a a' u u' : ℕ → EReal) (hh : h = h') (k : ℕ) (ha : ∀ j, j < k → a j = a' j) (hu : ∀ j, j < k → u j = u' j) :
    run h a u k = run h' a' u' k := by
  induction k with
  | zero => exact hh
  | succ k ih =>
    show a k * run h a u k + u k = a' k * run h' a' u' k + u' k
    rw [ih (fun j hj => ha j (by omega)) (fun j hj => hu j (by omega)), ha k (by omega), hu k (by omega)]

end Cert.BwdSpec

end
-- ==== Proof.BwdIdealValue.lean ====
/- The backward recurrence kernel's result array: its grid goes through the blocks of rows from the last to the first. -/
module

public import proofs.«01_k».proof.Proof.BwdIdealFrame
public import proofs.«01_k».proof.Proof.BwdSpec
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BwdValue

open Cert.BwdIdeal Cert.BwdIdeal.Gen Cert.BwdIdeal.Hand Cert.BwdMath Cert.BwdPure Cert.LayerMath Cert.BwdSpec

variable (m : (ℓ : Loc nD τ sig) → Buf (Elt Ideal) ℓ)

/-- The block of each window at a grid point: the row blocks go from the last to the first. -/
theorem idx : ∀ t : Fin cfg0.N, win0_0.index t = ![63 - t.val, 0] ∧ win0_1.index t = ![63 - t.val, 0]
    ∧ win0_2.index t = ![63 - t.val, 0] ∧ win0_3.index t = ![63 - t.val, 0] ∧ win0_4.index t = ![0, 0, 0]
    ∧ win0_5.index t = ![0, 0] ∧ win0_6.index t = ![0, 0] ∧ win0_7.index t = ![0, 0] ∧ win0_8.index t = ![0, 0]
    ∧ win0_9.index t = ![0, 0] ∧ win0_10.index t = ![63 - t.val, 0] ∧ t.val < 64 :=
  (by decide +kernel : ∀ t : Fin grid0.N, _)

/-- The recurrence's rows. -/
abbrev XR (c : Dev nD) : Rows := m ((c : Thread nD τ).loc main_arg0)
/-- The gate of the output. -/
abbrev Y (c : Dev nD) : Rows := m ((c : Thread nD τ).loc main_arg1)
/-- The forward states. -/
abbrev HF (c : Dev nD) : Rows := m ((c : Thread nD τ).loc main_arg2)
/-- The residual rows. -/
abbrev X (c : Dev nD) : Rows := m ((c : Thread nD τ).loc main_arg3)
/-- The gates' weights. -/
abbrev GW (c : Dev nD) : Gates := m ((c : Thread nD τ).loc main_arg4)
/-- The gates' biases. -/
abbrev GB (c : Dev nD) : Biases := m ((c : Thread nD τ).loc main_arg5)
/-- The decay's parameter. -/
abbrev LA (c : Dev nD) : Chans := m ((c : Thread nD τ).loc main_arg6)
/-- The projection. -/
abbrev WO (c : Dev nD) : Square := m ((c : Thread nD τ).loc main_arg7)
/-- The norm's scale. -/
abbrev NG (c : Dev nD) : Chans := m ((c : Thread nD τ).loc main_arg8)
/-- The norm's shift. -/
abbrev NB (c : Dev nD) : Chans := m ((c : Thread nD τ).loc main_arg9)

/-- Row `r` of the block at point `t`. -/
abbrev row (t : Fin cfg0.N) (r : Fin 256) : Fin 16384 := ⟨256 * (63 - t.val) + r.val, by omega⟩

/-- The recurrence's rows at a point. -/
theorem blk0 (c : Dev nD) (t : Fin cfg0.N) (r : Fin 256) (l : Fin 2048) : iblk m c 0 t (ix2 r l) = XR m c (ix2 (row t r) l) := by
  blk_ext [iblk, V, idx t]

/-- The gate of the output at a point. -/
theorem blk1 (c : Dev nD) (t : Fin cfg0.N) (r : Fin 256) (l : Fin 2048) : iblk m c 1 t (ix2 r l) = Y m c (ix2 (row t r) l) := by
  blk_ext [iblk, V, idx t]

/-- The forward states at a point. -/
theorem blk2 (c : Dev nD) (t : Fin cfg0.N) (r : Fin 256) (l : Fin 2048) : iblk m c 2 t (ix2 r l) = HF m c (ix2 (row t r) l) := by
  blk_ext [iblk, V, idx t]

/-- The residual rows at a point. -/
theorem blk3 (c : Dev nD) (t : Fin cfg0.N) (r : Fin 256) (l : Fin 2048) : iblk m c 3 t (ix2 r l) = X m c (ix2 (row t r) l) := by
  blk_ext [iblk, V, idx t]

/-- The first gate's weights at a point. -/
theorem blk4_0 (c : Dev nD) (t : Fin cfg0.N) (n : Fin 16) (d l : Fin 128) :
    iblk m c 4 t (ix3 n d ⟨128 * (0 : Fin 2).val + l.val, by omega⟩) = GW m c (ix4 0 n d l) := by
  blk_simp [iblk]
  entry_read
  pointwise
  refine (dif_pos (by blk_simp [idx t]; exact l.isLt)).trans ?_
  blk_ext [idx t]

/-- The second gate's weights at a point. -/
theorem blk4_1 (c : Dev nD) (t : Fin cfg0.N) (n : Fin 16) (d l : Fin 128) :
    iblk m c 4 t (ix3 n d ⟨128 * (1 : Fin 2).val + l.val, by show 128 * 1 + l.val < 256; omega⟩) = GW m c (ix4 1 n d l) := by
  blk_simp [iblk]
  entry_read
  pointwise
  refine (dif_neg (by blk_simp [idx t]; show ¬ 128 + l.val < 128; omega)).trans ?_
  blk_ext [idx t]

/-- The gates' biases at a point. -/
theorem blk5 (c : Dev nD) (t : Fin cfg0.N) (q : Fin 2) (n : Fin 16) (l : Fin 128) :
    iblk m c 5 t (ix2 q ⟨128 * n.val + l.val, by omega⟩) = GB m c (ix3 q n l) := by
  blk_simp [iblk]
  entry_read
  pointwise
  blk_ext [idx t]

/-- The decay's parameter at a point. -/
theorem blk6 (c : Dev nD) (t : Fin cfg0.N) (l : Fin 2048) : iblk m c 6 t (ix2 0 l) = LA m c (ix1 l) := by
  blk_simp [iblk]
  entry_read
  pointwise
  blk_ext [idx t]

/-- The projection at a point. -/
theorem blk7 (c : Dev nD) (t : Fin cfg0.N) (k l : Fin 2048) : iblk m c 7 t (ix2 k l) = WO m c (ix2 k l) := by
  blk_simp [iblk]
  entry_read
  pointwise
  blk_ext [idx t]

/-- The norm's scale at a point. -/
theorem blk8 (c : Dev nD) (t : Fin cfg0.N) (l : Fin 2048) : iblk m c 8 t (ix2 0 l) = NG m c (ix1 l) := by
  blk_simp [iblk]
  entry_read
  pointwise
  blk_ext [idx t]

/-- The norm's shift at a point. -/
theorem blk9 (c : Dev nD) (t : Fin cfg0.N) (l : Fin 2048) : iblk m c 9 t (ix2 0 l) = NB m c (ix1 l) := by
  blk_simp [iblk]
  entry_read
  pointwise
  blk_ext [idx t]

/-- What goes into a gate at a point. -/
theorem kpre_at (c : Dev nD) (t : Fin cfg0.N) (q : Fin 2) (r : Fin 256) (l : Fin 2048) :
    kpre q (iblk m c 0 t) (iblk m c 4 t) (iblk m c 5 t) r l = pre (XR m c) (GW m c) (GB m c) q (row t r) l := by
  unfold kpre kpreN pre
  refine congrArg₂ (· + ·) (Finset.sum_congr rfl fun d _ => congrArg₂ (· * ·) (blk0 m c t r _) ?_) (blk5 m c t q ⟨l.val / 128, by omega⟩ ⟨l.val % 128, by omega⟩)
  match q with
  | 0 => exact blk4_0 m c t ⟨l.val / 128, by omega⟩ d ⟨l.val % 128, by omega⟩
  | 1 => exact blk4_1 m c t ⟨l.val / 128, by omega⟩ d ⟨l.val % 128, by omega⟩

/-- The decay at a point. -/
theorem GA_at (c : Dev nD) (t : Fin cfg0.N) (r : Fin 256) (l : Fin 2048) :
    GA (iblk m c 0 t) (iblk m c 4 t) (iblk m c 5 t) (iblk m c 6 t) (ix2 r l) = dec (XR m c) (GW m c) (GB m c) (LA m c) (row t r) l :=
  congrArg₂ decay (blk6 m c t l) (kpre_at m c t 0 r l)

/-- The scaled input at a point. -/
theorem GU_at (c : Dev nD) (t : Fin cfg0.N) (r : Fin 256) (l : Fin 2048) :
    GU (iblk m c 0 t) (iblk m c 4 t) (iblk m c 5 t) (iblk m c 6 t) (ix2 r l) = inp (XR m c) (GW m c) (GB m c) (LA m c) (row t r) l := by
  exact congr (congr (congrArg₂ scaled (blk6 m c t l) (kpre_at m c t 0 r l)) (kpre_at m c t 1 r l)) (blk0 m c t r l)

/-- The channel's state after `n` rows counted from the last one. -/
abbrev ST (c : Dev nD) (l : Fin 2048) (n : ℕ) : EReal := st (XR m c) (GW m c) (GB m c) (LA m c) l n

/-- A column counted from the last row, at a row of a point's block. -/
theorem fromLast_at (f : Fin 16384 → Fin 2048 → EReal) (t : Fin cfg0.N) (l : Fin 2048) (j : ℕ) (hj : j < 256) :
    fromLast f l (256 * t.val + j) = f (row t ⟨255 - j, by omega⟩) l := by
  have ht : t.val < 64 := t.isLt
  unfold fromLast
  rw [dif_pos (by omega)]
  refine congrArg (f · l) (Fin.ext ?_)
  show 16383 - (256 * t.val + j) = 256 * (63 - t.val) + (255 - j)
  omega

/-- Within a point the block's states are the sequence's, when the point began from the sequence's. -/
theorem rows_eq (c : Dev nD) (t : Fin cfg0.N) (l : Fin 2048) (hc : carry m c t.val l = ST m c l (256 * t.val)) (k : ℕ) (hk : k < 256) :
    rowState (GA (iblk m c 0 t) (iblk m c 4 t) (iblk m c 5 t) (iblk m c 6 t)) (GU (iblk m c 0 t) (iblk m c 4 t) (iblk m c 5 t) (iblk m c 6 t)) (begins t.val (carry m c t.val)) l (k + 1)
      = ST m c l (256 * t.val + (k + 1)) := by
  refine Eq.trans ?_ (state_block ends _ _ (256 * t.val) 256 (fun j h0 h1 h => by unfold ends at h; omega) k hk).symm
  unfold rowState
  refine run_congr _ _ _ _ _ _ ?_ _ (fun j hj => ?_) (fun j hj => ?_)
  · by_cases hr : restartAt t.val
    · rw [begins_restart _ _ hr, if_pos (by unfold restartAt at hr; show ends _; unfold ends; omega)]
    · rw [begins_carry _ _ hr, if_neg (by unfold restartAt at hr; show ¬ ends _; unfold ends; omega)]
      exact hc
  · exact (GA_at m c t _ l).trans (fromLast_at _ t l j (by omega)).symm
  · exact (GU_at m c t _ l).trans (fromLast_at _ t l j (by omega)).symm

/-- The state handed from point to point is the sequence's. -/
theorem carry_eq (c : Dev nD) (l : Fin 2048) : ∀ n : ℕ, n ≤ 64 → carry m c n l = ST m c l (256 * n)
  | 0, _ => rfl
  | n + 1, h => by
    refine (congrFun (carry_succ m c ⟨n, (by omega : n < 64)⟩) l).trans ?_
    exact rows_eq m c ⟨n, (by omega : n < 64)⟩ l (carry_eq c l n (by omega)) 255 (by omega)

/-- The states of a point's block. -/
theorem states_at (c : Dev nD) (t : Fin cfg0.N) (r : Fin 256) (l : Fin 2048) :
    rowStates (GA (iblk m c 0 t) (iblk m c 4 t) (iblk m c 5 t) (iblk m c 6 t)) (GU (iblk m c 0 t) (iblk m c 4 t) (iblk m c 5 t) (iblk m c 6 t)) (begins t.val (carry m c t.val)) (ix2 r l)
      = ST m c l (16384 - (row t r).val) := by
  have ht : t.val < 64 := t.isLt
  have h := rows_eq m c t l (carry_eq m c l t.val (by omega)) (255 - r.val) (by omega)
  rw [show 255 - r.val + 1 = 256 - r.val by omega] at h
  refine h.trans (congrArg (ST m c l) ?_)
  show 256 * t.val + (256 - r.val) = 16384 - (256 * (63 - t.val) + r.val)
  omega

/-- What the body leaves at a point. -/
theorem leaves_at (c : Dev nD) (t : Fin cfg0.N) (r : Fin 256) (l : Fin 2048) :
    leaves m c t (ix2 r l) = result (XR m c) (Y m c) (HF m c) (X m c) (GW m c) (GB m c) (LA m c) (WO m c) (NG m c) (NB m c) (row t r) l := by
  unfold leaves outOf result
  refine congr (congrArg₂ (fun f b => lnAt f l b) (funext fun k => congrArg₂ resid (blk3 m c t r k) ?_) (blk8 m c t l)) (blk9 m c t l)
  unfold proj
  refine Finset.sum_congr rfl fun j _ => ?_
  rw [blk7 m c t j k]
  refine congrArg (· * _) (congrArg₂ (· * ·) (blk1 m c t r j) (congrArg₂ (· + ·) (blk2 m c t r j) (states_at m c t r j)))

/-- The result array. -/
def G (c : Dev nD) : S16384x2048.Idx → EReal := fun i =>
  result (XR m c) (Y m c) (HF m c) (X m c) (GW m c) (GB m c) (LA m c) (WO m c) (NG m c) (NB m c) (i 0) (i 1)

set_option maxHeartbeats 1000000 in
/-- The array the grid leaves is the result. -/
theorem final (c : Dev nD) : (dats m 0 c).arrAt 10 cfg0.N = G m c := by
  refine (dats m 0 c).arrAt_eq_of_covers 10 _ (by decide +kernel) fun t hf y => ?_
  blk_simp
  rw [after0_10]
  suffices key : ∀ i : S256x2048.Idx, leaves m c t i = G m c ((win0_10.blk t).view.emb i) from key y
  intro i; idx_vars i
  refine (leaves_at m c t _ _).trans ?_
  unfold G
  refine congrArg₂ (result _ _ _ _ _ _ _ _ _ _) (Fin.ext ?_) (Fin.ext ?_)
  · blk_simp [idx t]
    show 256 * (63 - t.val) + i0.val = (63 - t.val) * 256 + i0.val
    omega
  · blk_simp [idx t]

end Cert.BwdValue

end
-- ==== Proof.BwdRef.lean ====
/- What the backward recurrence's reference computes before its scan, position by position: the decays, the scaled inputs and where a sequence ends. -/
module

public import proofs.«01_k».proof.Proof.Gen.BwdRefIdeal.Run
public import proofs.«01_k».proof.Proof.BwdSpec
public import Idealize.ShloMosaic.Lib.Pointwise

@[expose] public section

set_option maxRecDepth 16384

noncomputable section

open Idealize.ShloMosaic Idealize.ShloMosaic.TcCoe Idealize.SL.Sem

namespace Cert.BwdRef

open Cert.BwdRefIdeal Cert.BwdRefIdeal.Gen Cert.BwdMath Cert.BwdSpec

variable (x : FVec Ideal S16384x2048 .f32) (w : FVec Ideal S2x16x128x128 .f32) (b : FVec Ideal S2x16x128 .f32) (p : FVec Ideal S2048 .f32)

/-- Every block's rows times its weights, for both gates. -/
def raw : FVec Ideal S2x16384x16x128 .f32 :=
  transpose S2x16384x16x128 [1, 3, 0, 2] (Host.dotGeneral dot_S2x16x128x128_S16384x16x128_S16x2x128x16384_2_2_03_0_1_1 none w
    (shapeCast S16384x16x128 x shapeCasts_S16384x2048_S16384x16x128)) transposes_S16x2x128x16384_S2x16384x16x128_1_3_0_2

/-- What goes into the gates. -/
def biased : FVec Ideal S2x16384x16x128 .f32 :=
  addf (raw x w) (broadcastInDim S2x16384x16x128 ![0, 1, 2, 3] bcast_S2x1x16x128_S2x16384x16x128_0_1_2_3
    (broadcastInDim S2x1x16x128 ![0, 2, 3] bcast_S2x16x128_S2x1x16x128_0_2_3 b))

/-- The gates, block by block. -/
def gates : FVec Ideal S2x16384x16x128 .f32 :=
  Host.divf (broadcastInDim S2x16384x16x128 ![] bcast_S_S2x16384x16x128 (constant S_ .f32 0x3F800000#32))
    (addf (broadcastInDim S2x16384x16x128 ![] bcast_S_S2x16384x16x128 (constant S_ .f32 0x3F800000#32)) (Host.exp (Host.negf (biased x w b))))

/-- The gates, the blocks joined. -/
def joined : FVec Ideal S2x16384x2048 .f32 := shapeCast S2x16384x2048 (gates x w b) shapeCasts_S2x16384x16x128_S2x16384x2048

/-- The recurrence gate. -/
def gate0 : FVec Ideal S16384x2048 .f32 :=
  shapeCast S16384x2048 (extractStridedSlice S1x16384x2048 ![0, 0, 0] (joined x w b) slices_S2x16384x2048_S1x16384x2048_0_0_0) shapeCasts_S1x16384x2048_S16384x2048

/-- The input gate. -/
def gate1 : FVec Ideal S16384x2048 .f32 :=
  shapeCast S16384x2048 (extractStridedSlice S1x16384x2048 ![1, 0, 0] (joined x w b) slices_S2x16384x2048_S1x16384x2048_1_0_0) shapeCasts_S1x16384x2048_S16384x2048

/-- A channel's zero. -/
def zeros : FVec Ideal S2048 .f32 := broadcastInDim S2048 ![] bcast_S_S2048 (constant S_ .f32 0x00000000#32)

/-- The softplus of the negated parameter. -/
def softs : FVec Ideal S2048 .f32 :=
  select (cmpf .une (subf (Host.negf p) zeros) (subf (Host.negf p) zeros)) (addf (Host.negf p) zeros)
    (addf (maximumf (Host.negf p) zeros) (Host.log1p (Host.exp (Host.negf (Host.absf (subf (Host.negf p) zeros))))))

/-- The decays' logarithms. -/
def logs : FVec Ideal S16384x2048 .f32 :=
  mulf (mulf (broadcastInDim S16384x2048 ![] bcast_S_S16384x2048 (constant S_ .f32 0xC1000000#32)) (gate0 x w b))
    (broadcastInDim S16384x2048 ![0, 1] bcast_S1x2048_S16384x2048_0_1 (broadcastInDim S1x2048 ![1] bcast_S2048_S1x2048_1 (softs p)))

/-- The decays. -/
def decays : FVec Ideal S16384x2048 .f32 := Host.exp (logs x w b p)

/-- The scaled inputs. -/
def inputs : FVec Ideal S16384x2048 .f32 :=
  mulf (mulf (Host.sqrt (Host.negf (Host.expm1 (mulf (broadcastInDim S16384x2048 ![] bcast_S_S16384x2048 (constant S_ .f32 0x40000000#32)) (logs x w b p))))) (gate1 x w b)) x

theorem raw_at (q : Fin 2) (r : Fin 16384) (n : Fin 16) (k : Fin 128) :
    raw x w (ix4 q r n k) = ∑ d : Fin 128, x (ix2 r ⟨128 * n.val + d.val, by omega⟩) * w (ix4 q n d k) := by
  pointwise [raw]
  refine Finset.sum_congr rfl fun d _ => (mul_comm _ _).trans ?_
  refine congrArg (fun i => x (ix2 r i) * w (ix4 q n d k)) (Fin.ext ?_)
  show n.val * 128 + d.val = 128 * n.val + d.val
  omega

theorem gates_at (q : Fin 2) (r : Fin 16384) (l : Fin 2048) :
    gates x w b (ix4 q r ⟨l.val / 128, by omega⟩ ⟨l.val % 128, by omega⟩) = Ideal.logistic (pre x w b q r l) := by
  pointwise [gates, biased]
  rw [raw_at]
  rfl

theorem gate0_at (r : Fin 16384) (l : Fin 2048) : gate0 x w b (ix2 r l) = Ideal.logistic (pre x w b 0 r l) := by
  rw [← gates_at]
  pointwise [gate0, joined]

theorem gate1_at (r : Fin 16384) (l : Fin 2048) : gate1 x w b (ix2 r l) = Ideal.logistic (pre x w b 1 r l) := by
  rw [← gates_at]
  pointwise [gate1, joined]

theorem softs_at (l : Fin 2048) : softs p (ix1 l) = soft (p (ix1 l)) := by
  pointwise [softs, zeros, soft]
  rw [if_neg (fun h => h rfl)]
  refine congrArg (fun z => max (-p (ix1 l)) 0 + Ideal.log1p (Ideal.exp (-z))) ?_
  show max (-p (ix1 l)) (- -p (ix1 l)) = _
  rw [neg_neg]

theorem logs_at (r : Fin 16384) (l : Fin 2048) : logs x w b p (ix2 r l) = logDecay (p (ix1 l)) (pre x w b 0 r l) := by
  rw [logDecay_eq, ← softs_at, ← gate0_at]
  pointwise [logs]

/-- The reference's decay. -/
theorem decays_at (r : Fin 16384) (l : Fin 2048) : decays x w b p (ix2 r l) = dec x w b p r l := by
  unfold dec decay
  rw [← logs_at]
  pointwise [decays]

/-- The reference's scaled input. -/
theorem inputs_at (r : Fin 16384) (l : Fin 2048) : inputs x w b p (ix2 r l) = inp x w b p r l := by
  unfold inp
  rw [scaled_eq, ← logs_at, ← gate1_at]
  pointwise [inputs]
  rfl

/-- The rows' numbers. -/
def rowNos : IVec S16384 32 := iotaInDim S16384 32 0

/-- A number for every row. -/
def each (v : BitVec 32) : IVec S16384 32 := broadcastInDim S16384 ![] bcast_S_S16384 (constantI S_ 32 v)

/-- Where a sequence ends. -/
def lasts : IVec S16384 1 :=
  cmpi .eq (select (cmpi .slt rowNos (each 8192#32)) rowNos (Host.remsi (subi rowNos (each 8192#32)) (each 2048#32)))
    (subi (select (cmpi .slt rowNos (each 8192#32)) (each 8192#32) (each 2048#32)) (each 1#32))

/-- The test for a sequence's last row, row by row. -/
theorem last_word : ∀ a : Fin 128, ∀ d : Fin 128,
    IntOp.cmpi CmpIPredicate.eq
      (Scalar.select (IntOp.cmpi CmpIPredicate.slt (BitVec.ofNat 32 (128 * a.val + d.val)) 8192#32) (BitVec.ofNat 32 (128 * a.val + d.val))
        (IntOp.remsi ArithUnit.host (IntOp.subi (BitVec.ofNat 32 (128 * a.val + d.val)) 8192#32) 2048#32))
      (IntOp.subi (Scalar.select (IntOp.cmpi CmpIPredicate.slt (BitVec.ofNat 32 (128 * a.val + d.val)) 8192#32) 8192#32 2048#32) 1#32)
      = if ends (16383 - (128 * a.val + d.val)) then 1#1 else 0#1 := by
  decide +kernel

theorem lasts_at (r : Fin 16384) : lasts (ix1 r) = if ends (16383 - r.val) then 1#1 else 0#1 := by
  pointwise [lasts, rowNos, each]
  have h := last_word ⟨r.val / 128, by omega⟩ ⟨r.val % 128, by omega⟩
  rw [show 128 * (r.val / 128) + r.val % 128 = r.val by omega] at h
  exact h

end Cert.BwdRef

end
-- ==== Proof.BwdRefLoop.lean ====
/- The reference's scan: after `k` trips the carried state is the recurrence's after `k` rows from the last one, and the last `k` rows hold theirs. -/
module

public import proofs.«01_k».proof.Proof.BwdRef
public import Idealize.ShloMosaic.Lib.WordCmp

@[expose] public section

set_option maxRecDepth 16384

noncomputable section

open Idealize.ShloMosaic Idealize.ShloMosaic.TcCoe Idealize.SL.Sem Idealize.ShloMosaic.StableHlo Idealize.ShloMosaic.WordCmp

namespace Cert.BwdRef

open Cert.BwdRefIdeal Cert.BwdRefIdeal.Gen Cert.BwdRefIdeal.Value Cert.BwdMath Cert.BwdSpec

/-- The row a trip reads and writes. -/
def rowAt (v : IVec S_ 32) : IVec S_ 32 := subi (subi (constantI S_ 32 16384#32) v) (constantI S_ 32 1#32)

/-- After `k` trips it is the `k`-th from the last. -/
theorem rowAt_eq (k : ℕ) (hk : k < 16384) (v : IVec S_ 32) (hv : v = fun _ => BitVec.ofNat 32 k) : rowAt v = fun _ => BitVec.ofNat 32 (16383 - k) := by
  subst hv
  funext i
  show 16384#32 - BitVec.ofNat 32 k - 1#32 = BitVec.ofNat 32 (16383 - k)
  apply BitVec.eq_of_toNat_eq
  simp
  omega

/-- A row lies inside the matrix. -/
theorem row_fits (r : Fin 16384) : S16384x2048.Slices ![r.val, 0] S1x2048 :=
  ⟨rfl, fun a => by
    match a with
    | 0 => show r.val + 1 ≤ 16384; omega
    | 1 => show 0 + 2048 ≤ 2048; omega⟩

/-- An entry lies inside the mask. -/
theorem bit_fits (r : Fin 16384) : S16384.Slices ![r.val] S1 :=
  ⟨rfl, fun a => by
    match a with
    | 0 => show r.val + 1 ≤ 16384; omega⟩

/-- One row of a matrix. -/
def rowOf (A : FVec Ideal S16384x2048 .f32) (s : IVec S_ 32) : FVec Ideal S2048 .f32 :=
  shapeCast S2048 (Host.dynamicSlice S1x2048 A (fun k => (((![s, constantI S_ 32 0#32] : Fin 2 → IVec S_ 32)) k (Shape.Idx.first h_S_)).toInt) sliceFits_S16384x2048_S1x2048) shapeCasts_S1x2048_S2048

theorem rowOf_at (A : FVec Ideal S16384x2048 .f32) (s : IVec S_ 32) (r : Fin 16384) (hs : s = fun _ => BitVec.ofNat 32 r.val) (l : Fin 2048) :
    rowOf A s (ix1 l) = A (ix2 r l) := by
  subst hs
  unfold rowOf
  have e : Host.dynamicSlice S1x2048 A (fun k => (((![fun _ => BitVec.ofNat 32 r.val, constantI S_ 32 0#32] : Fin 2 → IVec S_ 32)) k (Shape.Idx.first h_S_)).toInt) sliceFits_S16384x2048_S1x2048
      = extractStridedSlice S1x2048 ![r.val, 0] A (row_fits r) :=
    dynamicSlice_eq_extract _ _ _ _ _ (row_fits r) fun a => by
      match a with
      | 0 => exact toInt_ofNat_of_lt (by show r.val < 2147483648; omega)
      | 1 => rfl
  rw [e]
  pointwise

/-- One entry of a mask. -/
def bitOf (M : IVec S16384 1) (s : IVec S_ 32) : IVec S_ 1 :=
  shapeCast S_ (Host.dynamicSlice S1 M (fun k => (((![s] : Fin 1 → IVec S_ 32)) k (Shape.Idx.first h_S_)).toInt) sliceFits_S16384_S1) shapeCasts_S1_S_

theorem bitOf_at (M : IVec S16384 1) (s : IVec S_ 32) (r : Fin 16384) (hs : s = fun _ => BitVec.ofNat 32 r.val) (i : S_.Idx) :
    bitOf M s i = M (ix1 r) := by
  subst hs
  unfold bitOf
  have e : Host.dynamicSlice S1 M (fun k => (((![fun _ => BitVec.ofNat 32 r.val] : Fin 1 → IVec S_ 32)) k (Shape.Idx.first h_S_)).toInt) sliceFits_S16384_S1
      = extractStridedSlice S1 ![r.val] M (bit_fits r) :=
    dynamicSlice_eq_extract _ _ _ _ _ (bit_fits r) fun a => by
      match a with
      | 0 => exact toInt_ofNat_of_lt (by show r.val < 2147483648; omega)
  rw [e]
  pointwise

/-- The state after a trip. -/
def next (A U : FVec Ideal S16384x2048 .f32) (M : IVec S16384 1) (H : FVec Ideal S2048 .f32) (s : IVec S_ 32) : FVec Ideal S2048 .f32 :=
  addf (mulf (rowOf A s) (select (broadcastInDim S2048 ![] bcast_S_S2048 (bitOf M s)) (broadcastInDim S2048 ![] bcast_S_S2048 (constant S_ .f32 0x00000000#32)) H)) (rowOf U s)

theorem next_at (A U : FVec Ideal S16384x2048 .f32) (M : IVec S16384 1) (H : FVec Ideal S2048 .f32) (s : IVec S_ 32) (r : Fin 16384) (hs : s = fun _ => BitVec.ofNat 32 r.val) (l : Fin 2048) :
    next A U M H s (ix1 l) = A (ix2 r l) * (if M (ix1 r) = 1#1 then 0 else H (ix1 l)) + U (ix2 r l) := by
  rw [← rowOf_at A s r hs l, ← rowOf_at U s r hs l, ← bitOf_at M s r hs ix0]
  pointwise [next]
  unfold Scalar.select
  by_cases h : bitOf M s ix0 = 1#1
  · simp [h]
  · simp [h]

/-- The stored states after a trip. -/
def stored (B : FVec Ideal S16384x2048 .f32) (H : FVec Ideal S2048 .f32) (s : IVec S_ 32) : FVec Ideal S16384x2048 .f32 :=
  Host.dynamicUpdateSlice B (broadcastInDim S1x2048 ![1] bcast_S2048_S1x2048_1 H) (fun k => (((![s, constantI S_ 32 0#32] : Fin 2 → IVec S_ 32)) k (Shape.Idx.first h_S_)).toInt) updateFits_S16384x2048_S1x2048

theorem stored_at (B : FVec Ideal S16384x2048 .f32) (H : FVec Ideal S2048 .f32) (s : IVec S_ 32) (r : Fin 16384) (hs : s = fun _ => BitVec.ofNat 32 r.val) (r' : Fin 16384) (l : Fin 2048) :
    stored B H s (ix2 r' l) = if r' = r then H (ix1 l) else B (ix2 r' l) := by
  subst hs
  unfold stored
  have e : Host.dynamicUpdateSlice B (broadcastInDim S1x2048 ![1] bcast_S2048_S1x2048_1 H) (fun k => (((![fun _ => BitVec.ofNat 32 r.val, constantI S_ 32 0#32] : Fin 2 → IVec S_ 32)) k (Shape.Idx.first h_S_)).toInt) updateFits_S16384x2048_S1x2048
      = updateSlice B (broadcastInDim S1x2048 ![1] bcast_S2048_S1x2048_1 H) ![r.val, 0] (row_fits r) :=
    dynamicUpdateSlice_eq_update _ _ _ _ _ (row_fits r) fun a => by
      match a with
      | 0 => exact toInt_ofNat_of_lt (by show r.val < 2147483648; omega)
      | 1 => rfl
  rw [e]
  pointwise
  by_cases h : r' = r
  · rw [if_pos h, dif_pos (by subst h; omega)]
  · rw [if_neg h, dif_neg (fun hh => h (Fin.ext (by omega)))]

set_option maxRecDepth 100000 in
/-- A trip stores the state it makes. -/
theorem step5 (V : Valuation τ sig (Elt Ideal)) :
    step_main_v49_5 V = stored (V (Proc.devRef .tc main_v49_5)) (res_main_while0b_v89 V) (res_main_while0b_v81 V) := by
  unfold step_main_v49_5 stored
  exact id_eq _

variable (m : (ℓ : Loc nD τ sig) → Buf (Elt Ideal) ℓ)

/-- The recurrence's rows. -/
abbrev XR (c : Dev nD) : Rows := m ((c.tc : Thread nD τ).loc main_arg0)
/-- The gates' weights. -/
abbrev GW (c : Dev nD) : Gates := m ((c.tc : Thread nD τ).loc main_arg4)
/-- The gates' biases. -/
abbrev GB (c : Dev nD) : Biases := m ((c.tc : Thread nD τ).loc main_arg5)
/-- The decay's parameter. -/
abbrev LA (c : Dev nD) : Chans := m ((c.tc : Thread nD τ).loc main_arg6)

/-- The scan is handed the decays, -/
theorem entry0 (c : Dev nD) : entryContents preI m c (Proc.devRef .tc main_v49_0) = decays (XR m c) (GW m c) (GB m c) (LA m c) := by
  simp only [entryContents, afterL_cons, afterL_nil]
  after_reads_simp
  rfl

/-- the scaled inputs, -/
theorem entry1 (c : Dev nD) : entryContents preI m c (Proc.devRef .tc main_v49_1) = inputs (XR m c) (GW m c) (GB m c) (LA m c) := by
  simp only [entryContents, afterL_cons, afterL_nil]
  after_reads_simp
  rfl

/-- the sequences' ends, -/
theorem entry2 (c : Dev nD) : entryContents preI m c (Proc.devRef .tc main_v49_2) = lasts := by
  simp only [entryContents, afterL_cons, afterL_nil]
  after_reads_simp
  rfl

/-- and a zero state. -/
theorem entry4 (c : Dev nD) : entryContents preI m c (Proc.devRef .tc main_v49_4) = zeros := by
  simp only [entryContents, afterL_cons, afterL_nil]
  after_reads_simp
  rfl

/-- The buffers after `k` trips. -/
def trips (c : Dev nD) (k : ℕ) : Valuation τ sig (Elt Ideal) := STEP^[k] (entryContents preI m c)

/-- One more trip. -/
theorem trips_succ (c : Dev nD) (k : ℕ) : trips m c (k + 1) = STEP (trips m c k) := Function.iterate_succ_apply' _ _ _

/-- The decays stay. -/
theorem keep0 (c : Dev nD) : ∀ k, trips m c k (Proc.devRef .tc main_v49_0) = decays (XR m c) (GW m c) (GB m c) (LA m c)
  | 0 => entry0 m c
  | k + 1 => by
    rw [trips_succ, STEP_main_v49_0]
    exact keep0 c k

/-- The scaled inputs stay. -/
theorem keep1 (c : Dev nD) : ∀ k, trips m c k (Proc.devRef .tc main_v49_1) = inputs (XR m c) (GW m c) (GB m c) (LA m c)
  | 0 => entry1 m c
  | k + 1 => by
    rw [trips_succ, STEP_main_v49_1]
    exact keep1 c k

/-- The sequences' ends stay. -/
theorem keep2 (c : Dev nD) : ∀ k, trips m c k (Proc.devRef .tc main_v49_2) = lasts
  | 0 => entry2 m c
  | k + 1 => by
    rw [trips_succ, STEP_main_v49_2]
    exact keep2 c k

/-- The counter counts. -/
theorem count (c : Dev nD) : ∀ k, trips m c k (Proc.devRef .tc main_v49_3) = fun _ => BitVec.ofNat 32 k
  | 0 => ctr_entry m c
  | k + 1 => by
    rw [trips_succ, STEP_main_v49_3]
    unfold step_main_v49_3
    rw [count c k]
    funext i
    exact (BitVec.ofNat_add k 1).symm

/-- The row a trip handles. -/
theorem row_no (c : Dev nD) (k : ℕ) (hk : k < 16384) : res_main_while0b_v81 (trips m c k) = fun _ => BitVec.ofNat 32 (16383 - k) :=
  rowAt_eq k hk _ (count m c k)

/-- What a trip makes of the carried state. -/
theorem trip_at (c : Dev nD) (k : ℕ) (hk : k < 16384) (l : Fin 2048)
    (h : (trips m c k (Proc.devRef .tc main_v49_4) : FVec Ideal S2048 .f32) (ix1 l) = st (XR m c) (GW m c) (GB m c) (LA m c) l k) :
    (res_main_while0b_v89 (trips m c k) : FVec Ideal S2048 .f32) (ix1 l) = st (XR m c) (GW m c) (GB m c) (LA m c) l (k + 1) := by
  have e : (res_main_while0b_v89 (trips m c k) : FVec Ideal S2048 .f32)
      = next (trips m c k (Proc.devRef .tc main_v49_0)) (trips m c k (Proc.devRef .tc main_v49_1)) (trips m c k (Proc.devRef .tc main_v49_2)) (trips m c k (Proc.devRef .tc main_v49_4)) (res_main_while0b_v81 (trips m c k)) := rfl
  rw [e, next_at _ _ _ _ _ ⟨16383 - k, by omega⟩ (row_no m c k hk) l, keep0, keep1, keep2, decays_at, inputs_at, lasts_at, h]
  show _ = fromLast _ l k * (if ends k then 0 else st _ _ _ _ l k) + fromLast _ l k
  unfold fromLast
  rw [dif_pos hk, dif_pos hk, show 16383 - (16383 - k) = k by omega]
  by_cases he : ends k
  · rw [if_pos he, if_pos he, if_pos rfl]
  · rw [if_neg he, if_neg he, if_neg (by decide)]

/-- The carried state after `k` trips. -/
theorem carried_at (c : Dev nD) (l : Fin 2048) : ∀ k, k ≤ 16384 →
    (trips m c k (Proc.devRef .tc main_v49_4) : FVec Ideal S2048 .f32) (ix1 l) = st (XR m c) (GW m c) (GB m c) (LA m c) l k
  | 0, _ => by
    have e : (trips m c 0 (Proc.devRef .tc main_v49_4) : FVec Ideal S2048 .f32) = zeros := entry4 m c
    rw [e]
    show zeros (ix1 l) = (0 : EReal)
    pointwise [zeros]
  | k + 1, hk => by
    rw [trips_succ, STEP_main_v49_4]
    exact trip_at m c k (by omega) l (carried_at c l k (by omega))

/-- The rows stored after `k` trips. -/
theorem rows_at (c : Dev nD) (r : Fin 16384) (l : Fin 2048) : ∀ k, k ≤ 16384 → 16384 - k ≤ r.val →
    (trips m c k (Proc.devRef .tc main_v49_5) : FVec Ideal S16384x2048 .f32) (ix2 r l) = st (XR m c) (GW m c) (GB m c) (LA m c) l (16384 - r.val)
  | 0, _, h => absurd r.isLt (by omega)
  | k + 1, hk, hr => by
    rw [trips_succ, STEP_main_v49_5]
    rw [step5]
    refine (stored_at (trips m c k (Proc.devRef .tc main_v49_5)) (res_main_while0b_v89 (trips m c k)) (res_main_while0b_v81 (trips m c k)) ⟨16383 - k, by omega⟩ (row_no m c k (by omega)) r l).trans ?_
    by_cases he : r = ⟨16383 - k, by omega⟩
    · rw [if_pos he, trip_at m c k (by omega) l (carried_at m c l k (by omega))]
      have := congrArg Fin.val he
      rw [show 16384 - r.val = k + 1 by simp only at this; omega]
    · rw [if_neg he]
      exact rows_at c r l k (by omega) (by
        have : r.val ≠ 16383 - k := fun h => he (Fin.ext h)
        omega)

end Cert.BwdRef

end
-- ==== Proof.BwdRefOut.lean ====
/- The backward recurrence's reference, its result position by position. -/
module

public import proofs.«01_k».proof.Proof.BwdRefLoop

@[expose] public section

set_option maxRecDepth 16384

noncomputable section

open Idealize.ShloMosaic Idealize.ShloMosaic.TcCoe Idealize.SL.Sem Idealize.ShloMosaic.StableHlo

namespace Cert.BwdRef

open Cert.BwdRefIdeal Cert.BwdRefIdeal.Gen Cert.BwdRefIdeal.Value Cert.BwdMath Cert.BwdSpec Cert.LayerMath

set_option maxHeartbeats 2000000 in
/-- The operations after the scan, from whatever they read. -/
theorem out_at (V : Valuation τ sig (Elt Ideal)) (y hf x h : FVec Ideal S16384x2048 .f32) (wo : FVec Ideal S2048x2048 .f32) (g b : FVec Ideal S2048 .f32)
    (e1 : V (Proc.devRef .tc main_arg1) = y) (e2 : V (Proc.devRef .tc main_arg2) = hf) (e3 : V (Proc.devRef .tc main_arg3) = x)
    (e7 : V (Proc.devRef .tc main_arg7) = wo) (e8 : V (Proc.devRef .tc main_arg8) = g) (e9 : V (Proc.devRef .tc main_arg9) = b)
    (eh : V (Proc.devRef .tc main_v49_5) = h) (r : Fin 16384) (l : Fin 2048) :
    (out_main_v79 V : FVec Ideal S16384x2048 .f32) (ix2 r l)
      = lnAt (fun k => resid (x (ix2 r k)) (∑ j : Fin 2048, y (ix2 r j) * (hf (ix2 r j) + h (ix2 r j)) * wo (ix2 j k))) l (g (ix1 l)) (b (ix1 l)) := by
  unfold out_main_v79
  rw [e1, e2, e3, e7, e8, e9, eh]
  pointwise [lnAt, mean, resid]

/-- The norm over the stored states is the result, where the states are the recurrence's. -/
theorem spec_of (xr y hf x h : Rows) (w : Gates) (b : Biases) (p : Chans) (wo : Square) (g be : Chans) (r : Fin 16384) (l : Fin 2048)
    (hh : ∀ j : Fin 2048, h (ix2 r j) = st xr w b p j (16384 - r.val)) :
    lnAt (fun k => resid (x (ix2 r k)) (∑ j : Fin 2048, y (ix2 r j) * (hf (ix2 r j) + h (ix2 r j)) * wo (ix2 j k))) l (g (ix1 l)) (be (ix1 l))
      = result xr y hf x w b p wo g be r l := by
  unfold result
  simp only [hh]

variable (m : (ℓ : Loc nD τ sig) → Buf (Elt Ideal) ℓ)

/-- The reference's result. -/
theorem ref_result (c : Dev nD) (r : Fin 16384) (l : Fin 2048) :
    (out_main_v79 (STEP^[16384] (entryContents preI m c)) : FVec Ideal S16384x2048 .f32) (ix2 r l)
      = result (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) r l := by
  refine (out_at _ _ _ _ _ _ _ _ (iter_main_arg1 m c 16384) (iter_main_arg2 m c 16384) (iter_main_arg3 m c 16384) (iter_main_arg7 m c 16384) (iter_main_arg8 m c 16384) (iter_main_arg9 m c 16384) rfl r l).trans ?_
  exact spec_of _ _ _ _ _ _ _ _ _ _ _ r l fun j => rows_at m c r j 16384 (le_refl _) (by omega)

/-- The reference's result array. -/
def RES (c : Dev nD) : (⟨2, ![16384, 2048]⟩ : Shape).Idx → EReal := fun i =>
  result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (i 0) (i 1)

/-- It is what the reference's run leaves. -/
theorem ref_eq (c : Dev nD) : out_main_v79 (STEP^[16384] (entryContents preI m c)) = RES m c := by
  funext i
  change (out_main_v79 (STEP^[16384] (entryContents preI m c)) : FVec Ideal S16384x2048 .f32) i = RES m c i
  rw [← ix2_eta i]
  exact ref_result m c (i 0) (i 1)

/-- Every run of the reference ends with the result array, and its arguments as they were. -/
theorem run_result (ρ : Dev nD → PrngReg) : θ_run (defs (F := Ideal)) (onTc (τ := τ) (main (F := Ideal))) ⟨m, fun _ => 0, ρ⟩ fun r => ∀ c : Dev nD,
    r.2.mem ((c.tc : Thread nD τ).loc main_v79) = RES m c ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) :=
  (θ_run defs _ _).mono (fun r h c => ⟨(h c).1.trans (ref_eq m c), (h c).2⟩) (run (F := Ideal) m ρ)

end Cert.BwdRef

end
-- ==== Proof.BwdClaim.lean ====
/- The backward recurrence's kernel and its reference leave the same result. -/
module

public import proofs.«01_k».proof.Defs
public import proofs.«01_k».proof.Proof.BwdIdealValue
public import proofs.«01_k».proof.Proof.BwdRefOut
public import Idealize.ShloMosaic.Lib.Claim

@[expose] public section

set_option maxRecDepth 16384

noncomputable section

open Idealize.ShloMosaic Idealize.ShloMosaic.TcCoe Idealize.SL.Sem

namespace Cert.BwdClaim

/-- From equal arguments the two result arrays are equal. -/
theorem same (m : (ℓ : Loc Cert.BwdIdeal.nD Cert.BwdIdeal.τ Cert.BwdIdeal.sig) → Buf (Elt Ideal) ℓ)
    (m' : (ℓ : Loc Cert.BwdRefIdeal.nD Cert.BwdRefIdeal.τ Cert.BwdRefIdeal.sig) → Buf (Elt Ideal) ℓ) (c : Dev Cert.BwdIdeal.nD)
    (e0 : m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0))
    (e1 : m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1))
    (e2 : m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2))
    (e3 : m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3))
    (e4 : m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4))
    (e5 : m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5))
    (e6 : m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6))
    (e7 : m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7))
    (e8 : m' ((c.tc : Thread Cert.BwdRefIdeal.nD Cert.BwdRefIdeal.τ).loc Cert.BwdRefIdeal.main_arg8) = m ((c.tc : Thread Cert.BwdIdeal.nD Cert.BwdIdeal.τ).loc Cert.BwdIdeal.main_arg8))
    (e9 : m' ((c.tc : Thread Cert.BwdRefIdeal.nD Cert.BwdRefIdeal.τ).loc Cert.BwdRefIdeal.main_arg9) = m ((c.tc : Thread Cert.BwdIdeal.nD Cert.BwdIdeal.τ).loc Cert.BwdIdeal.main_arg9)) :
    Cert.BwdRef.RES m' c = Cert.BwdValue.G m c := by
  unfold Cert.BwdRef.RES Cert.BwdValue.G
  rw [e0, e1, e2, e3, e4, e5, e6, e7, e8, e9]

/-- The idealized kernel's result is the reference's. -/
theorem algebraic : Cert.algebraic_BwdIdeal_BwdRefIdeal := by
  pair_intro
  · run_from Cert.BwdIdeal.Hand.run_main m g
  · run_from Cert.BwdRef.run_result m' g'
    obtain ⟨e0, e1, e2, e3, e4, e5, e6, e7, e8, e9⟩ := hagree c
    exact (same m m' c e0 e1 e2 e3 e4 e5 e6 e7 e8 e9).trans (Cert.BwdValue.final m c).symm

end Cert.BwdClaim

end
-- ==== Proof.BiasSpec.lean ====
/- The table of relative-position biases: the pick of a bucket's bias, written as a chain of choices and as a row of a
   gathered table. -/
module

public import Idealize.ShloMosaic.Lib.Pointwise
public import Idealize.ShloMosaic.Lib.ValueIdx

@[expose] public section

noncomputable section

open Idealize.ShloMosaic

namespace Cert.BiasSpec

/-- The bias picked for a bucket after the first `n` buckets were asked for, 0 where none of them was the bucket. -/
def chain (v : BitVec 32) (f : ℕ → EReal) : ℕ → EReal
  | 0 => 0
  | n + 1 => if v = BitVec.ofNat 32 n then f n else chain v f n

/-- Asking for the buckets one by one picks the bucket's bias, once the bucket was asked for. -/
theorem chain_eq (v : BitVec 32) (f : ℕ → EReal) (n : ℕ) (hn : n ≤ 32) (hv : v.toNat < n) : chain v f n = f v.toNat := by
  induction n with
  | zero => exact absurd hv (Nat.not_lt_zero _)
  | succ n ih =>
    have e : (BitVec.ofNat 32 n).toNat = n := by
      rw [BitVec.toNat_ofNat]; exact Nat.mod_eq_of_lt (by omega)
    unfold chain
    by_cases h : v = BitVec.ofNat 32 n
    · rw [if_pos h, h, e]
    · rw [if_neg h]
      refine ih (by omega) ?_
      have : v.toNat ≠ n := fun h' => h (BitVec.eq_of_toNat_eq (h'.trans e.symm))
      omega

/-- The same pick, spelt with the kernel's choices. -/
def pick (v : BitVec 32) (f : ℕ → EReal) : ℕ → EReal
  | 0 => 0
  | n + 1 => Scalar.select (IntOp.cmpi .eq v (BitVec.ofNat 32 n)) (f n) (pick v f n)

/-- The two spellings pick the same. -/
theorem pick_eq (v : BitVec 32) (f : ℕ → EReal) (n : ℕ) : pick v f n = chain v f n := by
  induction n with
  | zero => rfl
  | succ n ih =>
    unfold pick chain
    rw [ih]
    by_cases h : v = BitVec.ofNat 32 n
    · rw [if_pos h, h]
      simp [Scalar.select, IntOp.cmpi]
    · rw [if_neg h]
      have e : (v == BitVec.ofNat 32 n) = false := beq_eq_false_iff_ne.2 h
      simp [Scalar.select, IntOp.cmpi, e]

/-- The dimension numbers that take whole rows of a table by a matrix of row numbers. -/
abbrev rowsDims (wf : GatherDims.WF ⟨2, ![32, 16]⟩ ⟨3, ![128, 384, 1]⟩ ⟨3, ![128, 384, 16]⟩ [2] [0] [] [0] [] 2 ![1, 16]) :
    GatherDims ⟨2, ![32, 16]⟩ ⟨3, ![128, 384, 1]⟩ ⟨3, ![128, 384, 16]⟩ where
  offsetDims := [2]
  collapsedSliceDims := [0]
  operandBatchingDims := []
  startIndicesBatchingDims := []
  startIndexMap := [0]
  indexVectorDim := 2
  sliceSizes := ![1, 16]
  wf := wf

/-- A gathered row's entry: the table's entry in the row that the row number, read signed and held within the table, names. -/
theorem rows_at {α : Type} (wf : GatherDims.WF ⟨2, ![32, 16]⟩ ⟨3, ![128, 384, 1]⟩ ⟨3, ![128, 384, 16]⟩ [2] [0] [] [0] [] 2 ![1, 16])
    (x : (⟨2, ![32, 16]⟩ : Shape).Idx → α) (idx : IVec ⟨3, ![128, 384, 1]⟩ 32) (r : Fin 128) (k : Fin 384) (h : Fin 16) :
    Host.gather (rowsDims wf) x idx (ix3 r k h) = x (ix2 ⟨min (idx (ix3 r k 0)).toInt.toNat 31, by omega⟩ h) := by
  unfold Host.gather
  congr 1
  funext a
  refine Fin.ext ?_
  show (rowsDims wf).start (ix3 r k h) idx a + (rowsDims wf).batchCoord (ix3 r k h) a + (rowsDims wf).offCoord (ix3 r k h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix3 r k h) ⟨List.idxOf (0 : Fin 2) (rowsDims wf).startIndexMap,
        List.idxOf_lt_length_iff.2 (List.mem_singleton.mpr rfl)⟩ = ix3 r k 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (fun h => absurd (List.mem_singleton.mp h) (by decide))]
    simp only [Nat.zero_add, Nat.add_zero]
    rfl

end Cert.BiasSpec

end
-- ==== Proof.BiasTable.lean ====
module
public import proofs.«01_k».proof.BiasIdeal
public import proofs.«01_k».proof.BiasRefIdeal
public import Idealize.ShloMosaic.Lib.Pipeline.ValueKit

@[expose] public section
set_option maxRecDepth 100000
set_option maxHeartbeats 4000000

/-! The table of the buckets, which both programs hold as a constant: the two tables are one, and
every entry of it is a row of the table of the biases. -/

namespace Cert.BiasTable

/-- The kernel's table of buckets and the reference's are the same table. -/
theorem tables : @Cert.BiasIdeal.lit0t = @Cert.BiasRefIdeal.lit0t := by sl_kernel_rfl

/-- A choice among 128 values below 32, and a last one, is below 32. -/
theorem arms_a (n : ℕ) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69 v70 v71 v72 v73 v74 v75 v76 v77 v78 v79 v80 v81 v82 v83 v84 v85 v86 v87 v88 v89 v90 v91 v92 v93 v94 v95 v96 v97 v98 v99 v100 v101 v102 v103 v104 v105 v106 v107 v108 v109 v110 v111 v112 v113 v114 v115 v116 v117 v118 v119 v120 v121 v122 v123 v124 v125 v126 v127 v128 : BitVec 32)
    (h0 : v0.toNat < 32) (h1 : v1.toNat < 32) (h2 : v2.toNat < 32) (h3 : v3.toNat < 32)
    (h4 : v4.toNat < 32) (h5 : v5.toNat < 32) (h6 : v6.toNat < 32) (h7 : v7.toNat < 32)
    (h8 : v8.toNat < 32) (h9 : v9.toNat < 32) (h10 : v10.toNat < 32) (h11 : v11.toNat < 32)
    (h12 : v12.toNat < 32) (h13 : v13.toNat < 32) (h14 : v14.toNat < 32) (h15 : v15.toNat < 32)
    (h16 : v16.toNat < 32) (h17 : v17.toNat < 32) (h18 : v18.toNat < 32) (h19 : v19.toNat < 32)
    (h20 : v20.toNat < 32) (h21 : v21.toNat < 32) (h22 : v22.toNat < 32) (h23 : v23.toNat < 32)
    (h24 : v24.toNat < 32) (h25 : v25.toNat < 32) (h26 : v26.toNat < 32) (h27 : v27.toNat < 32)
    (h28 : v28.toNat < 32) (h29 : v29.toNat < 32) (h30 : v30.toNat < 32) (h31 : v31.toNat < 32)
    (h32 : v32.toNat < 32) (h33 : v33.toNat < 32) (h34 : v34.toNat < 32) (h35 : v35.toNat < 32)
    (h36 : v36.toNat < 32) (h37 : v37.toNat < 32) (h38 : v38.toNat < 32) (h39 : v39.toNat < 32)
    (h40 : v40.toNat < 32) (h41 : v41.toNat < 32) (h42 : v42.toNat < 32) (h43 : v43.toNat < 32)
    (h44 : v44.toNat < 32) (h45 : v45.toNat < 32) (h46 : v46.toNat < 32) (h47 : v47.toNat < 32)
    (h48 : v48.toNat < 32) (h49 : v49.toNat < 32) (h50 : v50.toNat < 32) (h51 : v51.toNat < 32)
    (h52 : v52.toNat < 32) (h53 : v53.toNat < 32) (h54 : v54.toNat < 32) (h55 : v55.toNat < 32)
    (h56 : v56.toNat < 32) (h57 : v57.toNat < 32) (h58 : v58.toNat < 32) (h59 : v59.toNat < 32)
    (h60 : v60.toNat < 32) (h61 : v61.toNat < 32) (h62 : v62.toNat < 32) (h63 : v63.toNat < 32)
    (h64 : v64.toNat < 32) (h65 : v65.toNat < 32) (h66 : v66.toNat < 32) (h67 : v67.toNat < 32)
    (h68 : v68.toNat < 32) (h69 : v69.toNat < 32) (h70 : v70.toNat < 32) (h71 : v71.toNat < 32)
    (h72 : v72.toNat < 32) (h73 : v73.toNat < 32) (h74 : v74.toNat < 32) (h75 : v75.toNat < 32)
    (h76 : v76.toNat < 32) (h77 : v77.toNat < 32) (h78 : v78.toNat < 32) (h79 : v79.toNat < 32)
    (h80 : v80.toNat < 32) (h81 : v81.toNat < 32) (h82 : v82.toNat < 32) (h83 : v83.toNat < 32)
    (h84 : v84.toNat < 32) (h85 : v85.toNat < 32) (h86 : v86.toNat < 32) (h87 : v87.toNat < 32)
    (h88 : v88.toNat < 32) (h89 : v89.toNat < 32) (h90 : v90.toNat < 32) (h91 : v91.toNat < 32)
    (h92 : v92.toNat < 32) (h93 : v93.toNat < 32) (h94 : v94.toNat < 32) (h95 : v95.toNat < 32)
    (h96 : v96.toNat < 32) (h97 : v97.toNat < 32) (h98 : v98.toNat < 32) (h99 : v99.toNat < 32)
    (h100 : v100.toNat < 32) (h101 : v101.toNat < 32) (h102 : v102.toNat < 32) (h103 : v103.toNat < 32)
    (h104 : v104.toNat < 32) (h105 : v105.toNat < 32) (h106 : v106.toNat < 32) (h107 : v107.toNat < 32)
    (h108 : v108.toNat < 32) (h109 : v109.toNat < 32) (h110 : v110.toNat < 32) (h111 : v111.toNat < 32)
    (h112 : v112.toNat < 32) (h113 : v113.toNat < 32) (h114 : v114.toNat < 32) (h115 : v115.toNat < 32)
    (h116 : v116.toNat < 32) (h117 : v117.toNat < 32) (h118 : v118.toNat < 32) (h119 : v119.toNat < 32)
    (h120 : v120.toNat < 32) (h121 : v121.toNat < 32) (h122 : v122.toNat < 32) (h123 : v123.toNat < 32)
    (h124 : v124.toNat < 32) (h125 : v125.toNat < 32) (h126 : v126.toNat < 32) (h127 : v127.toNat < 32)
    (h128 : v128.toNat < 32) :
    (Cert.BiasRefIdeal.lit0t0_0.match_1 (fun _ => BitVec 32) n
      (fun _ => v0) (fun _ => v1) (fun _ => v2) (fun _ => v3) (fun _ => v4) (fun _ => v5) (fun _ => v6) (fun _ => v7) (fun _ => v8) (fun _ => v9) (fun _ => v10) (fun _ => v11) (fun _ => v12) (fun _ => v13) (fun _ => v14) (fun _ => v15) (fun _ => v16) (fun _ => v17) (fun _ => v18) (fun _ => v19) (fun _ => v20) (fun _ => v21) (fun _ => v22) (fun _ => v23) (fun _ => v24) (fun _ => v25) (fun _ => v26) (fun _ => v27) (fun _ => v28) (fun _ => v29) (fun _ => v30) (fun _ => v31) (fun _ => v32) (fun _ => v33) (fun _ => v34) (fun _ => v35) (fun _ => v36) (fun _ => v37) (fun _ => v38) (fun _ => v39) (fun _ => v40) (fun _ => v41) (fun _ => v42) (fun _ => v43) (fun _ => v44) (fun _ => v45) (fun _ => v46) (fun _ => v47) (fun _ => v48) (fun _ => v49) (fun _ => v50) (fun _ => v51) (fun _ => v52) (fun _ => v53) (fun _ => v54) (fun _ => v55) (fun _ => v56) (fun _ => v57) (fun _ => v58) (fun _ => v59) (fun _ => v60) (fun _ => v61) (fun _ => v62) (fun _ => v63) (fun _ => v64) (fun _ => v65) (fun _ => v66) (fun _ => v67) (fun _ => v68) (fun _ => v69) (fun _ => v70) (fun _ => v71) (fun _ => v72) (fun _ => v73) (fun _ => v74) (fun _ => v75) (fun _ => v76) (fun _ => v77) (fun _ => v78) (fun _ => v79) (fun _ => v80) (fun _ => v81) (fun _ => v82) (fun _ => v83) (fun _ => v84) (fun _ => v85) (fun _ => v86) (fun _ => v87) (fun _ => v88) (fun _ => v89) (fun _ => v90) (fun _ => v91) (fun _ => v92) (fun _ => v93) (fun _ => v94) (fun _ => v95) (fun _ => v96) (fun _ => v97) (fun _ => v98) (fun _ => v99) (fun _ => v100) (fun _ => v101) (fun _ => v102) (fun _ => v103) (fun _ => v104) (fun _ => v105) (fun _ => v106) (fun _ => v107) (fun _ => v108) (fun _ => v109) (fun _ => v110) (fun _ => v111) (fun _ => v112) (fun _ => v113) (fun _ => v114) (fun _ => v115) (fun _ => v116) (fun _ => v117) (fun _ => v118) (fun _ => v119) (fun _ => v120) (fun _ => v121) (fun _ => v122) (fun _ => v123) (fun _ => v124) (fun _ => v125) (fun _ => v126) (fun _ => v127) (fun _ => v128)).toNat < 32 := by
  split <;> assumption

/-- The same for the choice as the second part of the table spells it. -/
theorem arms_b (n : ℕ) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69 v70 v71 v72 v73 v74 v75 v76 v77 v78 v79 v80 v81 v82 v83 v84 v85 v86 v87 v88 v89 v90 v91 v92 v93 v94 v95 v96 v97 v98 v99 v100 v101 v102 v103 v104 v105 v106 v107 v108 v109 v110 v111 v112 v113 v114 v115 v116 v117 v118 v119 v120 v121 v122 v123 v124 v125 v126 v127 v128 : BitVec 32)
    (h0 : v0.toNat < 32) (h1 : v1.toNat < 32) (h2 : v2.toNat < 32) (h3 : v3.toNat < 32)
    (h4 : v4.toNat < 32) (h5 : v5.toNat < 32) (h6 : v6.toNat < 32) (h7 : v7.toNat < 32)
    (h8 : v8.toNat < 32) (h9 : v9.toNat < 32) (h10 : v10.toNat < 32) (h11 : v11.toNat < 32)
    (h12 : v12.toNat < 32) (h13 : v13.toNat < 32) (h14 : v14.toNat < 32) (h15 : v15.toNat < 32)
    (h16 : v16.toNat < 32) (h17 : v17.toNat < 32) (h18 : v18.toNat < 32) (h19 : v19.toNat < 32)
    (h20 : v20.toNat < 32) (h21 : v21.toNat < 32) (h22 : v22.toNat < 32) (h23 : v23.toNat < 32)
    (h24 : v24.toNat < 32) (h25 : v25.toNat < 32) (h26 : v26.toNat < 32) (h27 : v27.toNat < 32)
    (h28 : v28.toNat < 32) (h29 : v29.toNat < 32) (h30 : v30.toNat < 32) (h31 : v31.toNat < 32)
    (h32 : v32.toNat < 32) (h33 : v33.toNat < 32) (h34 : v34.toNat < 32) (h35 : v35.toNat < 32)
    (h36 : v36.toNat < 32) (h37 : v37.toNat < 32) (h38 : v38.toNat < 32) (h39 : v39.toNat < 32)
    (h40 : v40.toNat < 32) (h41 : v41.toNat < 32) (h42 : v42.toNat < 32) (h43 : v43.toNat < 32)
    (h44 : v44.toNat < 32) (h45 : v45.toNat < 32) (h46 : v46.toNat < 32) (h47 : v47.toNat < 32)
    (h48 : v48.toNat < 32) (h49 : v49.toNat < 32) (h50 : v50.toNat < 32) (h51 : v51.toNat < 32)
    (h52 : v52.toNat < 32) (h53 : v53.toNat < 32) (h54 : v54.toNat < 32) (h55 : v55.toNat < 32)
    (h56 : v56.toNat < 32) (h57 : v57.toNat < 32) (h58 : v58.toNat < 32) (h59 : v59.toNat < 32)
    (h60 : v60.toNat < 32) (h61 : v61.toNat < 32) (h62 : v62.toNat < 32) (h63 : v63.toNat < 32)
    (h64 : v64.toNat < 32) (h65 : v65.toNat < 32) (h66 : v66.toNat < 32) (h67 : v67.toNat < 32)
    (h68 : v68.toNat < 32) (h69 : v69.toNat < 32) (h70 : v70.toNat < 32) (h71 : v71.toNat < 32)
    (h72 : v72.toNat < 32) (h73 : v73.toNat < 32) (h74 : v74.toNat < 32) (h75 : v75.toNat < 32)
    (h76 : v76.toNat < 32) (h77 : v77.toNat < 32) (h78 : v78.toNat < 32) (h79 : v79.toNat < 32)
    (h80 : v80.toNat < 32) (h81 : v81.toNat < 32) (h82 : v82.toNat < 32) (h83 : v83.toNat < 32)
    (h84 : v84.toNat < 32) (h85 : v85.toNat < 32) (h86 : v86.toNat < 32) (h87 : v87.toNat < 32)
    (h88 : v88.toNat < 32) (h89 : v89.toNat < 32) (h90 : v90.toNat < 32) (h91 : v91.toNat < 32)
    (h92 : v92.toNat < 32) (h93 : v93.toNat < 32) (h94 : v94.toNat < 32) (h95 : v95.toNat < 32)
    (h96 : v96.toNat < 32) (h97 : v97.toNat < 32) (h98 : v98.toNat < 32) (h99 : v99.toNat < 32)
    (h100 : v100.toNat < 32) (h101 : v101.toNat < 32) (h102 : v102.toNat < 32) (h103 : v103.toNat < 32)
    (h104 : v104.toNat < 32) (h105 : v105.toNat < 32) (h106 : v106.toNat < 32) (h107 : v107.toNat < 32)
    (h108 : v108.toNat < 32) (h109 : v109.toNat < 32) (h110 : v110.toNat < 32) (h111 : v111.toNat < 32)
    (h112 : v112.toNat < 32) (h113 : v113.toNat < 32) (h114 : v114.toNat < 32) (h115 : v115.toNat < 32)
    (h116 : v116.toNat < 32) (h117 : v117.toNat < 32) (h118 : v118.toNat < 32) (h119 : v119.toNat < 32)
    (h120 : v120.toNat < 32) (h121 : v121.toNat < 32) (h122 : v122.toNat < 32) (h123 : v123.toNat < 32)
    (h124 : v124.toNat < 32) (h125 : v125.toNat < 32) (h126 : v126.toNat < 32) (h127 : v127.toNat < 32)
    (h128 : v128.toNat < 32) :
    (Cert.BiasRefIdeal.lit0t0_197.match_1 (fun _ => BitVec 32) n
      (fun _ => v0) (fun _ => v1) (fun _ => v2) (fun _ => v3) (fun _ => v4) (fun _ => v5) (fun _ => v6) (fun _ => v7) (fun _ => v8) (fun _ => v9) (fun _ => v10) (fun _ => v11) (fun _ => v12) (fun _ => v13) (fun _ => v14) (fun _ => v15) (fun _ => v16) (fun _ => v17) (fun _ => v18) (fun _ => v19) (fun _ => v20) (fun _ => v21) (fun _ => v22) (fun _ => v23) (fun _ => v24) (fun _ => v25) (fun _ => v26) (fun _ => v27) (fun _ => v28) (fun _ => v29) (fun _ => v30) (fun _ => v31) (fun _ => v32) (fun _ => v33) (fun _ => v34) (fun _ => v35) (fun _ => v36) (fun _ => v37) (fun _ => v38) (fun _ => v39) (fun _ => v40) (fun _ => v41) (fun _ => v42) (fun _ => v43) (fun _ => v44) (fun _ => v45) (fun _ => v46) (fun _ => v47) (fun _ => v48) (fun _ => v49) (fun _ => v50) (fun _ => v51) (fun _ => v52) (fun _ => v53) (fun _ => v54) (fun _ => v55) (fun _ => v56) (fun _ => v57) (fun _ => v58) (fun _ => v59) (fun _ => v60) (fun _ => v61) (fun _ => v62) (fun _ => v63) (fun _ => v64) (fun _ => v65) (fun _ => v66) (fun _ => v67) (fun _ => v68) (fun _ => v69) (fun _ => v70) (fun _ => v71) (fun _ => v72) (fun _ => v73) (fun _ => v74) (fun _ => v75) (fun _ => v76) (fun _ => v77) (fun _ => v78) (fun _ => v79) (fun _ => v80) (fun _ => v81) (fun _ => v82) (fun _ => v83) (fun _ => v84) (fun _ => v85) (fun _ => v86) (fun _ => v87) (fun _ => v88) (fun _ => v89) (fun _ => v90) (fun _ => v91) (fun _ => v92) (fun _ => v93) (fun _ => v94) (fun _ => v95) (fun _ => v96) (fun _ => v97) (fun _ => v98) (fun _ => v99) (fun _ => v100) (fun _ => v101) (fun _ => v102) (fun _ => v103) (fun _ => v104) (fun _ => v105) (fun _ => v106) (fun _ => v107) (fun _ => v108) (fun _ => v109) (fun _ => v110) (fun _ => v111) (fun _ => v112) (fun _ => v113) (fun _ => v114) (fun _ => v115) (fun _ => v116) (fun _ => v117) (fun _ => v118) (fun _ => v119) (fun _ => v120) (fun _ => v121) (fun _ => v122) (fun _ => v123) (fun _ => v124) (fun _ => v125) (fun _ => v126) (fun _ => v127) (fun _ => v128)).toNat < 32 := by
  split <;> assumption

/-- The same, the bounds said of the list of the values. -/
theorem list_a (n : ℕ) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69 v70 v71 v72 v73 v74 v75 v76 v77 v78 v79 v80 v81 v82 v83 v84 v85 v86 v87 v88 v89 v90 v91 v92 v93 v94 v95 v96 v97 v98 v99 v100 v101 v102 v103 v104 v105 v106 v107 v108 v109 v110 v111 v112 v113 v114 v115 v116 v117 v118 v119 v120 v121 v122 v123 v124 v125 v126 v127 v128 : BitVec 32)
    (h : [v0, v1, v2, v3, v4, v5, v6, v7, v8, v9, v10, v11, v12, v13, v14, v15, v16, v17, v18, v19, v20, v21, v22, v23, v24, v25, v26, v27, v28, v29, v30, v31, v32, v33, v34, v35, v36, v37, v38, v39, v40, v41, v42, v43, v44, v45, v46, v47, v48, v49, v50, v51, v52, v53, v54, v55, v56, v57, v58, v59, v60, v61, v62, v63, v64, v65, v66, v67, v68, v69, v70, v71, v72, v73, v74, v75, v76, v77, v78, v79, v80, v81, v82, v83, v84, v85, v86, v87, v88, v89, v90, v91, v92, v93, v94, v95, v96, v97, v98, v99, v100, v101, v102, v103, v104, v105, v106, v107, v108, v109, v110, v111, v112, v113, v114, v115, v116, v117, v118, v119, v120, v121, v122, v123, v124, v125, v126, v127, v128].all (fun v => decide (v.toNat < 32)) = true) :
    (Cert.BiasRefIdeal.lit0t0_0.match_1 (fun _ => BitVec 32) n
      (fun _ => v0) (fun _ => v1) (fun _ => v2) (fun _ => v3) (fun _ => v4) (fun _ => v5) (fun _ => v6) (fun _ => v7) (fun _ => v8) (fun _ => v9) (fun _ => v10) (fun _ => v11) (fun _ => v12) (fun _ => v13) (fun _ => v14) (fun _ => v15) (fun _ => v16) (fun _ => v17) (fun _ => v18) (fun _ => v19) (fun _ => v20) (fun _ => v21) (fun _ => v22) (fun _ => v23) (fun _ => v24) (fun _ => v25) (fun _ => v26) (fun _ => v27) (fun _ => v28) (fun _ => v29) (fun _ => v30) (fun _ => v31) (fun _ => v32) (fun _ => v33) (fun _ => v34) (fun _ => v35) (fun _ => v36) (fun _ => v37) (fun _ => v38) (fun _ => v39) (fun _ => v40) (fun _ => v41) (fun _ => v42) (fun _ => v43) (fun _ => v44) (fun _ => v45) (fun _ => v46) (fun _ => v47) (fun _ => v48) (fun _ => v49) (fun _ => v50) (fun _ => v51) (fun _ => v52) (fun _ => v53) (fun _ => v54) (fun _ => v55) (fun _ => v56) (fun _ => v57) (fun _ => v58) (fun _ => v59) (fun _ => v60) (fun _ => v61) (fun _ => v62) (fun _ => v63) (fun _ => v64) (fun _ => v65) (fun _ => v66) (fun _ => v67) (fun _ => v68) (fun _ => v69) (fun _ => v70) (fun _ => v71) (fun _ => v72) (fun _ => v73) (fun _ => v74) (fun _ => v75) (fun _ => v76) (fun _ => v77) (fun _ => v78) (fun _ => v79) (fun _ => v80) (fun _ => v81) (fun _ => v82) (fun _ => v83) (fun _ => v84) (fun _ => v85) (fun _ => v86) (fun _ => v87) (fun _ => v88) (fun _ => v89) (fun _ => v90) (fun _ => v91) (fun _ => v92) (fun _ => v93) (fun _ => v94) (fun _ => v95) (fun _ => v96) (fun _ => v97) (fun _ => v98) (fun _ => v99) (fun _ => v100) (fun _ => v101) (fun _ => v102) (fun _ => v103) (fun _ => v104) (fun _ => v105) (fun _ => v106) (fun _ => v107) (fun _ => v108) (fun _ => v109) (fun _ => v110) (fun _ => v111) (fun _ => v112) (fun _ => v113) (fun _ => v114) (fun _ => v115) (fun _ => v116) (fun _ => v117) (fun _ => v118) (fun _ => v119) (fun _ => v120) (fun _ => v121) (fun _ => v122) (fun _ => v123) (fun _ => v124) (fun _ => v125) (fun _ => v126) (fun _ => v127) (fun _ => v128)).toNat < 32 := by
  simp only [List.all_cons, List.all_nil, Bool.and_eq_true, decide_eq_true_eq, Bool.and_true] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127, h128⟩ := h
  apply arms_a <;> assumption

/-- The same for the second spelling. -/
theorem list_b (n : ℕ) (v0 v1 v2 v3 v4 v5 v6 v7 v8 v9 v10 v11 v12 v13 v14 v15 v16 v17 v18 v19 v20 v21 v22 v23 v24 v25 v26 v27 v28 v29 v30 v31 v32 v33 v34 v35 v36 v37 v38 v39 v40 v41 v42 v43 v44 v45 v46 v47 v48 v49 v50 v51 v52 v53 v54 v55 v56 v57 v58 v59 v60 v61 v62 v63 v64 v65 v66 v67 v68 v69 v70 v71 v72 v73 v74 v75 v76 v77 v78 v79 v80 v81 v82 v83 v84 v85 v86 v87 v88 v89 v90 v91 v92 v93 v94 v95 v96 v97 v98 v99 v100 v101 v102 v103 v104 v105 v106 v107 v108 v109 v110 v111 v112 v113 v114 v115 v116 v117 v118 v119 v120 v121 v122 v123 v124 v125 v126 v127 v128 : BitVec 32)
    (h : [v0, v1, v2, v3, v4, v5, v6, v7, v8, v9, v10, v11, v12, v13, v14, v15, v16, v17, v18, v19, v20, v21, v22, v23, v24, v25, v26, v27, v28, v29, v30, v31, v32, v33, v34, v35, v36, v37, v38, v39, v40, v41, v42, v43, v44, v45, v46, v47, v48, v49, v50, v51, v52, v53, v54, v55, v56, v57, v58, v59, v60, v61, v62, v63, v64, v65, v66, v67, v68, v69, v70, v71, v72, v73, v74, v75, v76, v77, v78, v79, v80, v81, v82, v83, v84, v85, v86, v87, v88, v89, v90, v91, v92, v93, v94, v95, v96, v97, v98, v99, v100, v101, v102, v103, v104, v105, v106, v107, v108, v109, v110, v111, v112, v113, v114, v115, v116, v117, v118, v119, v120, v121, v122, v123, v124, v125, v126, v127, v128].all (fun v => decide (v.toNat < 32)) = true) :
    (Cert.BiasRefIdeal.lit0t0_197.match_1 (fun _ => BitVec 32) n
      (fun _ => v0) (fun _ => v1) (fun _ => v2) (fun _ => v3) (fun _ => v4) (fun _ => v5) (fun _ => v6) (fun _ => v7) (fun _ => v8) (fun _ => v9) (fun _ => v10) (fun _ => v11) (fun _ => v12) (fun _ => v13) (fun _ => v14) (fun _ => v15) (fun _ => v16) (fun _ => v17) (fun _ => v18) (fun _ => v19) (fun _ => v20) (fun _ => v21) (fun _ => v22) (fun _ => v23) (fun _ => v24) (fun _ => v25) (fun _ => v26) (fun _ => v27) (fun _ => v28) (fun _ => v29) (fun _ => v30) (fun _ => v31) (fun _ => v32) (fun _ => v33) (fun _ => v34) (fun _ => v35) (fun _ => v36) (fun _ => v37) (fun _ => v38) (fun _ => v39) (fun _ => v40) (fun _ => v41) (fun _ => v42) (fun _ => v43) (fun _ => v44) (fun _ => v45) (fun _ => v46) (fun _ => v47) (fun _ => v48) (fun _ => v49) (fun _ => v50) (fun _ => v51) (fun _ => v52) (fun _ => v53) (fun _ => v54) (fun _ => v55) (fun _ => v56) (fun _ => v57) (fun _ => v58) (fun _ => v59) (fun _ => v60) (fun _ => v61) (fun _ => v62) (fun _ => v63) (fun _ => v64) (fun _ => v65) (fun _ => v66) (fun _ => v67) (fun _ => v68) (fun _ => v69) (fun _ => v70) (fun _ => v71) (fun _ => v72) (fun _ => v73) (fun _ => v74) (fun _ => v75) (fun _ => v76) (fun _ => v77) (fun _ => v78) (fun _ => v79) (fun _ => v80) (fun _ => v81) (fun _ => v82) (fun _ => v83) (fun _ => v84) (fun _ => v85) (fun _ => v86) (fun _ => v87) (fun _ => v88) (fun _ => v89) (fun _ => v90) (fun _ => v91) (fun _ => v92) (fun _ => v93) (fun _ => v94) (fun _ => v95) (fun _ => v96) (fun _ => v97) (fun _ => v98) (fun _ => v99) (fun _ => v100) (fun _ => v101) (fun _ => v102) (fun _ => v103) (fun _ => v104) (fun _ => v105) (fun _ => v106) (fun _ => v107) (fun _ => v108) (fun _ => v109) (fun _ => v110) (fun _ => v111) (fun _ => v112) (fun _ => v113) (fun _ => v114) (fun _ => v115) (fun _ => v116) (fun _ => v117) (fun _ => v118) (fun _ => v119) (fun _ => v120) (fun _ => v121) (fun _ => v122) (fun _ => v123) (fun _ => v124) (fun _ => v125) (fun _ => v126) (fun _ => v127) (fun _ => v128)).toNat < 32 := by
  simp only [List.all_cons, List.all_nil, Bool.and_eq_true, decide_eq_true_eq, Bool.and_true] at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127, h128⟩ := h
  apply arms_b <;> assumption

/-! Each row of the folded table is below 32. -/

/-- Row 0 of the folded table is below 32. -/
theorem row_0 (n : ℕ) : (Cert.BiasRefIdeal.lit0t0_0 n).toNat < 32 := by
  apply list_a; decide +kernel
/-- Row 1 of the folded table is below 32. -/
theorem row_1 (n : ℕ) : (Cert.BiasRefIdeal.lit0t0_1 n).toNat < 32 := by
  apply list_a; decide +kernel
/-- Row 2 of the folded table is below 32. -/
theorem row_2 (n : ℕ) : (Cert.BiasRefIdeal.lit0t0_2 n).toNat < 32 := by
  apply list_a; decide +kernel
/-- Row 3 of the folded table is below 32. -/
theorem row_3 (n : ℕ) : (Cert.BiasRefIdeal.lit0t0_3 n).toNat < 32 := by
  apply list_a; decide +kernel
/-- Row 4 of the folded table is below 32. -/
theorem row_4 (n : ℕ) : (Cert.BiasRefIdeal.lit0t0_4 n).toNat < 32 := by
  apply list_a; decide +kernel
/-- Row 5 of the folded table is below 32. -/
theorem row_5 (n : ℕ) : (Cert.BiasRefIdeal.lit0t0_5 n).toNat < 32 := by
  apply list_a; decide +kernel
/-- Row 6 of the folded table is below 32. -/
theorem row_6 (n : ℕ) : (Cert.BiasRefIdeal.lit0t0_6 n).toNat < 32 := by
  apply list_a; decide +kernel
/-- Row 7 of the folded table is below 32. -/
theorem row_7 (n : ℕ) : (Cert.BiasRefIdeal.lit0t0_7 n).toNat < 32 := by
  apply list_a; decide +kernel
/-- Row 8 of the folded table is below 32. -/
theorem row_8 (n : ℕ) : (Cert.BiasRefIdeal.lit0t0_8 n).toNat < 32 := by
  apply list_a; decide +kernel
/-- Row 9 of the folded table is below 32. -/
theorem row_9 (n : ℕ) : (Cert.BiasRefIdeal.lit0t0_9 n).toNat < 32 := by
  apply list_a; decide +kernel
/-- Row 10 of the folded table is below 32. -/
theorem row_10 (n : ℕ) : (Cert.BiasRefIdeal.lit0t0_10 n).toNat < 32 := by
  apply list_a; decide +kernel
/-- Row 11 of the folded table is below 32. -/
theorem row_11 (n : ℕ) : (Cert.BiasRefIdeal.lit0t0_11 n).toNat < 32 := by
  apply list_a; decide +kernel
/-- Row 12 of the folded table is below 32. -/
theorem row_12 (n : ℕ) : (Cert.BiasRefIdeal.lit0t0_12 n).toNat < 32 := by
  apply list_a; decide +kernel
/-- Row 13 of the folded table is below 32. -/
theorem row_13 (n : ℕ) : (Cert.BiasRefIdeal.lit0t0_13 n).toNat < 32 := by
  apply list_a; decide +kernel
/-- Row 14 of the folded table is below 32. -/
theorem row_14 (n : ℕ) : (Cert.BiasRefIdeal.lit0t0_14 n).toNat < 32 := by
  apply list_a; decide +kernel
/-- Row 15 of the folded table is below 32. -/
theorem row_15 (n : ℕ) : (Cert.BiasRefIdeal.lit0t0_15 n).toNat < 32 := by
  apply list_a; decide +kernel
/-- Row 16 of the folded table is below 32. -/
theorem row_16 (n : ℕ) : (Cert.BiasRefIdeal.lit0t0_16 n).toNat < 32 := by
  apply list_a; decide +kernel
/-- Row 17 of the folded table is below 32. -/
theorem row_17 (n : ℕ) : (Cert.BiasRefIdeal.lit0t0_17 n).toNat < 32 := by
  apply list_a; decide +kernel
/-- Row 18 of the folded table is below 32. -/
theorem row_18 (n : ℕ) : (Cert.BiasRefIdeal.lit0t0_18 n).toNat < 32 := by
  apply list_a; decide +kernel
/-- Row 19 of the folded table is below 32. -/
theorem row_19 (n : ℕ) : (Cert.BiasRefIdeal.lit0t0_19 n).toNat < 32 := by
  apply list_a; decide +kernel
/-- Row 20 of the folded table is below 32. -/
theorem row_20 (n : ℕ) : (Cert.BiasRefIdeal.lit0t0_20 n).toNat < 32 := by
  apply list_a; decide +kernel
/-- Row 21 of the folded table is below 32. -/
theorem row_21 (n : ℕ) : (Cert.BiasRefIdeal.lit0t0_21 n).toNat < 32 := by
  apply list_a; decide +kernel
/-- Row 22 of the folded table is below 32. -/
theorem row_22 (n : ℕ) : (Cert.BiasRefIdeal.lit0t0_22 n).toNat < 32 := by
  apply list_a; decide +kernel
/-- Row 23 of the folded table is below 32. -/
theorem row_23 (n : ℕ) : (Cert.BiasRefIdeal.lit0t0_23 n).toNat < 32 := by
  apply list_a; decide +kernel
/-- Row 24 of the folded table is below 32. -/
theorem row_24 (n : ℕ) : (Cert.BiasRefIdeal.lit0t0_24 n).toNat < 32 := by
  apply list_a; decide +kernel
/-- Row 25 of the folded table is below 32. -/
theorem row_25 (n : ℕ) : (Cert.BiasRefIdeal.lit0t0_25 n).toNat < 32 := by
  apply list_a; decide +kernel
/-- Row 26 of the folded table is below 32. -/
theorem row_26 (n : ℕ) : (Cert.BiasRefIdeal.lit0t0_26 n).toNat < 32 := by
  apply list_a; decide +kernel
/-- Row 27 of the folded table is below 32. -/
theorem row_27 (n : ℕ) : (Cert.BiasRefIdeal.lit0t0_27 n).toNat < 32 := by
  apply list_a; decide +kernel
/-- Row 28 of the folded table is below 32. -/
theorem row_28 (n : ℕ) : (Cert.BiasRefIdeal.lit0t0_28 n).toNat < 32 := by
  apply list_a; decide +kernel
/-- Row 29 of the folded table is below 32. -/
theorem row_29 (n : ℕ) : (Cert.BiasRefIdeal.lit0t0_29 n).toNat < 32 := by
  apply list_a; decide +kernel
/-- Row 30 of the folded table is below 32. -/
theorem row_30 (n : ℕ) : (Cert.BiasRefIdeal.lit0t0_30 n).toNat < 32 := by
  apply list_a; decide +kernel
/-- Row 31 of the folded table is below 32. -/
theorem row_31 (n : ℕ) : (Cert.BiasRefIdeal.lit0t0_31 n).toNat < 32 := by
  apply list_a; decide +kernel
/-- Row 32 of the folded table is below 32. -/
theorem row_32 (n : ℕ) : (Cert.BiasRefIdeal.lit0t0_32 n).toNat < 32 := by
  apply list_a; decide +kernel
/-- Row 33 of the folded table is below 32. -/
theorem row_33 (n : ℕ) : (Cert.BiasRefIdeal.lit0t0_33 n).toNat < 32 := by
  apply list_a; decide +kernel
/-- Row 34 of the folded table is below 32. -/
theorem row_34 (n : ℕ) : (Cert.BiasRefIdeal.lit0t0_34 n).toNat < 32 := by
  apply list_a; decide +kernel
/-- Row 35 of the folded table is below 32. -/
theorem row_35 (n : ℕ) : (Cert.BiasRefIdeal.lit0t0_35 n).toNat < 32 := by
  apply list_a; decide +kernel
/-- Row 36 of the folded table is below 32. -/
theorem row_36 (n : ℕ) : (Cert.BiasRefIdeal.lit0t0_36 n).toNat < 32 := by
  apply list_a; decide +kernel
/-- Row 37 of the folded table is below 32. -/
theorem row_37 (n : ℕ) : (Cert.BiasRefIdeal.lit0t0_37 n).toNat < 32 := by
  apply list_a; decide +kernel
/-- Row 38 of the folded table is below 32. -/
theorem row_38 (n : ℕ) : (Cert.BiasRefIdeal.lit0t0_38 n).toNat < 32 := by
  apply list_a; decide +kernel
/-- Row 39 of the folded table is below 32. -/
theorem row_39 (n : ℕ) : (Cert.BiasRefIdeal.lit0t0_39 n).toNat < 32 := by
  apply list_a; decide +kernel
/-- Row 40 of the folded table is below 32. -/
theorem row_40 (n : ℕ) : (Cert.BiasRefIdeal.lit0t0_40 n).toNat < 32 := by
  apply list_a; decide +kernel
/-- Row 41 of the folded table is below 32. -/
theorem row_41 (n : ℕ) : (Cert.BiasRefIdeal.lit0t0_41 n).toNat < 32 := by
  apply list_a; decide +kernel
/-- Row 42 of the folded table is below 32. -/
theorem row_42 (n : ℕ) : (Cert.BiasRefIdeal.lit0t0_42 n).toNat < 32 := by
  apply list_a; decide +kernel
/-- Row 43 of the folded table is below 32. -/
theorem row_43 (n : ℕ) : (Cert.BiasRefIdeal.lit0t0_43 n).toNat < 32 := by
  apply list_a; decide +kernel
/-- Row 44 of the folded table is below 32. -/
theorem row_44 (n : ℕ) : (Cert.BiasRefIdeal.lit0t0_44 n).toNat < 32 := by
  apply list_a; decide +kernel
/-- Row 45 of the folded table is below 32. -/
theorem row_45 (n : ℕ) : (Cert.BiasRefIdeal.lit0t0_45 n).toNat < 32 := by
  apply list_a; decide +kernel
/-- Row 46 of the folded table is below 32. -/
theorem row_46 (n : ℕ) : (Cert.BiasRefIdeal.lit0t0_46 n).toNat < 32 := by
  apply list_a; decide +kernel
/-- Row 47 of the folded table is below 32. -/
theorem row_47 (n : ℕ) : (Cert.BiasRefIdeal.lit0t0_47 n).toNat < 32 := by
  apply list_a; decide +kernel
/-- Row 48 of the folded table is below 32. -/
theorem row_48 (n : ℕ) : (Cert.BiasRefIdeal.lit0t0_48 n).toNat < 32 := by
  apply list_a; decide +kernel
/-- Row 49 of the folded table is below 32. -/
theorem row_49 (n : ℕ) : (Cert.BiasRefIdeal.lit0t0_49 n).toNat < 32 := by
  apply list_a; decide +kernel
/-- Row 50 of the folded table is below 32. -/
theorem row_50 (n : ℕ) : (Cert.BiasRefIdeal.lit0t0_50 n).toNat < 32 := by
  apply list_a; decide +kernel
/-- Row 51 of the folded table is below 32. -/
theorem row_51 (n : ℕ) : (Cert.BiasRefIdeal.lit0t0_51 n).toNat < 32 := by
  apply list_a; decide +kernel
/-- Row 52 of the folded table is below 32. -/
theorem row_52 (n : ℕ) : (Cert.BiasRefIdeal.lit0t0_52 n).toNat < 32 := by
  apply list_a; decide +kernel
/-- Row 53 of the folded table is below 32. -/
theorem row_53 (n : ℕ) : (Cert.BiasRefIdeal.lit0t0_53 n).toNat < 32 := by
  apply list_a; decide +kernel
/-- Row 54 of the folded table is below 32. -/
theorem row_54 (n : ℕ) : (Cert.BiasRefIdeal.lit0t0_54 n).toNat < 32 := by
  apply list_a; decide +kernel
/-- Row 55 of the folded table is below 32. -/
theorem row_55 (n : ℕ) : (Cert.BiasRefIdeal.lit0t0_55 n).toNat < 32 := by
  apply list_a; decide +kernel
/-- Row 56 of the folded table is below 32. -/
theorem row_56 (n : ℕ) : (Cert.BiasRefIdeal.lit0t0_56 n).toNat < 32 := by
  apply list_a; decide +kernel
/-- Row 57 of the folded table is below 32. -/
theorem row_57 (n : ℕ) : (Cert.BiasRefIdeal.lit0t0_57 n).toNat < 32 := by
  apply list_a; decide +kernel
/-- Row 58 of the folded table is below 32. -/
theorem row_58 (n : ℕ) : (Cert.BiasRefIdeal.lit0t0_58 n).toNat < 32 := by
  apply list_a; decide +kernel
/-- Row 59 of the folded table is below 32. -/
theorem row_59 (n : ℕ) : (Cert.BiasRefIdeal.lit0t0_59 n).toNat < 32 := by
  apply list_a; decide +kernel
/-- Row 60 of the folded table is below 32. -/
theorem row_60 (n : ℕ) : (Cert.BiasRefIdeal.lit0t0_60 n).toNat < 32 := by
  apply list_a; decide +kernel
/-- Row 61 of the folded table is below 32. -/
theorem row_61 (n : ℕ) : (Cert.BiasRefIdeal.lit0t0_61 n).toNat < 32 := by
  apply list_a; decide +kernel
/-- Row 62 of the folded table is below 32. -/
theorem row_62 (n : ℕ) : (Cert.BiasRefIdeal.lit0t0_62 n).toNat < 32 := by
  apply list_a; decide +kernel
/-- Row 63 of the folded table is below 32. -/
theorem row_63 (n : ℕ) : (Cert.BiasRefIdeal.lit0t0_63 n).toNat < 32 := by
  apply list_a; decide +kernel
/-- Row 64 of the folded table is below 32. -/
theorem row_64 (n : ℕ) : (Cert.BiasRefIdeal.lit0t0_64 n).toNat < 32 := by
  apply list_a; decide +kernel
/-- Row 65 of the folded table is below 32. -/
theorem row_65 (n : ℕ) : (Cert.BiasRefIdeal.lit0t0_65 n).toNat < 32 := by
  apply list_a; decide +kernel
/-- Row 66 of the folded table is below 32. -/
theorem row_66 (n : ℕ) : (Cert.BiasRefIdeal.lit0t0_66 n).toNat < 32 := by
  apply list_a; decide +kernel
/-- Row 67 of the folded table is below 32. -/
theorem row_67 (n : ℕ) : (Cert.BiasRefIdeal.lit0t0_67 n).toNat < 32 := by
  apply list_a; decide +kernel
/-- Row 68 of the folded table is below 32. -/
theorem row_68 (n : ℕ) : (Cert.BiasRefIdeal.lit0t0_68 n).toNat < 32 := by
  apply list_a; decide +kernel
/-- Row 69 of the folded table is below 32. -/
theorem row_69 (n : ℕ) : (Cert.BiasRefIdeal.lit0t0_69 n).toNat < 32 := by
  apply list_a; decide +kernel
/-- Row 70 of the folded table is below 32. -/
theorem row_70 (n : ℕ) : (Cert.BiasRefIdeal.lit0t0_70 n).toNat < 32 := by
  apply list_a; decide +kernel
/-- Row 71 of the folded table is below 32. -/
theorem row_71 (n : ℕ) : (Cert.BiasRefIdeal.lit0t0_71 n).toNat < 32 := by
  apply list_a; decide +kernel
/-- Row 72 of the folded table is below 32. -/
theorem row_72 (n : ℕ) : (Cert.BiasRefIdeal.lit0t0_72 n).toNat < 32 := by
  apply list_a; decide +kernel
/-- Row 73 of the folded table is below 32. -/
theorem row_73 (n : ℕ) : (Cert.BiasRefIdeal.lit0t0_73 n).toNat < 32 := by
  apply list_a; decide +kernel
/-- Row 74 of the folded table is below 32. -/
theorem row_74 (n : ℕ) : (Cert.BiasRefIdeal.lit0t0_74 n).toNat < 32 := by
  apply list_a; decide +kernel
/-- Row 75 of the folded table is below 32. -/
theorem row_75 (n : ℕ) : (Cert.BiasRefIdeal.lit0t0_75 n).toNat < 32 := by
  apply list_a; decide +kernel
/-- Row 76 of the folded table is below 32. -/
theorem row_76 (n : ℕ) : (Cert.BiasRefIdeal.lit0t0_76 n).toNat < 32 := by
  apply list_a; decide +kernel
/-- Row 77 of the folded table is below 32. -/
theorem row_77 (n : ℕ) : (Cert.BiasRefIdeal.lit0t0_77 n).toNat < 32 := by
  apply list_a; decide +kernel
/-- Row 78 of the folded table is below 32. -/
theorem row_78 (n : ℕ) : (Cert.BiasRefIdeal.lit0t0_78 n).toNat < 32 := by
  apply list_a; decide +kernel
/-- Row 79 of the folded table is below 32. -/
theorem row_79 (n : ℕ) : (Cert.BiasRefIdeal.lit0t0_79 n).toNat < 32 := by
  apply list_a; decide +kernel
/-- Row 80 of the folded table is below 32. -/
theorem row_80 (n : ℕ) : (Cert.BiasRefIdeal.lit0t0_80 n).toNat < 32 := by
  apply list_a; decide +kernel
/-- Row 81 of the folded table is below 32. -/
theorem row_81 (n : ℕ) : (Cert.BiasRefIdeal.lit0t0_81 n).toNat < 32 := by
  apply list_a; decide +kernel
/-- Row 82 of the folded table is below 32. -/
theorem row_82 (n : ℕ) : (Cert.BiasRefIdeal.lit0t0_82 n).toNat < 32 := by
  apply list_a; decide +kernel
/-- Row 83 of the folded table is below 32. -/
theorem row_83 (n : ℕ) : (Cert.BiasRefIdeal.lit0t0_83 n).toNat < 32 := by
  apply list_a; decide +kernel
/-- Row 84 of the folded table is below 32. -/
theorem row_84 (n : ℕ) : (Cert.BiasRefIdeal.lit0t0_84 n).toNat < 32 := by
  apply list_a; decide +kernel
/-- Row 85 of the folded table is below 32. -/
theorem row_85 (n : ℕ) : (Cert.BiasRefIdeal.lit0t0_85 n).toNat < 32 := by
  apply list_a; decide +kernel
/-- Row 86 of the folded table is below 32. -/
theorem row_86 (n : ℕ) : (Cert.BiasRefIdeal.lit0t0_86 n).toNat < 32 := by
  apply list_a; decide +kernel
/-- Row 87 of the folded table is below 32. -/
theorem row_87 (n : ℕ) : (Cert.BiasRefIdeal.lit0t0_87 n).toNat < 32 := by
  apply list_a; decide +kernel
/-- Row 88 of the folded table is below 32. -/
theorem row_88 (n : ℕ) : (Cert.BiasRefIdeal.lit0t0_88 n).toNat < 32 := by
  apply list_a; decide +kernel
/-- Row 89 of the folded table is below 32. -/
theorem row_89 (n : ℕ) : (Cert.BiasRefIdeal.lit0t0_89 n).toNat < 32 := by
  apply list_a; decide +kernel
/-- Row 90 of the folded table is below 32. -/
theorem row_90 (n : ℕ) : (Cert.BiasRefIdeal.lit0t0_90 n).toNat < 32 := by
  apply list_a; decide +kernel
/-- Row 91 of the folded table is below 32. -/
theorem row_91 (n : ℕ) : (Cert.BiasRefIdeal.lit0t0_91 n).toNat < 32 := by
  apply list_a; decide +kernel
/-- Row 92 of the folded table is below 32. -/
theorem row_92 (n : ℕ) : (Cert.BiasRefIdeal.lit0t0_92 n).toNat < 32 := by
  apply list_a; decide +kernel
/-- Row 93 of the folded table is below 32. -/
theorem row_93 (n : ℕ) : (Cert.BiasRefIdeal.lit0t0_93 n).toNat < 32 := by
  apply list_a; decide +kernel
/-- Row 94 of the folded table is below 32. -/
theorem row_94 (n : ℕ) : (Cert.BiasRefIdeal.lit0t0_94 n).toNat < 32 := by
  apply list_a; decide +kernel
/-- Row 95 of the folded table is below 32. -/
theorem row_95 (n : ℕ) : (Cert.BiasRefIdeal.lit0t0_95 n).toNat < 32 := by
  apply list_a; decide +kernel
/-- Row 96 of the folded table is below 32. -/
theorem row_96 (n : ℕ) : (Cert.BiasRefIdeal.lit0t0_96 n).toNat < 32 := by
  apply list_a; decide +kernel
/-- Row 97 of the folded table is below 32. -/
theorem row_97 (n : ℕ) : (Cert.BiasRefIdeal.lit0t0_97 n).toNat < 32 := by
  apply list_a; decide +kernel
/-- Row 98 of the folded table is below 32. -/
theorem row_98 (n : ℕ) : (Cert.BiasRefIdeal.lit0t0_98 n).toNat < 32 := by
  apply list_a; decide +kernel
/-- Row 99 of the folded table is below 32. -/
theorem row_99 (n : ℕ) : (Cert.BiasRefIdeal.lit0t0_99 n).toNat < 32 := by
  apply list_a; decide +kernel
/-- Row 100 of the folded table is below 32. -/
theorem row_100 (n : ℕ) : (Cert.BiasRefIdeal.lit0t0_100 n).toNat < 32 := by
  apply list_a; decide +kernel
/-- Row 101 of the folded table is below 32. -/
theorem row_101 (n : ℕ) : (Cert.BiasRefIdeal.lit0t0_101 n).toNat < 32 := by
  apply list_a; decide +kernel
/-- Row 102 of the folded table is below 32. -/
theorem row_102 (n : ℕ) : (Cert.BiasRefIdeal.lit0t0_102 n).toNat < 32 := by
  apply list_a; decide +kernel
/-- Row 103 of the folded table is below 32. -/
theorem row_103 (n : ℕ) : (Cert.BiasRefIdeal.lit0t0_103 n).toNat < 32 := by
  apply list_a; decide +kernel
/-- Row 104 of the folded table is below 32. -/
theorem row_104 (n : ℕ) : (Cert.BiasRefIdeal.lit0t0_104 n).toNat < 32 := by
  apply list_a; decide +kernel
/-- Row 105 of the folded table is below 32. -/
theorem row_105 (n : ℕ) : (Cert.BiasRefIdeal.lit0t0_105 n).toNat < 32 := by
  apply list_a; decide +kernel
/-- Row 106 of the folded table is below 32. -/
theorem row_106 (n : ℕ) : (Cert.BiasRefIdeal.lit0t0_106 n).toNat < 32 := by
  apply list_a; decide +kernel
/-- Row 107 of the folded table is below 32. -/
theorem row_107 (n : ℕ) : (Cert.BiasRefIdeal.lit0t0_107 n).toNat < 32 := by
  apply list_a; decide +kernel
/-- Row 108 of the folded table is below 32. -/
theorem row_108 (n : ℕ) : (Cert.BiasRefIdeal.lit0t0_108 n).toNat < 32 := by
  apply list_a; decide +kernel
/-- Row 109 of the folded table is below 32. -/
theorem row_109 (n : ℕ) : (Cert.BiasRefIdeal.lit0t0_109 n).toNat < 32 := by
  apply list_a; decide +kernel
/-- Row 110 of the folded table is below 32. -/
theorem row_110 (n : ℕ) : (Cert.BiasRefIdeal.lit0t0_110 n).toNat < 32 := by
  apply list_a; decide +kernel
/-- Row 111 of the folded table is below 32. -/
theorem row_111 (n : ℕ) : (Cert.BiasRefIdeal.lit0t0_111 n).toNat < 32 := by
  apply list_a; decide +kernel
/-- Row 112 of the folded table is below 32. -/
theorem row_112 (n : ℕ) : (Cert.BiasRefIdeal.lit0t0_112 n).toNat < 32 := by
  apply list_a; decide +kernel
/-- Row 113 of the folded table is below 32. -/
theorem row_113 (n : ℕ) : (Cert.BiasRefIdeal.lit0t0_113 n).toNat < 32 := by
  apply list_a; decide +kernel
/-- Row 114 of the folded table is below 32. -/
theorem row_114 (n : ℕ) : (Cert.BiasRefIdeal.lit0t0_114 n).toNat < 32 := by
  apply list_a; decide +kernel
/-- Row 115 of the folded table is below 32. -/
theorem row_115 (n : ℕ) : (Cert.BiasRefIdeal.lit0t0_115 n).toNat < 32 := by
  apply list_a; decide +kernel
/-- Row 116 of the folded table is below 32. -/
theorem row_116 (n : ℕ) : (Cert.BiasRefIdeal.lit0t0_116 n).toNat < 32 := by
  apply list_a; decide +kernel
/-- Row 117 of the folded table is below 32. -/
theorem row_117 (n : ℕ) : (Cert.BiasRefIdeal.lit0t0_117 n).toNat < 32 := by
  apply list_a; decide +kernel
/-- Row 118 of the folded table is below 32. -/
theorem row_118 (n : ℕ) : (Cert.BiasRefIdeal.lit0t0_118 n).toNat < 32 := by
  apply list_a; decide +kernel
/-- Row 119 of the folded table is below 32. -/
theorem row_119 (n : ℕ) : (Cert.BiasRefIdeal.lit0t0_119 n).toNat < 32 := by
  apply list_a; decide +kernel
/-- Row 120 of the folded table is below 32. -/
theorem row_120 (n : ℕ) : (Cert.BiasRefIdeal.lit0t0_120 n).toNat < 32 := by
  apply list_a; decide +kernel
/-- Row 121 of the folded table is below 32. -/
theorem row_121 (n : ℕ) : (Cert.BiasRefIdeal.lit0t0_121 n).toNat < 32 := by
  apply list_a; decide +kernel
/-- Row 122 of the folded table is below 32. -/
theorem row_122 (n : ℕ) : (Cert.BiasRefIdeal.lit0t0_122 n).toNat < 32 := by
  apply list_a; decide +kernel
/-- Row 123 of the folded table is below 32. -/
theorem row_123 (n : ℕ) : (Cert.BiasRefIdeal.lit0t0_123 n).toNat < 32 := by
  apply list_a; decide +kernel
/-- Row 124 of the folded table is below 32. -/
theorem row_124 (n : ℕ) : (Cert.BiasRefIdeal.lit0t0_124 n).toNat < 32 := by
  apply list_a; decide +kernel
/-- Row 125 of the folded table is below 32. -/
theorem row_125 (n : ℕ) : (Cert.BiasRefIdeal.lit0t0_125 n).toNat < 32 := by
  apply list_a; decide +kernel
/-- Row 126 of the folded table is below 32. -/
theorem row_126 (n : ℕ) : (Cert.BiasRefIdeal.lit0t0_126 n).toNat < 32 := by
  apply list_a; decide +kernel
/-- Row 127 of the folded table is below 32. -/
theorem row_127 (n : ℕ) : (Cert.BiasRefIdeal.lit0t0_127 n).toNat < 32 := by
  apply list_a; decide +kernel
/-- Row 128 of the folded table is below 32. -/
theorem row_128 (n : ℕ) : (Cert.BiasRefIdeal.lit0t0_128 n).toNat < 32 := by
  apply list_a; decide +kernel
/-- Row 129 of the folded table is below 32. -/
theorem row_129 (n : ℕ) : (Cert.BiasRefIdeal.lit0t0_129 n).toNat < 32 := by
  apply list_a; decide +kernel
/-- Row 130 of the folded table is below 32. -/
theorem row_130 (n : ℕ) : (Cert.BiasRefIdeal.lit0t0_130 n).toNat < 32 := by
  apply list_a; decide +kernel
/-- Row 131 of the folded table is below 32. -/
theorem row_131 (n : ℕ) : (Cert.BiasRefIdeal.lit0t0_131 n).toNat < 32 := by
  apply list_a; decide +kernel
/-- Row 132 of the folded table is below 32. -/
theorem row_132 (n : ℕ) : (Cert.BiasRefIdeal.lit0t0_132 n).toNat < 32 := by
  apply list_a; decide +kernel
/-- Row 133 of the folded table is below 32. -/
theorem row_133 (n : ℕ) : (Cert.BiasRefIdeal.lit0t0_133 n).toNat < 32 := by
  apply list_a; decide +kernel
/-- Row 134 of the folded table is below 32. -/
theorem row_134 (n : ℕ) : (Cert.BiasRefIdeal.lit0t0_134 n).toNat < 32 := by
  apply list_a; decide +kernel
/-- Row 135 of the folded table is below 32. -/
theorem row_135 (n : ℕ) : (Cert.BiasRefIdeal.lit0t0_135 n).toNat < 32 := by
  apply list_a; decide +kernel
/-- Row 136 of the folded table is below 32. -/
theorem row_136 (n : ℕ) : (Cert.BiasRefIdeal.lit0t0_136 n).toNat < 32 := by
  apply list_a; decide +kernel
/-- Row 137 of the folded table is below 32. -/
theorem row_137 (n : ℕ) : (Cert.BiasRefIdeal.lit0t0_137 n).toNat < 32 := by
  apply list_a; decide +kernel
/-- Row 138 of the folded table is below 32. -/
theorem row_138 (n : ℕ) : (Cert.BiasRefIdeal.lit0t0_138 n).toNat < 32 := by
  apply list_a; decide +kernel
/-- Row 139 of the folded table is below 32. -/
theorem row_139 (n : ℕ) : (Cert.BiasRefIdeal.lit0t0_139 n).toNat < 32 := by
  apply list_a; decide +kernel
/-- Row 140 of the folded table is below 32. -/
theorem row_140 (n : ℕ) : (Cert.BiasRefIdeal.lit0t0_140 n).toNat < 32 := by
  apply list_a; decide +kernel
/-- Row 141 of the folded table is below 32. -/
theorem row_141 (n : ℕ) : (Cert.BiasRefIdeal.lit0t0_141 n).toNat < 32 := by
  apply list_a; decide +kernel
/-- Row 142 of the folded table is below 32. -/
theorem row_142 (n : ℕ) : (Cert.BiasRefIdeal.lit0t0_142 n).toNat < 32 := by
  apply list_a; decide +kernel
/-- Row 143 of the folded table is below 32. -/
theorem row_143 (n : ℕ) : (Cert.BiasRefIdeal.lit0t0_143 n).toNat < 32 := by
  apply list_a; decide +kernel
/-- Row 144 of the folded table is below 32. -/
theorem row_144 (n : ℕ) : (Cert.BiasRefIdeal.lit0t0_144 n).toNat < 32 := by
  apply list_a; decide +kernel
/-- Row 145 of the folded table is below 32. -/
theorem row_145 (n : ℕ) : (Cert.BiasRefIdeal.lit0t0_145 n).toNat < 32 := by
  apply list_a; decide +kernel
/-- Row 146 of the folded table is below 32. -/
theorem row_146 (n : ℕ) : (Cert.BiasRefIdeal.lit0t0_146 n).toNat < 32 := by
  apply list_a; decide +kernel
/-- Row 147 of the folded table is below 32. -/
theorem row_147 (n : ℕ) : (Cert.BiasRefIdeal.lit0t0_147 n).toNat < 32 := by
  apply list_a; decide +kernel
/-- Row 148 of the folded table is below 32. -/
theorem row_148 (n : ℕ) : (Cert.BiasRefIdeal.lit0t0_148 n).toNat < 32 := by
  apply list_a; decide +kernel
/-- Row 149 of the folded table is below 32. -/
theorem row_149 (n : ℕ) : (Cert.BiasRefIdeal.lit0t0_149 n).toNat < 32 := by
  apply list_a; decide +kernel
/-- Row 150 of the folded table is below 32. -/
theorem row_150 (n : ℕ) : (Cert.BiasRefIdeal.lit0t0_150 n).toNat < 32 := by
  apply list_a; decide +kernel
/-- Row 151 of the folded table is below 32. -/
theorem row_151 (n : ℕ) : (Cert.BiasRefIdeal.lit0t0_151 n).toNat < 32 := by
  apply list_a; decide +kernel
/-- Row 152 of the folded table is below 32. -/
theorem row_152 (n : ℕ) : (Cert.BiasRefIdeal.lit0t0_152 n).toNat < 32 := by
  apply list_a; decide +kernel
/-- Row 153 of the folded table is below 32. -/
theorem row_153 (n : ℕ) : (Cert.BiasRefIdeal.lit0t0_153 n).toNat < 32 := by
  apply list_a; decide +kernel
/-- Row 154 of the folded table is below 32. -/
theorem row_154 (n : ℕ) : (Cert.BiasRefIdeal.lit0t0_154 n).toNat < 32 := by
  apply list_a; decide +kernel
/-- Row 155 of the folded table is below 32. -/
theorem row_155 (n : ℕ) : (Cert.BiasRefIdeal.lit0t0_155 n).toNat < 32 := by
  apply list_a; decide +kernel
/-- Row 156 of the folded table is below 32. -/
theorem row_156 (n : ℕ) : (Cert.BiasRefIdeal.lit0t0_156 n).toNat < 32 := by
  apply list_a; decide +kernel
/-- Row 157 of the folded table is below 32. -/
theorem row_157 (n : ℕ) : (Cert.BiasRefIdeal.lit0t0_157 n).toNat < 32 := by
  apply list_a; decide +kernel
/-- Row 158 of the folded table is below 32. -/
theorem row_158 (n : ℕ) : (Cert.BiasRefIdeal.lit0t0_158 n).toNat < 32 := by
  apply list_a; decide +kernel
/-- Row 159 of the folded table is below 32. -/
theorem row_159 (n : ℕ) : (Cert.BiasRefIdeal.lit0t0_159 n).toNat < 32 := by
  apply list_a; decide +kernel
/-- Row 160 of the folded table is below 32. -/
theorem row_160 (n : ℕ) : (Cert.BiasRefIdeal.lit0t0_160 n).toNat < 32 := by
  apply list_a; decide +kernel
/-- Row 161 of the folded table is below 32. -/
theorem row_161 (n : ℕ) : (Cert.BiasRefIdeal.lit0t0_161 n).toNat < 32 := by
  apply list_a; decide +kernel
/-- Row 162 of the folded table is below 32. -/
theorem row_162 (n : ℕ) : (Cert.BiasRefIdeal.lit0t0_162 n).toNat < 32 := by
  apply list_a; decide +kernel
/-- Row 163 of the folded table is below 32. -/
theorem row_163 (n : ℕ) : (Cert.BiasRefIdeal.lit0t0_163 n).toNat < 32 := by
  apply list_a; decide +kernel
/-- Row 164 of the folded table is below 32. -/
theorem row_164 (n : ℕ) : (Cert.BiasRefIdeal.lit0t0_164 n).toNat < 32 := by
  apply list_a; decide +kernel
/-- Row 165 of the folded table is below 32. -/
theorem row_165 (n : ℕ) : (Cert.BiasRefIdeal.lit0t0_165 n).toNat < 32 := by
  apply list_a; decide +kernel
/-- Row 166 of the folded table is below 32. -/
theorem row_166 (n : ℕ) : (Cert.BiasRefIdeal.lit0t0_166 n).toNat < 32 := by
  apply list_a; decide +kernel
/-- Row 167 of the folded table is below 32. -/
theorem row_167 (n : ℕ) : (Cert.BiasRefIdeal.lit0t0_167 n).toNat < 32 := by
  apply list_a; decide +kernel
/-- Row 168 of the folded table is below 32. -/
theorem row_168 (n : ℕ) : (Cert.BiasRefIdeal.lit0t0_168 n).toNat < 32 := by
  apply list_a; decide +kernel
/-- Row 169 of the folded table is below 32. -/
theorem row_169 (n : ℕ) : (Cert.BiasRefIdeal.lit0t0_169 n).toNat < 32 := by
  apply list_a; decide +kernel
/-- Row 170 of the folded table is below 32. -/
theorem row_170 (n : ℕ) : (Cert.BiasRefIdeal.lit0t0_170 n).toNat < 32 := by
  apply list_a; decide +kernel
/-- Row 171 of the folded table is below 32. -/
theorem row_171 (n : ℕ) : (Cert.BiasRefIdeal.lit0t0_171 n).toNat < 32 := by
  apply list_a; decide +kernel
/-- Row 172 of the folded table is below 32. -/
theorem row_172 (n : ℕ) : (Cert.BiasRefIdeal.lit0t0_172 n).toNat < 32 := by
  apply list_a; decide +kernel
/-- Row 173 of the folded table is below 32. -/
theorem row_173 (n : ℕ) : (Cert.BiasRefIdeal.lit0t0_173 n).toNat < 32 := by
  apply list_a; decide +kernel
/-- Row 174 of the folded table is below 32. -/
theorem row_174 (n : ℕ) : (Cert.BiasRefIdeal.lit0t0_174 n).toNat < 32 := by
  apply list_a; decide +kernel
/-- Row 175 of the folded table is below 32. -/
theorem row_175 (n : ℕ) : (Cert.BiasRefIdeal.lit0t0_175 n).toNat < 32 := by
  apply list_a; decide +kernel
/-- Row 176 of the folded table is below 32. -/
theorem row_176 (n : ℕ) : (Cert.BiasRefIdeal.lit0t0_176 n).toNat < 32 := by
  apply list_a; decide +kernel
/-- Row 177 of the folded table is below 32. -/
theorem row_177 (n : ℕ) : (Cert.BiasRefIdeal.lit0t0_177 n).toNat < 32 := by
  apply list_a; decide +kernel
/-- Row 178 of the folded table is below 32. -/
theorem row_178 (n : ℕ) : (Cert.BiasRefIdeal.lit0t0_178 n).toNat < 32 := by
  apply list_a; decide +kernel
/-- Row 179 of the folded table is below 32. -/
theorem row_179 (n : ℕ) : (Cert.BiasRefIdeal.lit0t0_179 n).toNat < 32 := by
  apply list_a; decide +kernel
/-- Row 180 of the folded table is below 32. -/
theorem row_180 (n : ℕ) : (Cert.BiasRefIdeal.lit0t0_180 n).toNat < 32 := by
  apply list_a; decide +kernel
/-- Row 181 of the folded table is below 32. -/
theorem row_181 (n : ℕ) : (Cert.BiasRefIdeal.lit0t0_181 n).toNat < 32 := by
  apply list_a; decide +kernel
/-- Row 182 of the folded table is below 32. -/
theorem row_182 (n : ℕ) : (Cert.BiasRefIdeal.lit0t0_182 n).toNat < 32 := by
  apply list_a; decide +kernel
/-- Row 183 of the folded table is below 32. -/
theorem row_183 (n : ℕ) : (Cert.BiasRefIdeal.lit0t0_183 n).toNat < 32 := by
  apply list_a; decide +kernel
/-- Row 184 of the folded table is below 32. -/
theorem row_184 (n : ℕ) : (Cert.BiasRefIdeal.lit0t0_184 n).toNat < 32 := by
  apply list_a; decide +kernel
/-- Row 185 of the folded table is below 32. -/
theorem row_185 (n : ℕ) : (Cert.BiasRefIdeal.lit0t0_185 n).toNat < 32 := by
  apply list_a; decide +kernel
/-- Row 186 of the folded table is below 32. -/
theorem row_186 (n : ℕ) : (Cert.BiasRefIdeal.lit0t0_186 n).toNat < 32 := by
  apply list_a; decide +kernel
/-- Row 187 of the folded table is below 32. -/
theorem row_187 (n : ℕ) : (Cert.BiasRefIdeal.lit0t0_187 n).toNat < 32 := by
  apply list_a; decide +kernel
/-- Row 188 of the folded table is below 32. -/
theorem row_188 (n : ℕ) : (Cert.BiasRefIdeal.lit0t0_188 n).toNat < 32 := by
  apply list_a; decide +kernel
/-- Row 189 of the folded table is below 32. -/
theorem row_189 (n : ℕ) : (Cert.BiasRefIdeal.lit0t0_189 n).toNat < 32 := by
  apply list_a; decide +kernel
/-- Row 190 of the folded table is below 32. -/
theorem row_190 (n : ℕ) : (Cert.BiasRefIdeal.lit0t0_190 n).toNat < 32 := by
  apply list_a; decide +kernel
/-- Row 191 of the folded table is below 32. -/
theorem row_191 (n : ℕ) : (Cert.BiasRefIdeal.lit0t0_191 n).toNat < 32 := by
  apply list_a; decide +kernel
/-- Row 192 of the folded table is below 32. -/
theorem row_192 (n : ℕ) : (Cert.BiasRefIdeal.lit0t0_192 n).toNat < 32 := by
  apply list_a; decide +kernel
/-- Row 193 of the folded table is below 32. -/
theorem row_193 (n : ℕ) : (Cert.BiasRefIdeal.lit0t0_193 n).toNat < 32 := by
  apply list_a; decide +kernel
/-- Row 194 of the folded table is below 32. -/
theorem row_194 (n : ℕ) : (Cert.BiasRefIdeal.lit0t0_194 n).toNat < 32 := by
  apply list_a; decide +kernel
/-- Row 195 of the folded table is below 32. -/
theorem row_195 (n : ℕ) : (Cert.BiasRefIdeal.lit0t0_195 n).toNat < 32 := by
  apply list_a; decide +kernel
/-- Row 196 of the folded table is below 32. -/
theorem row_196 (n : ℕ) : (Cert.BiasRefIdeal.lit0t0_196 n).toNat < 32 := by
  apply list_a; decide +kernel
/-- Row 197 of the folded table is below 32. -/
theorem row_197 (n : ℕ) : (Cert.BiasRefIdeal.lit0t0_197 n).toNat < 32 := by
  apply list_b; decide +kernel
/-- Row 198 of the folded table is below 32. -/
theorem row_198 (n : ℕ) : (Cert.BiasRefIdeal.lit0t0_198 n).toNat < 32 := by
  apply list_b; decide +kernel
/-- Row 199 of the folded table is below 32. -/
theorem row_199 (n : ℕ) : (Cert.BiasRefIdeal.lit0t0_199 n).toNat < 32 := by
  apply list_b; decide +kernel
/-- Row 200 of the folded table is below 32. -/
theorem row_200 (n : ℕ) : (Cert.BiasRefIdeal.lit0t0_200 n).toNat < 32 := by
  apply list_b; decide +kernel
/-- Row 201 of the folded table is below 32. -/
theorem row_201 (n : ℕ) : (Cert.BiasRefIdeal.lit0t0_201 n).toNat < 32 := by
  apply list_b; decide +kernel
/-- Row 202 of the folded table is below 32. -/
theorem row_202 (n : ℕ) : (Cert.BiasRefIdeal.lit0t0_202 n).toNat < 32 := by
  apply list_b; decide +kernel
/-- Row 203 of the folded table is below 32. -/
theorem row_203 (n : ℕ) : (Cert.BiasRefIdeal.lit0t0_203 n).toNat < 32 := by
  apply list_b; decide +kernel
/-- Row 204 of the folded table is below 32. -/
theorem row_204 (n : ℕ) : (Cert.BiasRefIdeal.lit0t0_204 n).toNat < 32 := by
  apply list_b; decide +kernel
/-- Row 205 of the folded table is below 32. -/
theorem row_205 (n : ℕ) : (Cert.BiasRefIdeal.lit0t0_205 n).toNat < 32 := by
  apply list_b; decide +kernel
/-- Row 206 of the folded table is below 32. -/
theorem row_206 (n : ℕ) : (Cert.BiasRefIdeal.lit0t0_206 n).toNat < 32 := by
  apply list_b; decide +kernel
/-- Row 207 of the folded table is below 32. -/
theorem row_207 (n : ℕ) : (Cert.BiasRefIdeal.lit0t0_207 n).toNat < 32 := by
  apply list_b; decide +kernel
/-- Row 208 of the folded table is below 32. -/
theorem row_208 (n : ℕ) : (Cert.BiasRefIdeal.lit0t0_208 n).toNat < 32 := by
  apply list_b; decide +kernel
/-- Row 209 of the folded table is below 32. -/
theorem row_209 (n : ℕ) : (Cert.BiasRefIdeal.lit0t0_209 n).toNat < 32 := by
  apply list_b; decide +kernel
/-- Row 210 of the folded table is below 32. -/
theorem row_210 (n : ℕ) : (Cert.BiasRefIdeal.lit0t0_210 n).toNat < 32 := by
  apply list_b; decide +kernel
/-- Row 211 of the folded table is below 32. -/
theorem row_211 (n : ℕ) : (Cert.BiasRefIdeal.lit0t0_211 n).toNat < 32 := by
  apply list_b; decide +kernel
/-- Row 212 of the folded table is below 32. -/
theorem row_212 (n : ℕ) : (Cert.BiasRefIdeal.lit0t0_212 n).toNat < 32 := by
  apply list_b; decide +kernel
/-- Row 213 of the folded table is below 32. -/
theorem row_213 (n : ℕ) : (Cert.BiasRefIdeal.lit0t0_213 n).toNat < 32 := by
  apply list_b; decide +kernel
/-- Row 214 of the folded table is below 32. -/
theorem row_214 (n : ℕ) : (Cert.BiasRefIdeal.lit0t0_214 n).toNat < 32 := by
  apply list_b; decide +kernel
/-- Row 215 of the folded table is below 32. -/
theorem row_215 (n : ℕ) : (Cert.BiasRefIdeal.lit0t0_215 n).toNat < 32 := by
  apply list_b; decide +kernel
/-- Row 216 of the folded table is below 32. -/
theorem row_216 (n : ℕ) : (Cert.BiasRefIdeal.lit0t0_216 n).toNat < 32 := by
  apply list_b; decide +kernel
/-- Row 217 of the folded table is below 32. -/
theorem row_217 (n : ℕ) : (Cert.BiasRefIdeal.lit0t0_217 n).toNat < 32 := by
  apply list_b; decide +kernel
/-- Row 218 of the folded table is below 32. -/
theorem row_218 (n : ℕ) : (Cert.BiasRefIdeal.lit0t0_218 n).toNat < 32 := by
  apply list_b; decide +kernel
/-- Row 219 of the folded table is below 32. -/
theorem row_219 (n : ℕ) : (Cert.BiasRefIdeal.lit0t0_219 n).toNat < 32 := by
  apply list_b; decide +kernel
/-- Row 220 of the folded table is below 32. -/
theorem row_220 (n : ℕ) : (Cert.BiasRefIdeal.lit0t0_220 n).toNat < 32 := by
  apply list_b; decide +kernel
/-- Row 221 of the folded table is below 32. -/
theorem row_221 (n : ℕ) : (Cert.BiasRefIdeal.lit0t0_221 n).toNat < 32 := by
  apply list_b; decide +kernel
/-- Row 222 of the folded table is below 32. -/
theorem row_222 (n : ℕ) : (Cert.BiasRefIdeal.lit0t0_222 n).toNat < 32 := by
  apply list_b; decide +kernel
/-- Row 223 of the folded table is below 32. -/
theorem row_223 (n : ℕ) : (Cert.BiasRefIdeal.lit0t0_223 n).toNat < 32 := by
  apply list_b; decide +kernel
/-- Row 224 of the folded table is below 32. -/
theorem row_224 (n : ℕ) : (Cert.BiasRefIdeal.lit0t0_224 n).toNat < 32 := by
  apply list_b; decide +kernel
/-- Row 225 of the folded table is below 32. -/
theorem row_225 (n : ℕ) : (Cert.BiasRefIdeal.lit0t0_225 n).toNat < 32 := by
  apply list_b; decide +kernel
/-- Row 226 of the folded table is below 32. -/
theorem row_226 (n : ℕ) : (Cert.BiasRefIdeal.lit0t0_226 n).toNat < 32 := by
  apply list_b; decide +kernel
/-- Row 227 of the folded table is below 32. -/
theorem row_227 (n : ℕ) : (Cert.BiasRefIdeal.lit0t0_227 n).toNat < 32 := by
  apply list_b; decide +kernel
/-- Row 228 of the folded table is below 32. -/
theorem row_228 (n : ℕ) : (Cert.BiasRefIdeal.lit0t0_228 n).toNat < 32 := by
  apply list_b; decide +kernel
/-- Row 229 of the folded table is below 32. -/
theorem row_229 (n : ℕ) : (Cert.BiasRefIdeal.lit0t0_229 n).toNat < 32 := by
  apply list_b; decide +kernel
/-- Row 230 of the folded table is below 32. -/
theorem row_230 (n : ℕ) : (Cert.BiasRefIdeal.lit0t0_230 n).toNat < 32 := by
  apply list_b; decide +kernel
/-- Row 231 of the folded table is below 32. -/
theorem row_231 (n : ℕ) : (Cert.BiasRefIdeal.lit0t0_231 n).toNat < 32 := by
  apply list_b; decide +kernel
/-- Row 232 of the folded table is below 32. -/
theorem row_232 (n : ℕ) : (Cert.BiasRefIdeal.lit0t0_232 n).toNat < 32 := by
  apply list_b; decide +kernel
/-- Row 233 of the folded table is below 32. -/
theorem row_233 (n : ℕ) : (Cert.BiasRefIdeal.lit0t0_233 n).toNat < 32 := by
  apply list_b; decide +kernel
/-- Row 234 of the folded table is below 32. -/
theorem row_234 (n : ℕ) : (Cert.BiasRefIdeal.lit0t0_234 n).toNat < 32 := by
  apply list_b; decide +kernel
/-- Row 235 of the folded table is below 32. -/
theorem row_235 (n : ℕ) : (Cert.BiasRefIdeal.lit0t0_235 n).toNat < 32 := by
  apply list_b; decide +kernel
/-- Row 236 of the folded table is below 32. -/
theorem row_236 (n : ℕ) : (Cert.BiasRefIdeal.lit0t0_236 n).toNat < 32 := by
  apply list_b; decide +kernel
/-- Row 237 of the folded table is below 32. -/
theorem row_237 (n : ℕ) : (Cert.BiasRefIdeal.lit0t0_237 n).toNat < 32 := by
  apply list_b; decide +kernel
/-- Row 238 of the folded table is below 32. -/
theorem row_238 (n : ℕ) : (Cert.BiasRefIdeal.lit0t0_238 n).toNat < 32 := by
  apply list_b; decide +kernel
/-- Row 239 of the folded table is below 32. -/
theorem row_239 (n : ℕ) : (Cert.BiasRefIdeal.lit0t0_239 n).toNat < 32 := by
  apply list_b; decide +kernel
/-- Row 240 of the folded table is below 32. -/
theorem row_240 (n : ℕ) : (Cert.BiasRefIdeal.lit0t0_240 n).toNat < 32 := by
  apply list_b; decide +kernel
/-- Row 241 of the folded table is below 32. -/
theorem row_241 (n : ℕ) : (Cert.BiasRefIdeal.lit0t0_241 n).toNat < 32 := by
  apply list_b; decide +kernel
/-- Row 242 of the folded table is below 32. -/
theorem row_242 (n : ℕ) : (Cert.BiasRefIdeal.lit0t0_242 n).toNat < 32 := by
  apply list_b; decide +kernel
/-- Row 243 of the folded table is below 32. -/
theorem row_243 (n : ℕ) : (Cert.BiasRefIdeal.lit0t0_243 n).toNat < 32 := by
  apply list_b; decide +kernel
/-- Row 244 of the folded table is below 32. -/
theorem row_244 (n : ℕ) : (Cert.BiasRefIdeal.lit0t0_244 n).toNat < 32 := by
  apply list_b; decide +kernel
/-- Row 245 of the folded table is below 32. -/
theorem row_245 (n : ℕ) : (Cert.BiasRefIdeal.lit0t0_245 n).toNat < 32 := by
  apply list_b; decide +kernel
/-- Row 246 of the folded table is below 32. -/
theorem row_246 (n : ℕ) : (Cert.BiasRefIdeal.lit0t0_246 n).toNat < 32 := by
  apply list_b; decide +kernel
/-- Row 247 of the folded table is below 32. -/
theorem row_247 (n : ℕ) : (Cert.BiasRefIdeal.lit0t0_247 n).toNat < 32 := by
  apply list_b; decide +kernel
/-- Row 248 of the folded table is below 32. -/
theorem row_248 (n : ℕ) : (Cert.BiasRefIdeal.lit0t0_248 n).toNat < 32 := by
  apply list_b; decide +kernel
/-- Row 249 of the folded table is below 32. -/
theorem row_249 (n : ℕ) : (Cert.BiasRefIdeal.lit0t0_249 n).toNat < 32 := by
  apply list_b; decide +kernel
/-- Row 250 of the folded table is below 32. -/
theorem row_250 (n : ℕ) : (Cert.BiasRefIdeal.lit0t0_250 n).toNat < 32 := by
  apply list_b; decide +kernel
/-- Row 251 of the folded table is below 32. -/
theorem row_251 (n : ℕ) : (Cert.BiasRefIdeal.lit0t0_251 n).toNat < 32 := by
  apply list_b; decide +kernel
/-- Row 252 of the folded table is below 32. -/
theorem row_252 (n : ℕ) : (Cert.BiasRefIdeal.lit0t0_252 n).toNat < 32 := by
  apply list_b; decide +kernel
/-- Row 253 of the folded table is below 32. -/
theorem row_253 (n : ℕ) : (Cert.BiasRefIdeal.lit0t0_253 n).toNat < 32 := by
  apply list_b; decide +kernel
/-- Row 254 of the folded table is below 32. -/
theorem row_254 (n : ℕ) : (Cert.BiasRefIdeal.lit0t0_254 n).toNat < 32 := by
  apply list_b; decide +kernel
/-- Row 255 of the folded table is below 32. -/
theorem row_255 (n : ℕ) : (Cert.BiasRefIdeal.lit0t0_255 n).toNat < 32 := by
  apply list_b; decide +kernel
/-- Row 256 of the folded table is below 32. -/
theorem row_256 (n : ℕ) : (Cert.BiasRefIdeal.lit0t0_256 n).toNat < 32 := by
  apply list_b; decide +kernel
/-- Row 257 of the folded table is below 32. -/
theorem row_257 (n : ℕ) : (Cert.BiasRefIdeal.lit0t0_257 n).toNat < 32 := by
  apply list_b; decide +kernel
/-- Row 258 of the folded table is below 32. -/
theorem row_258 (n : ℕ) : (Cert.BiasRefIdeal.lit0t0_258 n).toNat < 32 := by
  apply list_b; decide +kernel
/-- Row 259 of the folded table is below 32. -/
theorem row_259 (n : ℕ) : (Cert.BiasRefIdeal.lit0t0_259 n).toNat < 32 := by
  apply list_b; decide +kernel
/-- Row 260 of the folded table is below 32. -/
theorem row_260 (n : ℕ) : (Cert.BiasRefIdeal.lit0t0_260 n).toNat < 32 := by
  apply list_b; decide +kernel
/-- Row 261 of the folded table is below 32. -/
theorem row_261 (n : ℕ) : (Cert.BiasRefIdeal.lit0t0_261 n).toNat < 32 := by
  apply list_b; decide +kernel
/-- Row 262 of the folded table is below 32. -/
theorem row_262 (n : ℕ) : (Cert.BiasRefIdeal.lit0t0_262 n).toNat < 32 := by
  apply list_b; decide +kernel
/-- Row 263 of the folded table is below 32. -/
theorem row_263 (n : ℕ) : (Cert.BiasRefIdeal.lit0t0_263 n).toNat < 32 := by
  apply list_b; decide +kernel
/-- Row 264 of the folded table is below 32. -/
theorem row_264 (n : ℕ) : (Cert.BiasRefIdeal.lit0t0_264 n).toNat < 32 := by
  apply list_b; decide +kernel
/-- Row 265 of the folded table is below 32. -/
theorem row_265 (n : ℕ) : (Cert.BiasRefIdeal.lit0t0_265 n).toNat < 32 := by
  apply list_b; decide +kernel
/-- Row 266 of the folded table is below 32. -/
theorem row_266 (n : ℕ) : (Cert.BiasRefIdeal.lit0t0_266 n).toNat < 32 := by
  apply list_b; decide +kernel
/-- Row 267 of the folded table is below 32. -/
theorem row_267 (n : ℕ) : (Cert.BiasRefIdeal.lit0t0_267 n).toNat < 32 := by
  apply list_b; decide +kernel
/-- Row 268 of the folded table is below 32. -/
theorem row_268 (n : ℕ) : (Cert.BiasRefIdeal.lit0t0_268 n).toNat < 32 := by
  apply list_b; decide +kernel
/-- Row 269 of the folded table is below 32. -/
theorem row_269 (n : ℕ) : (Cert.BiasRefIdeal.lit0t0_269 n).toNat < 32 := by
  apply list_b; decide +kernel
/-- Row 270 of the folded table is below 32. -/
theorem row_270 (n : ℕ) : (Cert.BiasRefIdeal.lit0t0_270 n).toNat < 32 := by
  apply list_b; decide +kernel
/-- Row 271 of the folded table is below 32. -/
theorem row_271 (n : ℕ) : (Cert.BiasRefIdeal.lit0t0_271 n).toNat < 32 := by
  apply list_b; decide +kernel
/-- Row 272 of the folded table is below 32. -/
theorem row_272 (n : ℕ) : (Cert.BiasRefIdeal.lit0t0_272 n).toNat < 32 := by
  apply list_b; decide +kernel
/-- Row 273 of the folded table is below 32. -/
theorem row_273 (n : ℕ) : (Cert.BiasRefIdeal.lit0t0_273 n).toNat < 32 := by
  apply list_b; decide +kernel
/-- Row 274 of the folded table is below 32. -/
theorem row_274 (n : ℕ) : (Cert.BiasRefIdeal.lit0t0_274 n).toNat < 32 := by
  apply list_b; decide +kernel
/-- Row 275 of the folded table is below 32. -/
theorem row_275 (n : ℕ) : (Cert.BiasRefIdeal.lit0t0_275 n).toNat < 32 := by
  apply list_b; decide +kernel
/-- Row 276 of the folded table is below 32. -/
theorem row_276 (n : ℕ) : (Cert.BiasRefIdeal.lit0t0_276 n).toNat < 32 := by
  apply list_b; decide +kernel
/-- Row 277 of the folded table is below 32. -/
theorem row_277 (n : ℕ) : (Cert.BiasRefIdeal.lit0t0_277 n).toNat < 32 := by
  apply list_b; decide +kernel
/-- Row 278 of the folded table is below 32. -/
theorem row_278 (n : ℕ) : (Cert.BiasRefIdeal.lit0t0_278 n).toNat < 32 := by
  apply list_b; decide +kernel
/-- Row 279 of the folded table is below 32. -/
theorem row_279 (n : ℕ) : (Cert.BiasRefIdeal.lit0t0_279 n).toNat < 32 := by
  apply list_b; decide +kernel
/-- Row 280 of the folded table is below 32. -/
theorem row_280 (n : ℕ) : (Cert.BiasRefIdeal.lit0t0_280 n).toNat < 32 := by
  apply list_b; decide +kernel
/-- Row 281 of the folded table is below 32. -/
theorem row_281 (n : ℕ) : (Cert.BiasRefIdeal.lit0t0_281 n).toNat < 32 := by
  apply list_b; decide +kernel
/-- Row 282 of the folded table is below 32. -/
theorem row_282 (n : ℕ) : (Cert.BiasRefIdeal.lit0t0_282 n).toNat < 32 := by
  apply list_b; decide +kernel
/-- Row 283 of the folded table is below 32. -/
theorem row_283 (n : ℕ) : (Cert.BiasRefIdeal.lit0t0_283 n).toNat < 32 := by
  apply list_b; decide +kernel
/-- Row 284 of the folded table is below 32. -/
theorem row_284 (n : ℕ) : (Cert.BiasRefIdeal.lit0t0_284 n).toNat < 32 := by
  apply list_b; decide +kernel
/-- Row 285 of the folded table is below 32. -/
theorem row_285 (n : ℕ) : (Cert.BiasRefIdeal.lit0t0_285 n).toNat < 32 := by
  apply list_b; decide +kernel
/-- Row 286 of the folded table is below 32. -/
theorem row_286 (n : ℕ) : (Cert.BiasRefIdeal.lit0t0_286 n).toNat < 32 := by
  apply list_b; decide +kernel
/-- Row 287 of the folded table is below 32. -/
theorem row_287 (n : ℕ) : (Cert.BiasRefIdeal.lit0t0_287 n).toNat < 32 := by
  apply list_b; decide +kernel
/-- Row 288 of the folded table is below 32. -/
theorem row_288 (n : ℕ) : (Cert.BiasRefIdeal.lit0t0_288 n).toNat < 32 := by
  apply list_b; decide +kernel
/-- Row 289 of the folded table is below 32. -/
theorem row_289 (n : ℕ) : (Cert.BiasRefIdeal.lit0t0_289 n).toNat < 32 := by
  apply list_b; decide +kernel
/-- Row 290 of the folded table is below 32. -/
theorem row_290 (n : ℕ) : (Cert.BiasRefIdeal.lit0t0_290 n).toNat < 32 := by
  apply list_b; decide +kernel
/-- Row 291 of the folded table is below 32. -/
theorem row_291 (n : ℕ) : (Cert.BiasRefIdeal.lit0t0_291 n).toNat < 32 := by
  apply list_b; decide +kernel
/-- Row 292 of the folded table is below 32. -/
theorem row_292 (n : ℕ) : (Cert.BiasRefIdeal.lit0t0_292 n).toNat < 32 := by
  apply list_b; decide +kernel
/-- Row 293 of the folded table is below 32. -/
theorem row_293 (n : ℕ) : (Cert.BiasRefIdeal.lit0t0_293 n).toNat < 32 := by
  apply list_b; decide +kernel
/-- Row 294 of the folded table is below 32. -/
theorem row_294 (n : ℕ) : (Cert.BiasRefIdeal.lit0t0_294 n).toNat < 32 := by
  apply list_b; decide +kernel
/-- Row 295 of the folded table is below 32. -/
theorem row_295 (n : ℕ) : (Cert.BiasRefIdeal.lit0t0_295 n).toNat < 32 := by
  apply list_b; decide +kernel
/-- Row 296 of the folded table is below 32. -/
theorem row_296 (n : ℕ) : (Cert.BiasRefIdeal.lit0t0_296 n).toNat < 32 := by
  apply list_b; decide +kernel
/-- Row 297 of the folded table is below 32. -/
theorem row_297 (n : ℕ) : (Cert.BiasRefIdeal.lit0t0_297 n).toNat < 32 := by
  apply list_b; decide +kernel
/-- Row 298 of the folded table is below 32. -/
theorem row_298 (n : ℕ) : (Cert.BiasRefIdeal.lit0t0_298 n).toNat < 32 := by
  apply list_b; decide +kernel
/-- Row 299 of the folded table is below 32. -/
theorem row_299 (n : ℕ) : (Cert.BiasRefIdeal.lit0t0_299 n).toNat < 32 := by
  apply list_b; decide +kernel
/-- Row 300 of the folded table is below 32. -/
theorem row_300 (n : ℕ) : (Cert.BiasRefIdeal.lit0t0_300 n).toNat < 32 := by
  apply list_b; decide +kernel
/-- Row 301 of the folded table is below 32. -/
theorem row_301 (n : ℕ) : (Cert.BiasRefIdeal.lit0t0_301 n).toNat < 32 := by
  apply list_b; decide +kernel
/-- Row 302 of the folded table is below 32. -/
theorem row_302 (n : ℕ) : (Cert.BiasRefIdeal.lit0t0_302 n).toNat < 32 := by
  apply list_b; decide +kernel
/-- Row 303 of the folded table is below 32. -/
theorem row_303 (n : ℕ) : (Cert.BiasRefIdeal.lit0t0_303 n).toNat < 32 := by
  apply list_b; decide +kernel
/-- Row 304 of the folded table is below 32. -/
theorem row_304 (n : ℕ) : (Cert.BiasRefIdeal.lit0t0_304 n).toNat < 32 := by
  apply list_b; decide +kernel
/-- Row 305 of the folded table is below 32. -/
theorem row_305 (n : ℕ) : (Cert.BiasRefIdeal.lit0t0_305 n).toNat < 32 := by
  apply list_b; decide +kernel
/-- Row 306 of the folded table is below 32. -/
theorem row_306 (n : ℕ) : (Cert.BiasRefIdeal.lit0t0_306 n).toNat < 32 := by
  apply list_b; decide +kernel
/-- Row 307 of the folded table is below 32. -/
theorem row_307 (n : ℕ) : (Cert.BiasRefIdeal.lit0t0_307 n).toNat < 32 := by
  apply list_b; decide +kernel
/-- Row 308 of the folded table is below 32. -/
theorem row_308 (n : ℕ) : (Cert.BiasRefIdeal.lit0t0_308 n).toNat < 32 := by
  apply list_b; decide +kernel
/-- Row 309 of the folded table is below 32. -/
theorem row_309 (n : ℕ) : (Cert.BiasRefIdeal.lit0t0_309 n).toNat < 32 := by
  apply list_b; decide +kernel
/-- Row 310 of the folded table is below 32. -/
theorem row_310 (n : ℕ) : (Cert.BiasRefIdeal.lit0t0_310 n).toNat < 32 := by
  apply list_b; decide +kernel
/-- Row 311 of the folded table is below 32. -/
theorem row_311 (n : ℕ) : (Cert.BiasRefIdeal.lit0t0_311 n).toNat < 32 := by
  apply list_b; decide +kernel
/-- Row 312 of the folded table is below 32. -/
theorem row_312 (n : ℕ) : (Cert.BiasRefIdeal.lit0t0_312 n).toNat < 32 := by
  apply list_b; decide +kernel
/-- Row 313 of the folded table is below 32. -/
theorem row_313 (n : ℕ) : (Cert.BiasRefIdeal.lit0t0_313 n).toNat < 32 := by
  apply list_b; decide +kernel
/-- Row 314 of the folded table is below 32. -/
theorem row_314 (n : ℕ) : (Cert.BiasRefIdeal.lit0t0_314 n).toNat < 32 := by
  apply list_b; decide +kernel
/-- Row 315 of the folded table is below 32. -/
theorem row_315 (n : ℕ) : (Cert.BiasRefIdeal.lit0t0_315 n).toNat < 32 := by
  apply list_b; decide +kernel
/-- Row 316 of the folded table is below 32. -/
theorem row_316 (n : ℕ) : (Cert.BiasRefIdeal.lit0t0_316 n).toNat < 32 := by
  apply list_b; decide +kernel
/-- Row 317 of the folded table is below 32. -/
theorem row_317 (n : ℕ) : (Cert.BiasRefIdeal.lit0t0_317 n).toNat < 32 := by
  apply list_b; decide +kernel
/-- Row 318 of the folded table is below 32. -/
theorem row_318 (n : ℕ) : (Cert.BiasRefIdeal.lit0t0_318 n).toNat < 32 := by
  apply list_b; decide +kernel
/-- Row 319 of the folded table is below 32. -/
theorem row_319 (n : ℕ) : (Cert.BiasRefIdeal.lit0t0_319 n).toNat < 32 := by
  apply list_b; decide +kernel
/-- Row 320 of the folded table is below 32. -/
theorem row_320 (n : ℕ) : (Cert.BiasRefIdeal.lit0t0_320 n).toNat < 32 := by
  apply list_b; decide +kernel
/-- Row 321 of the folded table is below 32. -/
theorem row_321 (n : ℕ) : (Cert.BiasRefIdeal.lit0t0_321 n).toNat < 32 := by
  apply list_b; decide +kernel
/-- Row 322 of the folded table is below 32. -/
theorem row_322 (n : ℕ) : (Cert.BiasRefIdeal.lit0t0_322 n).toNat < 32 := by
  apply list_b; decide +kernel
/-- Row 323 of the folded table is below 32. -/
theorem row_323 (n : ℕ) : (Cert.BiasRefIdeal.lit0t0_323 n).toNat < 32 := by
  apply list_b; decide +kernel
/-- Row 324 of the folded table is below 32. -/
theorem row_324 (n : ℕ) : (Cert.BiasRefIdeal.lit0t0_324 n).toNat < 32 := by
  apply list_b; decide +kernel
/-- Row 325 of the folded table is below 32. -/
theorem row_325 (n : ℕ) : (Cert.BiasRefIdeal.lit0t0_325 n).toNat < 32 := by
  apply list_b; decide +kernel
/-- Row 326 of the folded table is below 32. -/
theorem row_326 (n : ℕ) : (Cert.BiasRefIdeal.lit0t0_326 n).toNat < 32 := by
  apply list_b; decide +kernel
/-- Row 327 of the folded table is below 32. -/
theorem row_327 (n : ℕ) : (Cert.BiasRefIdeal.lit0t0_327 n).toNat < 32 := by
  apply list_b; decide +kernel
/-- Row 328 of the folded table is below 32. -/
theorem row_328 (n : ℕ) : (Cert.BiasRefIdeal.lit0t0_328 n).toNat < 32 := by
  apply list_b; decide +kernel
/-- Row 329 of the folded table is below 32. -/
theorem row_329 (n : ℕ) : (Cert.BiasRefIdeal.lit0t0_329 n).toNat < 32 := by
  apply list_b; decide +kernel
/-- Row 330 of the folded table is below 32. -/
theorem row_330 (n : ℕ) : (Cert.BiasRefIdeal.lit0t0_330 n).toNat < 32 := by
  apply list_b; decide +kernel
/-- Row 331 of the folded table is below 32. -/
theorem row_331 (n : ℕ) : (Cert.BiasRefIdeal.lit0t0_331 n).toNat < 32 := by
  apply list_b; decide +kernel
/-- Row 332 of the folded table is below 32. -/
theorem row_332 (n : ℕ) : (Cert.BiasRefIdeal.lit0t0_332 n).toNat < 32 := by
  apply list_b; decide +kernel
/-- Row 333 of the folded table is below 32. -/
theorem row_333 (n : ℕ) : (Cert.BiasRefIdeal.lit0t0_333 n).toNat < 32 := by
  apply list_b; decide +kernel
/-- Row 334 of the folded table is below 32. -/
theorem row_334 (n : ℕ) : (Cert.BiasRefIdeal.lit0t0_334 n).toNat < 32 := by
  apply list_b; decide +kernel
/-- Row 335 of the folded table is below 32. -/
theorem row_335 (n : ℕ) : (Cert.BiasRefIdeal.lit0t0_335 n).toNat < 32 := by
  apply list_b; decide +kernel
/-- Row 336 of the folded table is below 32. -/
theorem row_336 (n : ℕ) : (Cert.BiasRefIdeal.lit0t0_336 n).toNat < 32 := by
  apply list_b; decide +kernel
/-- Row 337 of the folded table is below 32. -/
theorem row_337 (n : ℕ) : (Cert.BiasRefIdeal.lit0t0_337 n).toNat < 32 := by
  apply list_b; decide +kernel
/-- Row 338 of the folded table is below 32. -/
theorem row_338 (n : ℕ) : (Cert.BiasRefIdeal.lit0t0_338 n).toNat < 32 := by
  apply list_b; decide +kernel
/-- Row 339 of the folded table is below 32. -/
theorem row_339 (n : ℕ) : (Cert.BiasRefIdeal.lit0t0_339 n).toNat < 32 := by
  apply list_b; decide +kernel
/-- Row 340 of the folded table is below 32. -/
theorem row_340 (n : ℕ) : (Cert.BiasRefIdeal.lit0t0_340 n).toNat < 32 := by
  apply list_b; decide +kernel
/-- Row 341 of the folded table is below 32. -/
theorem row_341 (n : ℕ) : (Cert.BiasRefIdeal.lit0t0_341 n).toNat < 32 := by
  apply list_b; decide +kernel
/-- Row 342 of the folded table is below 32. -/
theorem row_342 (n : ℕ) : (Cert.BiasRefIdeal.lit0t0_342 n).toNat < 32 := by
  apply list_b; decide +kernel
/-- Row 343 of the folded table is below 32. -/
theorem row_343 (n : ℕ) : (Cert.BiasRefIdeal.lit0t0_343 n).toNat < 32 := by
  apply list_b; decide +kernel
/-- Row 344 of the folded table is below 32. -/
theorem row_344 (n : ℕ) : (Cert.BiasRefIdeal.lit0t0_344 n).toNat < 32 := by
  apply list_b; decide +kernel
/-- Row 345 of the folded table is below 32. -/
theorem row_345 (n : ℕ) : (Cert.BiasRefIdeal.lit0t0_345 n).toNat < 32 := by
  apply list_b; decide +kernel
/-- Row 346 of the folded table is below 32. -/
theorem row_346 (n : ℕ) : (Cert.BiasRefIdeal.lit0t0_346 n).toNat < 32 := by
  apply list_b; decide +kernel
/-- Row 347 of the folded table is below 32. -/
theorem row_347 (n : ℕ) : (Cert.BiasRefIdeal.lit0t0_347 n).toNat < 32 := by
  apply list_b; decide +kernel
/-- Row 348 of the folded table is below 32. -/
theorem row_348 (n : ℕ) : (Cert.BiasRefIdeal.lit0t0_348 n).toNat < 32 := by
  apply list_b; decide +kernel
/-- Row 349 of the folded table is below 32. -/
theorem row_349 (n : ℕ) : (Cert.BiasRefIdeal.lit0t0_349 n).toNat < 32 := by
  apply list_b; decide +kernel
/-- Row 350 of the folded table is below 32. -/
theorem row_350 (n : ℕ) : (Cert.BiasRefIdeal.lit0t0_350 n).toNat < 32 := by
  apply list_b; decide +kernel
/-- Row 351 of the folded table is below 32. -/
theorem row_351 (n : ℕ) : (Cert.BiasRefIdeal.lit0t0_351 n).toNat < 32 := by
  apply list_b; decide +kernel
/-- Row 352 of the folded table is below 32. -/
theorem row_352 (n : ℕ) : (Cert.BiasRefIdeal.lit0t0_352 n).toNat < 32 := by
  apply list_b; decide +kernel
/-- Row 353 of the folded table is below 32. -/
theorem row_353 (n : ℕ) : (Cert.BiasRefIdeal.lit0t0_353 n).toNat < 32 := by
  apply list_b; decide +kernel
/-- Row 354 of the folded table is below 32. -/
theorem row_354 (n : ℕ) : (Cert.BiasRefIdeal.lit0t0_354 n).toNat < 32 := by
  apply list_b; decide +kernel
/-- Row 355 of the folded table is below 32. -/
theorem row_355 (n : ℕ) : (Cert.BiasRefIdeal.lit0t0_355 n).toNat < 32 := by
  apply list_b; decide +kernel
/-- Row 356 of the folded table is below 32. -/
theorem row_356 (n : ℕ) : (Cert.BiasRefIdeal.lit0t0_356 n).toNat < 32 := by
  apply list_b; decide +kernel
/-- Row 357 of the folded table is below 32. -/
theorem row_357 (n : ℕ) : (Cert.BiasRefIdeal.lit0t0_357 n).toNat < 32 := by
  apply list_b; decide +kernel
/-- Row 358 of the folded table is below 32. -/
theorem row_358 (n : ℕ) : (Cert.BiasRefIdeal.lit0t0_358 n).toNat < 32 := by
  apply list_b; decide +kernel
/-- Row 359 of the folded table is below 32. -/
theorem row_359 (n : ℕ) : (Cert.BiasRefIdeal.lit0t0_359 n).toNat < 32 := by
  apply list_b; decide +kernel
/-- Row 360 of the folded table is below 32. -/
theorem row_360 (n : ℕ) : (Cert.BiasRefIdeal.lit0t0_360 n).toNat < 32 := by
  apply list_b; decide +kernel
/-- Row 361 of the folded table is below 32. -/
theorem row_361 (n : ℕ) : (Cert.BiasRefIdeal.lit0t0_361 n).toNat < 32 := by
  apply list_b; decide +kernel
/-- Row 362 of the folded table is below 32. -/
theorem row_362 (n : ℕ) : (Cert.BiasRefIdeal.lit0t0_362 n).toNat < 32 := by
  apply list_b; decide +kernel
/-- Row 363 of the folded table is below 32. -/
theorem row_363 (n : ℕ) : (Cert.BiasRefIdeal.lit0t0_363 n).toNat < 32 := by
  apply list_b; decide +kernel
/-- Row 364 of the folded table is below 32. -/
theorem row_364 (n : ℕ) : (Cert.BiasRefIdeal.lit0t0_364 n).toNat < 32 := by
  apply list_b; decide +kernel
/-- Row 365 of the folded table is below 32. -/
theorem row_365 (n : ℕ) : (Cert.BiasRefIdeal.lit0t0_365 n).toNat < 32 := by
  apply list_b; decide +kernel
/-- Row 366 of the folded table is below 32. -/
theorem row_366 (n : ℕ) : (Cert.BiasRefIdeal.lit0t0_366 n).toNat < 32 := by
  apply list_b; decide +kernel
/-- Row 367 of the folded table is below 32. -/
theorem row_367 (n : ℕ) : (Cert.BiasRefIdeal.lit0t0_367 n).toNat < 32 := by
  apply list_b; decide +kernel
/-- Row 368 of the folded table is below 32. -/
theorem row_368 (n : ℕ) : (Cert.BiasRefIdeal.lit0t0_368 n).toNat < 32 := by
  apply list_b; decide +kernel
/-- Row 369 of the folded table is below 32. -/
theorem row_369 (n : ℕ) : (Cert.BiasRefIdeal.lit0t0_369 n).toNat < 32 := by
  apply list_b; decide +kernel
/-- Row 370 of the folded table is below 32. -/
theorem row_370 (n : ℕ) : (Cert.BiasRefIdeal.lit0t0_370 n).toNat < 32 := by
  apply list_b; decide +kernel
/-- Row 371 of the folded table is below 32. -/
theorem row_371 (n : ℕ) : (Cert.BiasRefIdeal.lit0t0_371 n).toNat < 32 := by
  apply list_b; decide +kernel
/-- Row 372 of the folded table is below 32. -/
theorem row_372 (n : ℕ) : (Cert.BiasRefIdeal.lit0t0_372 n).toNat < 32 := by
  apply list_b; decide +kernel
/-- Row 373 of the folded table is below 32. -/
theorem row_373 (n : ℕ) : (Cert.BiasRefIdeal.lit0t0_373 n).toNat < 32 := by
  apply list_b; decide +kernel
/-- Row 374 of the folded table is below 32. -/
theorem row_374 (n : ℕ) : (Cert.BiasRefIdeal.lit0t0_374 n).toNat < 32 := by
  apply list_b; decide +kernel
/-- Row 375 of the folded table is below 32. -/
theorem row_375 (n : ℕ) : (Cert.BiasRefIdeal.lit0t0_375 n).toNat < 32 := by
  apply list_b; decide +kernel
/-- Row 376 of the folded table is below 32. -/
theorem row_376 (n : ℕ) : (Cert.BiasRefIdeal.lit0t0_376 n).toNat < 32 := by
  apply list_b; decide +kernel
/-- Row 377 of the folded table is below 32. -/
theorem row_377 (n : ℕ) : (Cert.BiasRefIdeal.lit0t0_377 n).toNat < 32 := by
  apply list_b; decide +kernel
/-- Row 378 of the folded table is below 32. -/
theorem row_378 (n : ℕ) : (Cert.BiasRefIdeal.lit0t0_378 n).toNat < 32 := by
  apply list_b; decide +kernel
/-- Row 379 of the folded table is below 32. -/
theorem row_379 (n : ℕ) : (Cert.BiasRefIdeal.lit0t0_379 n).toNat < 32 := by
  apply list_b; decide +kernel
/-- Row 380 of the folded table is below 32. -/
theorem row_380 (n : ℕ) : (Cert.BiasRefIdeal.lit0t0_380 n).toNat < 32 := by
  apply list_b; decide +kernel
/-- Row 381 of the folded table is below 32. -/
theorem row_381 (n : ℕ) : (Cert.BiasRefIdeal.lit0t0_381 n).toNat < 32 := by
  apply list_b; decide +kernel
/-- Row 382 of the folded table is below 32. -/
theorem row_382 (n : ℕ) : (Cert.BiasRefIdeal.lit0t0_382 n).toNat < 32 := by
  apply list_b; decide +kernel
/-- Row 383 of the folded table is below 32. -/
theorem row_383 (n : ℕ) : (Cert.BiasRefIdeal.lit0t0_383 n).toNat < 32 := by
  apply list_b; decide +kernel

/-- Every entry of rows 0 to 127 of the folded table is below 32. -/
theorem part_0 (n : ℕ) : (Cert.BiasRefIdeal.lit0t1_0 n).toNat < 32 :=
  arms_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (row_0 n) (row_1 n) (row_2 n) (row_3 n) (row_4 n) (row_5 n) (row_6 n) (row_7 n) (row_8 n) (row_9 n) (row_10 n) (row_11 n) (row_12 n) (row_13 n) (row_14 n) (row_15 n) (row_16 n) (row_17 n) (row_18 n) (row_19 n) (row_20 n) (row_21 n) (row_22 n) (row_23 n) (row_24 n) (row_25 n) (row_26 n) (row_27 n) (row_28 n) (row_29 n) (row_30 n) (row_31 n) (row_32 n) (row_33 n) (row_34 n) (row_35 n) (row_36 n) (row_37 n) (row_38 n) (row_39 n) (row_40 n) (row_41 n) (row_42 n) (row_43 n) (row_44 n) (row_45 n) (row_46 n) (row_47 n) (row_48 n) (row_49 n) (row_50 n) (row_51 n) (row_52 n) (row_53 n) (row_54 n) (row_55 n) (row_56 n) (row_57 n) (row_58 n) (row_59 n) (row_60 n) (row_61 n) (row_62 n) (row_63 n) (row_64 n) (row_65 n) (row_66 n) (row_67 n) (row_68 n) (row_69 n) (row_70 n) (row_71 n) (row_72 n) (row_73 n) (row_74 n) (row_75 n) (row_76 n) (row_77 n) (row_78 n) (row_79 n) (row_80 n) (row_81 n) (row_82 n) (row_83 n) (row_84 n) (row_85 n) (row_86 n) (row_87 n) (row_88 n) (row_89 n) (row_90 n) (row_91 n) (row_92 n) (row_93 n) (row_94 n) (row_95 n) (row_96 n) (row_97 n) (row_98 n) (row_99 n) (row_100 n) (row_101 n) (row_102 n) (row_103 n) (row_104 n) (row_105 n) (row_106 n) (row_107 n) (row_108 n) (row_109 n) (row_110 n) (row_111 n) (row_112 n) (row_113 n) (row_114 n) (row_115 n) (row_116 n) (row_117 n) (row_118 n) (row_119 n) (row_120 n) (row_121 n) (row_122 n) (row_123 n) (row_124 n) (row_125 n) (row_126 n) (row_127 n) (by decide)

/-- Every entry of rows 128 to 255 of the folded table is below 32. -/
theorem part_1 (n : ℕ) : (Cert.BiasRefIdeal.lit0t1_1 n).toNat < 32 :=
  arms_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (row_128 n) (row_129 n) (row_130 n) (row_131 n) (row_132 n) (row_133 n) (row_134 n) (row_135 n) (row_136 n) (row_137 n) (row_138 n) (row_139 n) (row_140 n) (row_141 n) (row_142 n) (row_143 n) (row_144 n) (row_145 n) (row_146 n) (row_147 n) (row_148 n) (row_149 n) (row_150 n) (row_151 n) (row_152 n) (row_153 n) (row_154 n) (row_155 n) (row_156 n) (row_157 n) (row_158 n) (row_159 n) (row_160 n) (row_161 n) (row_162 n) (row_163 n) (row_164 n) (row_165 n) (row_166 n) (row_167 n) (row_168 n) (row_169 n) (row_170 n) (row_171 n) (row_172 n) (row_173 n) (row_174 n) (row_175 n) (row_176 n) (row_177 n) (row_178 n) (row_179 n) (row_180 n) (row_181 n) (row_182 n) (row_183 n) (row_184 n) (row_185 n) (row_186 n) (row_187 n) (row_188 n) (row_189 n) (row_190 n) (row_191 n) (row_192 n) (row_193 n) (row_194 n) (row_195 n) (row_196 n) (row_197 n) (row_198 n) (row_199 n) (row_200 n) (row_201 n) (row_202 n) (row_203 n) (row_204 n) (row_205 n) (row_206 n) (row_207 n) (row_208 n) (row_209 n) (row_210 n) (row_211 n) (row_212 n) (row_213 n) (row_214 n) (row_215 n) (row_216 n) (row_217 n) (row_218 n) (row_219 n) (row_220 n) (row_221 n) (row_222 n) (row_223 n) (row_224 n) (row_225 n) (row_226 n) (row_227 n) (row_228 n) (row_229 n) (row_230 n) (row_231 n) (row_232 n) (row_233 n) (row_234 n) (row_235 n) (row_236 n) (row_237 n) (row_238 n) (row_239 n) (row_240 n) (row_241 n) (row_242 n) (row_243 n) (row_244 n) (row_245 n) (row_246 n) (row_247 n) (row_248 n) (row_249 n) (row_250 n) (row_251 n) (row_252 n) (row_253 n) (row_254 n) (row_255 n) (by decide)

/-- Every entry of rows 256 to 383 of the folded table is below 32. -/
theorem part_2 (n : ℕ) : (Cert.BiasRefIdeal.lit0t1_2 n).toNat < 32 :=
  arms_b _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
    (row_256 n) (row_257 n) (row_258 n) (row_259 n) (row_260 n) (row_261 n) (row_262 n) (row_263 n) (row_264 n) (row_265 n) (row_266 n) (row_267 n) (row_268 n) (row_269 n) (row_270 n) (row_271 n) (row_272 n) (row_273 n) (row_274 n) (row_275 n) (row_276 n) (row_277 n) (row_278 n) (row_279 n) (row_280 n) (row_281 n) (row_282 n) (row_283 n) (row_284 n) (row_285 n) (row_286 n) (row_287 n) (row_288 n) (row_289 n) (row_290 n) (row_291 n) (row_292 n) (row_293 n) (row_294 n) (row_295 n) (row_296 n) (row_297 n) (row_298 n) (row_299 n) (row_300 n) (row_301 n) (row_302 n) (row_303 n) (row_304 n) (row_305 n) (row_306 n) (row_307 n) (row_308 n) (row_309 n) (row_310 n) (row_311 n) (row_312 n) (row_313 n) (row_314 n) (row_315 n) (row_316 n) (row_317 n) (row_318 n) (row_319 n) (row_320 n) (row_321 n) (row_322 n) (row_323 n) (row_324 n) (row_325 n) (row_326 n) (row_327 n) (row_328 n) (row_329 n) (row_330 n) (row_331 n) (row_332 n) (row_333 n) (row_334 n) (row_335 n) (row_336 n) (row_337 n) (row_338 n) (row_339 n) (row_340 n) (row_341 n) (row_342 n) (row_343 n) (row_344 n) (row_345 n) (row_346 n) (row_347 n) (row_348 n) (row_349 n) (row_350 n) (row_351 n) (row_352 n) (row_353 n) (row_354 n) (row_355 n) (row_356 n) (row_357 n) (row_358 n) (row_359 n) (row_360 n) (row_361 n) (row_362 n) (row_363 n) (row_364 n) (row_365 n) (row_366 n) (row_367 n) (row_368 n) (row_369 n) (row_370 n) (row_371 n) (row_372 n) (row_373 n) (row_374 n) (row_375 n) (row_376 n) (row_377 n) (row_378 n) (row_379 n) (row_380 n) (row_381 n) (row_382 n) (row_383 n) (by decide)

/-- Every entry of the table of buckets is below 32. -/
theorem small (n : ℕ) : (Cert.BiasRefIdeal.lit0t n).toNat < 32 := by
  unfold Cert.BiasRefIdeal.lit0t
  split
  · exact part_0 n
  · exact part_1 n
  · exact part_2 n
  · decide

end Cert.BiasTable
-- ==== Proof.BiasValue.lean ====
/- The table of relative-position biases: what the kernel's call leaves, and that its reference leaves the same. -/
module

public import proofs.«01_k».proof.Proof.Gen.BiasIdeal.Value
public import proofs.«01_k».proof.Proof.Gen.BiasRefIdeal.Run
public import proofs.«01_k».proof.Proof.BiasSpec
public import proofs.«01_k».proof.Proof.BiasTable
public import proofs.«01_k».proof.Defs
public import Idealize.ShloMosaic.Lib.Pipeline.ValueKit
public import Idealize.ShloMosaic.Lib.Claim

@[expose] public section

set_option maxRecDepth 16384
set_option maxHeartbeats 4000000

noncomputable section

open Idealize.ShloMosaic Idealize.ShloMosaic.TcCoe Idealize.SL.Sem
open Cert.BiasSpec

namespace Cert.BiasValue

section kernel

open Cert.BiasIdeal Cert.BiasIdeal.Gen

/-- Bucket `b`'s bias for head `h`, 0 beyond the last bucket. -/
def colOf (x1 : Vec Ideal S32x16 .f32) (h : Fin 16) (b : ℕ) : EReal := if hb : b < 32 then x1 (ix2 ⟨b, hb⟩ h) else 0

/-- A head's tile read in place: what its entries are, the whole table's are at that head. -/
theorem tile_of (A : Fin 16 → Fin 128 → Fin 384 → EReal) (j : Fin 16) (o : ℕ) (ho : o = j.val)
    (w : S1x128x384.Idx → Elt Ideal .f32) (hw : ∀ (r : Fin 128) (k : Fin 384), w (ix3 0 r k) = A j r k)
    (h : Fin 16) (r : Fin 128) (k : Fin 384) :
    View.TileAt (S := S16x128x384) (ix3 h r k) ![o, 0, 0] S1x128x384.size w (A h r k) := by
  intro x hx
  have h0 : h.val = o + (x 0).val := hx 0
  have h1 : r.val = 0 + (x 1).val := hx 1
  have h2 : k.val = 0 + (x 2).val := hx 2
  have a0 : (x 0).val < 1 := (x 0).isLt
  have e0 : h = j := Fin.ext (by omega)
  have e1 : r = x 1 := Fin.ext (by omega)
  have e2 : k = x 2 := Fin.ext (by omega)
  have z : x 0 = (0 : Fin 1) := Fin.ext (by show (x 0).val = 0; omega)
  have e3 : x = (ix3 0 (x 1) (x 2) : S1x128x384.Idx) := by
    funext a
    match a with
    | ⟨0, _⟩ => exact z
    | ⟨1, _⟩ => rfl
    | ⟨2, _⟩ => rfl
  rw [e0, e1, e2]
  exact (congrArg w e3).trans (hw (x 1) (x 2))

/-- What the body leaves: at every head, row and key the pick of the bucket's bias. -/
theorem out_at (c : Dev nD) (arg0 : Memref sig .tc .vmem S128x384 .i32) (harg0 : arg0.IsWhole)
    (arg1 : Memref sig .tc .smem S32x16 .f32) (harg1 : arg1.IsWhole) (arg2 : Memref sig .tc .vmem S16x128x384 .f32) (harg2 : arg2.IsWhole)
    (x0 : Vec Ideal S128x384 .i32) (x1 : Vec Ideal S32x16 .f32) (h : Fin 16) (r : Fin 128) (k : Fin 384) :
    out0_A_2 (F := Ideal) c arg0 harg0 arg1 harg1 arg2 harg2 x0 x1 (ix3 h r k) = pick (x0 (ix2 r k)) (colOf x1 h) 32 := by
  unfold out0_A_2
  rw [View.read_writes_junk_eq_canon]
  refine View.canon_eq_of_allAt _ _ _ (View.cover_of_tiledL (kernelRun0_A (F := Ideal) c arg0 harg0 arg1 harg1 arg2 harg2 x0 x1).1 S1x128x384.size
    (by sl_kernel_rfl) _) ?_
  unfold kernelRun0_A
  refine View.allAt_cons_unit _ _ _ _ _ (tile_of (fun h r k => pick (x0 (ix2 r k)) (colOf x1 h) 32) 15 15 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 14 14 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 13 13 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 12 12 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 11 11 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 10 10 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 9 9 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 8 8 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 7 7 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 6 6 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 5 5 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 4 4 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 3 3 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 2 2 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 1 1 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  refine View.allAt_cons_unit _ _ _ _ _ (tile_of (fun h r k => pick (x0 (ix2 r k)) (colOf x1 h) 32) 0 0 rfl _ (fun r k => ?_) h r k) ?_
  · frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147]
    rfl
  exact View.allAt_nil _ _

variable (m : (ℓ : Loc nD τ sig) → Buf (Elt Ideal) ℓ)

/-- The kernel's one point takes each window whole. -/
theorem idx : ∀ t : Fin cfg0.N, win0_0.index t = ![0, 0] ∧ win0_1.index t = ![0, 0] ∧ win0_2.index t = ![0, 0, 0] :=
  (by decide +kernel : ∀ t : Fin grid0.N, _)

/-- The bucket of a row and a key. -/
abbrev bucket (r : Fin 128) (k : Fin 384) : BitVec 32 := lit0t (384 * r.val + k.val)

/-- An entry of the constant, by its place in row-major order. -/
theorem lit0_eq (x : Fin 49152) : lit0 x = lit0t x.val := by
  cases x
  rfl

/-- The buckets' block. -/
theorem blk0 (c : Dev nD) (t : Fin cfg0.N) (r : Fin 128) (k : Fin 384) :
    iblk m c 0 t (ix2 r k) = bucket r k := by
  blk_simp [iblk]
  entry_read
  have e : ((View.whole main_c).slice (win0_0.rect t)).emb (ix2 r k) = (ix2 r k : S128x384.Idx) := by
    blk_ext [idx t]
  refine (congrArg (fun i : S128x384.Idx => lit0 (S128x384.rowMajor i)) e).trans ?_
  refine (lit0_eq _).trans (congrArg lit0t ?_)
  rw [show ((S128x384.rowMajor (ix2 r k)) : ℕ) = r.val * 384 + k.val from rowMajor_val2 _ 384 rfl, Nat.mul_comm]

/-- The biases' block. -/
theorem blk1 (c : Dev nD) (t : Fin cfg0.N) (b : Fin 32) (h : Fin 16) :
    iblk m c 1 t (ix2 b h) = m ((c : Thread nD τ).loc main_arg0) (ix2 b h) := by
  blk_ext [iblk, V, idx t]

/-- The table after the run: each head's bias of the bucket of each row and key. -/
def G (c : Dev nD) : Buf (Elt Ideal) ((c : Thread nD τ).loc main_v0) := fun (i : S16x128x384.Idx) =>
  colOf (m ((c : Thread nD τ).loc main_arg0)) (i 0) (bucket (i 1) (i 2)).toNat

/-- What the call leaves. -/
theorem final (c : Dev nD) : (dats m 0 c).arrAt 2 cfg0.N = G m c := by
  refine (dats m 0 c).arrAt_eq_of_covers 2 _ (by decide +kernel) fun t hf y => ?_
  blk_simp
  rw [after0_2]
  unfold outsAt0
  suffices key : ∀ i : S16x128x384.Idx, out0_A_2 (F := Ideal) c (ms0_0 t) (hs0_0 t) (ms0_1 t) (hs0_1 t) (ms0_2 t) (hs0_2 t) (iblk m c 0 t) (iblk m c 1 t) i
      = G m c ((win0_2.blk t).view.emb i) from key y
  intro i
  idx_vars i
  have small : (bucket i1 i2).toNat < 32 := by rw [bucket, Cert.BiasTable.tables]; exact Cert.BiasTable.small _
  rw [out_at, blk0, pick_eq, chain_eq _ _ 32 le_rfl small]
  have e : (win0_2.blk t).view.emb (ix3 i0 i1 i2) = (ix3 i0 i1 i2 : S16x128x384.Idx) := by
    blk_ext [idx t]
  rw [e]
  unfold G colOf
  rw [dif_pos small]
  have small' : (bucket (ix3 i0 i1 i2 1) (ix3 i0 i1 i2 2)).toNat < 32 := small
  rw [dif_pos small']
  exact blk1 m c t _ _

end kernel

section reference

open Cert.BiasRefIdeal Cert.BiasRefIdeal.Gen

/-- An entry of the constant, by its place in row-major order. -/
theorem refLit0_eq (x : Fin 49152) : lit0 x = lit0t x.val := by
  cases x
  rfl

/-- The row number that the reference gathers at a row and a key: the bucket, since no bucket is negative. -/
theorem refBucket_at (r : Fin 128) (k : Fin 384) :
    (broadcastInDim S128x384x1 ![0, 1] bcast_S128x384_S128x384x1_0_1
        (select (constantI S128x384 1 0#1)
          (addi ((fun i => lit0 (S128x384.rowMajor i))) (broadcastInDim S128x384 ![] bcast_S_S128x384 (constantI S_ 32 32#32)))
          ((fun i => lit0 (S128x384.rowMajor i)))) : IVec S128x384x1 32) (ix3 r k 0)
      = lit0t (384 * r.val + k.val) := by
  have e : (lit0 (S128x384.rowMajor (ix2 r k)) : BitVec 32) = lit0t (384 * r.val + k.val) := by
    refine (refLit0_eq _).trans (congrArg lit0t ?_)
    rw [show ((S128x384.rowMajor (ix2 r k)) : ℕ) = r.val * 384 + k.val from rowMajor_val2 _ 384 rfl, Nat.mul_comm]
  rw [← e]
  pointwise

/-- What the reference leaves: each head's bias of the bucket of each row and key. -/
theorem ref_at (x : Vec Ideal S32x16 .f32) (h : Fin 16) (r : Fin 128) (k : Fin 384) :
    (transpose S16x128x384 [2, 0, 1] (Host.gather gather_S32x16_S128x384x1_S128x384x16_2_0_n_n_0_2_116 x
      (broadcastInDim S128x384x1 ![0, 1] bcast_S128x384_S128x384x1_0_1
        (select (constantI S128x384 1 0#1)
          (addi ((fun i => lit0 (S128x384.rowMajor i)))
            (broadcastInDim S128x384 ![] bcast_S_S128x384 (constantI S_ 32 32#32)))
          ((fun i => lit0 (S128x384.rowMajor i))))))
      transposes_S128x384x16_S16x128x384_2_0_1 : Vec Ideal S16x128x384 .f32) (ix3 h r k)
      = colOf x h (lit0t (384 * r.val + k.val)).toNat := by
  pointwise
  refine (rows_at _ _ _ r k h).trans ?_
  have hs := Cert.BiasTable.small (384 * r.val + k.val)
  unfold colOf
  rw [dif_pos hs]
  refine congrArg (fun b => x (ix2 b h)) (Fin.ext ?_)
  show min (BitVec.toInt _).toNat 31 = _
  rw [refBucket_at, BitVec.toInt_eq_toNat_of_lt (by omega), Int.toNat_natCast]
  exact Nat.min_eq_left (by omega)

end reference

/-- The idealized kernel's table is the reference's. -/
theorem algebraic : Cert.algebraic_BiasIdeal_BiasRefIdeal := by
  pair_intro
  · run_from Cert.BiasIdeal.Gen.run_main m g
  · run_from Cert.BiasRefIdeal.Value.run m' g'
    · refine Eq.trans (funext fun (i : (⟨3, ![16, 128, 384]⟩ : Shape).Idx) => ?_) (final m c).symm
      idx_vars i
      refine (ref_at _ i0 i1 i2).trans ?_
      show colOf _ i0 _ = colOf _ i0 (Cert.BiasIdeal.lit0t (384 * i1.val + i2.val)).toNat
      rw [Cert.BiasTable.tables]

end Cert.BiasValue

end
-- ==== Proof.lean ====
module

public import proofs.«01_k».proof.Defs
public import proofs.«01_k».proof.Proof.Gen.Attn.Frame
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.AttnIdeal.Value
public import proofs.«01_k».proof.Proof.Gen.Ffn.Frame
public import proofs.«01_k».proof.Proof.Gen.FfnIdeal.Frame
public import proofs.«01_k».proof.Proof.Gen.FfnRefIdeal.Run
public import proofs.«01_k».proof.Proof.Gen.Qkv.Frame
public import proofs.«01_k».proof.Proof.Gen.QkvIdeal.Frame
public import proofs.«01_k».proof.Proof.Gen.QkvRefIdeal.Run
public import proofs.«01_k».proof.Proof.AttnClaim
public import proofs.«01_k».proof.Proof.FfnClaim
public import proofs.«01_k».proof.Proof.QkvValue
public import proofs.«01_k».proof.Proof.BwdFrame
public import proofs.«01_k».proof.Proof.BwdIdealFrame
public import proofs.«01_k».proof.Proof.BwdClaim
public import proofs.«01_k».proof.Proof.Gen.Bias.Frame
public import proofs.«01_k».proof.Proof.Gen.BiasIdeal.Frame
public import proofs.«01_k».proof.Proof.Gen.BiasIdeal.Value
public import proofs.«01_k».proof.Proof.Gen.BiasRefIdeal.Run
public import proofs.«01_k».proof.Proof.BiasValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The mask constant's named value is minus infinity. -/
theorem preserves_attn : Cert.preserves_Attn_AttnIdeal := by
  exact IdealRules.named_const.statement Cert.AttnIdeal.κ "mask" .f32 0xF149F2CA#32 ⊥ rfl

/-- Every claim of the certificate. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.Qkv.Gen.facts, Cert.QkvIdeal.Gen.facts, Cert.QkvRefIdeal.Gen.facts, Cert.Bwd.Gen.facts, Cert.BwdIdeal.Gen.facts, Cert.BwdRefIdeal.Gen.facts, Cert.Bias.Gen.facts, Cert.BiasIdeal.Gen.facts, Cert.BiasRefIdeal.Gen.facts, Cert.AttnClaim.facts, by
  refine ⟨fun m ρ _ => Cert.Attn.Gen.frame m ρ, fun m ρ _ => Cert.AttnIdeal.Gen.frame m ρ, fun m ρ _ => Cert.AttnIdeal.Gen.frame m ρ, ?_, ?_, fun m ρ _ => Cert.Ffn.Gen.frame m ρ,
    fun m ρ _ => Cert.FfnIdeal.Gen.frame m ρ, ?_, fun m ρ _ => Cert.Qkv.Gen.frame m ρ, fun m ρ _ => Cert.QkvIdeal.Gen.frame m ρ, ?_,
    fun m ρ _ => Cert.Bwd.Hand.frame m ρ, fun m ρ _ => Cert.BwdIdeal.Hand.frame m ρ, ?_,
    fun m ρ _ => Cert.Bias.Gen.frame m ρ, fun m ρ _ => Cert.BiasIdeal.Gen.frame m ρ, ?_,
    preserves_attn, Cert.AttnClaim.algebraic, trivial, Cert.FfnClaim.algebraic, trivial, Cert.QkvValue.algebraic, trivial, Cert.BwdClaim.algebraic,
    trivial, Cert.BiasValue.algebraic⟩
  · exact fun m ρ _ => (θ_run _ _ _).mono (fun r h => ⟨fun c => (h c).2, sem_eq_zero_of_no_sems rfl r.2⟩) (Cert.AttnRefIdeal.Value.run (F := Ideal) m ρ)
  · exact fun m ρ _ => (θ_run _ _ _).mono (fun r h => ⟨fun c => (h c).2, sem_eq_zero_of_no_sems rfl r.2⟩) (Cert.AttnRefIdeal.Value.run (F := Ideal) m ρ)
  · exact fun m ρ _ => (θ_run _ _ _).mono (fun r h => ⟨fun c => (h c).2, sem_eq_zero_of_no_sems rfl r.2⟩) (Cert.FfnRefIdeal.Value.run (F := Ideal) m ρ)
  · exact fun m ρ _ => (θ_run _ _ _).mono (fun r h => ⟨fun c => (h c).2.2.2, sem_eq_zero_of_no_sems rfl r.2⟩) (Cert.QkvRefIdeal.Value.run (F := Ideal) m ρ)
  · exact fun m ρ _ => (θ_run _ _ _).mono (fun r h => ⟨fun c => (h c).2, sem_eq_zero_of_no_sems rfl r.2⟩) (Cert.BwdRefIdeal.Value.run (F := Ideal) m ρ)
  · exact fun m ρ _ => (θ_run _ _ _).mono (fun r h => ⟨fun c => (h c).2, sem_eq_zero_of_no_sems rfl r.2⟩) (Cert.BiasRefIdeal.Value.run (F := Ideal) m ρ)⟩

end Cert.Proof

end
